-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_states [hPre_finite_states : Cert.Pre_finite_states.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_states.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) (m ((c.tc : Thread Cert.Kernel2Ideal.nD Cert.Kernel2Ideal.τ).loc Cert.Kernel2Ideal.main_arg18)) (m ((c.tc : Thread Cert.Kernel2Ideal.nD Cert.Kernel2Ideal.τ).loc Cert.Kernel2Ideal.main_arg19)) (m ((c.tc : Thread Cert.Kernel2Ideal.nD Cert.Kernel2Ideal.τ).loc Cert.Kernel2Ideal.main_arg20)) (m ((c.tc : Thread Cert.Kernel2Ideal.nD Cert.Kernel2Ideal.τ).loc Cert.Kernel2Ideal.main_arg21)) (m ((c.tc : Thread Cert.Kernel2Ideal.nD Cert.Kernel2Ideal.τ).loc Cert.Kernel2Ideal.main_arg22)) (m ((c.tc : Thread Cert.Kernel2Ideal.nD Cert.Kernel2Ideal.τ).loc Cert.Kernel2Ideal.main_arg23))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_states [hPre_finite_states : Cert.Pre_finite_states.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_states.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17)) (m ((c.tc : Thread Cert.Reference2Ideal.nD Cert.Reference2Ideal.τ).loc Cert.Reference2Ideal.main_arg18)) (m ((c.tc : Thread Cert.Reference2Ideal.nD Cert.Reference2Ideal.τ).loc Cert.Reference2Ideal.main_arg19)) (m ((c.tc : Thread Cert.Reference2Ideal.nD Cert.Reference2Ideal.τ).loc Cert.Reference2Ideal.main_arg20)) (m ((c.tc : Thread Cert.Reference2Ideal.nD Cert.Reference2Ideal.τ).loc Cert.Reference2Ideal.main_arg21)) (m ((c.tc : Thread Cert.Reference2Ideal.nD Cert.Reference2Ideal.τ).loc Cert.Reference2Ideal.main_arg22)) (m ((c.tc : Thread Cert.Reference2Ideal.nD Cert.Reference2Ideal.τ).loc Cert.Reference2Ideal.main_arg23))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_states [hPre_finite_states : Cert.Pre_finite_states.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_states.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17)) (m ((c.tc : Thread Cert.Kernel5Ideal.nD Cert.Kernel5Ideal.τ).loc Cert.Kernel5Ideal.main_arg18)) (m ((c.tc : Thread Cert.Kernel5Ideal.nD Cert.Kernel5Ideal.τ).loc Cert.Kernel5Ideal.main_arg19)) (m ((c.tc : Thread Cert.Kernel5Ideal.nD Cert.Kernel5Ideal.τ).loc Cert.Kernel5Ideal.main_arg20)) (m ((c.tc : Thread Cert.Kernel5Ideal.nD Cert.Kernel5Ideal.τ).loc Cert.Kernel5Ideal.main_arg21)) (m ((c.tc : Thread Cert.Kernel5Ideal.nD Cert.Kernel5Ideal.τ).loc Cert.Kernel5Ideal.main_arg22)) (m ((c.tc : Thread Cert.Kernel5Ideal.nD Cert.Kernel5Ideal.τ).loc Cert.Kernel5Ideal.main_arg23))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_states [hPre_finite_states : Cert.Pre_finite_states.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_states.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17)) (m ((c.tc : Thread Cert.Reference5Ideal.nD Cert.Reference5Ideal.τ).loc Cert.Reference5Ideal.main_arg18)) (m ((c.tc : Thread Cert.Reference5Ideal.nD Cert.Reference5Ideal.τ).loc Cert.Reference5Ideal.main_arg19)) (m ((c.tc : Thread Cert.Reference5Ideal.nD Cert.Reference5Ideal.τ).loc Cert.Reference5Ideal.main_arg20)) (m ((c.tc : Thread Cert.Reference5Ideal.nD Cert.Reference5Ideal.τ).loc Cert.Reference5Ideal.main_arg21)) (m ((c.tc : Thread Cert.Reference5Ideal.nD Cert.Reference5Ideal.τ).loc Cert.Reference5Ideal.main_arg22)) (m ((c.tc : Thread Cert.Reference5Ideal.nD Cert.Reference5Ideal.τ).loc Cert.Reference5Ideal.main_arg23))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16)
      ∧ r.2.mem ((c.tc : Thread Cert.Kernel2.nD Cert.Kernel2.τ).loc Cert.Kernel2.main_arg17) = m ((c.tc : Thread Cert.Kernel2.nD Cert.Kernel2.τ).loc Cert.Kernel2.main_arg17)
      ∧ r.2.mem ((c.tc : Thread Cert.Kernel2.nD Cert.Kernel2.τ).loc Cert.Kernel2.main_arg18) = m ((c.tc : Thread Cert.Kernel2.nD Cert.Kernel2.τ).loc Cert.Kernel2.main_arg18)
      ∧ r.2.mem ((c.tc : Thread Cert.Kernel2.nD Cert.Kernel2.τ).loc Cert.Kernel2.main_arg19) = m ((c.tc : Thread Cert.Kernel2.nD Cert.Kernel2.τ).loc Cert.Kernel2.main_arg19)
      ∧ r.2.mem ((c.tc : Thread Cert.Kernel2.nD Cert.Kernel2.τ).loc Cert.Kernel2.main_arg20) = m ((c.tc : Thread Cert.Kernel2.nD Cert.Kernel2.τ).loc Cert.Kernel2.main_arg20)
      ∧ r.2.mem ((c.tc : Thread Cert.Kernel2.nD Cert.Kernel2.τ).loc Cert.Kernel2.main_arg21) = m ((c.tc : Thread Cert.Kernel2.nD Cert.Kernel2.τ).loc Cert.Kernel2.main_arg21)
      ∧ r.2.mem ((c.tc : Thread Cert.Kernel2.nD Cert.Kernel2.τ).loc Cert.Kernel2.main_arg22) = m ((c.tc : Thread Cert.Kernel2.nD Cert.Kernel2.τ).loc Cert.Kernel2.main_arg22)
      ∧ r.2.mem ((c.tc : Thread Cert.Kernel2.nD Cert.Kernel2.τ).loc Cert.Kernel2.main_arg23) = m ((c.tc : Thread Cert.Kernel2.nD Cert.Kernel2.τ).loc Cert.Kernel2.main_arg23))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
      ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18)
      ∧ r.2.mem ((c.tc : Thread Cert.Kernel2Ideal.nD Cert.Kernel2Ideal.τ).loc Cert.Kernel2Ideal.main_arg19) = m ((c.tc : Thread Cert.Kernel2Ideal.nD Cert.Kernel2Ideal.τ).loc Cert.Kernel2Ideal.main_arg19)
      ∧ r.2.mem ((c.tc : Thread Cert.Kernel2Ideal.nD Cert.Kernel2Ideal.τ).loc Cert.Kernel2Ideal.main_arg20) = m ((c.tc : Thread Cert.Kernel2Ideal.nD Cert.Kernel2Ideal.τ).loc Cert.Kernel2Ideal.main_arg20)
      ∧ r.2.mem ((c.tc : Thread Cert.Kernel2Ideal.nD Cert.Kernel2Ideal.τ).loc Cert.Kernel2Ideal.main_arg21) = m ((c.tc : Thread Cert.Kernel2Ideal.nD Cert.Kernel2Ideal.τ).loc Cert.Kernel2Ideal.main_arg21)
      ∧ r.2.mem ((c.tc : Thread Cert.Kernel2Ideal.nD Cert.Kernel2Ideal.τ).loc Cert.Kernel2Ideal.main_arg22) = m ((c.tc : Thread Cert.Kernel2Ideal.nD Cert.Kernel2Ideal.τ).loc Cert.Kernel2Ideal.main_arg22)
      ∧ r.2.mem ((c.tc : Thread Cert.Kernel2Ideal.nD Cert.Kernel2Ideal.τ).loc Cert.Kernel2Ideal.main_arg23) = m ((c.tc : Thread Cert.Kernel2Ideal.nD Cert.Kernel2Ideal.τ).loc Cert.Kernel2Ideal.main_arg23))
      ∧ r.2.sem = fun _ => 0)

def quiescent_Kernel2Ideal_pre_finite_states [hKernel2Ideal : Cert.Kernel2Ideal.Facts] [hPre_finite_states : Cert.Pre_finite_states.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_states m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
      ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18)
      ∧ r.2.mem ((c.tc : Thread Cert.Kernel2Ideal.nD Cert.Kernel2Ideal.τ).loc Cert.Kernel2Ideal.main_arg19) = m ((c.tc : Thread Cert.Kernel2Ideal.nD Cert.Kernel2Ideal.τ).loc Cert.Kernel2Ideal.main_arg19)
      ∧ r.2.mem ((c.tc : Thread Cert.Kernel2Ideal.nD Cert.Kernel2Ideal.τ).loc Cert.Kernel2Ideal.main_arg20) = m ((c.tc : Thread Cert.Kernel2Ideal.nD Cert.Kernel2Ideal.τ).loc Cert.Kernel2Ideal.main_arg20)
      ∧ r.2.mem ((c.tc : Thread Cert.Kernel2Ideal.nD Cert.Kernel2Ideal.τ).loc Cert.Kernel2Ideal.main_arg21) = m ((c.tc : Thread Cert.Kernel2Ideal.nD Cert.Kernel2Ideal.τ).loc Cert.Kernel2Ideal.main_arg21)
      ∧ r.2.mem ((c.tc : Thread Cert.Kernel2Ideal.nD Cert.Kernel2Ideal.τ).loc Cert.Kernel2Ideal.main_arg22) = m ((c.tc : Thread Cert.Kernel2Ideal.nD Cert.Kernel2Ideal.τ).loc Cert.Kernel2Ideal.main_arg22)
      ∧ r.2.mem ((c.tc : Thread Cert.Kernel2Ideal.nD Cert.Kernel2Ideal.τ).loc Cert.Kernel2Ideal.main_arg23) = m ((c.tc : Thread Cert.Kernel2Ideal.nD Cert.Kernel2Ideal.τ).loc Cert.Kernel2Ideal.main_arg23))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17)
      ∧ r.2.mem ((c.tc : Thread Cert.Reference2Ideal.nD Cert.Reference2Ideal.τ).loc Cert.Reference2Ideal.main_arg18) = m ((c.tc : Thread Cert.Reference2Ideal.nD Cert.Reference2Ideal.τ).loc Cert.Reference2Ideal.main_arg18)
      ∧ r.2.mem ((c.tc : Thread Cert.Reference2Ideal.nD Cert.Reference2Ideal.τ).loc Cert.Reference2Ideal.main_arg19) = m ((c.tc : Thread Cert.Reference2Ideal.nD Cert.Reference2Ideal.τ).loc Cert.Reference2Ideal.main_arg19)
      ∧ r.2.mem ((c.tc : Thread Cert.Reference2Ideal.nD Cert.Reference2Ideal.τ).loc Cert.Reference2Ideal.main_arg20) = m ((c.tc : Thread Cert.Reference2Ideal.nD Cert.Reference2Ideal.τ).loc Cert.Reference2Ideal.main_arg20)
      ∧ r.2.mem ((c.tc : Thread Cert.Reference2Ideal.nD Cert.Reference2Ideal.τ).loc Cert.Reference2Ideal.main_arg21) = m ((c.tc : Thread Cert.Reference2Ideal.nD Cert.Reference2Ideal.τ).loc Cert.Reference2Ideal.main_arg21)
      ∧ r.2.mem ((c.tc : Thread Cert.Reference2Ideal.nD Cert.Reference2Ideal.τ).loc Cert.Reference2Ideal.main_arg22) = m ((c.tc : Thread Cert.Reference2Ideal.nD Cert.Reference2Ideal.τ).loc Cert.Reference2Ideal.main_arg22)
      ∧ r.2.mem ((c.tc : Thread Cert.Reference2Ideal.nD Cert.Reference2Ideal.τ).loc Cert.Reference2Ideal.main_arg23) = m ((c.tc : Thread Cert.Reference2Ideal.nD Cert.Reference2Ideal.τ).loc Cert.Reference2Ideal.main_arg23))
      ∧ r.2.sem = fun _ => 0)

def quiescent_Reference2Ideal_pre_finite_states [hReference2Ideal : Cert.Reference2Ideal.Facts] [hPre_finite_states : Cert.Pre_finite_states.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_states m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17)
      ∧ r.2.mem ((c.tc : Thread Cert.Reference2Ideal.nD Cert.Reference2Ideal.τ).loc Cert.Reference2Ideal.main_arg18) = m ((c.tc : Thread Cert.Reference2Ideal.nD Cert.Reference2Ideal.τ).loc Cert.Reference2Ideal.main_arg18)
      ∧ r.2.mem ((c.tc : Thread Cert.Reference2Ideal.nD Cert.Reference2Ideal.τ).loc Cert.Reference2Ideal.main_arg19) = m ((c.tc : Thread Cert.Reference2Ideal.nD Cert.Reference2Ideal.τ).loc Cert.Reference2Ideal.main_arg19)
      ∧ r.2.mem ((c.tc : Thread Cert.Reference2Ideal.nD Cert.Reference2Ideal.τ).loc Cert.Reference2Ideal.main_arg20) = m ((c.tc : Thread Cert.Reference2Ideal.nD Cert.Reference2Ideal.τ).loc Cert.Reference2Ideal.main_arg20)
      ∧ r.2.mem ((c.tc : Thread Cert.Reference2Ideal.nD Cert.Reference2Ideal.τ).loc Cert.Reference2Ideal.main_arg21) = m ((c.tc : Thread Cert.Reference2Ideal.nD Cert.Reference2Ideal.τ).loc Cert.Reference2Ideal.main_arg21)
      ∧ r.2.mem ((c.tc : Thread Cert.Reference2Ideal.nD Cert.Reference2Ideal.τ).loc Cert.Reference2Ideal.main_arg22) = m ((c.tc : Thread Cert.Reference2Ideal.nD Cert.Reference2Ideal.τ).loc Cert.Reference2Ideal.main_arg22)
      ∧ r.2.mem ((c.tc : Thread Cert.Reference2Ideal.nD Cert.Reference2Ideal.τ).loc Cert.Reference2Ideal.main_arg23) = m ((c.tc : Thread Cert.Reference2Ideal.nD Cert.Reference2Ideal.τ).loc Cert.Reference2Ideal.main_arg23))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14)
      ∧ r.2.mem ((c.tc : Thread Cert.Kernel5.nD Cert.Kernel5.τ).loc Cert.Kernel5.main_arg15) = m ((c.tc : Thread Cert.Kernel5.nD Cert.Kernel5.τ).loc Cert.Kernel5.main_arg15)
      ∧ r.2.mem ((c.tc : Thread Cert.Kernel5.nD Cert.Kernel5.τ).loc Cert.Kernel5.main_arg16) = m ((c.tc : Thread Cert.Kernel5.nD Cert.Kernel5.τ).loc Cert.Kernel5.main_arg16)
      ∧ r.2.mem ((c.tc : Thread Cert.Kernel5.nD Cert.Kernel5.τ).loc Cert.Kernel5.main_arg17) = m ((c.tc : Thread Cert.Kernel5.nD Cert.Kernel5.τ).loc Cert.Kernel5.main_arg17)
      ∧ r.2.mem ((c.tc : Thread Cert.Kernel5.nD Cert.Kernel5.τ).loc Cert.Kernel5.main_arg18) = m ((c.tc : Thread Cert.Kernel5.nD Cert.Kernel5.τ).loc Cert.Kernel5.main_arg18)
      ∧ r.2.mem ((c.tc : Thread Cert.Kernel5.nD Cert.Kernel5.τ).loc Cert.Kernel5.main_arg19) = m ((c.tc : Thread Cert.Kernel5.nD Cert.Kernel5.τ).loc Cert.Kernel5.main_arg19)
      ∧ r.2.mem ((c.tc : Thread Cert.Kernel5.nD Cert.Kernel5.τ).loc Cert.Kernel5.main_arg20) = m ((c.tc : Thread Cert.Kernel5.nD Cert.Kernel5.τ).loc Cert.Kernel5.main_arg20)
      ∧ r.2.mem ((c.tc : Thread Cert.Kernel5.nD Cert.Kernel5.τ).loc Cert.Kernel5.main_arg21) = m ((c.tc : Thread Cert.Kernel5.nD Cert.Kernel5.τ).loc Cert.Kernel5.main_arg21)
      ∧ r.2.mem ((c.tc : Thread Cert.Kernel5.nD Cert.Kernel5.τ).loc Cert.Kernel5.main_arg22) = m ((c.tc : Thread Cert.Kernel5.nD Cert.Kernel5.τ).loc Cert.Kernel5.main_arg22)
      ∧ r.2.mem ((c.tc : Thread Cert.Kernel5.nD Cert.Kernel5.τ).loc Cert.Kernel5.main_arg23) = m ((c.tc : Thread Cert.Kernel5.nD Cert.Kernel5.τ).loc Cert.Kernel5.main_arg23))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
      ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
      ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17)
      ∧ r.2.mem ((c.tc : Thread Cert.Kernel5Ideal.nD Cert.Kernel5Ideal.τ).loc Cert.Kernel5Ideal.main_arg18) = m ((c.tc : Thread Cert.Kernel5Ideal.nD Cert.Kernel5Ideal.τ).loc Cert.Kernel5Ideal.main_arg18)
      ∧ r.2.mem ((c.tc : Thread Cert.Kernel5Ideal.nD Cert.Kernel5Ideal.τ).loc Cert.Kernel5Ideal.main_arg19) = m ((c.tc : Thread Cert.Kernel5Ideal.nD Cert.Kernel5Ideal.τ).loc Cert.Kernel5Ideal.main_arg19)
      ∧ r.2.mem ((c.tc : Thread Cert.Kernel5Ideal.nD Cert.Kernel5Ideal.τ).loc Cert.Kernel5Ideal.main_arg20) = m ((c.tc : Thread Cert.Kernel5Ideal.nD Cert.Kernel5Ideal.τ).loc Cert.Kernel5Ideal.main_arg20)
      ∧ r.2.mem ((c.tc : Thread Cert.Kernel5Ideal.nD Cert.Kernel5Ideal.τ).loc Cert.Kernel5Ideal.main_arg21) = m ((c.tc : Thread Cert.Kernel5Ideal.nD Cert.Kernel5Ideal.τ).loc Cert.Kernel5Ideal.main_arg21)
      ∧ r.2.mem ((c.tc : Thread Cert.Kernel5Ideal.nD Cert.Kernel5Ideal.τ).loc Cert.Kernel5Ideal.main_arg22) = m ((c.tc : Thread Cert.Kernel5Ideal.nD Cert.Kernel5Ideal.τ).loc Cert.Kernel5Ideal.main_arg22)
      ∧ r.2.mem ((c.tc : Thread Cert.Kernel5Ideal.nD Cert.Kernel5Ideal.τ).loc Cert.Kernel5Ideal.main_arg23) = m ((c.tc : Thread Cert.Kernel5Ideal.nD Cert.Kernel5Ideal.τ).loc Cert.Kernel5Ideal.main_arg23))
      ∧ r.2.sem = fun _ => 0)

def quiescent_Kernel5Ideal_pre_finite_states [hKernel5Ideal : Cert.Kernel5Ideal.Facts] [hPre_finite_states : Cert.Pre_finite_states.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_states m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
      ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
      ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17)
      ∧ r.2.mem ((c.tc : Thread Cert.Kernel5Ideal.nD Cert.Kernel5Ideal.τ).loc Cert.Kernel5Ideal.main_arg18) = m ((c.tc : Thread Cert.Kernel5Ideal.nD Cert.Kernel5Ideal.τ).loc Cert.Kernel5Ideal.main_arg18)
      ∧ r.2.mem ((c.tc : Thread Cert.Kernel5Ideal.nD Cert.Kernel5Ideal.τ).loc Cert.Kernel5Ideal.main_arg19) = m ((c.tc : Thread Cert.Kernel5Ideal.nD Cert.Kernel5Ideal.τ).loc Cert.Kernel5Ideal.main_arg19)
      ∧ r.2.mem ((c.tc : Thread Cert.Kernel5Ideal.nD Cert.Kernel5Ideal.τ).loc Cert.Kernel5Ideal.main_arg20) = m ((c.tc : Thread Cert.Kernel5Ideal.nD Cert.Kernel5Ideal.τ).loc Cert.Kernel5Ideal.main_arg20)
      ∧ r.2.mem ((c.tc : Thread Cert.Kernel5Ideal.nD Cert.Kernel5Ideal.τ).loc Cert.Kernel5Ideal.main_arg21) = m ((c.tc : Thread Cert.Kernel5Ideal.nD Cert.Kernel5Ideal.τ).loc Cert.Kernel5Ideal.main_arg21)
      ∧ r.2.mem ((c.tc : Thread Cert.Kernel5Ideal.nD Cert.Kernel5Ideal.τ).loc Cert.Kernel5Ideal.main_arg22) = m ((c.tc : Thread Cert.Kernel5Ideal.nD Cert.Kernel5Ideal.τ).loc Cert.Kernel5Ideal.main_arg22)
      ∧ r.2.mem ((c.tc : Thread Cert.Kernel5Ideal.nD Cert.Kernel5Ideal.τ).loc Cert.Kernel5Ideal.main_arg23) = m ((c.tc : Thread Cert.Kernel5Ideal.nD Cert.Kernel5Ideal.τ).loc Cert.Kernel5Ideal.main_arg23))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15)
      ∧ r.2.mem ((c.tc : Thread Cert.Reference5Ideal.nD Cert.Reference5Ideal.τ).loc Cert.Reference5Ideal.main_arg16) = m ((c.tc : Thread Cert.Reference5Ideal.nD Cert.Reference5Ideal.τ).loc Cert.Reference5Ideal.main_arg16)
      ∧ r.2.mem ((c.tc : Thread Cert.Reference5Ideal.nD Cert.Reference5Ideal.τ).loc Cert.Reference5Ideal.main_arg17) = m ((c.tc : Thread Cert.Reference5Ideal.nD Cert.Reference5Ideal.τ).loc Cert.Reference5Ideal.main_arg17)
      ∧ r.2.mem ((c.tc : Thread Cert.Reference5Ideal.nD Cert.Reference5Ideal.τ).loc Cert.Reference5Ideal.main_arg18) = m ((c.tc : Thread Cert.Reference5Ideal.nD Cert.Reference5Ideal.τ).loc Cert.Reference5Ideal.main_arg18)
      ∧ r.2.mem ((c.tc : Thread Cert.Reference5Ideal.nD Cert.Reference5Ideal.τ).loc Cert.Reference5Ideal.main_arg19) = m ((c.tc : Thread Cert.Reference5Ideal.nD Cert.Reference5Ideal.τ).loc Cert.Reference5Ideal.main_arg19)
      ∧ r.2.mem ((c.tc : Thread Cert.Reference5Ideal.nD Cert.Reference5Ideal.τ).loc Cert.Reference5Ideal.main_arg20) = m ((c.tc : Thread Cert.Reference5Ideal.nD Cert.Reference5Ideal.τ).loc Cert.Reference5Ideal.main_arg20)
      ∧ r.2.mem ((c.tc : Thread Cert.Reference5Ideal.nD Cert.Reference5Ideal.τ).loc Cert.Reference5Ideal.main_arg21) = m ((c.tc : Thread Cert.Reference5Ideal.nD Cert.Reference5Ideal.τ).loc Cert.Reference5Ideal.main_arg21)
      ∧ r.2.mem ((c.tc : Thread Cert.Reference5Ideal.nD Cert.Reference5Ideal.τ).loc Cert.Reference5Ideal.main_arg22) = m ((c.tc : Thread Cert.Reference5Ideal.nD Cert.Reference5Ideal.τ).loc Cert.Reference5Ideal.main_arg22)
      ∧ r.2.mem ((c.tc : Thread Cert.Reference5Ideal.nD Cert.Reference5Ideal.τ).loc Cert.Reference5Ideal.main_arg23) = m ((c.tc : Thread Cert.Reference5Ideal.nD Cert.Reference5Ideal.τ).loc Cert.Reference5Ideal.main_arg23))
      ∧ r.2.sem = fun _ => 0)

def quiescent_Reference5Ideal_pre_finite_states [hReference5Ideal : Cert.Reference5Ideal.Facts] [hPre_finite_states : Cert.Pre_finite_states.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_states m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15)
      ∧ r.2.mem ((c.tc : Thread Cert.Reference5Ideal.nD Cert.Reference5Ideal.τ).loc Cert.Reference5Ideal.main_arg16) = m ((c.tc : Thread Cert.Reference5Ideal.nD Cert.Reference5Ideal.τ).loc Cert.Reference5Ideal.main_arg16)
      ∧ r.2.mem ((c.tc : Thread Cert.Reference5Ideal.nD Cert.Reference5Ideal.τ).loc Cert.Reference5Ideal.main_arg17) = m ((c.tc : Thread Cert.Reference5Ideal.nD Cert.Reference5Ideal.τ).loc Cert.Reference5Ideal.main_arg17)
      ∧ r.2.mem ((c.tc : Thread Cert.Reference5Ideal.nD Cert.Reference5Ideal.τ).loc Cert.Reference5Ideal.main_arg18) = m ((c.tc : Thread Cert.Reference5Ideal.nD Cert.Reference5Ideal.τ).loc Cert.Reference5Ideal.main_arg18)
      ∧ r.2.mem ((c.tc : Thread Cert.Reference5Ideal.nD Cert.Reference5Ideal.τ).loc Cert.Reference5Ideal.main_arg19) = m ((c.tc : Thread Cert.Reference5Ideal.nD Cert.Reference5Ideal.τ).loc Cert.Reference5Ideal.main_arg19)
      ∧ r.2.mem ((c.tc : Thread Cert.Reference5Ideal.nD Cert.Reference5Ideal.τ).loc Cert.Reference5Ideal.main_arg20) = m ((c.tc : Thread Cert.Reference5Ideal.nD Cert.Reference5Ideal.τ).loc Cert.Reference5Ideal.main_arg20)
      ∧ r.2.mem ((c.tc : Thread Cert.Reference5Ideal.nD Cert.Reference5Ideal.τ).loc Cert.Reference5Ideal.main_arg21) = m ((c.tc : Thread Cert.Reference5Ideal.nD Cert.Reference5Ideal.τ).loc Cert.Reference5Ideal.main_arg21)
      ∧ r.2.mem ((c.tc : Thread Cert.Reference5Ideal.nD Cert.Reference5Ideal.τ).loc Cert.Reference5Ideal.main_arg22) = m ((c.tc : Thread Cert.Reference5Ideal.nD Cert.Reference5Ideal.τ).loc Cert.Reference5Ideal.main_arg22)
      ∧ r.2.mem ((c.tc : Thread Cert.Reference5Ideal.nD Cert.Reference5Ideal.τ).loc Cert.Reference5Ideal.main_arg23) = m ((c.tc : Thread Cert.Reference5Ideal.nD Cert.Reference5Ideal.τ).loc Cert.Reference5Ideal.main_arg23))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite_states [hKernel2Ideal : Cert.Kernel2Ideal.Facts] [hReference2Ideal : Cert.Reference2Ideal.Facts] [hPre_finite_states : Cert.Pre_finite_states.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_states m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)
      ∧ m' ((c.tc : Thread Cert.Reference2Ideal.nD Cert.Reference2Ideal.τ).loc Cert.Reference2Ideal.main_arg17) = m ((c.tc : Thread Cert.Kernel2Ideal.nD Cert.Kernel2Ideal.τ).loc Cert.Kernel2Ideal.main_arg17)
      ∧ m' ((c.tc : Thread Cert.Reference2Ideal.nD Cert.Reference2Ideal.τ).loc Cert.Reference2Ideal.main_arg18) = m ((c.tc : Thread Cert.Kernel2Ideal.nD Cert.Kernel2Ideal.τ).loc Cert.Kernel2Ideal.main_arg18)
      ∧ m' ((c.tc : Thread Cert.Reference2Ideal.nD Cert.Reference2Ideal.τ).loc Cert.Reference2Ideal.main_arg19) = m ((c.tc : Thread Cert.Kernel2Ideal.nD Cert.Kernel2Ideal.τ).loc Cert.Kernel2Ideal.main_arg19)
      ∧ m' ((c.tc : Thread Cert.Reference2Ideal.nD Cert.Reference2Ideal.τ).loc Cert.Reference2Ideal.main_arg20) = m ((c.tc : Thread Cert.Kernel2Ideal.nD Cert.Kernel2Ideal.τ).loc Cert.Kernel2Ideal.main_arg20)
      ∧ m' ((c.tc : Thread Cert.Reference2Ideal.nD Cert.Reference2Ideal.τ).loc Cert.Reference2Ideal.main_arg21) = m ((c.tc : Thread Cert.Kernel2Ideal.nD Cert.Kernel2Ideal.τ).loc Cert.Kernel2Ideal.main_arg21)
      ∧ m' ((c.tc : Thread Cert.Reference2Ideal.nD Cert.Reference2Ideal.τ).loc Cert.Reference2Ideal.main_arg22) = m ((c.tc : Thread Cert.Kernel2Ideal.nD Cert.Kernel2Ideal.τ).loc Cert.Kernel2Ideal.main_arg22)
      ∧ m' ((c.tc : Thread Cert.Reference2Ideal.nD Cert.Reference2Ideal.τ).loc Cert.Reference2Ideal.main_arg23) = m ((c.tc : Thread Cert.Kernel2Ideal.nD Cert.Kernel2Ideal.τ).loc Cert.Kernel2Ideal.main_arg23)) →
    ∃ (v0 : (c : Dev Cert.Kernel2Ideal.nD) → Buf (Elt Ideal) ((c.tc : Thread Cert.Kernel2Ideal.nD Cert.Kernel2Ideal.τ).loc Cert.Kernel2Ideal.main_v25)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v25) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
          ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
          ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18)
          ∧ r.2.mem ((c.tc : Thread Cert.Kernel2Ideal.nD Cert.Kernel2Ideal.τ).loc Cert.Kernel2Ideal.main_arg19) = m ((c.tc : Thread Cert.Kernel2Ideal.nD Cert.Kernel2Ideal.τ).loc Cert.Kernel2Ideal.main_arg19)
          ∧ r.2.mem ((c.tc : Thread Cert.Kernel2Ideal.nD Cert.Kernel2Ideal.τ).loc Cert.Kernel2Ideal.main_arg20) = m ((c.tc : Thread Cert.Kernel2Ideal.nD Cert.Kernel2Ideal.τ).loc Cert.Kernel2Ideal.main_arg20)
          ∧ r.2.mem ((c.tc : Thread Cert.Kernel2Ideal.nD Cert.Kernel2Ideal.τ).loc Cert.Kernel2Ideal.main_arg21) = m ((c.tc : Thread Cert.Kernel2Ideal.nD Cert.Kernel2Ideal.τ).loc Cert.Kernel2Ideal.main_arg21)
          ∧ r.2.mem ((c.tc : Thread Cert.Kernel2Ideal.nD Cert.Kernel2Ideal.τ).loc Cert.Kernel2Ideal.main_arg22) = m ((c.tc : Thread Cert.Kernel2Ideal.nD Cert.Kernel2Ideal.τ).loc Cert.Kernel2Ideal.main_arg22)
          ∧ r.2.mem ((c.tc : Thread Cert.Kernel2Ideal.nD Cert.Kernel2Ideal.τ).loc Cert.Kernel2Ideal.main_arg23) = m ((c.tc : Thread Cert.Kernel2Ideal.nD Cert.Kernel2Ideal.τ).loc Cert.Kernel2Ideal.main_arg23))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v112) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16)
          ∧ r.2.mem ((c.tc : Thread Cert.Reference2Ideal.nD Cert.Reference2Ideal.τ).loc Cert.Reference2Ideal.main_arg17) = m' ((c.tc : Thread Cert.Reference2Ideal.nD Cert.Reference2Ideal.τ).loc Cert.Reference2Ideal.main_arg17)
          ∧ r.2.mem ((c.tc : Thread Cert.Reference2Ideal.nD Cert.Reference2Ideal.τ).loc Cert.Reference2Ideal.main_arg18) = m' ((c.tc : Thread Cert.Reference2Ideal.nD Cert.Reference2Ideal.τ).loc Cert.Reference2Ideal.main_arg18)
          ∧ r.2.mem ((c.tc : Thread Cert.Reference2Ideal.nD Cert.Reference2Ideal.τ).loc Cert.Reference2Ideal.main_arg19) = m' ((c.tc : Thread Cert.Reference2Ideal.nD Cert.Reference2Ideal.τ).loc Cert.Reference2Ideal.main_arg19)
          ∧ r.2.mem ((c.tc : Thread Cert.Reference2Ideal.nD Cert.Reference2Ideal.τ).loc Cert.Reference2Ideal.main_arg20) = m' ((c.tc : Thread Cert.Reference2Ideal.nD Cert.Reference2Ideal.τ).loc Cert.Reference2Ideal.main_arg20)
          ∧ r.2.mem ((c.tc : Thread Cert.Reference2Ideal.nD Cert.Reference2Ideal.τ).loc Cert.Reference2Ideal.main_arg21) = m' ((c.tc : Thread Cert.Reference2Ideal.nD Cert.Reference2Ideal.τ).loc Cert.Reference2Ideal.main_arg21)
          ∧ r.2.mem ((c.tc : Thread Cert.Reference2Ideal.nD Cert.Reference2Ideal.τ).loc Cert.Reference2Ideal.main_arg22) = m' ((c.tc : Thread Cert.Reference2Ideal.nD Cert.Reference2Ideal.τ).loc Cert.Reference2Ideal.main_arg22)
          ∧ r.2.mem ((c.tc : Thread Cert.Reference2Ideal.nD Cert.Reference2Ideal.τ).loc Cert.Reference2Ideal.main_arg23) = m' ((c.tc : Thread Cert.Reference2Ideal.nD Cert.Reference2Ideal.τ).loc Cert.Reference2Ideal.main_arg23))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v89) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)) (v2 : (c : Dev Cert.Kernel4Ideal.nD) → Buf (Elt Ideal) ((c.tc : Thread Cert.Kernel4Ideal.nD Cert.Kernel4Ideal.τ).loc Cert.Kernel4Ideal.main_v7_2)) (v3 : (c : Dev Cert.Kernel4Ideal.nD) → Buf (Elt Ideal) ((c.tc : Thread Cert.Kernel4Ideal.nD Cert.Kernel4Ideal.τ).loc Cert.Kernel4Ideal.main_v7_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_v7_2) = v2 c
          ∧ r.2.mem ((c.tc : Thread Cert.Kernel4Ideal.nD Cert.Kernel4Ideal.τ).loc Cert.Kernel4Ideal.main_v7_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v57) = v0 c
          ∧ r.2.mem ((c.tc : Thread Cert.Reference4Ideal.nD Cert.Reference4Ideal.τ).loc Cert.Reference4Ideal.main_v58) = v1 c
          ∧ r.2.mem ((c.tc : Thread Cert.Reference4Ideal.nD Cert.Reference4Ideal.τ).loc Cert.Reference4Ideal.main_v61) = v2 c
          ∧ r.2.mem ((c.tc : Thread Cert.Reference4Ideal.nD Cert.Reference4Ideal.τ).loc Cert.Reference4Ideal.main_v60) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite_states [hKernel5Ideal : Cert.Kernel5Ideal.Facts] [hReference5Ideal : Cert.Reference5Ideal.Facts] [hPre_finite_states : Cert.Pre_finite_states.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_states m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)
      ∧ m' ((c.tc : Thread Cert.Reference5Ideal.nD Cert.Reference5Ideal.τ).loc Cert.Reference5Ideal.main_arg15) = m ((c.tc : Thread Cert.Kernel5Ideal.nD Cert.Kernel5Ideal.τ).loc Cert.Kernel5Ideal.main_arg15)
      ∧ m' ((c.tc : Thread Cert.Reference5Ideal.nD Cert.Reference5Ideal.τ).loc Cert.Reference5Ideal.main_arg16) = m ((c.tc : Thread Cert.Kernel5Ideal.nD Cert.Kernel5Ideal.τ).loc Cert.Kernel5Ideal.main_arg16)
      ∧ m' ((c.tc : Thread Cert.Reference5Ideal.nD Cert.Reference5Ideal.τ).loc Cert.Reference5Ideal.main_arg17) = m ((c.tc : Thread Cert.Kernel5Ideal.nD Cert.Kernel5Ideal.τ).loc Cert.Kernel5Ideal.main_arg17)
      ∧ m' ((c.tc : Thread Cert.Reference5Ideal.nD Cert.Reference5Ideal.τ).loc Cert.Reference5Ideal.main_arg18) = m ((c.tc : Thread Cert.Kernel5Ideal.nD Cert.Kernel5Ideal.τ).loc Cert.Kernel5Ideal.main_arg18)
      ∧ m' ((c.tc : Thread Cert.Reference5Ideal.nD Cert.Reference5Ideal.τ).loc Cert.Reference5Ideal.main_arg19) = m ((c.tc : Thread Cert.Kernel5Ideal.nD Cert.Kernel5Ideal.τ).loc Cert.Kernel5Ideal.main_arg19)
      ∧ m' ((c.tc : Thread Cert.Reference5Ideal.nD Cert.Reference5Ideal.τ).loc Cert.Reference5Ideal.main_arg20) = m ((c.tc : Thread Cert.Kernel5Ideal.nD Cert.Kernel5Ideal.τ).loc Cert.Kernel5Ideal.main_arg20)
      ∧ m' ((c.tc : Thread Cert.Reference5Ideal.nD Cert.Reference5Ideal.τ).loc Cert.Reference5Ideal.main_arg21) = m ((c.tc : Thread Cert.Kernel5Ideal.nD Cert.Kernel5Ideal.τ).loc Cert.Kernel5Ideal.main_arg21)
      ∧ m' ((c.tc : Thread Cert.Reference5Ideal.nD Cert.Reference5Ideal.τ).loc Cert.Reference5Ideal.main_arg22) = m ((c.tc : Thread Cert.Kernel5Ideal.nD Cert.Kernel5Ideal.τ).loc Cert.Kernel5Ideal.main_arg22)
      ∧ m' ((c.tc : Thread Cert.Reference5Ideal.nD Cert.Reference5Ideal.τ).loc Cert.Reference5Ideal.main_arg23) = m ((c.tc : Thread Cert.Kernel5Ideal.nD Cert.Kernel5Ideal.τ).loc Cert.Kernel5Ideal.main_arg23)) →
    ∃ (v0 : (c : Dev Cert.Kernel5Ideal.nD) → Buf (Elt Ideal) ((c.tc : Thread Cert.Kernel5Ideal.nD Cert.Kernel5Ideal.τ).loc Cert.Kernel5Ideal.main_v25)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v25) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
          ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
          ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
          ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17)
          ∧ r.2.mem ((c.tc : Thread Cert.Kernel5Ideal.nD Cert.Kernel5Ideal.τ).loc Cert.Kernel5Ideal.main_arg18) = m ((c.tc : Thread Cert.Kernel5Ideal.nD Cert.Kernel5Ideal.τ).loc Cert.Kernel5Ideal.main_arg18)
          ∧ r.2.mem ((c.tc : Thread Cert.Kernel5Ideal.nD Cert.Kernel5Ideal.τ).loc Cert.Kernel5Ideal.main_arg19) = m ((c.tc : Thread Cert.Kernel5Ideal.nD Cert.Kernel5Ideal.τ).loc Cert.Kernel5Ideal.main_arg19)
          ∧ r.2.mem ((c.tc : Thread Cert.Kernel5Ideal.nD Cert.Kernel5Ideal.τ).loc Cert.Kernel5Ideal.main_arg20) = m ((c.tc : Thread Cert.Kernel5Ideal.nD Cert.Kernel5Ideal.τ).loc Cert.Kernel5Ideal.main_arg20)
          ∧ r.2.mem ((c.tc : Thread Cert.Kernel5Ideal.nD Cert.Kernel5Ideal.τ).loc Cert.Kernel5Ideal.main_arg21) = m ((c.tc : Thread Cert.Kernel5Ideal.nD Cert.Kernel5Ideal.τ).loc Cert.Kernel5Ideal.main_arg21)
          ∧ r.2.mem ((c.tc : Thread Cert.Kernel5Ideal.nD Cert.Kernel5Ideal.τ).loc Cert.Kernel5Ideal.main_arg22) = m ((c.tc : Thread Cert.Kernel5Ideal.nD Cert.Kernel5Ideal.τ).loc Cert.Kernel5Ideal.main_arg22)
          ∧ r.2.mem ((c.tc : Thread Cert.Kernel5Ideal.nD Cert.Kernel5Ideal.τ).loc Cert.Kernel5Ideal.main_arg23) = m ((c.tc : Thread Cert.Kernel5Ideal.nD Cert.Kernel5Ideal.τ).loc Cert.Kernel5Ideal.main_arg23))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v156) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14)
          ∧ r.2.mem ((c.tc : Thread Cert.Reference5Ideal.nD Cert.Reference5Ideal.τ).loc Cert.Reference5Ideal.main_arg15) = m' ((c.tc : Thread Cert.Reference5Ideal.nD Cert.Reference5Ideal.τ).loc Cert.Reference5Ideal.main_arg15)
          ∧ r.2.mem ((c.tc : Thread Cert.Reference5Ideal.nD Cert.Reference5Ideal.τ).loc Cert.Reference5Ideal.main_arg16) = m' ((c.tc : Thread Cert.Reference5Ideal.nD Cert.Reference5Ideal.τ).loc Cert.Reference5Ideal.main_arg16)
          ∧ r.2.mem ((c.tc : Thread Cert.Reference5Ideal.nD Cert.Reference5Ideal.τ).loc Cert.Reference5Ideal.main_arg17) = m' ((c.tc : Thread Cert.Reference5Ideal.nD Cert.Reference5Ideal.τ).loc Cert.Reference5Ideal.main_arg17)
          ∧ r.2.mem ((c.tc : Thread Cert.Reference5Ideal.nD Cert.Reference5Ideal.τ).loc Cert.Reference5Ideal.main_arg18) = m' ((c.tc : Thread Cert.Reference5Ideal.nD Cert.Reference5Ideal.τ).loc Cert.Reference5Ideal.main_arg18)
          ∧ r.2.mem ((c.tc : Thread Cert.Reference5Ideal.nD Cert.Reference5Ideal.τ).loc Cert.Reference5Ideal.main_arg19) = m' ((c.tc : Thread Cert.Reference5Ideal.nD Cert.Reference5Ideal.τ).loc Cert.Reference5Ideal.main_arg19)
          ∧ r.2.mem ((c.tc : Thread Cert.Reference5Ideal.nD Cert.Reference5Ideal.τ).loc Cert.Reference5Ideal.main_arg20) = m' ((c.tc : Thread Cert.Reference5Ideal.nD Cert.Reference5Ideal.τ).loc Cert.Reference5Ideal.main_arg20)
          ∧ r.2.mem ((c.tc : Thread Cert.Reference5Ideal.nD Cert.Reference5Ideal.τ).loc Cert.Reference5Ideal.main_arg21) = m' ((c.tc : Thread Cert.Reference5Ideal.nD Cert.Reference5Ideal.τ).loc Cert.Reference5Ideal.main_arg21)
          ∧ r.2.mem ((c.tc : Thread Cert.Reference5Ideal.nD Cert.Reference5Ideal.τ).loc Cert.Reference5Ideal.main_arg22) = m' ((c.tc : Thread Cert.Reference5Ideal.nD Cert.Reference5Ideal.τ).loc Cert.Reference5Ideal.main_arg22)
          ∧ r.2.mem ((c.tc : Thread Cert.Reference5Ideal.nD Cert.Reference5Ideal.τ).loc Cert.Reference5Ideal.main_arg23) = m' ((c.tc : Thread Cert.Reference5Ideal.nD Cert.Reference5Ideal.τ).loc Cert.Reference5Ideal.main_arg23))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v87) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v6)) (v1 : (c : Dev Cert.Kernel7Ideal.nD) → Buf (Elt Ideal) ((c.tc : Thread Cert.Kernel7Ideal.nD Cert.Kernel7Ideal.τ).loc Cert.Kernel7Ideal.main_v7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_v7) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v20) = v0 c
          ∧ r.2.mem ((c.tc : Thread Cert.Reference7Ideal.nD Cert.Reference7Ideal.τ).loc Cert.Reference7Ideal.main_v43) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_states : Cert.Pre_finite_states.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite_states (hKernel2Ideal := hKernel2Ideal) (hPre_finite_states := hPre_finite_states)
    ∧ quiescent_Reference2Ideal (hReference2Ideal := hReference2Ideal)
    ∧ quiescent_Reference2Ideal_pre_finite_states (hReference2Ideal := hReference2Ideal) (hPre_finite_states := hPre_finite_states)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_states (hKernel5Ideal := hKernel5Ideal) (hPre_finite_states := hPre_finite_states)
    ∧ quiescent_Reference5Ideal (hReference5Ideal := hReference5Ideal)
    ∧ quiescent_Reference5Ideal_pre_finite_states (hReference5Ideal := hReference5Ideal) (hPre_finite_states := hPre_finite_states)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite_states (hKernel2Ideal := hKernel2Ideal) (hReference2Ideal := hReference2Ideal) (hPre_finite_states := hPre_finite_states)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_states (hKernel5Ideal := hKernel5Ideal) (hReference5Ideal := hReference5Ideal) (hPre_finite_states := hPre_finite_states)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_states.lean ====
abbrev S8x2304x1024 : Shape := ⟨3, ![8, 2304, 1024]⟩
abbrev S8x9x1024 : Shape := ⟨3, ![8, 9, 1024]⟩
abbrev S1x9x1024 : Shape := ⟨3, ![1, 9, 1024]⟩
abbrev S1024 : Shape := ⟨1, ![1024]⟩
abbrev S8x2304x256 : Shape := ⟨3, ![8, 2304, 256]⟩
abbrev S8x2304x1152 : Shape := ⟨3, ![8, 2304, 1152]⟩
abbrev S64 : Shape := ⟨1, ![64]⟩
abbrev S2x256 : Shape := ⟨2, ![2, 256]⟩
abbrev S256 : Shape := ⟨1, ![256]⟩
abbrev S4x64 : Shape := ⟨2, ![4, 64]⟩
abbrev S2x1024x1024 : Shape := ⟨3, ![2, 1024, 1024]⟩
abbrev S2x2x1024x5632 : Shape := ⟨4, ![2, 2, 1024, 5632]⟩
abbrev S2x2x2816x1024 : Shape := ⟨4, ![2, 2, 2816, 1024]⟩
abbrev S_ : Shape := ⟨0, ![]⟩

class Facts : Prop where
  bcast_S_S8x2304x256 : S_.BroadcastsInDim S8x2304x256 (![] : Fin 0 → Fin S8x2304x256.rank)
  reducesTo_S8x2304x256_S_d0_1_2 : S8x2304x256.ReducesTo [0, 1, 2] S_
  h_S_ : 0 < S_.numel

variable [Facts]

def fn_part1 {F : FTy → Type} [FloatOps F] (main_v13 : IVec S_ 1) (main_v16 : IVec S8x2304x256 1) : IVec S_ 1 :=
  let main_c_5 : IVec S_ 1 := constantI S_ 1 1#1
  let main_v17 : IVec S_ 1 := (fun x v => Host.reduce IntOp.andi x v reducesTo_S8x2304x256_S_d0_1_2 h_S_) main_v16 main_c_5
  let main_v18 : IVec S_ 1 := andi main_v13 main_v17
  main_v18

def fn {F : FTy → Type} [FloatOps F] (main_arg0 : FVec F S8x2304x1024 .f32) (main_arg1 : FVec F S8x9x1024 .f32) (main_arg2 : FVec F S1x9x1024 .f32) (main_arg3 : FVec F S1024 .f32) (main_arg4 : FVec F S8x2304x256 .f32) (main_arg5 : FVec F S8x2304x256 .f32) (main_arg6 : FVec F S8x2304x256 .f32) (main_arg7 : FVec F S8x2304x256 .f32) (main_arg8 : FVec F S8x2304x1152 .f32) (main_arg9 : FVec F S64 .f32) (main_arg10 : FVec F S8x2304x256 .f32) (main_arg11 : FVec F S8x2304x256 .f32) (main_arg12 : FVec F S8x2304x256 .f32) (main_arg13 : FVec F S8x2304x256 .f32) (main_arg14 : FVec F S2x256 .f32) (main_arg15 : FVec F S2x256 .f32) (main_arg16 : FVec F S256 .f32) (main_arg17 : FVec F S256 .f32) (main_arg18 : FVec F S4x64 .f32) (main_arg19 : FVec F S256 .f32) (main_arg20 : FVec F S256 .f32) (main_arg21 : FVec F S2x1024x1024 .f32) (main_arg22 : FVec F S2x2x1024x5632 .f32) (main_arg23 : FVec F S2x2x2816x1024 .f32) : IVec S_ 1 :=
  let main_v0 : FVec F S8x2304x256 .f32 := Host.absf main_arg6
  let main_cst : FVec F S_ .f32 := constant S_ .f32 0x7F800000#32
  let main_v1 : FVec F S8x2304x256 .f32 := broadcastInDim S8x2304x256 ![] bcast_S_S8x2304x256 main_cst
  let main_v2 : IVec S8x2304x256 1 := cmpf .olt main_v0 main_v1
  let main_c : IVec S_ 1 := constantI S_ 1 1#1
  let main_v3 : IVec S_ 1 := (fun x v => Host.reduce IntOp.andi x v reducesTo_S8x2304x256_S_d0_1_2 h_S_) main_v2 main_c
  let main_v4 : FVec F S8x2304x256 .f32 := Host.absf main_arg7
  let main_cst_0 : FVec F S_ .f32 := constant S_ .f32 0x7F800000#32
  let main_v5 : FVec F S8x2304x256 .f32 := broadcastInDim S8x2304x256 ![] bcast_S_S8x2304x256 main_cst_0
  let main_v6 : IVec S8x2304x256 1 := cmpf .olt main_v4 main_v5
  let main_c_1 : IVec S_ 1 := constantI S_ 1 1#1
  let main_v7 : IVec S_ 1 := (fun x v => Host.reduce IntOp.andi x v reducesTo_S8x2304x256_S_d0_1_2 h_S_) main_v6 main_c_1
  let main_v8 : IVec S_ 1 := andi main_v3 main_v7
  let main_v9 : FVec F S8x2304x256 .f32 := Host.absf main_arg10
  let main_cst_2 : FVec F S_ .f32 := constant S_ .f32 0x7F800000#32
  let main_v10 : FVec F S8x2304x256 .f32 := broadcastInDim S8x2304x256 ![] bcast_S_S8x2304x256 main_cst_2
  let main_v11 : IVec S8x2304x256 1 := cmpf .olt main_v9 main_v10
  let main_c_3 : IVec S_ 1 := constantI S_ 1 1#1
  let main_v12 : IVec S_ 1 := (fun x v => Host.reduce IntOp.andi x v reducesTo_S8x2304x256_S_d0_1_2 h_S_) main_v11 main_c_3
  let main_v13 : IVec S_ 1 := andi main_v8 main_v12
  let main_v14 : FVec F S8x2304x256 .f32 := Host.absf main_arg11
  let main_cst_4 : FVec F S_ .f32 := constant S_ .f32 0x7F800000#32
  let main_v15 : FVec F S8x2304x256 .f32 := broadcastInDim S8x2304x256 ![] bcast_S_S8x2304x256 main_cst_4
  let main_v16 : IVec S8x2304x256 1 := cmpf .olt main_v14 main_v15
  fn_part1 (F := F) main_v13 main_v16
-- ==== Kernel.lean ====
abbrev S2x8x2304x4x64 : Shape := ⟨5, ![2, 8, 2304, 4, 64]⟩
abbrev S2x8x36x4 : Shape := ⟨4, ![2, 8, 36, 4]⟩
abbrev S2x8x2304x256 : Shape := ⟨4, ![2, 8, 2304, 256]⟩
abbrev S2x8x36x1x4x1 : Shape := ⟨6, ![2, 8, 36, 1, 4, 1]⟩
abbrev S2x8x36x8x4x64 : Shape := ⟨6, ![2, 8, 36, 8, 4, 64]⟩
abbrev S2x8x288x256 : Shape := ⟨4, ![2, 8, 288, 256]⟩
abbrev S8x2304x256 : Shape := ⟨3, ![8, 2304, 256]⟩
abbrev S1x8x128x256 : Shape := ⟨4, ![1, 8, 128, 256]⟩
abbrev S1x8x16x256 : Shape := ⟨4, ![1, 8, 16, 256]⟩
abbrev S8x128x256 : Shape := ⟨3, ![8, 128, 256]⟩
abbrev S16x256x256 : Shape := ⟨3, ![16, 256, 256]⟩
abbrev S256x256 : Shape := ⟨2, ![256, 256]⟩
abbrev S1x256x256 : Shape := ⟨3, ![1, 256, 256]⟩
abbrev S1x1x64x256 : Shape := ⟨4, ![1, 1, 64, 256]⟩
abbrev S64x256 : Shape := ⟨2, ![64, 256]⟩
abbrev S1x256 : Shape := ⟨2, ![1, 256]⟩
abbrev S1x64x256 : Shape := ⟨3, ![1, 64, 256]⟩
abbrev S1x1x8x256 : Shape := ⟨4, ![1, 1, 8, 256]⟩
abbrev S8x256 : Shape := ⟨2, ![8, 256]⟩

abbrev nBuf : Space → Nat
  | .hbm => 16
  | .vmem => 29
  | .smem => 0
  | _ => 0

abbrev bufTy : (tb : Table) → Fin (tcTables nBuf tb) → BufTy
  | .hbm, ⟨0, _⟩ => ⟨S2x8x2304x4x64, .f32⟩
  | .hbm, ⟨1, _⟩ => ⟨S2x8x2304x4x64, .bf16⟩
  | .hbm, ⟨2, _⟩ => ⟨S2x8x2304x4x64, .bf16⟩
  | .hbm, ⟨3, _⟩ => ⟨S2x8x2304x4x64, .bf16⟩
  | .hbm, ⟨4, _⟩ => ⟨S2x8x2304x4x64, .bf16⟩
  | .hbm, ⟨5, _⟩ => ⟨S2x8x36x4, .f32⟩
  | .hbm, ⟨6, _⟩ => ⟨S2x8x2304x256, .f32⟩
  | .hbm, ⟨7, _⟩ => ⟨S2x8x2304x256, .bf16⟩
  | .hbm, ⟨8, _⟩ => ⟨S2x8x2304x256, .bf16⟩
  | .hbm, ⟨9, _⟩ => ⟨S2x8x2304x256, .bf16⟩
  | .hbm, ⟨10, _⟩ => ⟨S2x8x2304x256, .bf16⟩
  | .hbm, ⟨11, _⟩ => ⟨S2x8x36x1x4x1, .f32⟩
  | .hbm, ⟨12, _⟩ => ⟨S2x8x36x8x4x64, .f32⟩
  | .hbm, ⟨13, _⟩ => ⟨S2x8x288x256, .f32⟩
  | .hbm, ⟨14, _⟩ => ⟨S8x2304x256, .f32⟩
  | .hbm, ⟨15, _⟩ => ⟨S8x2304x256, .f32⟩
  | .local _ .vmem, ⟨0, _⟩ => ⟨S1x8x128x256, .f32⟩
  | .local _ .vmem, ⟨1, _⟩ => ⟨S1x8x128x256, .f32⟩
  | .local _ .vmem, ⟨2, _⟩ => ⟨S1x8x128x256, .bf16⟩
  | .local _ .vmem, ⟨3, _⟩ => ⟨S1x8x128x256, .bf16⟩
  | .local _ .vmem, ⟨4, _⟩ => ⟨S1x8x128x256, .bf16⟩
  | .local _ .vmem, ⟨5, _⟩ => ⟨S1x8x128x256, .bf16⟩
  | .local _ .vmem, ⟨6, _⟩ => ⟨S1x8x128x256, .bf16⟩
  | .local _ .vmem, ⟨7, _⟩ => ⟨S1x8x128x256, .bf16⟩
  | .local _ .vmem, ⟨8, _⟩ => ⟨S1x8x128x256, .bf16⟩
  | .local _ .vmem, ⟨9, _⟩ => ⟨S1x8x128x256, .bf16⟩
  | .local _ .vmem, ⟨10, _⟩ => ⟨S1x8x16x256, .f32⟩
  | .local _ .vmem, ⟨11, _⟩ => ⟨S1x8x16x256, .f32⟩
  | .local _ .vmem, ⟨12, _⟩ => ⟨S1x8x128x256, .f32⟩
  | .local _ .vmem, ⟨13, _⟩ => ⟨S1x8x128x256, .f32⟩
  | .local _ .vmem, ⟨14, _⟩ => ⟨S1x8x128x256, .bf16⟩
  | .local _ .vmem, ⟨15, _⟩ => ⟨S1x8x128x256, .bf16⟩
  | .local _ .vmem, ⟨16, _⟩ => ⟨S1x8x128x256, .bf16⟩
  | .local _ .vmem, ⟨17, _⟩ => ⟨S1x8x128x256, .bf16⟩
  | .local _ .vmem, ⟨18, _⟩ => ⟨S1x8x128x256, .bf16⟩
  | .local _ .vmem, ⟨19, _⟩ => ⟨S1x8x128x256, .bf16⟩
  | .local _ .vmem, ⟨20, _⟩ => ⟨S1x8x128x256, .bf16⟩
  | .local _ .vmem, ⟨21, _⟩ => ⟨S1x8x128x256, .bf16⟩
  | .local _ .vmem, ⟨22, _⟩ => ⟨S1x8x16x256, .f32⟩
  | .local _ .vmem, ⟨23, _⟩ => ⟨S1x8x16x256, .f32⟩
  | .local _ .vmem, ⟨24, _⟩ => ⟨S8x128x256, .f32⟩
  | .local _ .vmem, ⟨25, _⟩ => ⟨S8x128x256, .f32⟩
  | .local _ .vmem, ⟨26, _⟩ => ⟨S8x128x256, .f32⟩
  | .local _ .vmem, ⟨27, _⟩ => ⟨S8x128x256, .f32⟩
  | .local _ .vmem, ⟨28, _⟩ => ⟨S16x256x256, .f32⟩
  | _, _ => ⟨S2x8x2304x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![1, 18], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c2_i32_0 : BitVec 32 := 2#32
  let v1 : BitVec 32 := Scalar.addi v0 c2_i32_0
  let c1_i32 : BitVec 32 := 1#32
  let v2 : BitVec 32 := Scalar.subi v1 c1_i32
  let c4_i32 : BitVec 32 := 4#32
  let v3 : BitVec 1 := Scalar.cmpi .slt v2 c4_i32
  let c3_i32 : BitVec 32 := 3#32
  let v4 : BitVec 32 := Scalar.subi c3_i32 v2
  let c39_i32 : BitVec 32 := 39#32
  let v5 : BitVec 32 := Scalar.subi c39_i32 v2
  let v6 : BitVec 32 := Scalar.select v3 v4 v5
  let c2_i32_1 : BitVec 32 := 2#32
  let v7 : BitVec 32 := Scalar.divsi v6 c2_i32_1
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c0_i32_3 : BitVec 32 := 0#32
  let v13 : BitVec 1 := Scalar.cmpi .sgt c2_i32_1 c0_i32_3
  let v14 : BitVec 32 := Scalar.extui v13
  let c0_i32_4 : BitVec 32 := 0#32
  let v15 : BitVec 1 := Scalar.cmpi .slt c2_i32_1 c0_i32_4
  let v16 : BitVec 32 := Scalar.extui v15
  let v17 : BitVec 32 := Scalar.subi v14 v16
  let v18 : BitVec 1 := Scalar.cmpi .ne v12 v17
  let v19 : BitVec 32 := Scalar.remsi v6 c2_i32_1
  let c0_i32_5 : BitVec 32 := 0#32
  let v20 : BitVec 1 := Scalar.cmpi .ne v19 c0_i32_5
  let v21 : BitVec 1 := Scalar.andi v18 v20
  let c1_i32_6 : BitVec 32 := 1#32
  let v22 : BitVec 32 := Scalar.subi v7 c1_i32_6
  let v23 : BitVec 32 := Scalar.select v21 v22 v7
  let c1_i32_7 : BitVec 32 := 1#32
  let c0_i32_8 : BitVec 32 := 0#32
  let c0_i32_9 : BitVec 32 := 0#32
  ![c1_i32_7.toNat, arg0.toNat, v23.toNat, c0_i32_8.toNat]

def cc0_transform_7 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c2_i32_0 : BitVec 32 := 2#32
  let v1 : BitVec 32 := Scalar.addi v0 c2_i32_0
  let c1_i32 : BitVec 32 := 1#32
  let v2 : BitVec 32 := Scalar.subi v1 c1_i32
  let c4_i32 : BitVec 32 := 4#32
  let v3 : BitVec 1 := Scalar.cmpi .slt v2 c4_i32
  let c3_i32 : BitVec 32 := 3#32
  let v4 : BitVec 32 := Scalar.subi c3_i32 v2
  let c39_i32 : BitVec 32 := 39#32
  let v5 : BitVec 32 := Scalar.subi c39_i32 v2
  let v6 : BitVec 32 := Scalar.select v3 v4 v5
  let c2_i32_1 : BitVec 32 := 2#32
  let v7 : BitVec 32 := Scalar.divsi v6 c2_i32_1
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c0_i32_3 : BitVec 32 := 0#32
  let v13 : BitVec 1 := Scalar.cmpi .sgt c2_i32_1 c0_i32_3
  let v14 : BitVec 32 := Scalar.extui v13
  let c0_i32_4 : BitVec 32 := 0#32
  let v15 : BitVec 1 := Scalar.cmpi .slt c2_i32_1 c0_i32_4
  let v16 : BitVec 32 := Scalar.extui v15
  let v17 : BitVec 32 := Scalar.subi v14 v16
  let v18 : BitVec 1 := Scalar.cmpi .ne v12 v17
  let v19 : BitVec 32 := Scalar.remsi v6 c2_i32_1
  let c0_i32_5 : BitVec 32 := 0#32
  let v20 : BitVec 1 := Scalar.cmpi .ne v19 c0_i32_5
  let v21 : BitVec 1 := Scalar.andi v18 v20
  let c1_i32_6 : BitVec 32 := 1#32
  let v22 : BitVec 32 := Scalar.subi v7 c1_i32_6
  let v23 : BitVec 32 := Scalar.select v21 v22 v7
  let c1_i32_7 : BitVec 32 := 1#32
  let c0_i32_8 : BitVec 32 := 0#32
  let c0_i32_9 : BitVec 32 := 0#32
  ![c1_i32_7.toNat, arg0.toNat, v23.toNat, c0_i32_8.toNat]

def cc0_transform_8 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c2_i32_0 : BitVec 32 := 2#32
  let v1 : BitVec 32 := Scalar.addi v0 c2_i32_0
  let c1_i32 : BitVec 32 := 1#32
  let v2 : BitVec 32 := Scalar.subi v1 c1_i32
  let c4_i32 : BitVec 32 := 4#32
  let v3 : BitVec 1 := Scalar.cmpi .slt v2 c4_i32
  let c3_i32 : BitVec 32 := 3#32
  let v4 : BitVec 32 := Scalar.subi c3_i32 v2
  let c39_i32 : BitVec 32 := 39#32
  let v5 : BitVec 32 := Scalar.subi c39_i32 v2
  let v6 : BitVec 32 := Scalar.select v3 v4 v5
  let c2_i32_1 : BitVec 32 := 2#32
  let v7 : BitVec 32 := Scalar.divsi v6 c2_i32_1
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c0_i32_3 : BitVec 32 := 0#32
  let v13 : BitVec 1 := Scalar.cmpi .sgt c2_i32_1 c0_i32_3
  let v14 : BitVec 32 := Scalar.extui v13
  let c0_i32_4 : BitVec 32 := 0#32
  let v15 : BitVec 1 := Scalar.cmpi .slt c2_i32_1 c0_i32_4
  let v16 : BitVec 32 := Scalar.extui v15
  let v17 : BitVec 32 := Scalar.subi v14 v16
  let v18 : BitVec 1 := Scalar.cmpi .ne v12 v17
  let v19 : BitVec 32 := Scalar.remsi v6 c2_i32_1
  let c0_i32_5 : BitVec 32 := 0#32
  let v20 : BitVec 1 := Scalar.cmpi .ne v19 c0_i32_5
  let v21 : BitVec 1 := Scalar.andi v18 v20
  let c1_i32_6 : BitVec 32 := 1#32
  let v22 : BitVec 32 := Scalar.subi v7 c1_i32_6
  let v23 : BitVec 32 := Scalar.select v21 v22 v7
  let c1_i32_7 : BitVec 32 := 1#32
  let c0_i32_8 : BitVec 32 := 0#32
  let c0_i32_9 : BitVec 32 := 0#32
  ![c1_i32_7.toNat, arg0.toNat, v23.toNat, c0_i32_8.toNat]

def cc0_transform_9 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c2_i32_0 : BitVec 32 := 2#32
  let v1 : BitVec 32 := Scalar.addi v0 c2_i32_0
  let c1_i32 : BitVec 32 := 1#32
  let v2 : BitVec 32 := Scalar.subi v1 c1_i32
  let c4_i32 : BitVec 32 := 4#32
  let v3 : BitVec 1 := Scalar.cmpi .slt v2 c4_i32
  let c3_i32 : BitVec 32 := 3#32
  let v4 : BitVec 32 := Scalar.subi c3_i32 v2
  let c39_i32 : BitVec 32 := 39#32
  let v5 : BitVec 32 := Scalar.subi c39_i32 v2
  let v6 : BitVec 32 := Scalar.select v3 v4 v5
  let c2_i32_1 : BitVec 32 := 2#32
  let v7 : BitVec 32 := Scalar.divsi v6 c2_i32_1
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c0_i32_3 : BitVec 32 := 0#32
  let v13 : BitVec 1 := Scalar.cmpi .sgt c2_i32_1 c0_i32_3
  let v14 : BitVec 32 := Scalar.extui v13
  let c0_i32_4 : BitVec 32 := 0#32
  let v15 : BitVec 1 := Scalar.cmpi .slt c2_i32_1 c0_i32_4
  let v16 : BitVec 32 := Scalar.extui v15
  let v17 : BitVec 32 := Scalar.subi v14 v16
  let v18 : BitVec 1 := Scalar.cmpi .ne v12 v17
  let v19 : BitVec 32 := Scalar.remsi v6 c2_i32_1
  let c0_i32_5 : BitVec 32 := 0#32
  let v20 : BitVec 1 := Scalar.cmpi .ne v19 c0_i32_5
  let v21 : BitVec 1 := Scalar.andi v18 v20
  let c1_i32_6 : BitVec 32 := 1#32
  let v22 : BitVec 32 := Scalar.subi v7 c1_i32_6
  let v23 : BitVec 32 := Scalar.select v21 v22 v7
  let c1_i32_7 : BitVec 32 := 1#32
  let c0_i32_8 : BitVec 32 := 0#32
  let c0_i32_9 : BitVec 32 := 0#32
  ![c1_i32_7.toNat, arg0.toNat, v23.toNat, c0_i32_8.toNat]

def cc0_transform_10 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c2_i32_0 : BitVec 32 := 2#32
  let v1 : BitVec 32 := Scalar.addi v0 c2_i32_0
  let c1_i32 : BitVec 32 := 1#32
  let v2 : BitVec 32 := Scalar.subi v1 c1_i32
  let c4_i32 : BitVec 32 := 4#32
  let v3 : BitVec 1 := Scalar.cmpi .slt v2 c4_i32
  let c3_i32 : BitVec 32 := 3#32
  let v4 : BitVec 32 := Scalar.subi c3_i32 v2
  let c39_i32 : BitVec 32 := 39#32
  let v5 : BitVec 32 := Scalar.subi c39_i32 v2
  let v6 : BitVec 32 := Scalar.select v3 v4 v5
  let c2_i32_1 : BitVec 32 := 2#32
  let v7 : BitVec 32 := Scalar.divsi v6 c2_i32_1
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c0_i32_3 : BitVec 32 := 0#32
  let v13 : BitVec 1 := Scalar.cmpi .sgt c2_i32_1 c0_i32_3
  let v14 : BitVec 32 := Scalar.extui v13
  let c0_i32_4 : BitVec 32 := 0#32
  let v15 : BitVec 1 := Scalar.cmpi .slt c2_i32_1 c0_i32_4
  let v16 : BitVec 32 := Scalar.extui v15
  let v17 : BitVec 32 := Scalar.subi v14 v16
  let v18 : BitVec 1 := Scalar.cmpi .ne v12 v17
  let v19 : BitVec 32 := Scalar.remsi v6 c2_i32_1
  let c0_i32_5 : BitVec 32 := 0#32
  let v20 : BitVec 1 := Scalar.cmpi .ne v19 c0_i32_5
  let v21 : BitVec 1 := Scalar.andi v18 v20
  let c1_i32_6 : BitVec 32 := 1#32
  let v22 : BitVec 32 := Scalar.subi v7 c1_i32_6
  let v23 : BitVec 32 := Scalar.select v21 v22 v7
  let c1_i32_7 : BitVec 32 := 1#32
  let c0_i32_8 : BitVec 32 := 0#32
  let c0_i32_9 : BitVec 32 := 0#32
  ![c1_i32_7.toNat, arg0.toNat, v23.toNat, c0_i32_8.toNat]

def cc0_transform_11 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c2_i32_0 : BitVec 32 := 2#32
  let v1 : BitVec 32 := Scalar.addi v0 c2_i32_0
  let c1_i32 : BitVec 32 := 1#32
  let v2 : BitVec 32 := Scalar.subi v1 c1_i32
  let c4_i32 : BitVec 32 := 4#32
  let v3 : BitVec 1 := Scalar.cmpi .slt v2 c4_i32
  let c3_i32 : BitVec 32 := 3#32
  let v4 : BitVec 32 := Scalar.subi c3_i32 v2
  let c39_i32 : BitVec 32 := 39#32
  let v5 : BitVec 32 := Scalar.subi c39_i32 v2
  let v6 : BitVec 32 := Scalar.select v3 v4 v5
  let c2_i32_1 : BitVec 32 := 2#32
  let v7 : BitVec 32 := Scalar.divsi v6 c2_i32_1
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c0_i32_3 : BitVec 32 := 0#32
  let v13 : BitVec 1 := Scalar.cmpi .sgt c2_i32_1 c0_i32_3
  let v14 : BitVec 32 := Scalar.extui v13
  let c0_i32_4 : BitVec 32 := 0#32
  let v15 : BitVec 1 := Scalar.cmpi .slt c2_i32_1 c0_i32_4
  let v16 : BitVec 32 := Scalar.extui v15
  let v17 : BitVec 32 := Scalar.subi v14 v16
  let v18 : BitVec 1 := Scalar.cmpi .ne v12 v17
  let v19 : BitVec 32 := Scalar.remsi v6 c2_i32_1
  let c0_i32_5 : BitVec 32 := 0#32
  let v20 : BitVec 1 := Scalar.cmpi .ne v19 c0_i32_5
  let v21 : BitVec 1 := Scalar.andi v18 v20
  let c1_i32_6 : BitVec 32 := 1#32
  let v22 : BitVec 32 := Scalar.subi v7 c1_i32_6
  let v23 : BitVec 32 := Scalar.select v21 v22 v7
  let c1_i32_7 : BitVec 32 := 1#32
  let c0_i32_8 : BitVec 32 := 0#32
  let c0_i32_9 : BitVec 32 := 0#32
  ![c1_i32_7.toNat, arg0.toNat, v23.toNat, c0_i32_8.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c2_i32_0 : BitVec 32 := 2#32
  let v1 : BitVec 32 := Scalar.addi v0 c2_i32_0
  let c1_i32 : BitVec 32 := 1#32
  let v2 : BitVec 32 := Scalar.subi v1 c1_i32
  let c4_i32 : BitVec 32 := 4#32
  let v3 : BitVec 1 := Scalar.cmpi .slt v2 c4_i32
  let c3_i32 : BitVec 32 := 3#32
  let v4 : BitVec 32 := Scalar.subi c3_i32 v2
  let c39_i32 : BitVec 32 := 39#32
  let v5 : BitVec 32 := Scalar.subi c39_i32 v2
  let v6 : BitVec 32 := Scalar.select v3 v4 v5
  let c2_i32_1 : BitVec 32 := 2#32
  let v7 : BitVec 32 := Scalar.divsi v6 c2_i32_1
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c0_i32_3 : BitVec 32 := 0#32
  let v13 : BitVec 1 := Scalar.cmpi .sgt c2_i32_1 c0_i32_3
  let v14 : BitVec 32 := Scalar.extui v13
  let c0_i32_4 : BitVec 32 := 0#32
  let v15 : BitVec 1 := Scalar.cmpi .slt c2_i32_1 c0_i32_4
  let v16 : BitVec 32 := Scalar.extui v15
  let v17 : BitVec 32 := Scalar.subi v14 v16
  let v18 : BitVec 1 := Scalar.cmpi .ne v12 v17
  let v19 : BitVec 32 := Scalar.remsi v6 c2_i32_1
  let c0_i32_5 : BitVec 32 := 0#32
  let v20 : BitVec 1 := Scalar.cmpi .ne v19 c0_i32_5
  let v21 : BitVec 1 := Scalar.andi v18 v20
  let c1_i32_6 : BitVec 32 := 1#32
  let v22 : BitVec 32 := Scalar.subi v7 c1_i32_6
  let v23 : BitVec 32 := Scalar.select v21 v22 v7
  let c0_i32_7 : BitVec 32 := 0#32
  let c0_i32_8 : BitVec 32 := 0#32
  ![arg0.toNat, v23.toNat, c0_i32_7.toNat]

abbrev stage0_0 : Fin 2 → Memref sig .tc .vmem S1x8x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x128x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x16x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S8x128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S2x8x2304x4x64 : Shape := ⟨5, ![2, 8, 2304, 4, 64]⟩
abbrev S2x8x36x4 : Shape := ⟨4, ![2, 8, 36, 4]⟩
abbrev S2x8x36x64x4x64 : Shape := ⟨6, ![2, 8, 36, 64, 4, 64]⟩
abbrev S2x36x8x4x64x64 : Shape := ⟨6, ![2, 36, 8, 4, 64, 64]⟩
abbrev S1x4x8x4x64x64 : Shape := ⟨6, ![1, 4, 8, 4, 64, 64]⟩
abbrev S4x8x4x64x64 : Shape := ⟨5, ![4, 8, 4, 64, 64]⟩
abbrev S1x32x8x4x64x64 : Shape := ⟨6, ![1, 32, 8, 4, 64, 64]⟩
abbrev S32x8x4x64x64 : Shape := ⟨5, ![32, 8, 4, 64, 64]⟩
abbrev S36x8x4x64x64 : Shape := ⟨5, ![36, 8, 4, 64, 64]⟩
abbrev S1x36x8x4x64x64 : Shape := ⟨6, ![1, 36, 8, 4, 64, 64]⟩
abbrev S36x1x8x4x64x64 : Shape := ⟨6, ![36, 1, 8, 4, 64, 64]⟩
abbrev S36x2x8x4x64x64 : Shape := ⟨6, ![36, 2, 8, 4, 64, 64]⟩
abbrev S2x36x8x4 : Shape := ⟨4, ![2, 36, 8, 4]⟩
abbrev S1x4x8x4 : Shape := ⟨4, ![1, 4, 8, 4]⟩
abbrev S4x8x4 : Shape := ⟨3, ![4, 8, 4]⟩
abbrev S1x32x8x4 : Shape := ⟨4, ![1, 32, 8, 4]⟩
abbrev S32x8x4 : Shape := ⟨3, ![32, 8, 4]⟩
abbrev S36x8x4 : Shape := ⟨3, ![36, 8, 4]⟩
abbrev S1x36x8x4 : Shape := ⟨4, ![1, 36, 8, 4]⟩
abbrev S36x1x8x4 : Shape := ⟨4, ![36, 1, 8, 4]⟩
abbrev S36x2x8x4 : Shape := ⟨4, ![36, 2, 8, 4]⟩
abbrev S_ : Shape := ⟨0, ![]⟩
abbrev S2x8x4x64x64 : Shape := ⟨5, ![2, 8, 4, 64, 64]⟩
abbrev S1x2x8x4x64x64 : Shape := ⟨6, ![1, 2, 8, 4, 64, 64]⟩
abbrev S1x2x8x4 : Shape := ⟨4, ![1, 2, 8, 4]⟩
abbrev S2x8x4 : Shape := ⟨3, ![2, 8, 4]⟩
abbrev S2x8x4x1x1 : Shape := ⟨5, ![2, 8, 4, 1, 1]⟩
abbrev S4x1x8x4x64x64 : Shape := ⟨6, ![4, 1, 8, 4, 64, 64]⟩
abbrev S32x1x8x4x64x64 : Shape := ⟨6, ![32, 1, 8, 4, 64, 64]⟩
abbrev S8x36x64x4x64 : Shape := ⟨5, ![8, 36, 64, 4, 64]⟩
abbrev S8x2304x256 : Shape := ⟨3, ![8, 2304, 256]⟩

abbrev nBuf : Space → Nat
  | .hbm => 181
  | .vmem => 0
  | .smem => 0
  | _ => 0

abbrev hbmTy0_0 (i : Nat) : BufTy := match i % 128 with
  | 0 => ⟨S2x8x2304x4x64, .f32⟩
  | 1 => ⟨S2x8x2304x4x64, .bf16⟩
  | 2 => ⟨S2x8x2304x4x64, .bf16⟩
  | 3 => ⟨S2x8x2304x4x64, .bf16⟩
  | 4 => ⟨S2x8x2304x4x64, .bf16⟩
  | 5 => ⟨S2x8x36x4, .f32⟩
  | 6 => ⟨S2x8x36x64x4x64, .f32⟩
  | 7 => ⟨S2x36x8x4x64x64, .f32⟩
  | 8 => ⟨S1x4x8x4x64x64, .f32⟩
  | 9 => ⟨S4x8x4x64x64, .f32⟩
  | 10 => ⟨S4x8x4x64x64, .f32⟩
  | 11 => ⟨S1x32x8x4x64x64, .f32⟩
  | 12 => ⟨S32x8x4x64x64, .f32⟩
  | 13 => ⟨S32x8x4x64x64, .f32⟩
  | 14 => ⟨S36x8x4x64x64, .f32⟩
  | 15 => ⟨S1x36x8x4x64x64, .f32⟩
  | 16 => ⟨S36x8x4x64x64, .f32⟩
  | 17 => ⟨S36x1x8x4x64x64, .f32⟩
  | 18 => ⟨S36x1x8x4x64x64, .f32⟩
  | 19 => ⟨S36x2x8x4x64x64, .f32⟩
  | 20 => ⟨S2x8x2304x4x64, .f32⟩
  | 21 => ⟨S2x8x36x64x4x64, .f32⟩
  | 22 => ⟨S2x36x8x4x64x64, .f32⟩
  | 23 => ⟨S1x4x8x4x64x64, .f32⟩
  | 24 => ⟨S4x8x4x64x64, .f32⟩
  | 25 => ⟨S4x8x4x64x64, .f32⟩
  | 26 => ⟨S1x32x8x4x64x64, .f32⟩
  | 27 => ⟨S32x8x4x64x64, .f32⟩
  | 28 => ⟨S32x8x4x64x64, .f32⟩
  | 29 => ⟨S36x8x4x64x64, .f32⟩
  | 30 => ⟨S1x36x8x4x64x64, .f32⟩
  | 31 => ⟨S36x8x4x64x64, .f32⟩
  | 32 => ⟨S36x1x8x4x64x64, .f32⟩
  | 33 => ⟨S36x1x8x4x64x64, .f32⟩
  | 34 => ⟨S36x2x8x4x64x64, .f32⟩
  | 35 => ⟨S2x8x2304x4x64, .f32⟩
  | 36 => ⟨S2x8x36x64x4x64, .f32⟩
  | 37 => ⟨S2x36x8x4x64x64, .f32⟩
  | 38 => ⟨S1x4x8x4x64x64, .f32⟩
  | 39 => ⟨S4x8x4x64x64, .f32⟩
  | 40 => ⟨S4x8x4x64x64, .f32⟩
  | 41 => ⟨S1x32x8x4x64x64, .f32⟩
  | 42 => ⟨S32x8x4x64x64, .f32⟩
  | 43 => ⟨S32x8x4x64x64, .f32⟩
  | 44 => ⟨S36x8x4x64x64, .f32⟩
  | 45 => ⟨S1x36x8x4x64x64, .f32⟩
  | 46 => ⟨S36x8x4x64x64, .f32⟩
  | 47 => ⟨S36x1x8x4x64x64, .f32⟩
  | 48 => ⟨S36x1x8x4x64x64, .f32⟩
  | 49 => ⟨S36x2x8x4x64x64, .f32⟩
  | 50 => ⟨S2x8x2304x4x64, .f32⟩
  | 51 => ⟨S2x8x36x64x4x64, .f32⟩
  | 52 => ⟨S2x36x8x4x64x64, .f32⟩
  | 53 => ⟨S1x4x8x4x64x64, .f32⟩
  | 54 => ⟨S4x8x4x64x64, .f32⟩
  | 55 => ⟨S4x8x4x64x64, .f32⟩
  | 56 => ⟨S1x32x8x4x64x64, .f32⟩
  | 57 => ⟨S32x8x4x64x64, .f32⟩
  | 58 => ⟨S32x8x4x64x64, .f32⟩
  | 59 => ⟨S36x8x4x64x64, .f32⟩
  | 60 => ⟨S1x36x8x4x64x64, .f32⟩
  | 61 => ⟨S36x8x4x64x64, .f32⟩
  | 62 => ⟨S36x1x8x4x64x64, .f32⟩
  | 63 => ⟨S36x1x8x4x64x64, .f32⟩
  | 64 => ⟨S36x2x8x4x64x64, .f32⟩
  | 65 => ⟨S2x8x2304x4x64, .f32⟩
  | 66 => ⟨S2x8x36x64x4x64, .f32⟩
  | 67 => ⟨S2x36x8x4x64x64, .f32⟩
  | 68 => ⟨S1x4x8x4x64x64, .f32⟩
  | 69 => ⟨S4x8x4x64x64, .f32⟩
  | 70 => ⟨S4x8x4x64x64, .f32⟩
  | 71 => ⟨S1x32x8x4x64x64, .f32⟩
  | 72 => ⟨S32x8x4x64x64, .f32⟩
  | 73 => ⟨S32x8x4x64x64, .f32⟩
  | 74 => ⟨S36x8x4x64x64, .f32⟩
  | 75 => ⟨S1x36x8x4x64x64, .f32⟩
  | 76 => ⟨S36x8x4x64x64, .f32⟩
  | 77 => ⟨S36x1x8x4x64x64, .f32⟩
  | 78 => ⟨S36x1x8x4x64x64, .f32⟩
  | 79 => ⟨S36x2x8x4x64x64, .f32⟩
  | 80 => ⟨S2x36x8x4, .f32⟩
  | 81 => ⟨S1x4x8x4, .f32⟩
  | 82 => ⟨S4x8x4, .f32⟩
  | 83 => ⟨S4x8x4, .f32⟩
  | 84 => ⟨S1x32x8x4, .f32⟩
  | 85 => ⟨S32x8x4, .f32⟩
  | 86 => ⟨S32x8x4, .f32⟩
  | 87 => ⟨S36x8x4, .f32⟩
  | 88 => ⟨S1x36x8x4, .f32⟩
  | 89 => ⟨S36x8x4, .f32⟩
  | 90 => ⟨S36x1x8x4, .f32⟩
  | 91 => ⟨S36x1x8x4, .f32⟩
  | 92 => ⟨S36x2x8x4, .f32⟩
  | 93 => ⟨S_, .f32⟩
  | 94 => ⟨S2x8x4x64x64, .f32⟩
  | 95 => ⟨S_, .f32⟩
  | 96 => ⟨S36x2x8x4x64x64, .f32⟩
  | 97 => ⟨S_, .i32⟩
  | 98 => ⟨S36x2x8x4x64x64, .f32⟩
  | 99 => ⟨S36x2x8x4x64x64, .f32⟩
  | 100 => ⟨S36x2x8x4x64x64, .f32⟩
  | 101 => ⟨S36x2x8x4x64x64, .f32⟩
  | 102 => ⟨S36x2x8x4x64x64, .f32⟩
  | 103 => ⟨S36x2x8x4, .f32⟩
  | 104 => ⟨S_, .i32⟩
  | 105 => ⟨S2x8x4x64x64, .f32⟩
  | 106 => ⟨S36x2x8x4x64x64, .f32⟩
  | 107 => ⟨S_, .i32⟩
  | 108 => ⟨S_, .i1⟩
  | 109 => ⟨S_, .i32⟩
  | 110 => ⟨S_, .i32⟩
  | 111 => ⟨S_, .i32⟩
  | 112 => ⟨S_, .i32⟩
  | 113 => ⟨S_, .i32⟩
  | 114 => ⟨S1x2x8x4x64x64, .f32⟩
  | 115 => ⟨S2x8x4x64x64, .f32⟩
  | 116 => ⟨S_, .i32⟩
  | 117 => ⟨S_, .i32⟩
  | 118 => ⟨S_, .i32⟩
  | 119 => ⟨S_, .i32⟩
  | 120 => ⟨S_, .i32⟩
  | 121 => ⟨S1x2x8x4x64x64, .f32⟩
  | 122 => ⟨S2x8x4x64x64, .f32⟩
  | 123 => ⟨S_, .i32⟩
  | 124 => ⟨S_, .i32⟩
  | 125 => ⟨S_, .i32⟩
  | 126 => ⟨S_, .i32⟩
  | 127 => ⟨S_, .i32⟩
  | _ => ⟨S2x8x2304x4x64, .f32⟩

abbrev hbmTy0_1 (i : Nat) : BufTy := match i % 128 with
  | 0 => ⟨S1x2x8x4x64x64, .f32⟩
  | 1 => ⟨S2x8x4x64x64, .f32⟩
  | 2 => ⟨S_, .i32⟩
  | 3 => ⟨S_, .i32⟩
  | 4 => ⟨S_, .i32⟩
  | 5 => ⟨S_, .i32⟩
  | 6 => ⟨S_, .i32⟩
  | 7 => ⟨S1x2x8x4x64x64, .f32⟩
  | 8 => ⟨S2x8x4x64x64, .f32⟩
  | 9 => ⟨S_, .i32⟩
  | 10 => ⟨S_, .i32⟩
  | 11 => ⟨S_, .i32⟩
  | 12 => ⟨S_, .i32⟩
  | 13 => ⟨S_, .i32⟩
  | 14 => ⟨S1x2x8x4x64x64, .f32⟩
  | 15 => ⟨S2x8x4x64x64, .f32⟩
  | 16 => ⟨S_, .i32⟩
  | 17 => ⟨S_, .i32⟩
  | 18 => ⟨S_, .i32⟩
  | 19 => ⟨S1x2x8x4, .f32⟩
  | 20 => ⟨S2x8x4, .f32⟩
  | 21 => ⟨S2x8x4x64x64, .f32⟩
  | 22 => ⟨S2x8x4x64x64, .f32⟩
  | 23 => ⟨S2x8x4x64x64, .f32⟩
  | 24 => ⟨S2x8x4x64x64, .f32⟩
  | 25 => ⟨S2x8x4x64x64, .f32⟩
  | 26 => ⟨S2x8x4x1x1, .f32⟩
  | 27 => ⟨S2x8x4x64x64, .f32⟩
  | 28 => ⟨S2x8x4x64x64, .f32⟩
  | 29 => ⟨S2x8x4x64x64, .f32⟩
  | 30 => ⟨S2x8x4x64x64, .f32⟩
  | 31 => ⟨S1x2x8x4x64x64, .f32⟩
  | 32 => ⟨S_, .i32⟩
  | 33 => ⟨S_, .i32⟩
  | 34 => ⟨S_, .i32⟩
  | 35 => ⟨S_, .i32⟩
  | 36 => ⟨S_, .i32⟩
  | 37 => ⟨S36x2x8x4x64x64, .f32⟩
  | 38 => ⟨S_, .i32⟩
  | 39 => ⟨S_, .i32⟩
  | 40 => ⟨S4x1x8x4x64x64, .f32⟩
  | 41 => ⟨S4x8x4x64x64, .f32⟩
  | 42 => ⟨S4x8x4x64x64, .f32⟩
  | 43 => ⟨S32x1x8x4x64x64, .f32⟩
  | 44 => ⟨S32x8x4x64x64, .f32⟩
  | 45 => ⟨S32x8x4x64x64, .f32⟩
  | 46 => ⟨S36x8x4x64x64, .f32⟩
  | 47 => ⟨S36x1x8x4x64x64, .f32⟩
  | 48 => ⟨S36x8x4x64x64, .f32⟩
  | 49 => ⟨S8x36x64x4x64, .f32⟩
  | 50 => ⟨S8x2304x256, .f32⟩
  | 51 => ⟨S8x36x64x4x64, .f32⟩
  | 52 => ⟨S8x2304x256, .f32⟩
  | _ => ⟨S2x8x2304x4x64, .f32⟩

abbrev hbmTy (i : Nat) : BufTy := match i / 128 with
  | 0 => hbmTy0_0 i
  | 1 => hbmTy0_1 i
  | _ => ⟨S2x8x2304x4x64, .f32⟩

abbrev bufTy : (tb : Table) → Fin (tcTables nBuf tb) → BufTy
  | .hbm, ⟨i, _⟩ => hbmTy i
  | _, _ => ⟨S2x8x2304x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_cst : Ref sig .tc := ⟨.hbm, 93, rfl⟩
abbrev main_v87 : Ref sig .tc := ⟨.hbm, 94, rfl⟩
abbrev main_cst_0 : Ref sig .tc := ⟨.hbm, 95, rfl⟩
abbrev main_v88 : Ref sig .tc := ⟨.hbm, 96, rfl⟩
abbrev main_c : Ref sig .tc := ⟨.hbm, 97, rfl⟩
abbrev main_v89_0 : Ref sig .tc := ⟨.hbm, 98, rfl⟩
abbrev main_v89_1 : Ref sig .tc := ⟨.hbm, 99, rfl⟩
abbrev main_v89_2 : Ref sig .tc := ⟨.hbm, 100, rfl⟩
abbrev main_v89_3 : Ref sig .tc := ⟨.hbm, 101, rfl⟩
abbrev main_v89_4 : Ref sig .tc := ⟨.hbm, 102, rfl⟩
abbrev main_v89_5 : Ref sig .tc := ⟨.hbm, 103, rfl⟩
abbrev main_v89_6 : Ref sig .tc := ⟨.hbm, 104, rfl⟩
abbrev main_v89_7 : Ref sig .tc := ⟨.hbm, 105, rfl⟩
abbrev main_v89_8 : Ref sig .tc := ⟨.hbm, 106, rfl⟩
abbrev main_while0c_c_9 : Ref sig .tc := ⟨.hbm, 107, rfl⟩
abbrev main_while0c_v103 : Ref sig .tc := ⟨.hbm, 108, rfl⟩
abbrev main_while0b_call0_c : Ref sig .tc := ⟨.hbm, 109, rfl⟩
abbrev main_while0b_call0_c_0 : Ref sig .tc := ⟨.hbm, 110, rfl⟩
abbrev main_while0b_call0_c_1 : Ref sig .tc := ⟨.hbm, 111, rfl⟩
abbrev main_while0b_call0_c_2 : Ref sig .tc := ⟨.hbm, 112, rfl⟩
abbrev main_while0b_call0_c_3 : Ref sig .tc := ⟨.hbm, 113, rfl⟩
abbrev main_while0b_call0_v0 : Ref sig .tc := ⟨.hbm, 114, rfl⟩
abbrev main_while0b_v103 : Ref sig .tc := ⟨.hbm, 115, rfl⟩
abbrev main_while0b_call1_c : Ref sig .tc := ⟨.hbm, 116, rfl⟩
abbrev main_while0b_call1_c_0 : Ref sig .tc := ⟨.hbm, 117, rfl⟩
abbrev main_while0b_call1_c_1 : Ref sig .tc := ⟨.hbm, 118, rfl⟩
abbrev main_while0b_call1_c_2 : Ref sig .tc := ⟨.hbm, 119, rfl⟩
abbrev main_while0b_call1_c_3 : Ref sig .tc := ⟨.hbm, 120, rfl⟩
abbrev main_while0b_call1_v0 : Ref sig .tc := ⟨.hbm, 121, rfl⟩
abbrev main_while0b_v104 : Ref sig .tc := ⟨.hbm, 122, rfl⟩
abbrev main_while0b_call2_c : Ref sig .tc := ⟨.hbm, 123, rfl⟩
abbrev main_while0b_call2_c_0 : Ref sig .tc := ⟨.hbm, 124, rfl⟩
abbrev main_while0b_call2_c_1 : Ref sig .tc := ⟨.hbm, 125, rfl⟩
abbrev main_while0b_call2_c_2 : Ref sig .tc := ⟨.hbm, 126, rfl⟩
abbrev main_while0b_call2_c_3 : Ref sig .tc := ⟨.hbm, 127, rfl⟩
abbrev main_while0b_call2_v0 : Ref sig .tc := ⟨.hbm, 128, rfl⟩
abbrev main_while0b_v105 : Ref sig .tc := ⟨.hbm, 129, rfl⟩
abbrev main_while0b_call3_c : Ref sig .tc := ⟨.hbm, 130, rfl⟩
abbrev main_while0b_call3_c_0 : Ref sig .tc := ⟨.hbm, 131, rfl⟩
abbrev main_while0b_call3_c_1 : Ref sig .tc := ⟨.hbm, 132, rfl⟩
abbrev main_while0b_call3_c_2 : Ref sig .tc := ⟨.hbm, 133, rfl⟩
abbrev main_while0b_call3_c_3 : Ref sig .tc := ⟨.hbm, 134, rfl⟩
abbrev main_while0b_call3_v0 : Ref sig .tc := ⟨.hbm, 135, rfl⟩
abbrev main_while0b_v106 : Ref sig .tc := ⟨.hbm, 136, rfl⟩
abbrev main_while0b_call4_c : Ref sig .tc := ⟨.hbm, 137, rfl⟩
abbrev main_while0b_call4_c_0 : Ref sig .tc := ⟨.hbm, 138, rfl⟩
abbrev main_while0b_call4_c_1 : Ref sig .tc := ⟨.hbm, 139, rfl⟩
abbrev main_while0b_call4_c_2 : Ref sig .tc := ⟨.hbm, 140, rfl⟩
abbrev main_while0b_call4_c_3 : Ref sig .tc := ⟨.hbm, 141, rfl⟩
abbrev main_while0b_call4_v0 : Ref sig .tc := ⟨.hbm, 142, rfl⟩
abbrev main_while0b_v107 : Ref sig .tc := ⟨.hbm, 143, rfl⟩
abbrev main_while0b_call5_c : Ref sig .tc := ⟨.hbm, 144, rfl⟩
abbrev main_while0b_call5_c_0 : Ref sig .tc := ⟨.hbm, 145, rfl⟩
abbrev main_while0b_call5_c_1 : Ref sig .tc := ⟨.hbm, 146, rfl⟩
abbrev main_while0b_call5_v0 : Ref sig .tc := ⟨.hbm, 147, rfl⟩
abbrev main_while0b_v108 : Ref sig .tc := ⟨.hbm, 148, rfl⟩
abbrev main_while0b_v109 : Ref sig .tc := ⟨.hbm, 149, rfl⟩
abbrev main_while0b_v110 : Ref sig .tc := ⟨.hbm, 150, rfl⟩
abbrev main_while0b_v111 : Ref sig .tc := ⟨.hbm, 151, rfl⟩
abbrev main_while0b_v112 : Ref sig .tc := ⟨.hbm, 152, rfl⟩
abbrev main_while0b_v113 : Ref sig .tc := ⟨.hbm, 153, rfl⟩
abbrev main_while0b_v114 : Ref sig .tc := ⟨.hbm, 154, rfl⟩
abbrev main_while0b_v115 : Ref sig .tc := ⟨.hbm, 155, rfl⟩
abbrev main_while0b_v116 : Ref sig .tc := ⟨.hbm, 156, rfl⟩
abbrev main_while0b_v117 : Ref sig .tc := ⟨.hbm, 157, rfl⟩
abbrev main_while0b_v118 : Ref sig .tc := ⟨.hbm, 158, rfl⟩
abbrev main_while0b_call6_v0 : Ref sig .tc := ⟨.hbm, 159, rfl⟩
abbrev main_while0b_call6_c : Ref sig .tc := ⟨.hbm, 160, rfl⟩
abbrev main_while0b_call6_c_0 : Ref sig .tc := ⟨.hbm, 161, rfl⟩
abbrev main_while0b_call6_c_1 : Ref sig .tc := ⟨.hbm, 162, rfl⟩
abbrev main_while0b_call6_c_2 : Ref sig .tc := ⟨.hbm, 163, rfl⟩
abbrev main_while0b_call6_c_3 : Ref sig .tc := ⟨.hbm, 164, rfl⟩
abbrev main_while0b_v119 : Ref sig .tc := ⟨.hbm, 165, rfl⟩
abbrev main_while0b_c_9 : Ref sig .tc := ⟨.hbm, 166, rfl⟩
abbrev main_while0b_v120 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩

abbrev nD : Nat := 1
abbrev τ : Topo := Topo.v7x

variable {F : FTy → Type} [FloatOps F]

abbrev main_while0_count : Scf.Loop 32 := ⟨0#32, 36#32, 1#32⟩
-- ==== Kernel2.lean ====
abbrev S8x2304x1024 : Shape := ⟨3, ![8, 2304, 1024]⟩
abbrev S8x9x1024 : Shape := ⟨3, ![8, 9, 1024]⟩
abbrev S1x9x1024 : Shape := ⟨3, ![1, 9, 1024]⟩
abbrev S1024 : Shape := ⟨1, ![1024]⟩
abbrev S8x2304x256 : Shape := ⟨3, ![8, 2304, 256]⟩
abbrev S8x2304x1152 : Shape := ⟨3, ![8, 2304, 1152]⟩
abbrev S64 : Shape := ⟨1, ![64]⟩
abbrev S2x256 : Shape := ⟨2, ![2, 256]⟩
abbrev S256 : Shape := ⟨1, ![256]⟩
abbrev S4x64 : Shape := ⟨2, ![4, 64]⟩
abbrev S2x1024x1024 : Shape := ⟨3, ![2, 1024, 1024]⟩
abbrev S2x2x1024x5632 : Shape := ⟨4, ![2, 2, 1024, 5632]⟩
abbrev S2x2x2816x1024 : Shape := ⟨4, ![2, 2, 2816, 1024]⟩
abbrev S1x256 : Shape := ⟨2, ![1, 256]⟩
abbrev S_ : Shape := ⟨0, ![]⟩
abbrev S7x256 : Shape := ⟨2, ![7, 256]⟩
abbrev S16x256 : Shape := ⟨2, ![16, 256]⟩
abbrev S18432x1024 : Shape := ⟨2, ![18432, 1024]⟩
abbrev S18432x256 : Shape := ⟨2, ![18432, 256]⟩
abbrev S18432x1152 : Shape := ⟨2, ![18432, 1152]⟩
abbrev S1x1024 : Shape := ⟨2, ![1, 1024]⟩
abbrev S1x64 : Shape := ⟨2, ![1, 64]⟩
abbrev S16384x1024 : Shape := ⟨2, ![16384, 1024]⟩
abbrev S512x1024 : Shape := ⟨2, ![512, 1024]⟩
abbrev S512x256 : Shape := ⟨2, ![512, 256]⟩
abbrev S1x1024x1024 : Shape := ⟨3, ![1, 1024, 1024]⟩
abbrev S1x1x1024x5632 : Shape := ⟨4, ![1, 1, 1024, 5632]⟩
abbrev S1x1x2816x1024 : Shape := ⟨4, ![1, 1, 2816, 1024]⟩
abbrev S256x256 : Shape := ⟨2, ![256, 256]⟩
abbrev S1x256x1024 : Shape := ⟨3, ![1, 256, 1024]⟩
abbrev S256x1024 : Shape := ⟨2, ![256, 1024]⟩
abbrev S1x1x1024 : Shape := ⟨3, ![1, 1, 1024]⟩
abbrev S512 : Shape := ⟨1, ![512]⟩
abbrev S512x1 : Shape := ⟨2, ![512, 1]⟩
abbrev S1x1x1024x512 : Shape := ⟨4, ![1, 1, 1024, 512]⟩
abbrev S1024x512 : Shape := ⟨2, ![1024, 512]⟩
abbrev S512x512 : Shape := ⟨2, ![512, 512]⟩
abbrev S1x1x512x1024 : Shape := ⟨4, ![1, 1, 512, 1024]⟩
abbrev S1x1x1024x256 : Shape := ⟨4, ![1, 1, 1024, 256]⟩
abbrev S1024x256 : Shape := ⟨2, ![1024, 256]⟩
abbrev S1x1x256x1024 : Shape := ⟨4, ![1, 1, 256, 1024]⟩

abbrev nBuf : Space → Nat
  | .hbm => 51
  | .vmem => 31
  | .smem => 0
  | _ => 0

abbrev bufTy : (tb : Table) → Fin (tcTables nBuf tb) → BufTy
  | .hbm, ⟨0, _⟩ => ⟨S8x2304x1024, .f32⟩
  | .hbm, ⟨1, _⟩ => ⟨S8x9x1024, .f32⟩
  | .hbm, ⟨2, _⟩ => ⟨S1x9x1024, .f32⟩
  | .hbm, ⟨3, _⟩ => ⟨S1024, .f32⟩
  | .hbm, ⟨4, _⟩ => ⟨S8x2304x256, .f32⟩
  | .hbm, ⟨5, _⟩ => ⟨S8x2304x256, .f32⟩
  | .hbm, ⟨6, _⟩ => ⟨S8x2304x256, .f32⟩
  | .hbm, ⟨7, _⟩ => ⟨S8x2304x256, .f32⟩
  | .hbm, ⟨8, _⟩ => ⟨S8x2304x1152, .f32⟩
  | .hbm, ⟨9, _⟩ => ⟨S64, .f32⟩
  | .hbm, ⟨10, _⟩ => ⟨S8x2304x256, .f32⟩
  | .hbm, ⟨11, _⟩ => ⟨S8x2304x256, .f32⟩
  | .hbm, ⟨12, _⟩ => ⟨S8x2304x256, .f32⟩
  | .hbm, ⟨13, _⟩ => ⟨S8x2304x256, .f32⟩
  | .hbm, ⟨14, _⟩ => ⟨S2x256, .f32⟩
  | .hbm, ⟨15, _⟩ => ⟨S2x256, .f32⟩
  | .hbm, ⟨16, _⟩ => ⟨S256, .f32⟩
  | .hbm, ⟨17, _⟩ => ⟨S256, .f32⟩
  | .hbm, ⟨18, _⟩ => ⟨S4x64, .f32⟩
  | .hbm, ⟨19, _⟩ => ⟨S256, .f32⟩
  | .hbm, ⟨20, _⟩ => ⟨S256, .f32⟩
  | .hbm, ⟨21, _⟩ => ⟨S2x1024x1024, .f32⟩
  | .hbm, ⟨22, _⟩ => ⟨S2x2x1024x5632, .f32⟩
  | .hbm, ⟨23, _⟩ => ⟨S2x2x2816x1024, .f32⟩
  | .hbm, ⟨24, _⟩ => ⟨S1x256, .f32⟩
  | .hbm, ⟨25, _⟩ => ⟨S1x256, .f32⟩
  | .hbm, ⟨26, _⟩ => ⟨S1x256, .f32⟩
  | .hbm, ⟨27, _⟩ => ⟨S1x256, .f32⟩
  | .hbm, ⟨28, _⟩ => ⟨S1x256, .f32⟩
  | .hbm, ⟨29, _⟩ => ⟨S_, .f32⟩
  | .hbm, ⟨30, _⟩ => ⟨S7x256, .f32⟩
  | .hbm, ⟨31, _⟩ => ⟨S16x256, .f32⟩
  | .hbm, ⟨32, _⟩ => ⟨S18432x1024, .f32⟩
  | .hbm, ⟨33, _⟩ => ⟨S18432x256, .f32⟩
  | .hbm, ⟨34, _⟩ => ⟨S18432x256, .f32⟩
  | .hbm, ⟨35, _⟩ => ⟨S18432x1152, .f32⟩
  | .hbm, ⟨36, _⟩ => ⟨S18432x256, .f32⟩
  | .hbm, ⟨37, _⟩ => ⟨S18432x256, .f32⟩
  | .hbm, ⟨38, _⟩ => ⟨S2x1024x1024, .bf16⟩
  | .hbm, ⟨39, _⟩ => ⟨S2x2x1024x5632, .bf16⟩
  | .hbm, ⟨40, _⟩ => ⟨S2x2x2816x1024, .bf16⟩
  | .hbm, ⟨41, _⟩ => ⟨S1x1024, .f32⟩
  | .hbm, ⟨42, _⟩ => ⟨S18432x256, .f32⟩
  | .hbm, ⟨43, _⟩ => ⟨S18432x256, .f32⟩
  | .hbm, ⟨44, _⟩ => ⟨S1x64, .f32⟩
  | .hbm, ⟨45, _⟩ => ⟨S4x64, .f32⟩
  | .hbm, ⟨46, _⟩ => ⟨S256, .f32⟩
  | .hbm, ⟨47, _⟩ => ⟨S1x256, .f32⟩
  | .hbm, ⟨48, _⟩ => ⟨S18432x256, .f32⟩
  | .hbm, ⟨49, _⟩ => ⟨S18432x256, .f32⟩
  | .hbm, ⟨50, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x9x1024, .f32⟩
  | .local _ .vmem, ⟨5, _⟩ => ⟨S1x1024, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S1x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S16x256, .f32⟩
  | .local _ .vmem, ⟨26, _⟩ => ⟨S1x1024x1024, .bf16⟩
  | .local _ .vmem, ⟨27, _⟩ => ⟨S1x1x1024x5632, .bf16⟩
  | .local _ .vmem, ⟨28, _⟩ => ⟨S1x1x2816x1024, .bf16⟩
  | .local _ .vmem, ⟨29, _⟩ => ⟨S512x1024, .f32⟩
  | .local _ .vmem, ⟨30, _⟩ => ⟨S512x1024, .f32⟩
  | _, _ => ⟨S8x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_cst : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg18_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c2304_i32 : BitVec 32 := 2304#32
  let v17 : BitVec 32 := Scalar.muli v16 c2304_i32
  let c256_i32 : BitVec 32 := 256#32
  let v18 : BitVec 32 := Scalar.addi v17 c256_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  v30
def k0_mult2 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c2304_i32 : BitVec 32 := 2304#32
  let v17 : BitVec 32 := Scalar.muli v16 c2304_i32
  let c256_i32 : BitVec 32 := 256#32
  let v18 : BitVec 32 := Scalar.addi v17 c256_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  v30
def k0_mult3 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c2304_i32 : BitVec 32 := 2304#32
  let v17 : BitVec 32 := Scalar.muli v16 c2304_i32
  let c256_i32 : BitVec 32 := 256#32
  let v18 : BitVec 32 := Scalar.addi v17 c256_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  v30
def k0_mult4 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c2304_i32 : BitVec 32 := 2304#32
  let v17 : BitVec 32 := Scalar.muli v16 c2304_i32
  let c256_i32 : BitVec 32 := 256#32
  let v18 : BitVec 32 := Scalar.addi v17 c256_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  v30
def k0_mult5 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c2304_i32 : BitVec 32 := 2304#32
  let v17 : BitVec 32 := Scalar.muli v16 c2304_i32
  let c256_i32 : BitVec 32 := 256#32
  let v18 : BitVec 32 := Scalar.addi v17 c256_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  v30
def k0_mult6 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c2304_i32 : BitVec 32 := 2304#32
  let v17 : BitVec 32 := Scalar.muli v16 c2304_i32
  let c256_i32 : BitVec 32 := 256#32
  let v18 : BitVec 32 := Scalar.addi v17 c256_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  v30
def k0_mult7 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c2304_i32 : BitVec 32 := 2304#32
  let v17 : BitVec 32 := Scalar.muli v16 c2304_i32
  let c256_i32 : BitVec 32 := 256#32
  let v18 : BitVec 32 := Scalar.addi v17 c256_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  v30
def k0_mult8 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c2304_i32 : BitVec 32 := 2304#32
  let v17 : BitVec 32 := Scalar.muli v16 c2304_i32
  let c256_i32 : BitVec 32 := 256#32
  let v18 : BitVec 32 := Scalar.addi v17 c256_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  v30
def k0_mult9 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c2304_i32 : BitVec 32 := 2304#32
  let v17 : BitVec 32 := Scalar.muli v16 c2304_i32
  let c256_i32 : BitVec 32 := 256#32
  let v18 : BitVec 32 := Scalar.addi v17 c256_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  v30
def k0_mult10 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c2304_i32 : BitVec 32 := 2304#32
  let v17 : BitVec 32 := Scalar.muli v16 c2304_i32
  let c256_i32 : BitVec 32 := 256#32
  let v18 : BitVec 32 := Scalar.addi v17 c256_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  v30
def cc0_transform_0 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2304_i32 : BitVec 32 := 2304#32
  let v17 : BitVec 32 := Scalar.muli v16 c2304_i32
  let c256_i32 : BitVec 32 := 256#32
  let v18 : BitVec 32 := Scalar.addi v17 c256_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  let v31 : BitVec 32 := v30
  let c0_i32_10 : BitVec 32 := 0#32
  let c0_i32_11 : BitVec 32 := 0#32
  ![v31.toNat, c0_i32_10.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2304_i32 : BitVec 32 := 2304#32
  let v17 : BitVec 32 := Scalar.muli v16 c2304_i32
  let c256_i32 : BitVec 32 := 256#32
  let v18 : BitVec 32 := Scalar.addi v17 c256_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  let v31 : BitVec 32 := v30
  let c0_i32_10 : BitVec 32 := 0#32
  let c0_i32_11 : BitVec 32 := 0#32
  ![v31.toNat, c0_i32_10.toNat]

def cc0_transform_5 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2304_i32 : BitVec 32 := 2304#32
  let v17 : BitVec 32 := Scalar.muli v16 c2304_i32
  let c256_i32 : BitVec 32 := 256#32
  let v18 : BitVec 32 := Scalar.addi v17 c256_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  let v31 : BitVec 32 := v30
  let c0_i32_10 : BitVec 32 := 0#32
  let c0_i32_11 : BitVec 32 := 0#32
  ![v31.toNat, c0_i32_10.toNat]

def cc0_transform_6 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2304_i32 : BitVec 32 := 2304#32
  let v17 : BitVec 32 := Scalar.muli v16 c2304_i32
  let c256_i32 : BitVec 32 := 256#32
  let v18 : BitVec 32 := Scalar.addi v17 c256_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  let v31 : BitVec 32 := v30
  let c0_i32_10 : BitVec 32 := 0#32
  let c0_i32_11 : BitVec 32 := 0#32
  ![v31.toNat, c0_i32_10.toNat]

def cc0_transform_7 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2304_i32 : BitVec 32 := 2304#32
  let v17 : BitVec 32 := Scalar.muli v16 c2304_i32
  let c256_i32 : BitVec 32 := 256#32
  let v18 : BitVec 32 := Scalar.addi v17 c256_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  let v31 : BitVec 32 := v30
  let c0_i32_10 : BitVec 32 := 0#32
  let c0_i32_11 : BitVec 32 := 0#32
  ![v31.toNat, c0_i32_10.toNat]

def cc0_transform_8 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2304_i32 : BitVec 32 := 2304#32
  let v17 : BitVec 32 := Scalar.muli v16 c2304_i32
  let c256_i32 : BitVec 32 := 256#32
  let v18 : BitVec 32 := Scalar.addi v17 c256_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  let v31 : BitVec 32 := v30
  let c768_i32 : BitVec 32 := 768#32
  let c0_i32_10 : BitVec 32 := 0#32
  ![v31.toNat, c768_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2304_i32 : BitVec 32 := 2304#32
  let v17 : BitVec 32 := Scalar.muli v16 c2304_i32
  let c256_i32 : BitVec 32 := 256#32
  let v18 : BitVec 32 := Scalar.addi v17 c256_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  let v31 : BitVec 32 := v30
  let c0_i32_10 : BitVec 32 := 0#32
  let c0_i32_11 : BitVec 32 := 0#32
  ![v31.toNat, c0_i32_10.toNat]

def cc0_transform_11 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2304_i32 : BitVec 32 := 2304#32
  let v17 : BitVec 32 := Scalar.muli v16 c2304_i32
  let c256_i32 : BitVec 32 := 256#32
  let v18 : BitVec 32 := Scalar.addi v17 c256_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  let v31 : BitVec 32 := v30
  let c0_i32_10 : BitVec 32 := 0#32
  let c0_i32_11 : BitVec 32 := 0#32
  ![v31.toNat, c0_i32_10.toNat]

def cc0_transform_12 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2304_i32 : BitVec 32 := 2304#32
  let v17 : BitVec 32 := Scalar.muli v16 c2304_i32
  let c256_i32 : BitVec 32 := 256#32
  let v18 : BitVec 32 := Scalar.addi v17 c256_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  let v31 : BitVec 32 := v30
  let c0_i32_10 : BitVec 32 := 0#32
  let c0_i32_11 : BitVec 32 := 0#32
  ![v31.toNat, c0_i32_10.toNat]

def cc0_transform_13 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2304_i32 : BitVec 32 := 2304#32
  let v17 : BitVec 32 := Scalar.muli v16 c2304_i32
  let c256_i32 : BitVec 32 := 256#32
  let v18 : BitVec 32 := Scalar.addi v17 c256_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  let v31 : BitVec 32 := v30
  let c0_i32_10 : BitVec 32 := 0#32
  let c0_i32_11 : BitVec 32 := 0#32
  ![v31.toNat, c0_i32_10.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_16 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_17 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x9x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x9x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S16x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1x1024x5632 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1x2816x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference2Ideal.lean ====
abbrev S8x2304x1024 : Shape := ⟨3, ![8, 2304, 1024]⟩
abbrev S8x9x1024 : Shape := ⟨3, ![8, 9, 1024]⟩
abbrev S1x9x1024 : Shape := ⟨3, ![1, 9, 1024]⟩
abbrev S1024 : Shape := ⟨1, ![1024]⟩
abbrev S8x2304x256 : Shape := ⟨3, ![8, 2304, 256]⟩
abbrev S8x2304x1152 : Shape := ⟨3, ![8, 2304, 1152]⟩
abbrev S64 : Shape := ⟨1, ![64]⟩
abbrev S2x256 : Shape := ⟨2, ![2, 256]⟩
abbrev S256 : Shape := ⟨1, ![256]⟩
abbrev S4x64 : Shape := ⟨2, ![4, 64]⟩
abbrev S2x1024x1024 : Shape := ⟨3, ![2, 1024, 1024]⟩
abbrev S2x2x1024x5632 : Shape := ⟨4, ![2, 2, 1024, 5632]⟩
abbrev S2x2x2816x1024 : Shape := ⟨4, ![2, 2, 2816, 1024]⟩
abbrev S8x2048x1024 : Shape := ⟨3, ![8, 2048, 1024]⟩
abbrev S8x2048x256 : Shape := ⟨3, ![8, 2048, 256]⟩
abbrev S8x2048x1152 : Shape := ⟨3, ![8, 2048, 1152]⟩
abbrev S8x2048x4x64 : Shape := ⟨4, ![8, 2048, 4, 64]⟩
abbrev S_ : Shape := ⟨0, ![]⟩
abbrev S8x2048x4 : Shape := ⟨3, ![8, 2048, 4]⟩
abbrev S8x2048x4x1 : Shape := ⟨4, ![8, 2048, 4, 1]⟩
abbrev S1x1x1x64 : Shape := ⟨4, ![1, 1, 1, 64]⟩
abbrev S1x1x256 : Shape := ⟨3, ![1, 1, 256]⟩
abbrev S8x1x1024 : Shape := ⟨3, ![8, 1, 1024]⟩
abbrev S8x1024 : Shape := ⟨2, ![8, 1024]⟩
abbrev S1x1024x1024 : Shape := ⟨3, ![1, 1024, 1024]⟩
abbrev S1024x1024 : Shape := ⟨2, ![1024, 1024]⟩
abbrev S8x2048 : Shape := ⟨2, ![8, 2048]⟩
abbrev S8x2048x1 : Shape := ⟨3, ![8, 2048, 1]⟩
abbrev S1x1x1024 : Shape := ⟨3, ![1, 1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S8x2048x5632 : Shape := ⟨3, ![8, 2048, 5632]⟩
abbrev S8x2048x2816 : Shape := ⟨3, ![8, 2048, 2816]⟩
abbrev S16384x1024 : Shape := ⟨2, ![16384, 1024]⟩

abbrev nBuf : Space → Nat
  | .hbm => 166
  | .vmem => 0
  | .smem => 0
  | _ => 0

abbrev hbmTy0_0 (i : Nat) : BufTy := match i % 128 with
  | 0 => ⟨S8x2304x1024, .f32⟩
  | 1 => ⟨S8x9x1024, .f32⟩
  | 2 => ⟨S1x9x1024, .f32⟩
  | 3 => ⟨S1024, .f32⟩
  | 4 => ⟨S8x2304x256, .f32⟩
  | 5 => ⟨S8x2304x256, .f32⟩
  | 6 => ⟨S8x2304x256, .f32⟩
  | 7 => ⟨S8x2304x256, .f32⟩
  | 8 => ⟨S8x2304x1152, .f32⟩
  | 9 => ⟨S64, .f32⟩
  | 10 => ⟨S8x2304x256, .f32⟩
  | 11 => ⟨S8x2304x256, .f32⟩
  | 12 => ⟨S8x2304x256, .f32⟩
  | 13 => ⟨S8x2304x256, .f32⟩
  | 14 => ⟨S2x256, .f32⟩
  | 15 => ⟨S2x256, .f32⟩
  | 16 => ⟨S256, .f32⟩
  | 17 => ⟨S256, .f32⟩
  | 18 => ⟨S4x64, .f32⟩
  | 19 => ⟨S256, .f32⟩
  | 20 => ⟨S256, .f32⟩
  | 21 => ⟨S2x1024x1024, .f32⟩
  | 22 => ⟨S2x2x1024x5632, .f32⟩
  | 23 => ⟨S2x2x2816x1024, .f32⟩
  | 24 => ⟨S8x2048x1024, .f32⟩
  | 25 => ⟨S8x2048x256, .f32⟩
  | 26 => ⟨S8x2048x256, .f32⟩
  | 27 => ⟨S8x2048x256, .f32⟩
  | 28 => ⟨S8x2048x256, .f32⟩
  | 29 => ⟨S8x2048x1152, .f32⟩
  | 30 => ⟨S8x2048x256, .f32⟩
  | 31 => ⟨S8x2048x256, .f32⟩
  | 32 => ⟨S8x2048x256, .f32⟩
  | 33 => ⟨S8x2048x256, .f32⟩
  | 34 => ⟨S8x2048x256, .f32⟩
  | 35 => ⟨S8x2048x4x64, .f32⟩
  | 36 => ⟨S8x2048x256, .f32⟩
  | 37 => ⟨S8x2048x4x64, .f32⟩
  | 38 => ⟨S8x2048x4x64, .f32⟩
  | 39 => ⟨S_, .f32⟩
  | 40 => ⟨S8x2048x4, .f32⟩
  | 41 => ⟨S8x2048x4x1, .f32⟩
  | 42 => ⟨S_, .f32⟩
  | 43 => ⟨S8x2048x4x1, .f32⟩
  | 44 => ⟨S8x2048x4x1, .f32⟩
  | 45 => ⟨S_, .f32⟩
  | 46 => ⟨S8x2048x4x1, .f32⟩
  | 47 => ⟨S8x2048x4x1, .f32⟩
  | 48 => ⟨S8x2048x4x1, .f32⟩
  | 49 => ⟨S8x2048x4x64, .f32⟩
  | 50 => ⟨S8x2048x4x64, .f32⟩
  | 51 => ⟨S1x1x1x64, .f32⟩
  | 52 => ⟨S8x2048x4x64, .f32⟩
  | 53 => ⟨S8x2048x4x64, .f32⟩
  | 54 => ⟨S8x2048x4x64, .f32⟩
  | 55 => ⟨S8x2048x4x64, .f32⟩
  | 56 => ⟨S_, .f32⟩
  | 57 => ⟨S8x2048x4x64, .f32⟩
  | 58 => ⟨S8x2048x4x64, .f32⟩
  | 59 => ⟨S_, .f32⟩
  | 60 => ⟨S8x2048x4x64, .f32⟩
  | 61 => ⟨S8x2048x4x64, .f32⟩
  | 62 => ⟨S8x2048x4x64, .f32⟩
  | 63 => ⟨S8x2048x4x64, .f32⟩
  | 64 => ⟨S8x2048x256, .f32⟩
  | 65 => ⟨S8x2048x256, .f32⟩
  | 66 => ⟨S8x2048x4x64, .f32⟩
  | 67 => ⟨S_, .f32⟩
  | 68 => ⟨S8x2048x4, .f32⟩
  | 69 => ⟨S8x2048x4x1, .f32⟩
  | 70 => ⟨S_, .f32⟩
  | 71 => ⟨S8x2048x4x1, .f32⟩
  | 72 => ⟨S8x2048x4x1, .f32⟩
  | 73 => ⟨S8x2048x4x64, .f32⟩
  | 74 => ⟨S8x2048x4x64, .f32⟩
  | 75 => ⟨S8x2048x4x64, .f32⟩
  | 76 => ⟨S_, .f32⟩
  | 77 => ⟨S8x2048x4, .f32⟩
  | 78 => ⟨S8x2048x4x1, .f32⟩
  | 79 => ⟨S_, .f32⟩
  | 80 => ⟨S8x2048x4x1, .f32⟩
  | 81 => ⟨S8x2048x4x1, .f32⟩
  | 82 => ⟨S8x2048x4x64, .f32⟩
  | 83 => ⟨S8x2048x4x64, .f32⟩
  | 84 => ⟨S_, .f32⟩
  | 85 => ⟨S8x2048x4x1, .f32⟩
  | 86 => ⟨S8x2048x4x1, .f32⟩
  | 87 => ⟨S8x2048x4x1, .f32⟩
  | 88 => ⟨S8x2048x4x64, .f32⟩
  | 89 => ⟨S8x2048x4x64, .f32⟩
  | 90 => ⟨S8x2048x256, .f32⟩
  | 91 => ⟨S1x1x256, .f32⟩
  | 92 => ⟨S8x2048x256, .f32⟩
  | 93 => ⟨S8x2048x256, .f32⟩
  | 94 => ⟨S1x1x256, .f32⟩
  | 95 => ⟨S8x2048x256, .f32⟩
  | 96 => ⟨S8x2048x256, .f32⟩
  | 97 => ⟨S8x2048x256, .f32⟩
  | 98 => ⟨S8x2048x256, .f32⟩
  | 99 => ⟨S8x1x1024, .f32⟩
  | 100 => ⟨S8x1024, .f32⟩
  | 101 => ⟨S8x1x1024, .f32⟩
  | 102 => ⟨S8x2048x1024, .f32⟩
  | 103 => ⟨S1x1024x1024, .f32⟩
  | 104 => ⟨S1024x1024, .f32⟩
  | 105 => ⟨S8x2048x1024, .f32⟩
  | 106 => ⟨S8x2048x1024, .f32⟩
  | 107 => ⟨S8x2048x1024, .f32⟩
  | 108 => ⟨S8x2048x1024, .f32⟩
  | 109 => ⟨S8x1x1024, .f32⟩
  | 110 => ⟨S8x1024, .f32⟩
  | 111 => ⟨S8x1x1024, .f32⟩
  | 112 => ⟨S_, .f32⟩
  | 113 => ⟨S8x1x1024, .f32⟩
  | 114 => ⟨S8x1x1024, .f32⟩
  | 115 => ⟨S8x2048x1024, .f32⟩
  | 116 => ⟨S_, .f32⟩
  | 117 => ⟨S8x2048, .f32⟩
  | 118 => ⟨S8x2048x1, .f32⟩
  | 119 => ⟨S_, .f32⟩
  | 120 => ⟨S8x2048x1, .f32⟩
  | 121 => ⟨S8x2048x1, .f32⟩
  | 122 => ⟨S_, .f32⟩
  | 123 => ⟨S8x2048x1, .f32⟩
  | 124 => ⟨S8x2048x1, .f32⟩
  | 125 => ⟨S8x2048x1, .f32⟩
  | 126 => ⟨S8x2048x1024, .f32⟩
  | 127 => ⟨S8x2048x1024, .f32⟩
  | _ => ⟨S8x2304x1024, .f32⟩

abbrev hbmTy0_1 (i : Nat) : BufTy := match i % 128 with
  | 0 => ⟨S1x1x1024, .f32⟩
  | 1 => ⟨S8x2048x1024, .f32⟩
  | 2 => ⟨S8x2048x1024, .f32⟩
  | 3 => ⟨S8x1x1024, .f32⟩
  | 4 => ⟨S8x1024, .f32⟩
  | 5 => ⟨S8x1x1024, .f32⟩
  | 6 => ⟨S_, .f32⟩
  | 7 => ⟨S8x1x1024, .f32⟩
  | 8 => ⟨S8x1x1024, .f32⟩
  | 9 => ⟨S8x2048x1024, .f32⟩
  | 10 => ⟨S8x2048x1024, .f32⟩
  | 11 => ⟨S8x1x1024, .f32⟩
  | 12 => ⟨S8x1024, .f32⟩
  | 13 => ⟨S8x1x1024, .f32⟩
  | 14 => ⟨S8x2048x1024, .f32⟩
  | 15 => ⟨S8x2048x1024, .f32⟩
  | 16 => ⟨S1x1x1024x5632, .f32⟩
  | 17 => ⟨S1024x5632, .f32⟩
  | 18 => ⟨S1x1x2816x1024, .f32⟩
  | 19 => ⟨S2816x1024, .f32⟩
  | 20 => ⟨S8x2048x5632, .f32⟩
  | 21 => ⟨S8x2048x2816, .f32⟩
  | 22 => ⟨S8x2048x2816, .f32⟩
  | 23 => ⟨S8x2048x2816, .f32⟩
  | 24 => ⟨S8x2048x2816, .f32⟩
  | 25 => ⟨S_, .f32⟩
  | 26 => ⟨S8x2048x2816, .f32⟩
  | 27 => ⟨S8x2048x2816, .f32⟩
  | 28 => ⟨S_, .f32⟩
  | 29 => ⟨S8x2048x2816, .f32⟩
  | 30 => ⟨S8x2048x2816, .f32⟩
  | 31 => ⟨S8x2048x2816, .f32⟩
  | 32 => ⟨S8x2048x2816, .f32⟩
  | 33 => ⟨S8x2048x1024, .f32⟩
  | 34 => ⟨S8x2048x1024, .f32⟩
  | 35 => ⟨S8x2048x1024, .f32⟩
  | 36 => ⟨S8x2048x1024, .f32⟩
  | 37 => ⟨S16384x1024, .f32⟩
  | _ => ⟨S8x2304x1024, .f32⟩

abbrev hbmTy (i : Nat) : BufTy := match i / 128 with
  | 0 => hbmTy0_0 i
  | 1 => hbmTy0_1 i
  | _ => ⟨S8x2304x1024, .f32⟩

abbrev bufTy : (tb : Table) → Fin (tcTables nBuf tb) → BufTy
  | .hbm, ⟨i, _⟩ => hbmTy i
  | _, _ => ⟨S8x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst : Ref sig .tc := ⟨.hbm, 39, rfl⟩
abbrev main_v15 : Ref sig .tc := ⟨.hbm, 40, rfl⟩
abbrev main_v16 : Ref sig .tc := ⟨.hbm, 41, rfl⟩
abbrev main_cst_0 : Ref sig .tc := ⟨.hbm, 42, rfl⟩
abbrev main_v17 : Ref sig .tc := ⟨.hbm, 43, rfl⟩
abbrev main_v18 : Ref sig .tc := ⟨.hbm, 44, rfl⟩
abbrev main_cst_1 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_cst_2 : Ref sig .tc := ⟨.hbm, 67, rfl⟩
abbrev main_v32 : Ref sig .tc := ⟨.hbm, 68, rfl⟩
abbrev main_v33 : Ref sig .tc := ⟨.hbm, 69, rfl⟩
abbrev main_cst_3 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_cst_4 : Ref sig .tc := ⟨.hbm, 76, rfl⟩
abbrev main_v39 : Ref sig .tc := ⟨.hbm, 77, rfl⟩
abbrev main_v40 : Ref sig .tc := ⟨.hbm, 78, rfl⟩
abbrev main_cst_5 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_cst_6 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_7 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_cst_8 : Ref sig .tc := ⟨.hbm, 116, rfl⟩
abbrev main_v75 : Ref sig .tc := ⟨.hbm, 117, rfl⟩
abbrev main_v76 : Ref sig .tc := ⟨.hbm, 118, rfl⟩
abbrev main_cst_9 : Ref sig .tc := ⟨.hbm, 119, rfl⟩
abbrev main_v77 : Ref sig .tc := ⟨.hbm, 120, rfl⟩
abbrev main_v78 : Ref sig .tc := ⟨.hbm, 121, rfl⟩
abbrev main_cst_10 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_cst_11 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_call1_v0 : Ref sig .tc := ⟨.hbm, 151, rfl⟩
abbrev main_call1_v1 : Ref sig .tc := ⟨.hbm, 152, rfl⟩
abbrev main_call1_cst : Ref sig .tc := ⟨.hbm, 153, rfl⟩
abbrev main_call1_v2 : Ref sig .tc := ⟨.hbm, 154, rfl⟩
abbrev main_call1_v3 : Ref sig .tc := ⟨.hbm, 155, rfl⟩
abbrev main_call1_cst_0 : Ref sig .tc := ⟨.hbm, 156, rfl⟩
abbrev main_call1_v4 : Ref sig .tc := ⟨.hbm, 157, rfl⟩
abbrev main_call1_v5 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩

abbrev nD : Nat := 1
abbrev τ : Topo := Topo.v7x

variable {F : FTy → Type} [FloatOps F]
-- ==== Kernel3.lean ====
abbrev S8x2304x1024 : Shape := ⟨3, ![8, 2304, 1024]⟩
abbrev S8x9x1024 : Shape := ⟨3, ![8, 9, 1024]⟩
abbrev S1x9x1024 : Shape := ⟨3, ![1, 9, 1024]⟩
abbrev S1024 : Shape := ⟨1, ![1024]⟩
abbrev S2x2x1024x5632 : Shape := ⟨4, ![2, 2, 1024, 5632]⟩
abbrev S2x2x2816x1024 : Shape := ⟨4, ![2, 2, 2816, 1024]⟩
abbrev S18432x1024 : Shape := ⟨2, ![18432, 1024]⟩
abbrev S1x1024 : Shape := ⟨2, ![1, 1024]⟩
abbrev S768x1024 : Shape := ⟨2, ![768, 1024]⟩
abbrev S1x1x1024x5632 : Shape := ⟨4, ![1, 1, 1024, 5632]⟩
abbrev S1x1x2816x1024 : Shape := ⟨4, ![1, 1, 2816, 1024]⟩
abbrev S768x1 : Shape := ⟨2, ![768, 1]⟩
abbrev S1x1x1024 : Shape := ⟨3, ![1, 1, 1024]⟩
abbrev S768 : Shape := ⟨1, ![768]⟩
abbrev S1x1x1024x512 : Shape := ⟨4, ![1, 1, 1024, 512]⟩
abbrev S1024x512 : Shape := ⟨2, ![1024, 512]⟩
abbrev S768x512 : Shape := ⟨2, ![768, 512]⟩
abbrev S1x1x512x1024 : Shape := ⟨4, ![1, 1, 512, 1024]⟩
abbrev S512x1024 : Shape := ⟨2, ![512, 1024]⟩
abbrev S1x1x1024x256 : Shape := ⟨4, ![1, 1, 1024, 256]⟩
abbrev S1024x256 : Shape := ⟨2, ![1024, 256]⟩
abbrev S768x256 : Shape := ⟨2, ![768, 256]⟩
abbrev S1x1x256x1024 : Shape := ⟨4, ![1, 1, 256, 1024]⟩
abbrev S256x1024 : Shape := ⟨2, ![256, 1024]⟩

abbrev nBuf : Space → Nat
  | .hbm => 11
  | .vmem => 10
  | .smem => 0
  | _ => 0

abbrev bufTy : (tb : Table) → Fin (tcTables nBuf tb) → BufTy
  | .hbm, ⟨0, _⟩ => ⟨S8x2304x1024, .f32⟩
  | .hbm, ⟨1, _⟩ => ⟨S8x9x1024, .f32⟩
  | .hbm, ⟨2, _⟩ => ⟨S1x9x1024, .f32⟩
  | .hbm, ⟨3, _⟩ => ⟨S1024, .f32⟩
  | .hbm, ⟨4, _⟩ => ⟨S2x2x1024x5632, .f32⟩
  | .hbm, ⟨5, _⟩ => ⟨S2x2x2816x1024, .f32⟩
  | .hbm, ⟨6, _⟩ => ⟨S18432x1024, .f32⟩
  | .hbm, ⟨7, _⟩ => ⟨S2x2x1024x5632, .bf16⟩
  | .hbm, ⟨8, _⟩ => ⟨S2x2x2816x1024, .bf16⟩
  | .hbm, ⟨9, _⟩ => ⟨S1x1024, .f32⟩
  | .hbm, ⟨10, _⟩ => ⟨S18432x1024, .f32⟩
  | .local _ .vmem, ⟨0, _⟩ => ⟨S768x1024, .f32⟩
  | .local _ .vmem, ⟨1, _⟩ => ⟨S768x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x9x1024, .f32⟩
  | .local _ .vmem, ⟨5, _⟩ => ⟨S1x1024, .f32⟩
  | .local _ .vmem, ⟨6, _⟩ => ⟨S1x1x1024x5632, .bf16⟩
  | .local _ .vmem, ⟨7, _⟩ => ⟨S1x1x2816x1024, .bf16⟩
  | .local _ .vmem, ⟨8, _⟩ => ⟨S768x1024, .f32⟩
  | .local _ .vmem, ⟨9, _⟩ => ⟨S768x1024, .f32⟩
  | _, _ => ⟨S8x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_5 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x9x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x9x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S768x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S8x2304x1024 : Shape := ⟨3, ![8, 2304, 1024]⟩
abbrev S8x9x1024 : Shape := ⟨3, ![8, 9, 1024]⟩
abbrev S1x9x1024 : Shape := ⟨3, ![1, 9, 1024]⟩
abbrev S1024 : Shape := ⟨1, ![1024]⟩
abbrev S2x2x1024x5632 : Shape := ⟨4, ![2, 2, 1024, 5632]⟩
abbrev S2x2x2816x1024 : Shape := ⟨4, ![2, 2, 2816, 1024]⟩
abbrev S8x256x1024 : Shape := ⟨3, ![8, 256, 1024]⟩
abbrev S1x1x1024 : Shape := ⟨3, ![1, 1, 1024]⟩
abbrev S1x1024 : Shape := ⟨2, ![1, 1024]⟩
abbrev S_ : Shape := ⟨0, ![]⟩
abbrev S8x256 : Shape := ⟨2, ![8, 256]⟩
abbrev S8x256x1 : Shape := ⟨3, ![8, 256, 1]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S8x256x5632 : Shape := ⟨3, ![8, 256, 5632]⟩
abbrev S8x256x2816 : Shape := ⟨3, ![8, 256, 2816]⟩
abbrev S8x2048x1024 : Shape := ⟨3, ![8, 2048, 1024]⟩
abbrev S8x1x1024 : Shape := ⟨3, ![8, 1, 1024]⟩
abbrev S8x1024 : Shape := ⟨2, ![8, 1024]⟩
abbrev S8x2048 : Shape := ⟨2, ![8, 2048]⟩
abbrev S8x2048x1 : Shape := ⟨3, ![8, 2048, 1]⟩
abbrev S8x2048x5632 : Shape := ⟨3, ![8, 2048, 5632]⟩
abbrev S8x2048x2816 : Shape := ⟨3, ![8, 2048, 2816]⟩
abbrev S18432x1024 : Shape := ⟨2, ![18432, 1024]⟩

abbrev nBuf : Space → Nat
  | .hbm => 122
  | .vmem => 0
  | .smem => 0
  | _ => 0

abbrev bufTy : (tb : Table) → Fin (tcTables nBuf tb) → BufTy
  | .hbm, ⟨0, _⟩ => ⟨S8x2304x1024, .f32⟩
  | .hbm, ⟨1, _⟩ => ⟨S8x9x1024, .f32⟩
  | .hbm, ⟨2, _⟩ => ⟨S1x9x1024, .f32⟩
  | .hbm, ⟨3, _⟩ => ⟨S1024, .f32⟩
  | .hbm, ⟨4, _⟩ => ⟨S2x2x1024x5632, .f32⟩
  | .hbm, ⟨5, _⟩ => ⟨S2x2x2816x1024, .f32⟩
  | .hbm, ⟨6, _⟩ => ⟨S8x256x1024, .f32⟩
  | .hbm, ⟨7, _⟩ => ⟨S1x1x1024, .f32⟩
  | .hbm, ⟨8, _⟩ => ⟨S1x1024, .f32⟩
  | .hbm, ⟨9, _⟩ => ⟨S1x1x1024, .f32⟩
  | .hbm, ⟨10, _⟩ => ⟨S_, .f32⟩
  | .hbm, ⟨11, _⟩ => ⟨S1x1x1024, .f32⟩
  | .hbm, ⟨12, _⟩ => ⟨S1x1x1024, .f32⟩
  | .hbm, ⟨13, _⟩ => ⟨S8x256x1024, .f32⟩
  | .hbm, ⟨14, _⟩ => ⟨S_, .f32⟩
  | .hbm, ⟨15, _⟩ => ⟨S8x256, .f32⟩
  | .hbm, ⟨16, _⟩ => ⟨S8x256x1, .f32⟩
  | .hbm, ⟨17, _⟩ => ⟨S_, .f32⟩
  | .hbm, ⟨18, _⟩ => ⟨S8x256x1, .f32⟩
  | .hbm, ⟨19, _⟩ => ⟨S8x256x1, .f32⟩
  | .hbm, ⟨20, _⟩ => ⟨S_, .f32⟩
  | .hbm, ⟨21, _⟩ => ⟨S8x256x1, .f32⟩
  | .hbm, ⟨22, _⟩ => ⟨S8x256x1, .f32⟩
  | .hbm, ⟨23, _⟩ => ⟨S8x256x1, .f32⟩
  | .hbm, ⟨24, _⟩ => ⟨S8x256x1024, .f32⟩
  | .hbm, ⟨25, _⟩ => ⟨S8x256x1024, .f32⟩
  | .hbm, ⟨26, _⟩ => ⟨S1x1x1024, .f32⟩
  | .hbm, ⟨27, _⟩ => ⟨S8x256x1024, .f32⟩
  | .hbm, ⟨28, _⟩ => ⟨S8x256x1024, .f32⟩
  | .hbm, ⟨29, _⟩ => ⟨S1x1x1024, .f32⟩
  | .hbm, ⟨30, _⟩ => ⟨S1x1024, .f32⟩
  | .hbm, ⟨31, _⟩ => ⟨S1x1x1024, .f32⟩
  | .hbm, ⟨32, _⟩ => ⟨S_, .f32⟩
  | .hbm, ⟨33, _⟩ => ⟨S1x1x1024, .f32⟩
  | .hbm, ⟨34, _⟩ => ⟨S1x1x1024, .f32⟩
  | .hbm, ⟨35, _⟩ => ⟨S8x256x1024, .f32⟩
  | .hbm, ⟨36, _⟩ => ⟨S8x256x1024, .f32⟩
  | .hbm, ⟨37, _⟩ => ⟨S1x1x1024, .f32⟩
  | .hbm, ⟨38, _⟩ => ⟨S1x1024, .f32⟩
  | .hbm, ⟨39, _⟩ => ⟨S1x1x1024, .f32⟩
  | .hbm, ⟨40, _⟩ => ⟨S8x256x1024, .f32⟩
  | .hbm, ⟨41, _⟩ => ⟨S8x256x1024, .f32⟩
  | .hbm, ⟨42, _⟩ => ⟨S1x1x1024x5632, .f32⟩
  | .hbm, ⟨43, _⟩ => ⟨S1024x5632, .f32⟩
  | .hbm, ⟨44, _⟩ => ⟨S1x1x2816x1024, .f32⟩
  | .hbm, ⟨45, _⟩ => ⟨S2816x1024, .f32⟩
  | .hbm, ⟨46, _⟩ => ⟨S8x256x5632, .f32⟩
  | .hbm, ⟨47, _⟩ => ⟨S8x256x2816, .f32⟩
  | .hbm, ⟨48, _⟩ => ⟨S8x256x2816, .f32⟩
  | .hbm, ⟨49, _⟩ => ⟨S8x256x2816, .f32⟩
  | .hbm, ⟨50, _⟩ => ⟨S8x256x2816, .f32⟩
  | .hbm, ⟨51, _⟩ => ⟨S_, .f32⟩
  | .hbm, ⟨52, _⟩ => ⟨S8x256x2816, .f32⟩
  | .hbm, ⟨53, _⟩ => ⟨S8x256x2816, .f32⟩
  | .hbm, ⟨54, _⟩ => ⟨S_, .f32⟩
  | .hbm, ⟨55, _⟩ => ⟨S8x256x2816, .f32⟩
  | .hbm, ⟨56, _⟩ => ⟨S8x256x2816, .f32⟩
  | .hbm, ⟨57, _⟩ => ⟨S8x256x2816, .f32⟩
  | .hbm, ⟨58, _⟩ => ⟨S8x256x2816, .f32⟩
  | .hbm, ⟨59, _⟩ => ⟨S8x256x1024, .f32⟩
  | .hbm, ⟨60, _⟩ => ⟨S8x256x1024, .f32⟩
  | .hbm, ⟨61, _⟩ => ⟨S8x256x1024, .f32⟩
  | .hbm, ⟨62, _⟩ => ⟨S8x256x1024, .f32⟩
  | .hbm, ⟨63, _⟩ => ⟨S8x2048x1024, .f32⟩
  | .hbm, ⟨64, _⟩ => ⟨S8x1x1024, .f32⟩
  | .hbm, ⟨65, _⟩ => ⟨S8x1024, .f32⟩
  | .hbm, ⟨66, _⟩ => ⟨S8x1x1024, .f32⟩
  | .hbm, ⟨67, _⟩ => ⟨S_, .f32⟩
  | .hbm, ⟨68, _⟩ => ⟨S8x1x1024, .f32⟩
  | .hbm, ⟨69, _⟩ => ⟨S8x1x1024, .f32⟩
  | .hbm, ⟨70, _⟩ => ⟨S8x2048x1024, .f32⟩
  | .hbm, ⟨71, _⟩ => ⟨S_, .f32⟩
  | .hbm, ⟨72, _⟩ => ⟨S8x2048, .f32⟩
  | .hbm, ⟨73, _⟩ => ⟨S8x2048x1, .f32⟩
  | .hbm, ⟨74, _⟩ => ⟨S_, .f32⟩
  | .hbm, ⟨75, _⟩ => ⟨S8x2048x1, .f32⟩
  | .hbm, ⟨76, _⟩ => ⟨S8x2048x1, .f32⟩
  | .hbm, ⟨77, _⟩ => ⟨S_, .f32⟩
  | .hbm, ⟨78, _⟩ => ⟨S8x2048x1, .f32⟩
  | .hbm, ⟨79, _⟩ => ⟨S8x2048x1, .f32⟩
  | .hbm, ⟨80, _⟩ => ⟨S8x2048x1, .f32⟩
  | .hbm, ⟨81, _⟩ => ⟨S8x2048x1024, .f32⟩
  | .hbm, ⟨82, _⟩ => ⟨S8x2048x1024, .f32⟩
  | .hbm, ⟨83, _⟩ => ⟨S1x1x1024, .f32⟩
  | .hbm, ⟨84, _⟩ => ⟨S8x2048x1024, .f32⟩
  | .hbm, ⟨85, _⟩ => ⟨S8x2048x1024, .f32⟩
  | .hbm, ⟨86, _⟩ => ⟨S8x1x1024, .f32⟩
  | .hbm, ⟨87, _⟩ => ⟨S8x1024, .f32⟩
  | .hbm, ⟨88, _⟩ => ⟨S8x1x1024, .f32⟩
  | .hbm, ⟨89, _⟩ => ⟨S_, .f32⟩
  | .hbm, ⟨90, _⟩ => ⟨S8x1x1024, .f32⟩
  | .hbm, ⟨91, _⟩ => ⟨S8x1x1024, .f32⟩
  | .hbm, ⟨92, _⟩ => ⟨S8x2048x1024, .f32⟩
  | .hbm, ⟨93, _⟩ => ⟨S8x2048x1024, .f32⟩
  | .hbm, ⟨94, _⟩ => ⟨S8x1x1024, .f32⟩
  | .hbm, ⟨95, _⟩ => ⟨S8x1024, .f32⟩
  | .hbm, ⟨96, _⟩ => ⟨S8x1x1024, .f32⟩
  | .hbm, ⟨97, _⟩ => ⟨S8x2048x1024, .f32⟩
  | .hbm, ⟨98, _⟩ => ⟨S8x2048x1024, .f32⟩
  | .hbm, ⟨99, _⟩ => ⟨S1x1x1024x5632, .f32⟩
  | .hbm, ⟨100, _⟩ => ⟨S1024x5632, .f32⟩
  | .hbm, ⟨101, _⟩ => ⟨S1x1x2816x1024, .f32⟩
  | .hbm, ⟨102, _⟩ => ⟨S2816x1024, .f32⟩
  | .hbm, ⟨103, _⟩ => ⟨S8x2048x5632, .f32⟩
  | .hbm, ⟨104, _⟩ => ⟨S8x2048x2816, .f32⟩
  | .hbm, ⟨105, _⟩ => ⟨S8x2048x2816, .f32⟩
  | .hbm, ⟨106, _⟩ => ⟨S8x2048x2816, .f32⟩
  | .hbm, ⟨107, _⟩ => ⟨S8x2048x2816, .f32⟩
  | .hbm, ⟨108, _⟩ => ⟨S_, .f32⟩
  | .hbm, ⟨109, _⟩ => ⟨S8x2048x2816, .f32⟩
  | .hbm, ⟨110, _⟩ => ⟨S8x2048x2816, .f32⟩
  | .hbm, ⟨111, _⟩ => ⟨S_, .f32⟩
  | .hbm, ⟨112, _⟩ => ⟨S8x2048x2816, .f32⟩
  | .hbm, ⟨113, _⟩ => ⟨S8x2048x2816, .f32⟩
  | .hbm, ⟨114, _⟩ => ⟨S8x2048x2816, .f32⟩
  | .hbm, ⟨115, _⟩ => ⟨S8x2048x2816, .f32⟩
  | .hbm, ⟨116, _⟩ => ⟨S8x2048x1024, .f32⟩
  | .hbm, ⟨117, _⟩ => ⟨S8x2048x1024, .f32⟩
  | .hbm, ⟨118, _⟩ => ⟨S8x2048x1024, .f32⟩
  | .hbm, ⟨119, _⟩ => ⟨S8x2048x1024, .f32⟩
  | .hbm, ⟨120, _⟩ => ⟨S8x2304x1024, .f32⟩
  | .hbm, ⟨121, _⟩ => ⟨S18432x1024, .f32⟩
  | _, _ => ⟨S8x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_4 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_5 : Ref sig .tc := ⟨.hbm, 71, rfl⟩
abbrev main_v51 : Ref sig .tc := ⟨.hbm, 72, rfl⟩
abbrev main_v52 : Ref sig .tc := ⟨.hbm, 73, rfl⟩
abbrev main_cst_6 : Ref sig .tc := ⟨.hbm, 74, rfl⟩
abbrev main_v53 : Ref sig .tc := ⟨.hbm, 75, rfl⟩
abbrev main_v54 : Ref sig .tc := ⟨.hbm, 76, rfl⟩
abbrev main_cst_7 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_8 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_call1_v0 : Ref sig .tc := ⟨.hbm, 106, rfl⟩
abbrev main_call1_v1 : Ref sig .tc := ⟨.hbm, 107, rfl⟩
abbrev main_call1_cst : Ref sig .tc := ⟨.hbm, 108, rfl⟩
abbrev main_call1_v2 : Ref sig .tc := ⟨.hbm, 109, rfl⟩
abbrev main_call1_v3 : Ref sig .tc := ⟨.hbm, 110, rfl⟩
abbrev main_call1_cst_0 : Ref sig .tc := ⟨.hbm, 111, rfl⟩
abbrev main_call1_v4 : Ref sig .tc := ⟨.hbm, 112, rfl⟩
abbrev main_call1_v5 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩

abbrev nD : Nat := 1
abbrev τ : Topo := Topo.v7x

variable {F : FTy → Type} [FloatOps F]
-- ==== Kernel4.lean ====
abbrev S8x2304x1024 : Shape := ⟨3, ![8, 2304, 1024]⟩
abbrev S8x9x1024 : Shape := ⟨3, ![8, 9, 1024]⟩
abbrev S1x9x1024 : Shape := ⟨3, ![1, 9, 1024]⟩
abbrev S1024 : Shape := ⟨1, ![1024]⟩
abbrev S2x1024x3472 : Shape := ⟨3, ![2, 1024, 3472]⟩
abbrev S2x1024x2576 : Shape := ⟨3, ![2, 1024, 2576]⟩
abbrev S_ : Shape := ⟨0, ![]⟩
abbrev S2x1024x112 : Shape := ⟨3, ![2, 1024, 112]⟩
abbrev S2x1024x896 : Shape := ⟨3, ![2, 1024, 896]⟩
abbrev S2x1024x3584 : Shape := ⟨3, ![2, 1024, 3584]⟩
abbrev S18432x1024 : Shape := ⟨2, ![18432, 1024]⟩
abbrev S1x1024 : Shape := ⟨2, ![1, 1024]⟩
abbrev S18432x768 : Shape := ⟨2, ![18432, 768]⟩
abbrev S18432x1152 : Shape := ⟨2, ![18432, 1152]⟩
abbrev S18432x896 : Shape := ⟨2, ![18432, 896]⟩
abbrev S768x1024 : Shape := ⟨2, ![768, 1024]⟩
abbrev S1x1024x3584 : Shape := ⟨3, ![1, 1024, 3584]⟩
abbrev S768x768 : Shape := ⟨2, ![768, 768]⟩
abbrev S768x1152 : Shape := ⟨2, ![768, 1152]⟩
abbrev S768x896 : Shape := ⟨2, ![768, 896]⟩
abbrev S768x1 : Shape := ⟨2, ![768, 1]⟩
abbrev S1x1x1024 : Shape := ⟨3, ![1, 1, 1024]⟩
abbrev S768 : Shape := ⟨1, ![768]⟩
abbrev S1024x3584 : Shape := ⟨2, ![1024, 3584]⟩
abbrev S768x3584 : Shape := ⟨2, ![768, 3584]⟩

abbrev nBuf : Space → Nat
  | .hbm => 17
  | .vmem => 15
  | .smem => 0
  | _ => 0

abbrev bufTy : (tb : Table) → Fin (tcTables nBuf tb) → BufTy
  | .hbm, ⟨0, _⟩ => ⟨S8x2304x1024, .f32⟩
  | .hbm, ⟨1, _⟩ => ⟨S8x9x1024, .f32⟩
  | .hbm, ⟨2, _⟩ => ⟨S1x9x1024, .f32⟩
  | .hbm, ⟨3, _⟩ => ⟨S1024, .f32⟩
  | .hbm, ⟨4, _⟩ => ⟨S2x1024x3472, .f32⟩
  | .hbm, ⟨5, _⟩ => ⟨S2x1024x2576, .f32⟩
  | .hbm, ⟨6, _⟩ => ⟨S_, .f32⟩
  | .hbm, ⟨7, _⟩ => ⟨S2x1024x112, .f32⟩
  | .hbm, ⟨8, _⟩ => ⟨S2x1024x896, .f32⟩
  | .hbm, ⟨9, _⟩ => ⟨S2x1024x3584, .f32⟩
  | .hbm, ⟨10, _⟩ => ⟨S2x1024x3584, .bf16⟩
  | .hbm, ⟨11, _⟩ => ⟨S18432x1024, .f32⟩
  | .hbm, ⟨12, _⟩ => ⟨S1x1024, .f32⟩
  | .hbm, ⟨13, _⟩ => ⟨S18432x768, .f32⟩
  | .hbm, ⟨14, _⟩ => ⟨S18432x768, .f32⟩
  | .hbm, ⟨15, _⟩ => ⟨S18432x1152, .f32⟩
  | .hbm, ⟨16, _⟩ => ⟨S18432x896, .f32⟩
  | .local _ .vmem, ⟨0, _⟩ => ⟨S768x1024, .f32⟩
  | .local _ .vmem, ⟨1, _⟩ => ⟨S768x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x9x1024, .f32⟩
  | .local _ .vmem, ⟨5, _⟩ => ⟨S1x1024, .f32⟩
  | .local _ .vmem, ⟨6, _⟩ => ⟨S1x1024x3584, .bf16⟩
  | .local _ .vmem, ⟨7, _⟩ => ⟨S768x768, .f32⟩
  | .local _ .vmem, ⟨8, _⟩ => ⟨S768x768, .f32⟩
  | .local _ .vmem, ⟨9, _⟩ => ⟨S768x768, .f32⟩
  | .local _ .vmem, ⟨10, _⟩ => ⟨S768x768, .f32⟩
  | .local _ .vmem, ⟨11, _⟩ => ⟨S768x1152, .f32⟩
  | .local _ .vmem, ⟨12, _⟩ => ⟨S768x1152, .f32⟩
  | .local _ .vmem, ⟨13, _⟩ => ⟨S768x896, .f32⟩
  | .local _ .vmem, ⟨14, _⟩ => ⟨S768x896, .f32⟩
  | _, _ => ⟨S8x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x9x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x9x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S768x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S768x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S768x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S768x896 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S8x2304x1024 : Shape := ⟨3, ![8, 2304, 1024]⟩
abbrev S8x9x1024 : Shape := ⟨3, ![8, 9, 1024]⟩
abbrev S1x9x1024 : Shape := ⟨3, ![1, 9, 1024]⟩
abbrev S1024 : Shape := ⟨1, ![1024]⟩
abbrev S2x1024x3472 : Shape := ⟨3, ![2, 1024, 3472]⟩
abbrev S8x256x1024 : Shape := ⟨3, ![8, 256, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1x1024 : Shape := ⟨2, ![1, 1024]⟩
abbrev S8x2048x1024 : Shape := ⟨3, ![8, 2048, 1024]⟩
abbrev S8x2048 : Shape := ⟨2, ![8, 2048]⟩
abbrev S8x2048x1 : Shape := ⟨3, ![8, 2048, 1]⟩
abbrev S8x1x1024 : Shape := ⟨3, ![8, 1, 1024]⟩
abbrev S8x1024 : Shape := ⟨2, ![8, 1024]⟩
abbrev S1x1024x3472 : Shape := ⟨3, ![1, 1024, 3472]⟩
abbrev S1024x3472 : Shape := ⟨2, ![1024, 3472]⟩
abbrev S8x2304x3472 : Shape := ⟨3, ![8, 2304, 3472]⟩
abbrev S18432x3472 : Shape := ⟨2, ![18432, 3472]⟩
abbrev S18432x768 : Shape := ⟨2, ![18432, 768]⟩
abbrev S18432x1040 : Shape := ⟨2, ![18432, 1040]⟩
abbrev S18432x896 : Shape := ⟨2, ![18432, 896]⟩
abbrev S18432x1152 : Shape := ⟨2, ![18432, 1152]⟩

abbrev nBuf : Space → Nat
  | .hbm => 77
  | .vmem => 0
  | .smem => 0
  | _ => 0

abbrev bufTy : (tb : Table) → Fin (tcTables nBuf tb) → BufTy
  | .hbm, ⟨0, _⟩ => ⟨S8x2304x1024, .f32⟩
  | .hbm, ⟨1, _⟩ => ⟨S8x9x1024, .f32⟩
  | .hbm, ⟨2, _⟩ => ⟨S1x9x1024, .f32⟩
  | .hbm, ⟨3, _⟩ => ⟨S1024, .f32⟩
  | .hbm, ⟨4, _⟩ => ⟨S2x1024x3472, .f32⟩
  | .hbm, ⟨5, _⟩ => ⟨S8x256x1024, .f32⟩
  | .hbm, ⟨6, _⟩ => ⟨S8x256x1024, .f32⟩
  | .hbm, ⟨7, _⟩ => ⟨S_, .f32⟩
  | .hbm, ⟨8, _⟩ => ⟨S8x256, .f32⟩
  | .hbm, ⟨9, _⟩ => ⟨S8x256x1, .f32⟩
  | .hbm, ⟨10, _⟩ => ⟨S_, .f32⟩
  | .hbm, ⟨11, _⟩ => ⟨S8x256x1, .f32⟩
  | .hbm, ⟨12, _⟩ => ⟨S8x256x1, .f32⟩
  | .hbm, ⟨13, _⟩ => ⟨S_, .f32⟩
  | .hbm, ⟨14, _⟩ => ⟨S8x256x1, .f32⟩
  | .hbm, ⟨15, _⟩ => ⟨S8x256x1, .f32⟩
  | .hbm, ⟨16, _⟩ => ⟨S8x256x1, .f32⟩
  | .hbm, ⟨17, _⟩ => ⟨S8x256x1024, .f32⟩
  | .hbm, ⟨18, _⟩ => ⟨S8x256x1024, .f32⟩
  | .hbm, ⟨19, _⟩ => ⟨S1x1x1024, .f32⟩
  | .hbm, ⟨20, _⟩ => ⟨S8x256x1024, .f32⟩
  | .hbm, ⟨21, _⟩ => ⟨S8x256x1024, .f32⟩
  | .hbm, ⟨22, _⟩ => ⟨S1x1x1024, .f32⟩
  | .hbm, ⟨23, _⟩ => ⟨S1x1024, .f32⟩
  | .hbm, ⟨24, _⟩ => ⟨S1x1x1024, .f32⟩
  | .hbm, ⟨25, _⟩ => ⟨S_, .f32⟩
  | .hbm, ⟨26, _⟩ => ⟨S1x1x1024, .f32⟩
  | .hbm, ⟨27, _⟩ => ⟨S1x1x1024, .f32⟩
  | .hbm, ⟨28, _⟩ => ⟨S8x256x1024, .f32⟩
  | .hbm, ⟨29, _⟩ => ⟨S8x256x1024, .f32⟩
  | .hbm, ⟨30, _⟩ => ⟨S1x1x1024, .f32⟩
  | .hbm, ⟨31, _⟩ => ⟨S1x1024, .f32⟩
  | .hbm, ⟨32, _⟩ => ⟨S1x1x1024, .f32⟩
  | .hbm, ⟨33, _⟩ => ⟨S8x256x1024, .f32⟩
  | .hbm, ⟨34, _⟩ => ⟨S8x256x1024, .f32⟩
  | .hbm, ⟨35, _⟩ => ⟨S8x2048x1024, .f32⟩
  | .hbm, ⟨36, _⟩ => ⟨S8x2048x1024, .f32⟩
  | .hbm, ⟨37, _⟩ => ⟨S_, .f32⟩
  | .hbm, ⟨38, _⟩ => ⟨S8x2048, .f32⟩
  | .hbm, ⟨39, _⟩ => ⟨S8x2048x1, .f32⟩
  | .hbm, ⟨40, _⟩ => ⟨S_, .f32⟩
  | .hbm, ⟨41, _⟩ => ⟨S8x2048x1, .f32⟩
  | .hbm, ⟨42, _⟩ => ⟨S8x2048x1, .f32⟩
  | .hbm, ⟨43, _⟩ => ⟨S_, .f32⟩
  | .hbm, ⟨44, _⟩ => ⟨S8x2048x1, .f32⟩
  | .hbm, ⟨45, _⟩ => ⟨S8x2048x1, .f32⟩
  | .hbm, ⟨46, _⟩ => ⟨S8x2048x1, .f32⟩
  | .hbm, ⟨47, _⟩ => ⟨S8x2048x1024, .f32⟩
  | .hbm, ⟨48, _⟩ => ⟨S8x2048x1024, .f32⟩
  | .hbm, ⟨49, _⟩ => ⟨S1x1x1024, .f32⟩
  | .hbm, ⟨50, _⟩ => ⟨S8x2048x1024, .f32⟩
  | .hbm, ⟨51, _⟩ => ⟨S8x2048x1024, .f32⟩
  | .hbm, ⟨52, _⟩ => ⟨S8x1x1024, .f32⟩
  | .hbm, ⟨53, _⟩ => ⟨S8x1024, .f32⟩
  | .hbm, ⟨54, _⟩ => ⟨S8x1x1024, .f32⟩
  | .hbm, ⟨55, _⟩ => ⟨S_, .f32⟩
  | .hbm, ⟨56, _⟩ => ⟨S8x1x1024, .f32⟩
  | .hbm, ⟨57, _⟩ => ⟨S8x1x1024, .f32⟩
  | .hbm, ⟨58, _⟩ => ⟨S8x2048x1024, .f32⟩
  | .hbm, ⟨59, _⟩ => ⟨S8x2048x1024, .f32⟩
  | .hbm, ⟨60, _⟩ => ⟨S8x1x1024, .f32⟩
  | .hbm, ⟨61, _⟩ => ⟨S8x1024, .f32⟩
  | .hbm, ⟨62, _⟩ => ⟨S8x1x1024, .f32⟩
  | .hbm, ⟨63, _⟩ => ⟨S8x2048x1024, .f32⟩
  | .hbm, ⟨64, _⟩ => ⟨S8x2048x1024, .f32⟩
  | .hbm, ⟨65, _⟩ => ⟨S8x2304x1024, .f32⟩
  | .hbm, ⟨66, _⟩ => ⟨S1x1024x3472, .f32⟩
  | .hbm, ⟨67, _⟩ => ⟨S1024x3472, .f32⟩
  | .hbm, ⟨68, _⟩ => ⟨S8x2304x3472, .f32⟩
  | .hbm, ⟨69, _⟩ => ⟨S18432x3472, .f32⟩
  | .hbm, ⟨70, _⟩ => ⟨S18432x768, .f32⟩
  | .hbm, ⟨71, _⟩ => ⟨S18432x768, .f32⟩
  | .hbm, ⟨72, _⟩ => ⟨S18432x1040, .f32⟩
  | .hbm, ⟨73, _⟩ => ⟨S18432x896, .f32⟩
  | .hbm, ⟨74, _⟩ => ⟨S_, .i32⟩
  | .hbm, ⟨75, _⟩ => ⟨S_, .f32⟩
  | .hbm, ⟨76, _⟩ => ⟨S18432x1152, .f32⟩
  | _, _ => ⟨S8x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_c : Ref sig .tc := ⟨.hbm, 74, rfl⟩
abbrev main_call0_v0 : Ref sig .tc := ⟨.hbm, 75, rfl⟩
abbrev main_v61 : Ref sig .tc := ⟨.hbm, 76, rfl⟩

abbrev nD : Nat := 1
abbrev τ : Topo := Topo.v7x

variable {F : FTy → Type} [FloatOps F]
-- ==== Kernel5.lean ====
abbrev S8x2304x1024 : Shape := ⟨3, ![8, 2304, 1024]⟩
abbrev S8x9x1024 : Shape := ⟨3, ![8, 9, 1024]⟩
abbrev S1x9x1024 : Shape := ⟨3, ![1, 9, 1024]⟩
abbrev S1024 : Shape := ⟨1, ![1024]⟩
abbrev S8x2304x256 : Shape := ⟨3, ![8, 2304, 256]⟩
abbrev S8x2304x1152 : Shape := ⟨3, ![8, 2304, 1152]⟩
abbrev S64 : Shape := ⟨1, ![64]⟩
abbrev S2x256 : Shape := ⟨2, ![2, 256]⟩
abbrev S256 : Shape := ⟨1, ![256]⟩
abbrev S4x64 : Shape := ⟨2, ![4, 64]⟩
abbrev S2x1024x1024 : Shape := ⟨3, ![2, 1024, 1024]⟩
abbrev S2x2x1024x5632 : Shape := ⟨4, ![2, 2, 1024, 5632]⟩
abbrev S2x2x2816x1024 : Shape := ⟨4, ![2, 2, 2816, 1024]⟩
abbrev S1x256 : Shape := ⟨2, ![1, 256]⟩
abbrev S_ : Shape := ⟨0, ![]⟩
abbrev S7x256 : Shape := ⟨2, ![7, 256]⟩
abbrev S16x256 : Shape := ⟨2, ![16, 256]⟩
abbrev S18432x1024 : Shape := ⟨2, ![18432, 1024]⟩
abbrev S18432x256 : Shape := ⟨2, ![18432, 256]⟩
abbrev S18432x1152 : Shape := ⟨2, ![18432, 1152]⟩
abbrev S1x1024 : Shape := ⟨2, ![1, 1024]⟩
abbrev S1x64 : Shape := ⟨2, ![1, 64]⟩
abbrev S768x1024 : Shape := ⟨2, ![768, 1024]⟩
abbrev S768x256 : Shape := ⟨2, ![768, 256]⟩
abbrev S1x1024x1024 : Shape := ⟨3, ![1, 1024, 1024]⟩
abbrev S1x1x1024x5632 : Shape := ⟨4, ![1, 1, 1024, 5632]⟩
abbrev S1x1x2816x1024 : Shape := ⟨4, ![1, 1, 2816, 1024]⟩
abbrev S256x256 : Shape := ⟨2, ![256, 256]⟩
abbrev S1x256x1024 : Shape := ⟨3, ![1, 256, 1024]⟩
abbrev S256x1024 : Shape := ⟨2, ![256, 1024]⟩
abbrev S768x1 : Shape := ⟨2, ![768, 1]⟩
abbrev S1x1x1024 : Shape := ⟨3, ![1, 1, 1024]⟩
abbrev S768 : Shape := ⟨1, ![768]⟩
abbrev S1x1x1024x512 : Shape := ⟨4, ![1, 1, 1024, 512]⟩
abbrev S1024x512 : Shape := ⟨2, ![1024, 512]⟩
abbrev S768x512 : Shape := ⟨2, ![768, 512]⟩
abbrev S1x1x512x1024 : Shape := ⟨4, ![1, 1, 512, 1024]⟩
abbrev S512x1024 : Shape := ⟨2, ![512, 1024]⟩
abbrev S1x1x1024x256 : Shape := ⟨4, ![1, 1, 1024, 256]⟩
abbrev S1024x256 : Shape := ⟨2, ![1024, 256]⟩
abbrev S1x1x256x1024 : Shape := ⟨4, ![1, 1, 256, 1024]⟩

abbrev nBuf : Space → Nat
  | .hbm => 51
  | .vmem => 31
  | .smem => 0
  | _ => 0

abbrev bufTy : (tb : Table) → Fin (tcTables nBuf tb) → BufTy
  | .hbm, ⟨0, _⟩ => ⟨S8x2304x1024, .f32⟩
  | .hbm, ⟨1, _⟩ => ⟨S8x9x1024, .f32⟩
  | .hbm, ⟨2, _⟩ => ⟨S1x9x1024, .f32⟩
  | .hbm, ⟨3, _⟩ => ⟨S1024, .f32⟩
  | .hbm, ⟨4, _⟩ => ⟨S8x2304x256, .f32⟩
  | .hbm, ⟨5, _⟩ => ⟨S8x2304x256, .f32⟩
  | .hbm, ⟨6, _⟩ => ⟨S8x2304x256, .f32⟩
  | .hbm, ⟨7, _⟩ => ⟨S8x2304x256, .f32⟩
  | .hbm, ⟨8, _⟩ => ⟨S8x2304x1152, .f32⟩
  | .hbm, ⟨9, _⟩ => ⟨S64, .f32⟩
  | .hbm, ⟨10, _⟩ => ⟨S8x2304x256, .f32⟩
  | .hbm, ⟨11, _⟩ => ⟨S8x2304x256, .f32⟩
  | .hbm, ⟨12, _⟩ => ⟨S8x2304x256, .f32⟩
  | .hbm, ⟨13, _⟩ => ⟨S8x2304x256, .f32⟩
  | .hbm, ⟨14, _⟩ => ⟨S2x256, .f32⟩
  | .hbm, ⟨15, _⟩ => ⟨S2x256, .f32⟩
  | .hbm, ⟨16, _⟩ => ⟨S256, .f32⟩
  | .hbm, ⟨17, _⟩ => ⟨S256, .f32⟩
  | .hbm, ⟨18, _⟩ => ⟨S4x64, .f32⟩
  | .hbm, ⟨19, _⟩ => ⟨S256, .f32⟩
  | .hbm, ⟨20, _⟩ => ⟨S256, .f32⟩
  | .hbm, ⟨21, _⟩ => ⟨S2x1024x1024, .f32⟩
  | .hbm, ⟨22, _⟩ => ⟨S2x2x1024x5632, .f32⟩
  | .hbm, ⟨23, _⟩ => ⟨S2x2x2816x1024, .f32⟩
  | .hbm, ⟨24, _⟩ => ⟨S1x256, .f32⟩
  | .hbm, ⟨25, _⟩ => ⟨S1x256, .f32⟩
  | .hbm, ⟨26, _⟩ => ⟨S1x256, .f32⟩
  | .hbm, ⟨27, _⟩ => ⟨S1x256, .f32⟩
  | .hbm, ⟨28, _⟩ => ⟨S1x256, .f32⟩
  | .hbm, ⟨29, _⟩ => ⟨S_, .f32⟩
  | .hbm, ⟨30, _⟩ => ⟨S7x256, .f32⟩
  | .hbm, ⟨31, _⟩ => ⟨S16x256, .f32⟩
  | .hbm, ⟨32, _⟩ => ⟨S18432x1024, .f32⟩
  | .hbm, ⟨33, _⟩ => ⟨S18432x256, .f32⟩
  | .hbm, ⟨34, _⟩ => ⟨S18432x256, .f32⟩
  | .hbm, ⟨35, _⟩ => ⟨S18432x1152, .f32⟩
  | .hbm, ⟨36, _⟩ => ⟨S18432x256, .f32⟩
  | .hbm, ⟨37, _⟩ => ⟨S18432x256, .f32⟩
  | .hbm, ⟨38, _⟩ => ⟨S2x1024x1024, .bf16⟩
  | .hbm, ⟨39, _⟩ => ⟨S2x2x1024x5632, .bf16⟩
  | .hbm, ⟨40, _⟩ => ⟨S2x2x2816x1024, .bf16⟩
  | .hbm, ⟨41, _⟩ => ⟨S1x1024, .f32⟩
  | .hbm, ⟨42, _⟩ => ⟨S18432x256, .f32⟩
  | .hbm, ⟨43, _⟩ => ⟨S18432x256, .f32⟩
  | .hbm, ⟨44, _⟩ => ⟨S1x64, .f32⟩
  | .hbm, ⟨45, _⟩ => ⟨S4x64, .f32⟩
  | .hbm, ⟨46, _⟩ => ⟨S256, .f32⟩
  | .hbm, ⟨47, _⟩ => ⟨S1x256, .f32⟩
  | .hbm, ⟨48, _⟩ => ⟨S18432x256, .f32⟩
  | .hbm, ⟨49, _⟩ => ⟨S18432x256, .f32⟩
  | .hbm, ⟨50, _⟩ => ⟨S18432x1024, .f32⟩
  | .local _ .vmem, ⟨0, _⟩ => ⟨S768x1024, .f32⟩
  | .local _ .vmem, ⟨1, _⟩ => ⟨S768x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x9x1024, .f32⟩
  | .local _ .vmem, ⟨5, _⟩ => ⟨S1x1024, .f32⟩
  | .local _ .vmem, ⟨6, _⟩ => ⟨S768x256, .f32⟩
  | .local _ .vmem, ⟨7, _⟩ => ⟨S768x256, .f32⟩
  | .local _ .vmem, ⟨8, _⟩ => ⟨S768x256, .f32⟩
  | .local _ .vmem, ⟨9, _⟩ => ⟨S768x256, .f32⟩
  | .local _ .vmem, ⟨10, _⟩ => ⟨S768x256, .f32⟩
  | .local _ .vmem, ⟨11, _⟩ => ⟨S768x256, .f32⟩
  | .local _ .vmem, ⟨12, _⟩ => ⟨S768x256, .f32⟩
  | .local _ .vmem, ⟨13, _⟩ => ⟨S768x256, .f32⟩
  | .local _ .vmem, ⟨14, _⟩ => ⟨S768x256, .f32⟩
  | .local _ .vmem, ⟨15, _⟩ => ⟨S768x256, .f32⟩
  | .local _ .vmem, ⟨16, _⟩ => ⟨S1x256, .f32⟩
  | .local _ .vmem, ⟨17, _⟩ => ⟨S768x256, .f32⟩
  | .local _ .vmem, ⟨18, _⟩ => ⟨S768x256, .f32⟩
  | .local _ .vmem, ⟨19, _⟩ => ⟨S768x256, .f32⟩
  | .local _ .vmem, ⟨20, _⟩ => ⟨S768x256, .f32⟩
  | .local _ .vmem, ⟨21, _⟩ => ⟨S768x256, .f32⟩
  | .local _ .vmem, ⟨22, _⟩ => ⟨S768x256, .f32⟩
  | .local _ .vmem, ⟨23, _⟩ => ⟨S768x256, .f32⟩
  | .local _ .vmem, ⟨24, _⟩ => ⟨S768x256, .f32⟩
  | .local _ .vmem, ⟨25, _⟩ => ⟨S16x256, .f32⟩
  | .local _ .vmem, ⟨26, _⟩ => ⟨S1x1024x1024, .bf16⟩
  | .local _ .vmem, ⟨27, _⟩ => ⟨S1x1x1024x5632, .bf16⟩
  | .local _ .vmem, ⟨28, _⟩ => ⟨S1x1x2816x1024, .bf16⟩
  | .local _ .vmem, ⟨29, _⟩ => ⟨S768x1024, .f32⟩
  | .local _ .vmem, ⟨30, _⟩ => ⟨S768x1024, .f32⟩
  | _, _ => ⟨S8x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_cst : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg18_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_17 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x9x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x9x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S768x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S768x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S768x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S768x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S768x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S768x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S768x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S768x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S16x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1x1024x5632 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1x2816x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S768x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference5Ideal.lean ====
abbrev S8x2304x1024 : Shape := ⟨3, ![8, 2304, 1024]⟩
abbrev S8x9x1024 : Shape := ⟨3, ![8, 9, 1024]⟩
abbrev S1x9x1024 : Shape := ⟨3, ![1, 9, 1024]⟩
abbrev S1024 : Shape := ⟨1, ![1024]⟩
abbrev S8x2304x256 : Shape := ⟨3, ![8, 2304, 256]⟩
abbrev S8x2304x1152 : Shape := ⟨3, ![8, 2304, 1152]⟩
abbrev S64 : Shape := ⟨1, ![64]⟩
abbrev S2x256 : Shape := ⟨2, ![2, 256]⟩
abbrev S256 : Shape := ⟨1, ![256]⟩
abbrev S4x64 : Shape := ⟨2, ![4, 64]⟩
abbrev S2x1024x1024 : Shape := ⟨3, ![2, 1024, 1024]⟩
abbrev S2x2x1024x5632 : Shape := ⟨4, ![2, 2, 1024, 5632]⟩
abbrev S2x2x2816x1024 : Shape := ⟨4, ![2, 2, 2816, 1024]⟩
abbrev S8x2304x4x64 : Shape := ⟨4, ![8, 2304, 4, 64]⟩
abbrev S_ : Shape := ⟨0, ![]⟩
abbrev S8x2304x4 : Shape := ⟨3, ![8, 2304, 4]⟩
abbrev S8x2304x4x1 : Shape := ⟨4, ![8, 2304, 4, 1]⟩
abbrev S1x1x1x64 : Shape := ⟨4, ![1, 1, 1, 64]⟩
abbrev S1x1x256 : Shape := ⟨3, ![1, 1, 256]⟩
abbrev S1x1024x1024 : Shape := ⟨3, ![1, 1024, 1024]⟩
abbrev S1024x1024 : Shape := ⟨2, ![1024, 1024]⟩
abbrev S8x256x1024 : Shape := ⟨3, ![8, 256, 1024]⟩
abbrev S1x1x1024 : Shape := ⟨3, ![1, 1, 1024]⟩
abbrev S1x1024 : Shape := ⟨2, ![1, 1024]⟩
abbrev S8x256 : Shape := ⟨2, ![8, 256]⟩
abbrev S8x256x1 : Shape := ⟨3, ![8, 256, 1]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S8x256x5632 : Shape := ⟨3, ![8, 256, 5632]⟩
abbrev S8x256x2816 : Shape := ⟨3, ![8, 256, 2816]⟩
abbrev S8x2048x1024 : Shape := ⟨3, ![8, 2048, 1024]⟩
abbrev S8x1x1024 : Shape := ⟨3, ![8, 1, 1024]⟩
abbrev S8x1024 : Shape := ⟨2, ![8, 1024]⟩
abbrev S8x2048 : Shape := ⟨2, ![8, 2048]⟩
abbrev S8x2048x1 : Shape := ⟨3, ![8, 2048, 1]⟩
abbrev S8x2048x5632 : Shape := ⟨3, ![8, 2048, 5632]⟩
abbrev S8x2048x2816 : Shape := ⟨3, ![8, 2048, 2816]⟩
abbrev S18432x1024 : Shape := ⟨2, ![18432, 1024]⟩

abbrev nBuf : Space → Nat
  | .hbm => 223
  | .vmem => 0
  | .smem => 0
  | _ => 0

abbrev hbmTy0_0 (i : Nat) : BufTy := match i % 128 with
  | 0 => ⟨S8x2304x1024, .f32⟩
  | 1 => ⟨S8x9x1024, .f32⟩
  | 2 => ⟨S1x9x1024, .f32⟩
  | 3 => ⟨S1024, .f32⟩
  | 4 => ⟨S8x2304x256, .f32⟩
  | 5 => ⟨S8x2304x256, .f32⟩
  | 6 => ⟨S8x2304x256, .f32⟩
  | 7 => ⟨S8x2304x256, .f32⟩
  | 8 => ⟨S8x2304x1152, .f32⟩
  | 9 => ⟨S64, .f32⟩
  | 10 => ⟨S8x2304x256, .f32⟩
  | 11 => ⟨S8x2304x256, .f32⟩
  | 12 => ⟨S8x2304x256, .f32⟩
  | 13 => ⟨S8x2304x256, .f32⟩
  | 14 => ⟨S2x256, .f32⟩
  | 15 => ⟨S2x256, .f32⟩
  | 16 => ⟨S256, .f32⟩
  | 17 => ⟨S256, .f32⟩
  | 18 => ⟨S4x64, .f32⟩
  | 19 => ⟨S256, .f32⟩
  | 20 => ⟨S256, .f32⟩
  | 21 => ⟨S2x1024x1024, .f32⟩
  | 22 => ⟨S2x2x1024x5632, .f32⟩
  | 23 => ⟨S2x2x2816x1024, .f32⟩
  | 24 => ⟨S8x2304x256, .f32⟩
  | 25 => ⟨S8x2304x4x64, .f32⟩
  | 26 => ⟨S8x2304x256, .f32⟩
  | 27 => ⟨S8x2304x4x64, .f32⟩
  | 28 => ⟨S8x2304x4x64, .f32⟩
  | 29 => ⟨S_, .f32⟩
  | 30 => ⟨S8x2304x4, .f32⟩
  | 31 => ⟨S8x2304x4x1, .f32⟩
  | 32 => ⟨S_, .f32⟩
  | 33 => ⟨S8x2304x4x1, .f32⟩
  | 34 => ⟨S8x2304x4x1, .f32⟩
  | 35 => ⟨S_, .f32⟩
  | 36 => ⟨S8x2304x4x1, .f32⟩
  | 37 => ⟨S8x2304x4x1, .f32⟩
  | 38 => ⟨S8x2304x4x1, .f32⟩
  | 39 => ⟨S8x2304x4x64, .f32⟩
  | 40 => ⟨S8x2304x4x64, .f32⟩
  | 41 => ⟨S1x1x1x64, .f32⟩
  | 42 => ⟨S8x2304x4x64, .f32⟩
  | 43 => ⟨S8x2304x4x64, .f32⟩
  | 44 => ⟨S8x2304x4x64, .f32⟩
  | 45 => ⟨S8x2304x4x64, .f32⟩
  | 46 => ⟨S_, .f32⟩
  | 47 => ⟨S8x2304x4x64, .f32⟩
  | 48 => ⟨S8x2304x4x64, .f32⟩
  | 49 => ⟨S_, .f32⟩
  | 50 => ⟨S8x2304x4x64, .f32⟩
  | 51 => ⟨S8x2304x4x64, .f32⟩
  | 52 => ⟨S8x2304x4x64, .f32⟩
  | 53 => ⟨S8x2304x4x64, .f32⟩
  | 54 => ⟨S8x2304x256, .f32⟩
  | 55 => ⟨S8x2304x256, .f32⟩
  | 56 => ⟨S8x2304x4x64, .f32⟩
  | 57 => ⟨S_, .f32⟩
  | 58 => ⟨S8x2304x4, .f32⟩
  | 59 => ⟨S8x2304x4x1, .f32⟩
  | 60 => ⟨S_, .f32⟩
  | 61 => ⟨S8x2304x4x1, .f32⟩
  | 62 => ⟨S8x2304x4x1, .f32⟩
  | 63 => ⟨S8x2304x4x64, .f32⟩
  | 64 => ⟨S8x2304x4x64, .f32⟩
  | 65 => ⟨S8x2304x4x64, .f32⟩
  | 66 => ⟨S_, .f32⟩
  | 67 => ⟨S8x2304x4, .f32⟩
  | 68 => ⟨S8x2304x4x1, .f32⟩
  | 69 => ⟨S_, .f32⟩
  | 70 => ⟨S8x2304x4x1, .f32⟩
  | 71 => ⟨S8x2304x4x1, .f32⟩
  | 72 => ⟨S8x2304x4x64, .f32⟩
  | 73 => ⟨S8x2304x4x64, .f32⟩
  | 74 => ⟨S_, .f32⟩
  | 75 => ⟨S8x2304x4x1, .f32⟩
  | 76 => ⟨S8x2304x4x1, .f32⟩
  | 77 => ⟨S8x2304x4x1, .f32⟩
  | 78 => ⟨S8x2304x4x64, .f32⟩
  | 79 => ⟨S8x2304x4x64, .f32⟩
  | 80 => ⟨S8x2304x256, .f32⟩
  | 81 => ⟨S1x1x256, .f32⟩
  | 82 => ⟨S8x2304x256, .f32⟩
  | 83 => ⟨S8x2304x256, .f32⟩
  | 84 => ⟨S1x1x256, .f32⟩
  | 85 => ⟨S8x2304x256, .f32⟩
  | 86 => ⟨S8x2304x256, .f32⟩
  | 87 => ⟨S8x2304x256, .f32⟩
  | 88 => ⟨S8x2304x256, .f32⟩
  | 89 => ⟨S8x2304x1024, .f32⟩
  | 90 => ⟨S1x1024x1024, .f32⟩
  | 91 => ⟨S1024x1024, .f32⟩
  | 92 => ⟨S8x2304x1024, .f32⟩
  | 93 => ⟨S8x256x1024, .f32⟩
  | 94 => ⟨S8x256x1024, .f32⟩
  | 95 => ⟨S1x1x1024, .f32⟩
  | 96 => ⟨S1x1024, .f32⟩
  | 97 => ⟨S1x1x1024, .f32⟩
  | 98 => ⟨S8x256x1024, .f32⟩
  | 99 => ⟨S8x256x1024, .f32⟩
  | 100 => ⟨S8x256x1024, .f32⟩
  | 101 => ⟨S1x1x1024, .f32⟩
  | 102 => ⟨S1x1024, .f32⟩
  | 103 => ⟨S1x1x1024, .f32⟩
  | 104 => ⟨S_, .f32⟩
  | 105 => ⟨S1x1x1024, .f32⟩
  | 106 => ⟨S1x1x1024, .f32⟩
  | 107 => ⟨S8x256x1024, .f32⟩
  | 108 => ⟨S_, .f32⟩
  | 109 => ⟨S8x256, .f32⟩
  | 110 => ⟨S8x256x1, .f32⟩
  | 111 => ⟨S_, .f32⟩
  | 112 => ⟨S8x256x1, .f32⟩
  | 113 => ⟨S8x256x1, .f32⟩
  | 114 => ⟨S_, .f32⟩
  | 115 => ⟨S8x256x1, .f32⟩
  | 116 => ⟨S8x256x1, .f32⟩
  | 117 => ⟨S8x256x1, .f32⟩
  | 118 => ⟨S8x256x1024, .f32⟩
  | 119 => ⟨S8x256x1024, .f32⟩
  | 120 => ⟨S1x1x1024, .f32⟩
  | 121 => ⟨S8x256x1024, .f32⟩
  | 122 => ⟨S8x256x1024, .f32⟩
  | 123 => ⟨S1x1x1024, .f32⟩
  | 124 => ⟨S1x1024, .f32⟩
  | 125 => ⟨S1x1x1024, .f32⟩
  | 126 => ⟨S_, .f32⟩
  | 127 => ⟨S1x1x1024, .f32⟩
  | _ => ⟨S8x2304x1024, .f32⟩

abbrev hbmTy0_1 (i : Nat) : BufTy := match i % 128 with
  | 0 => ⟨S1x1x1024, .f32⟩
  | 1 => ⟨S8x256x1024, .f32⟩
  | 2 => ⟨S8x256x1024, .f32⟩
  | 3 => ⟨S1x1x1024, .f32⟩
  | 4 => ⟨S1x1024, .f32⟩
  | 5 => ⟨S1x1x1024, .f32⟩
  | 6 => ⟨S8x256x1024, .f32⟩
  | 7 => ⟨S8x256x1024, .f32⟩
  | 8 => ⟨S1x1x1024x5632, .f32⟩
  | 9 => ⟨S1024x5632, .f32⟩
  | 10 => ⟨S1x1x2816x1024, .f32⟩
  | 11 => ⟨S2816x1024, .f32⟩
  | 12 => ⟨S8x256x5632, .f32⟩
  | 13 => ⟨S8x256x2816, .f32⟩
  | 14 => ⟨S8x256x2816, .f32⟩
  | 15 => ⟨S8x256x2816, .f32⟩
  | 16 => ⟨S8x256x2816, .f32⟩
  | 17 => ⟨S_, .f32⟩
  | 18 => ⟨S8x256x2816, .f32⟩
  | 19 => ⟨S8x256x2816, .f32⟩
  | 20 => ⟨S_, .f32⟩
  | 21 => ⟨S8x256x2816, .f32⟩
  | 22 => ⟨S8x256x2816, .f32⟩
  | 23 => ⟨S8x256x2816, .f32⟩
  | 24 => ⟨S8x256x2816, .f32⟩
  | 25 => ⟨S8x256x1024, .f32⟩
  | 26 => ⟨S8x256x1024, .f32⟩
  | 27 => ⟨S8x256x1024, .f32⟩
  | 28 => ⟨S8x256x1024, .f32⟩
  | 29 => ⟨S8x2048x1024, .f32⟩
  | 30 => ⟨S8x2048x1024, .f32⟩
  | 31 => ⟨S8x1x1024, .f32⟩
  | 32 => ⟨S8x1024, .f32⟩
  | 33 => ⟨S8x1x1024, .f32⟩
  | 34 => ⟨S8x2048x1024, .f32⟩
  | 35 => ⟨S8x2048x1024, .f32⟩
  | 36 => ⟨S8x2048x1024, .f32⟩
  | 37 => ⟨S8x1x1024, .f32⟩
  | 38 => ⟨S8x1024, .f32⟩
  | 39 => ⟨S8x1x1024, .f32⟩
  | 40 => ⟨S_, .f32⟩
  | 41 => ⟨S8x1x1024, .f32⟩
  | 42 => ⟨S8x1x1024, .f32⟩
  | 43 => ⟨S8x2048x1024, .f32⟩
  | 44 => ⟨S_, .f32⟩
  | 45 => ⟨S8x2048, .f32⟩
  | 46 => ⟨S8x2048x1, .f32⟩
  | 47 => ⟨S_, .f32⟩
  | 48 => ⟨S8x2048x1, .f32⟩
  | 49 => ⟨S8x2048x1, .f32⟩
  | 50 => ⟨S_, .f32⟩
  | 51 => ⟨S8x2048x1, .f32⟩
  | 52 => ⟨S8x2048x1, .f32⟩
  | 53 => ⟨S8x2048x1, .f32⟩
  | 54 => ⟨S8x2048x1024, .f32⟩
  | 55 => ⟨S8x2048x1024, .f32⟩
  | 56 => ⟨S1x1x1024, .f32⟩
  | 57 => ⟨S8x2048x1024, .f32⟩
  | 58 => ⟨S8x2048x1024, .f32⟩
  | 59 => ⟨S8x1x1024, .f32⟩
  | 60 => ⟨S8x1024, .f32⟩
  | 61 => ⟨S8x1x1024, .f32⟩
  | 62 => ⟨S_, .f32⟩
  | 63 => ⟨S8x1x1024, .f32⟩
  | 64 => ⟨S8x1x1024, .f32⟩
  | 65 => ⟨S8x2048x1024, .f32⟩
  | 66 => ⟨S8x2048x1024, .f32⟩
  | 67 => ⟨S8x1x1024, .f32⟩
  | 68 => ⟨S8x1024, .f32⟩
  | 69 => ⟨S8x1x1024, .f32⟩
  | 70 => ⟨S8x2048x1024, .f32⟩
  | 71 => ⟨S8x2048x1024, .f32⟩
  | 72 => ⟨S1x1x1024x5632, .f32⟩
  | 73 => ⟨S1024x5632, .f32⟩
  | 74 => ⟨S1x1x2816x1024, .f32⟩
  | 75 => ⟨S2816x1024, .f32⟩
  | 76 => ⟨S8x2048x5632, .f32⟩
  | 77 => ⟨S8x2048x2816, .f32⟩
  | 78 => ⟨S8x2048x2816, .f32⟩
  | 79 => ⟨S8x2048x2816, .f32⟩
  | 80 => ⟨S8x2048x2816, .f32⟩
  | 81 => ⟨S_, .f32⟩
  | 82 => ⟨S8x2048x2816, .f32⟩
  | 83 => ⟨S8x2048x2816, .f32⟩
  | 84 => ⟨S_, .f32⟩
  | 85 => ⟨S8x2048x2816, .f32⟩
  | 86 => ⟨S8x2048x2816, .f32⟩
  | 87 => ⟨S8x2048x2816, .f32⟩
  | 88 => ⟨S8x2048x2816, .f32⟩
  | 89 => ⟨S8x2048x1024, .f32⟩
  | 90 => ⟨S8x2048x1024, .f32⟩
  | 91 => ⟨S8x2048x1024, .f32⟩
  | 92 => ⟨S8x2048x1024, .f32⟩
  | 93 => ⟨S8x2304x1024, .f32⟩
  | 94 => ⟨S18432x1024, .f32⟩
  | _ => ⟨S8x2304x1024, .f32⟩

abbrev hbmTy (i : Nat) : BufTy := match i / 128 with
  | 0 => hbmTy0_0 i
  | 1 => hbmTy0_1 i
  | _ => ⟨S8x2304x1024, .f32⟩

abbrev bufTy : (tb : Table) → Fin (tcTables nBuf tb) → BufTy
  | .hbm, ⟨i, _⟩ => hbmTy i
  | _, _ => ⟨S8x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_cst : Ref sig .tc := ⟨.hbm, 29, rfl⟩
abbrev main_v5 : Ref sig .tc := ⟨.hbm, 30, rfl⟩
abbrev main_v6 : Ref sig .tc := ⟨.hbm, 31, rfl⟩
abbrev main_cst_0 : Ref sig .tc := ⟨.hbm, 32, rfl⟩
abbrev main_v7 : Ref sig .tc := ⟨.hbm, 33, rfl⟩
abbrev main_v8 : Ref sig .tc := ⟨.hbm, 34, rfl⟩
abbrev main_cst_1 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_cst_2 : Ref sig .tc := ⟨.hbm, 57, rfl⟩
abbrev main_v22 : Ref sig .tc := ⟨.hbm, 58, rfl⟩
abbrev main_v23 : Ref sig .tc := ⟨.hbm, 59, rfl⟩
abbrev main_cst_3 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_cst_4 : Ref sig .tc := ⟨.hbm, 66, rfl⟩
abbrev main_v29 : Ref sig .tc := ⟨.hbm, 67, rfl⟩
abbrev main_v30 : Ref sig .tc := ⟨.hbm, 68, rfl⟩
abbrev main_cst_5 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_cst_6 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_7 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_8 : Ref sig .tc := ⟨.hbm, 108, rfl⟩
abbrev main_v67 : Ref sig .tc := ⟨.hbm, 109, rfl⟩
abbrev main_v68 : Ref sig .tc := ⟨.hbm, 110, rfl⟩
abbrev main_cst_9 : Ref sig .tc := ⟨.hbm, 111, rfl⟩
abbrev main_v69 : Ref sig .tc := ⟨.hbm, 112, rfl⟩
abbrev main_v70 : Ref sig .tc := ⟨.hbm, 113, rfl⟩
abbrev main_cst_10 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_cst_11 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_call1_v0 : Ref sig .tc := ⟨.hbm, 143, rfl⟩
abbrev main_call1_v1 : Ref sig .tc := ⟨.hbm, 144, rfl⟩
abbrev main_call1_cst : Ref sig .tc := ⟨.hbm, 145, rfl⟩
abbrev main_call1_v2 : Ref sig .tc := ⟨.hbm, 146, rfl⟩
abbrev main_call1_v3 : Ref sig .tc := ⟨.hbm, 147, rfl⟩
abbrev main_call1_cst_0 : Ref sig .tc := ⟨.hbm, 148, rfl⟩
abbrev main_call1_v4 : Ref sig .tc := ⟨.hbm, 149, rfl⟩
abbrev main_call1_v5 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_cst_12 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_cst_13 : Ref sig .tc := ⟨.hbm, 172, rfl⟩
abbrev main_v118 : Ref sig .tc := ⟨.hbm, 173, rfl⟩
abbrev main_v119 : Ref sig .tc := ⟨.hbm, 174, rfl⟩
abbrev main_cst_14 : Ref sig .tc := ⟨.hbm, 175, rfl⟩
abbrev main_v120 : Ref sig .tc := ⟨.hbm, 176, rfl⟩
abbrev main_v121 : Ref sig .tc := ⟨.hbm, 177, rfl⟩
abbrev main_cst_15 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_cst_16 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_call2_v0 : Ref sig .tc := ⟨.hbm, 207, rfl⟩
abbrev main_call2_v1 : Ref sig .tc := ⟨.hbm, 208, rfl⟩
abbrev main_call2_cst : Ref sig .tc := ⟨.hbm, 209, rfl⟩
abbrev main_call2_v2 : Ref sig .tc := ⟨.hbm, 210, rfl⟩
abbrev main_call2_v3 : Ref sig .tc := ⟨.hbm, 211, rfl⟩
abbrev main_call2_cst_0 : Ref sig .tc := ⟨.hbm, 212, rfl⟩
abbrev main_call2_v4 : Ref sig .tc := ⟨.hbm, 213, rfl⟩
abbrev main_call2_v5 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩

abbrev nD : Nat := 1
abbrev τ : Topo := Topo.v7x

variable {F : FTy → Type} [FloatOps F]
-- ==== Kernel6.lean ====
abbrev S8x2048x1024 : Shape := ⟨3, ![8, 2048, 1024]⟩
abbrev S8x256x1024 : Shape := ⟨3, ![8, 256, 1024]⟩
abbrev S8x9x1024 : Shape := ⟨3, ![8, 9, 1024]⟩
abbrev S1x9x1024 : Shape := ⟨3, ![1, 9, 1024]⟩
abbrev S1024 : Shape := ⟨1, ![1024]⟩
abbrev S2x2x1024x5632 : Shape := ⟨4, ![2, 2, 1024, 5632]⟩
abbrev S2x2x2816x1024 : Shape := ⟨4, ![2, 2, 2816, 1024]⟩
abbrev S16384x1024 : Shape := ⟨2, ![16384, 1024]⟩
abbrev S2048x1024 : Shape := ⟨2, ![2048, 1024]⟩
abbrev S1x1024 : Shape := ⟨2, ![1, 1024]⟩
abbrev S18432x1024 : Shape := ⟨2, ![18432, 1024]⟩
abbrev S256x1024 : Shape := ⟨2, ![256, 1024]⟩
abbrev S512x1024 : Shape := ⟨2, ![512, 1024]⟩
abbrev S768x1024 : Shape := ⟨2, ![768, 1024]⟩
abbrev S1x1x1024x5632 : Shape := ⟨4, ![1, 1, 1024, 5632]⟩
abbrev S1x1x2816x1024 : Shape := ⟨4, ![1, 1, 2816, 1024]⟩
abbrev S768x1 : Shape := ⟨2, ![768, 1]⟩
abbrev S1x1x1024 : Shape := ⟨3, ![1, 1, 1024]⟩
abbrev S768 : Shape := ⟨1, ![768]⟩
abbrev S1x1x1024x512 : Shape := ⟨4, ![1, 1, 1024, 512]⟩
abbrev S1024x512 : Shape := ⟨2, ![1024, 512]⟩
abbrev S768x512 : Shape := ⟨2, ![768, 512]⟩
abbrev S1x1x512x1024 : Shape := ⟨4, ![1, 1, 512, 1024]⟩
abbrev S1x1x1024x256 : Shape := ⟨4, ![1, 1, 1024, 256]⟩
abbrev S1024x256 : Shape := ⟨2, ![1024, 256]⟩
abbrev S768x256 : Shape := ⟨2, ![768, 256]⟩
abbrev S1x1x256x1024 : Shape := ⟨4, ![1, 1, 256, 1024]⟩

abbrev nBuf : Space → Nat
  | .hbm => 13
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S8x9x1024, .f32⟩
  | .hbm, ⟨3, _⟩ => ⟨S1x9x1024, .f32⟩
  | .hbm, ⟨4, _⟩ => ⟨S1024, .f32⟩
  | .hbm, ⟨5, _⟩ => ⟨S2x2x1024x5632, .f32⟩
  | .hbm, ⟨6, _⟩ => ⟨S2x2x2816x1024, .f32⟩
  | .hbm, ⟨7, _⟩ => ⟨S2x2x1024x5632, .bf16⟩
  | .hbm, ⟨8, _⟩ => ⟨S2x2x2816x1024, .bf16⟩
  | .hbm, ⟨9, _⟩ => ⟨S16384x1024, .f32⟩
  | .hbm, ⟨10, _⟩ => ⟨S2048x1024, .f32⟩
  | .hbm, ⟨11, _⟩ => ⟨S1x1024, .f32⟩
  | .hbm, ⟨12, _⟩ => ⟨S18432x1024, .f32⟩
  | .local _ .vmem, ⟨0, _⟩ => ⟨S256x1024, .f32⟩
  | .local _ .vmem, ⟨1, _⟩ => ⟨S256x1024, .f32⟩
  | .local _ .vmem, ⟨2, _⟩ => ⟨S512x1024, .f32⟩
  | .local _ .vmem, ⟨3, _⟩ => ⟨S512x1024, .f32⟩
  | .local _ .vmem, ⟨4, _⟩ => ⟨S768x1024, .f32⟩
  | .local _ .vmem, ⟨5, _⟩ => ⟨S768x1024, .f32⟩
  | .local _ .vmem, ⟨6, _⟩ => ⟨S1x9x1024, .f32⟩
  | .local _ .vmem, ⟨7, _⟩ => ⟨S1x9x1024, .f32⟩
  | .local _ .vmem, ⟨8, _⟩ => ⟨S1x9x1024, .f32⟩
  | .local _ .vmem, ⟨9, _⟩ => ⟨S1x1024, .f32⟩
  | .local _ .vmem, ⟨10, _⟩ => ⟨S1x1x1024x5632, .bf16⟩
  | .local _ .vmem, ⟨11, _⟩ => ⟨S1x1x2816x1024, .bf16⟩
  | .local _ .vmem, ⟨12, _⟩ => ⟨S768x1024, .f32⟩
  | .local _ .vmem, ⟨13, _⟩ => ⟨S768x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![24], ![false]⟩

def k0_mult1 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let c2048_i32 : BitVec 32 := 2048#32
  let v27 : BitVec 32 := Scalar.muli v16 c2048_i32
  v27
def k0_mult2 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let c2048_i32 : BitVec 32 := 2048#32
  let v27 : BitVec 32 := Scalar.muli v16 c2048_i32
  let c512_i32 : BitVec 32 := 512#32
  let v28 : BitVec 32 := Scalar.addi v27 c512_i32
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c1_i32_10 : BitVec 32 := 1#32
  let v29 : BitVec 32 := Scalar.maxsi v26 c1_i32_10
  let c1_i32_11 : BitVec 32 := 1#32
  let v30 : BitVec 32 := Scalar.subi v29 c1_i32_11
  let c768_i32 : BitVec 32 := 768#32
  let v31 : BitVec 32 := Scalar.muli v30 c768_i32
  let v32 : BitVec 32 := Scalar.addi v28 v31
  v32
def cc0_transform_0 (i : grid0.Coords) : Fin 2 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_1 (i : grid0.Coords) : Fin 2 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2048_i32 : BitVec 32 := 2048#32
  let v27 : BitVec 32 := Scalar.muli v16 c2048_i32
  let v28 : BitVec 32 := v27
  let c0_i32_10 : BitVec 32 := 0#32
  let c0_i32_11 : BitVec 32 := 0#32
  ![v28.toNat, c0_i32_10.toNat]

def cc0_transform_2 (i : grid0.Coords) : Fin 2 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2048_i32 : BitVec 32 := 2048#32
  let v27 : BitVec 32 := Scalar.muli v16 c2048_i32
  let c512_i32 : BitVec 32 := 512#32
  let v28 : BitVec 32 := Scalar.addi v27 c512_i32
  let c1_i32_10 : BitVec 32 := 1#32
  let v29 : BitVec 32 := Scalar.maxsi v26 c1_i32_10
  let c1_i32_11 : BitVec 32 := 1#32
  let v30 : BitVec 32 := Scalar.subi v29 c1_i32_11
  let c768_i32 : BitVec 32 := 768#32
  let v31 : BitVec 32 := Scalar.muli v30 c768_i32
  let v32 : BitVec 32 := Scalar.addi v28 v31
  let v33 : BitVec 32 := v32
  let c0_i32_12 : BitVec 32 := 0#32
  let c0_i32_13 : BitVec 32 := 0#32
  ![v33.toNat, c0_i32_12.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x9x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x9x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S768x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S8x2048x1024 : Shape := ⟨3, ![8, 2048, 1024]⟩
abbrev S8x256x1024 : Shape := ⟨3, ![8, 256, 1024]⟩
abbrev S8x9x1024 : Shape := ⟨3, ![8, 9, 1024]⟩
abbrev S1x9x1024 : Shape := ⟨3, ![1, 9, 1024]⟩
abbrev S1024 : Shape := ⟨1, ![1024]⟩
abbrev S2x2x1024x5632 : Shape := ⟨4, ![2, 2, 1024, 5632]⟩
abbrev S2x2x2816x1024 : Shape := ⟨4, ![2, 2, 2816, 1024]⟩
abbrev S1x1x1024 : Shape := ⟨3, ![1, 1, 1024]⟩
abbrev S1x1024 : Shape := ⟨2, ![1, 1024]⟩
abbrev S_ : Shape := ⟨0, ![]⟩
abbrev S8x256 : Shape := ⟨2, ![8, 256]⟩
abbrev S8x256x1 : Shape := ⟨3, ![8, 256, 1]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S8x256x5632 : Shape := ⟨3, ![8, 256, 5632]⟩
abbrev S8x256x2816 : Shape := ⟨3, ![8, 256, 2816]⟩
abbrev S8x1x1024 : Shape := ⟨3, ![8, 1, 1024]⟩
abbrev S8x1024 : Shape := ⟨2, ![8, 1024]⟩
abbrev S8x2048 : Shape := ⟨2, ![8, 2048]⟩
abbrev S8x2048x1 : Shape := ⟨3, ![8, 2048, 1]⟩
abbrev S8x2048x5632 : Shape := ⟨3, ![8, 2048, 5632]⟩
abbrev S8x2048x2816 : Shape := ⟨3, ![8, 2048, 2816]⟩
abbrev S8x2304x1024 : Shape := ⟨3, ![8, 2304, 1024]⟩
abbrev S18432x1024 : Shape := ⟨2, ![18432, 1024]⟩

abbrev nBuf : Space → Nat
  | .hbm => 121
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S8x9x1024, .f32⟩
  | .hbm, ⟨3, _⟩ => ⟨S1x9x1024, .f32⟩
  | .hbm, ⟨4, _⟩ => ⟨S1024, .f32⟩
  | .hbm, ⟨5, _⟩ => ⟨S2x2x1024x5632, .f32⟩
  | .hbm, ⟨6, _⟩ => ⟨S2x2x2816x1024, .f32⟩
  | .hbm, ⟨7, _⟩ => ⟨S1x1x1024, .f32⟩
  | .hbm, ⟨8, _⟩ => ⟨S1x1024, .f32⟩
  | .hbm, ⟨9, _⟩ => ⟨S1x1x1024, .f32⟩
  | .hbm, ⟨10, _⟩ => ⟨S_, .f32⟩
  | .hbm, ⟨11, _⟩ => ⟨S1x1x1024, .f32⟩
  | .hbm, ⟨12, _⟩ => ⟨S1x1x1024, .f32⟩
  | .hbm, ⟨13, _⟩ => ⟨S8x256x1024, .f32⟩
  | .hbm, ⟨14, _⟩ => ⟨S_, .f32⟩
  | .hbm, ⟨15, _⟩ => ⟨S8x256, .f32⟩
  | .hbm, ⟨16, _⟩ => ⟨S8x256x1, .f32⟩
  | .hbm, ⟨17, _⟩ => ⟨S_, .f32⟩
  | .hbm, ⟨18, _⟩ => ⟨S8x256x1, .f32⟩
  | .hbm, ⟨19, _⟩ => ⟨S8x256x1, .f32⟩
  | .hbm, ⟨20, _⟩ => ⟨S_, .f32⟩
  | .hbm, ⟨21, _⟩ => ⟨S8x256x1, .f32⟩
  | .hbm, ⟨22, _⟩ => ⟨S8x256x1, .f32⟩
  | .hbm, ⟨23, _⟩ => ⟨S8x256x1, .f32⟩
  | .hbm, ⟨24, _⟩ => ⟨S8x256x1024, .f32⟩
  | .hbm, ⟨25, _⟩ => ⟨S8x256x1024, .f32⟩
  | .hbm, ⟨26, _⟩ => ⟨S1x1x1024, .f32⟩
  | .hbm, ⟨27, _⟩ => ⟨S8x256x1024, .f32⟩
  | .hbm, ⟨28, _⟩ => ⟨S8x256x1024, .f32⟩
  | .hbm, ⟨29, _⟩ => ⟨S1x1x1024, .f32⟩
  | .hbm, ⟨30, _⟩ => ⟨S1x1024, .f32⟩
  | .hbm, ⟨31, _⟩ => ⟨S1x1x1024, .f32⟩
  | .hbm, ⟨32, _⟩ => ⟨S_, .f32⟩
  | .hbm, ⟨33, _⟩ => ⟨S1x1x1024, .f32⟩
  | .hbm, ⟨34, _⟩ => ⟨S1x1x1024, .f32⟩
  | .hbm, ⟨35, _⟩ => ⟨S8x256x1024, .f32⟩
  | .hbm, ⟨36, _⟩ => ⟨S8x256x1024, .f32⟩
  | .hbm, ⟨37, _⟩ => ⟨S1x1x1024, .f32⟩
  | .hbm, ⟨38, _⟩ => ⟨S1x1024, .f32⟩
  | .hbm, ⟨39, _⟩ => ⟨S1x1x1024, .f32⟩
  | .hbm, ⟨40, _⟩ => ⟨S8x256x1024, .f32⟩
  | .hbm, ⟨41, _⟩ => ⟨S8x256x1024, .f32⟩
  | .hbm, ⟨42, _⟩ => ⟨S1x1x1024x5632, .f32⟩
  | .hbm, ⟨43, _⟩ => ⟨S1024x5632, .f32⟩
  | .hbm, ⟨44, _⟩ => ⟨S1x1x2816x1024, .f32⟩
  | .hbm, ⟨45, _⟩ => ⟨S2816x1024, .f32⟩
  | .hbm, ⟨46, _⟩ => ⟨S8x256x5632, .f32⟩
  | .hbm, ⟨47, _⟩ => ⟨S8x256x2816, .f32⟩
  | .hbm, ⟨48, _⟩ => ⟨S8x256x2816, .f32⟩
  | .hbm, ⟨49, _⟩ => ⟨S8x256x2816, .f32⟩
  | .hbm, ⟨50, _⟩ => ⟨S8x256x2816, .f32⟩
  | .hbm, ⟨51, _⟩ => ⟨S_, .f32⟩
  | .hbm, ⟨52, _⟩ => ⟨S8x256x2816, .f32⟩
  | .hbm, ⟨53, _⟩ => ⟨S8x256x2816, .f32⟩
  | .hbm, ⟨54, _⟩ => ⟨S_, .f32⟩
  | .hbm, ⟨55, _⟩ => ⟨S8x256x2816, .f32⟩
  | .hbm, ⟨56, _⟩ => ⟨S8x256x2816, .f32⟩
  | .hbm, ⟨57, _⟩ => ⟨S8x256x2816, .f32⟩
  | .hbm, ⟨58, _⟩ => ⟨S8x256x2816, .f32⟩
  | .hbm, ⟨59, _⟩ => ⟨S8x256x1024, .f32⟩
  | .hbm, ⟨60, _⟩ => ⟨S8x256x1024, .f32⟩
  | .hbm, ⟨61, _⟩ => ⟨S8x256x1024, .f32⟩
  | .hbm, ⟨62, _⟩ => ⟨S8x256x1024, .f32⟩
  | .hbm, ⟨63, _⟩ => ⟨S8x1x1024, .f32⟩
  | .hbm, ⟨64, _⟩ => ⟨S8x1024, .f32⟩
  | .hbm, ⟨65, _⟩ => ⟨S8x1x1024, .f32⟩
  | .hbm, ⟨66, _⟩ => ⟨S_, .f32⟩
  | .hbm, ⟨67, _⟩ => ⟨S8x1x1024, .f32⟩
  | .hbm, ⟨68, _⟩ => ⟨S8x1x1024, .f32⟩
  | .hbm, ⟨69, _⟩ => ⟨S8x2048x1024, .f32⟩
  | .hbm, ⟨70, _⟩ => ⟨S_, .f32⟩
  | .hbm, ⟨71, _⟩ => ⟨S8x2048, .f32⟩
  | .hbm, ⟨72, _⟩ => ⟨S8x2048x1, .f32⟩
  | .hbm, ⟨73, _⟩ => ⟨S_, .f32⟩
  | .hbm, ⟨74, _⟩ => ⟨S8x2048x1, .f32⟩
  | .hbm, ⟨75, _⟩ => ⟨S8x2048x1, .f32⟩
  | .hbm, ⟨76, _⟩ => ⟨S_, .f32⟩
  | .hbm, ⟨77, _⟩ => ⟨S8x2048x1, .f32⟩
  | .hbm, ⟨78, _⟩ => ⟨S8x2048x1, .f32⟩
  | .hbm, ⟨79, _⟩ => ⟨S8x2048x1, .f32⟩
  | .hbm, ⟨80, _⟩ => ⟨S8x2048x1024, .f32⟩
  | .hbm, ⟨81, _⟩ => ⟨S8x2048x1024, .f32⟩
  | .hbm, ⟨82, _⟩ => ⟨S1x1x1024, .f32⟩
  | .hbm, ⟨83, _⟩ => ⟨S8x2048x1024, .f32⟩
  | .hbm, ⟨84, _⟩ => ⟨S8x2048x1024, .f32⟩
  | .hbm, ⟨85, _⟩ => ⟨S8x1x1024, .f32⟩
  | .hbm, ⟨86, _⟩ => ⟨S8x1024, .f32⟩
  | .hbm, ⟨87, _⟩ => ⟨S8x1x1024, .f32⟩
  | .hbm, ⟨88, _⟩ => ⟨S_, .f32⟩
  | .hbm, ⟨89, _⟩ => ⟨S8x1x1024, .f32⟩
  | .hbm, ⟨90, _⟩ => ⟨S8x1x1024, .f32⟩
  | .hbm, ⟨91, _⟩ => ⟨S8x2048x1024, .f32⟩
  | .hbm, ⟨92, _⟩ => ⟨S8x2048x1024, .f32⟩
  | .hbm, ⟨93, _⟩ => ⟨S8x1x1024, .f32⟩
  | .hbm, ⟨94, _⟩ => ⟨S8x1024, .f32⟩
  | .hbm, ⟨95, _⟩ => ⟨S8x1x1024, .f32⟩
  | .hbm, ⟨96, _⟩ => ⟨S8x2048x1024, .f32⟩
  | .hbm, ⟨97, _⟩ => ⟨S8x2048x1024, .f32⟩
  | .hbm, ⟨98, _⟩ => ⟨S1x1x1024x5632, .f32⟩
  | .hbm, ⟨99, _⟩ => ⟨S1024x5632, .f32⟩
  | .hbm, ⟨100, _⟩ => ⟨S1x1x2816x1024, .f32⟩
  | .hbm, ⟨101, _⟩ => ⟨S2816x1024, .f32⟩
  | .hbm, ⟨102, _⟩ => ⟨S8x2048x5632, .f32⟩
  | .hbm, ⟨103, _⟩ => ⟨S8x2048x2816, .f32⟩
  | .hbm, ⟨104, _⟩ => ⟨S8x2048x2816, .f32⟩
  | .hbm, ⟨105, _⟩ => ⟨S8x2048x2816, .f32⟩
  | .hbm, ⟨106, _⟩ => ⟨S8x2048x2816, .f32⟩
  | .hbm, ⟨107, _⟩ => ⟨S_, .f32⟩
  | .hbm, ⟨108, _⟩ => ⟨S8x2048x2816, .f32⟩
  | .hbm, ⟨109, _⟩ => ⟨S8x2048x2816, .f32⟩
  | .hbm, ⟨110, _⟩ => ⟨S_, .f32⟩
  | .hbm, ⟨111, _⟩ => ⟨S8x2048x2816, .f32⟩
  | .hbm, ⟨112, _⟩ => ⟨S8x2048x2816, .f32⟩
  | .hbm, ⟨113, _⟩ => ⟨S8x2048x2816, .f32⟩
  | .hbm, ⟨114, _⟩ => ⟨S8x2048x2816, .f32⟩
  | .hbm, ⟨115, _⟩ => ⟨S8x2048x1024, .f32⟩
  | .hbm, ⟨116, _⟩ => ⟨S8x2048x1024, .f32⟩
  | .hbm, ⟨117, _⟩ => ⟨S8x2048x1024, .f32⟩
  | .hbm, ⟨118, _⟩ => ⟨S8x2048x1024, .f32⟩
  | .hbm, ⟨119, _⟩ => ⟨S8x2304x1024, .f32⟩
  | .hbm, ⟨120, _⟩ => ⟨S18432x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_4 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_5 : Ref sig .tc := ⟨.hbm, 70, rfl⟩
abbrev main_v49 : Ref sig .tc := ⟨.hbm, 71, rfl⟩
abbrev main_v50 : Ref sig .tc := ⟨.hbm, 72, rfl⟩
abbrev main_cst_6 : Ref sig .tc := ⟨.hbm, 73, rfl⟩
abbrev main_v51 : Ref sig .tc := ⟨.hbm, 74, rfl⟩
abbrev main_v52 : Ref sig .tc := ⟨.hbm, 75, rfl⟩
abbrev main_cst_7 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_8 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_call1_v0 : Ref sig .tc := ⟨.hbm, 105, rfl⟩
abbrev main_call1_v1 : Ref sig .tc := ⟨.hbm, 106, rfl⟩
abbrev main_call1_cst : Ref sig .tc := ⟨.hbm, 107, rfl⟩
abbrev main_call1_v2 : Ref sig .tc := ⟨.hbm, 108, rfl⟩
abbrev main_call1_v3 : Ref sig .tc := ⟨.hbm, 109, rfl⟩
abbrev main_call1_cst_0 : Ref sig .tc := ⟨.hbm, 110, rfl⟩
abbrev main_call1_v4 : Ref sig .tc := ⟨.hbm, 111, rfl⟩
abbrev main_call1_v5 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩

abbrev nD : Nat := 1
abbrev τ : Topo := Topo.v7x

variable {F : FTy → Type} [FloatOps F]
-- ==== Kernel7.lean ====
abbrev S8x1024 : Shape := ⟨2, ![8, 1024]⟩
abbrev S1024 : Shape := ⟨1, ![1024]⟩
abbrev S2x1024x9216 : Shape := ⟨3, ![2, 1024, 9216]⟩
abbrev S2x9216 : Shape := ⟨2, ![2, 9216]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S2x1x9216 : Shape := ⟨3, ![2, 1, 9216]⟩
abbrev S2x16x9216 : Shape := ⟨3, ![2, 16, 9216]⟩
abbrev S1x1024x1024 : Shape := ⟨3, ![1, 1024, 1024]⟩
abbrev S1x1x1024 : Shape := ⟨3, ![1, 1, 1024]⟩
abbrev S1x16x1024 : Shape := ⟨3, ![1, 16, 1024]⟩
abbrev S1024x1024 : Shape := ⟨2, ![1024, 1024]⟩
abbrev S2x16x9x1024 : Shape := ⟨4, ![2, 16, 9, 1024]⟩
abbrev S2x1x9x1024 : Shape := ⟨4, ![2, 1, 9, 1024]⟩
abbrev S2x8x9x1024 : Shape := ⟨4, ![2, 8, 9, 1024]⟩

abbrev nBuf : Space → Nat
  | .hbm => 13
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x9216, .f32⟩
  | .hbm, ⟨3, _⟩ => ⟨S2x9216, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S2x1x9216, .f32⟩
  | .hbm, ⟨9, _⟩ => ⟨S2x16x9216, .f32⟩
  | .hbm, ⟨10, _⟩ => ⟨S2x16x9x1024, .f32⟩
  | .hbm, ⟨11, _⟩ => ⟨S2x1x9x1024, .f32⟩
  | .hbm, ⟨12, _⟩ => ⟨S2x8x9x1024, .f32⟩
  | .local _ .vmem, ⟨0, _⟩ => ⟨S16x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8x1024 : Shape := ⟨2, ![8, 1024]⟩
abbrev S1024 : Shape := ⟨1, ![1024]⟩
abbrev S2x1024x9216 : Shape := ⟨3, ![2, 1024, 9216]⟩
abbrev S2x9216 : Shape := ⟨2, ![2, 9216]⟩
abbrev S1x1024x9216 : Shape := ⟨3, ![1, 1024, 9216]⟩
abbrev S1024x9216 : Shape := ⟨2, ![1024, 9216]⟩
abbrev S1x9216 : Shape := ⟨2, ![1, 9216]⟩
abbrev S9216 : Shape := ⟨1, ![9216]⟩
abbrev S_ : Shape := ⟨0, ![]⟩
abbrev S9x1024 : Shape := ⟨2, ![9, 1024]⟩
abbrev S1x9x1024 : Shape := ⟨3, ![1, 9, 1024]⟩
abbrev S1x1x9x1024 : Shape := ⟨4, ![1, 1, 9, 1024]⟩
abbrev S2x1x9x1024 : Shape := ⟨4, ![2, 1, 9, 1024]⟩
abbrev S8x9216 : Shape := ⟨2, ![8, 9216]⟩
abbrev S8x9x1024 : Shape := ⟨3, ![8, 9, 1024]⟩
abbrev S1x8x9x1024 : Shape := ⟨4, ![1, 8, 9, 1024]⟩
abbrev S2x8x9x1024 : Shape := ⟨4, ![2, 8, 9, 1024]⟩

abbrev nBuf : Space → Nat
  | .hbm => 80
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x9216, .f32⟩
  | .hbm, ⟨3, _⟩ => ⟨S2x9216, .f32⟩
  | .hbm, ⟨4, _⟩ => ⟨S1x1024x9216, .f32⟩
  | .hbm, ⟨5, _⟩ => ⟨S1024x9216, .f32⟩
  | .hbm, ⟨6, _⟩ => ⟨S1x9216, .f32⟩
  | .hbm, ⟨7, _⟩ => ⟨S9216, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S_, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S9216, .f32⟩
  | .hbm, ⟨18, _⟩ => ⟨S9216, .f32⟩
  | .hbm, ⟨19, _⟩ => ⟨S9x1024, .f32⟩
  | .hbm, ⟨20, _⟩ => ⟨S1x9x1024, .f32⟩
  | .hbm, ⟨21, _⟩ => ⟨S1x1024x9216, .f32⟩
  | .hbm, ⟨22, _⟩ => ⟨S1024x9216, .f32⟩
  | .hbm, ⟨23, _⟩ => ⟨S1x9216, .f32⟩
  | .hbm, ⟨24, _⟩ => ⟨S9216, .f32⟩
  | .hbm, ⟨25, _⟩ => ⟨S1024, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S9216, .f32⟩
  | .hbm, ⟨35, _⟩ => ⟨S9216, .f32⟩
  | .hbm, ⟨36, _⟩ => ⟨S9x1024, .f32⟩
  | .hbm, ⟨37, _⟩ => ⟨S1x9x1024, .f32⟩
  | .hbm, ⟨38, _⟩ => ⟨S1x1x9x1024, .f32⟩
  | .hbm, ⟨39, _⟩ => ⟨S1x1x9x1024, .f32⟩
  | .hbm, ⟨40, _⟩ => ⟨S2x1x9x1024, .f32⟩
  | .hbm, ⟨41, _⟩ => ⟨S1x1024x9216, .f32⟩
  | .hbm, ⟨42, _⟩ => ⟨S1024x9216, .f32⟩
  | .hbm, ⟨43, _⟩ => ⟨S1x9216, .f32⟩
  | .hbm, ⟨44, _⟩ => ⟨S9216, .f32⟩
  | .hbm, ⟨45, _⟩ => ⟨S8x1024, .f32⟩
  | .hbm, ⟨46, _⟩ => ⟨S8x1024, .f32⟩
  | .hbm, ⟨47, _⟩ => ⟨S_, .f32⟩
  | .hbm, ⟨48, _⟩ => ⟨S8x1024, .f32⟩
  | .hbm, ⟨49, _⟩ => ⟨S8x1024, .f32⟩
  | .hbm, ⟨50, _⟩ => ⟨S_, .f32⟩
  | .hbm, ⟨51, _⟩ => ⟨S8x1024, .f32⟩
  | .hbm, ⟨52, _⟩ => ⟨S8x1024, .f32⟩
  | .hbm, ⟨53, _⟩ => ⟨S8x1024, .f32⟩
  | .hbm, ⟨54, _⟩ => ⟨S8x9216, .f32⟩
  | .hbm, ⟨55, _⟩ => ⟨S1x9216, .f32⟩
  | .hbm, ⟨56, _⟩ => ⟨S8x9216, .f32⟩
  | .hbm, ⟨57, _⟩ => ⟨S8x9216, .f32⟩
  | .hbm, ⟨58, _⟩ => ⟨S8x9x1024, .f32⟩
  | .hbm, ⟨59, _⟩ => ⟨S1x1024x9216, .f32⟩
  | .hbm, ⟨60, _⟩ => ⟨S1024x9216, .f32⟩
  | .hbm, ⟨61, _⟩ => ⟨S1x9216, .f32⟩
  | .hbm, ⟨62, _⟩ => ⟨S9216, .f32⟩
  | .hbm, ⟨63, _⟩ => ⟨S8x1024, .f32⟩
  | .hbm, ⟨64, _⟩ => ⟨S8x1024, .f32⟩
  | .hbm, ⟨65, _⟩ => ⟨S_, .f32⟩
  | .hbm, ⟨66, _⟩ => ⟨S8x1024, .f32⟩
  | .hbm, ⟨67, _⟩ => ⟨S8x1024, .f32⟩
  | .hbm, ⟨68, _⟩ => ⟨S_, .f32⟩
  | .hbm, ⟨69, _⟩ => ⟨S8x1024, .f32⟩
  | .hbm, ⟨70, _⟩ => ⟨S8x1024, .f32⟩
  | .hbm, ⟨71, _⟩ => ⟨S8x1024, .f32⟩
  | .hbm, ⟨72, _⟩ => ⟨S8x9216, .f32⟩
  | .hbm, ⟨73, _⟩ => ⟨S1x9216, .f32⟩
  | .hbm, ⟨74, _⟩ => ⟨S8x9216, .f32⟩
  | .hbm, ⟨75, _⟩ => ⟨S8x9216, .f32⟩
  | .hbm, ⟨76, _⟩ => ⟨S8x9x1024, .f32⟩
  | .hbm, ⟨77, _⟩ => ⟨S1x8x9x1024, .f32⟩
  | .hbm, ⟨78, _⟩ => ⟨S1x8x9x1024, .f32⟩
  | .hbm, ⟨79, _⟩ => ⟨S2x8x9x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call2_v0 : Ref sig .tc := ⟨.hbm, 45, rfl⟩
abbrev main_call2_v1 : Ref sig .tc := ⟨.hbm, 46, rfl⟩
abbrev main_call2_cst : Ref sig .tc := ⟨.hbm, 47, rfl⟩
abbrev main_call2_v2 : Ref sig .tc := ⟨.hbm, 48, rfl⟩
abbrev main_call2_v3 : Ref sig .tc := ⟨.hbm, 49, rfl⟩
abbrev main_call2_cst_0 : Ref sig .tc := ⟨.hbm, 50, rfl⟩
abbrev main_call2_v4 : Ref sig .tc := ⟨.hbm, 51, rfl⟩
abbrev main_call2_v5 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_call3_v0 : Ref sig .tc := ⟨.hbm, 63, rfl⟩
abbrev main_call3_v1 : Ref sig .tc := ⟨.hbm, 64, rfl⟩
abbrev main_call3_cst : Ref sig .tc := ⟨.hbm, 65, rfl⟩
abbrev main_call3_v2 : Ref sig .tc := ⟨.hbm, 66, rfl⟩
abbrev main_call3_v3 : Ref sig .tc := ⟨.hbm, 67, rfl⟩
abbrev main_call3_cst_0 : Ref sig .tc := ⟨.hbm, 68, rfl⟩
abbrev main_call3_v4 : Ref sig .tc := ⟨.hbm, 69, rfl⟩
abbrev main_call3_v5 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩

abbrev nD : Nat := 1
abbrev τ : Topo := Topo.v7x

variable {F : FTy → Type} [FloatOps F]
-- ==== Proof.Dn.Spec.lean ====
/- The recurrence over the chunks, per direction, batch element and head: what both programs compute. -/
module

public import Idealize.ShloMosaic.Lib.Pointwise

@[expose] public section

noncomputable section

namespace Cert.Dn

/-! ## Places -/

/-- Lane `i` of head `h`. -/
def ln (h : Fin 4) (i : Fin 64) : Fin 256 := ⟨64 * h.val + i.val, by omega⟩

theorem ln_surj (x : Fin 256) : ∃ h i, x = ln h i :=
  ⟨⟨x.val / 64, by omega⟩, ⟨x.val % 64, by omega⟩, Fin.ext (by simp only [ln]; omega)⟩

/-- Lanes of one head are told by the head. -/
theorem ln_div (h : Fin 4) (i : Fin 64) : (ln h i).val / 64 = h.val := by simp only [ln]; omega

/-- The chunk direction `d` visits at step `n`: in order, or the context's four chunks backwards and then the others backwards. -/
def chunkOf (d : Fin 2) (n : ℕ) : ℕ := if d = 0 then n else if n < 4 then 3 - n else 39 - n

def chk (d : Fin 2) (n : ℕ) : Fin 36 := ⟨chunkOf d n % 36, Nat.mod_lt _ (by decide)⟩

/-- Token `r` of that chunk. -/
def tok (d : Fin 2) (n : ℕ) (r : Fin 64) : Fin 2304 := ⟨64 * (chk d n).val + r.val, by have := (chk d n).isLt; omega⟩

theorem chk_val (d : Fin 2) (n : ℕ) (hn : n < 36) : (chk d n).val = if d = 0 then n else if n < 4 then 3 - n else 39 - n := by
  simp only [chk, chunkOf]
  split_ifs <;> omega

/-- Every chunk is visited. -/
theorem chk_surj (d : Fin 2) (k : Fin 36) : ∃ n, n < 36 ∧ chk d n = k := by
  refine ⟨(chk d k.val).val, (chk d k.val).isLt, Fin.ext ?_⟩
  have h := chk_val d k.val k.isLt
  rw [chk_val d _ (chk d k.val).isLt]
  have := k.isLt
  split_ifs at h ⊢ <;> omega

theorem tok_surj (d : Fin 2) (T : Fin 2304) : ∃ n r, n < 36 ∧ T = tok d n r := by
  obtain ⟨n, hn, e⟩ := chk_surj d ⟨T.val / 64, by omega⟩
  refine ⟨n, ⟨T.val % 64, by omega⟩, hn, Fin.ext ?_⟩
  simp only [tok, e]
  omega

/-! ## The recurrence -/

/-- One head's corrected values. -/
def vH (U W : Fin 64 → Fin 4 → Fin 64 → EReal) (sh : Fin 4 → Fin 64 → Fin 64 → EReal) : Fin 64 → Fin 4 → Fin 64 → EReal :=
  fun r h c => U r h c - ∑ i, W r h i * sh h i c

/-- One head's outputs. -/
def oH (A Q : Fin 64 → Fin 4 → Fin 64 → EReal) (sh : Fin 4 → Fin 64 → Fin 64 → EReal) (v : Fin 64 → Fin 4 → Fin 64 → EReal) :
    Fin 64 → Fin 4 → Fin 64 → EReal :=
  fun r h c => ∑ i, Q r h i * sh h i c + ∑ i, A r h i * v i h c

/-- One head's next state. -/
def nH (K : Fin 64 → Fin 4 → Fin 64 → EReal) (G : Fin 4 → EReal) (sh : Fin 4 → Fin 64 → Fin 64 → EReal)
    (v : Fin 64 → Fin 4 → Fin 64 → EReal) : Fin 4 → Fin 64 → Fin 64 → EReal :=
  fun h i j => sh h i j * G h + ∑ r, K r h i * v r h j

/-- The chunks' corrected values `u`, their `w`, scores, decayed queries and keys, and the decay of each chunk. -/
structure Seqs where
  u : Fin 2 → Fin 8 → Fin 2304 → Fin 4 → Fin 64 → EReal
  w : Fin 2 → Fin 8 → Fin 2304 → Fin 4 → Fin 64 → EReal
  a : Fin 2 → Fin 8 → Fin 2304 → Fin 4 → Fin 64 → EReal
  q : Fin 2 → Fin 8 → Fin 2304 → Fin 4 → Fin 64 → EReal
  k : Fin 2 → Fin 8 → Fin 2304 → Fin 4 → Fin 64 → EReal
  g : Fin 2 → Fin 8 → Fin 36 → Fin 4 → EReal

/-- The corrected values of visit `n`, from the states before it. -/
def Seqs.v (X : Seqs) (d : Fin 2) (b : Fin 8) (n : ℕ) (s : Fin 4 → Fin 64 → Fin 64 → EReal) : Fin 64 → Fin 4 → Fin 64 → EReal :=
  vH (fun r => X.u d b (tok d n r)) (fun r => X.w d b (tok d n r)) s

/-- The states before visit `n`. -/
def Seqs.st (X : Seqs) (d : Fin 2) (b : Fin 8) : ℕ → Fin 4 → Fin 64 → Fin 64 → EReal
  | 0 => fun _ _ _ => 0
  | n + 1 => nH (fun r => X.k d b (tok d n r)) (X.g d b (chk d n)) (X.st d b n) (X.v d b n (X.st d b n))

/-- The outputs of visit `n`. -/
def Seqs.out (X : Seqs) (d : Fin 2) (b : Fin 8) (n : ℕ) : Fin 64 → Fin 4 → Fin 64 → EReal :=
  oH (fun r => X.a d b (tok d n r)) (fun r => X.q d b (tok d n r)) (X.st d b n) (X.v d b n (X.st d b n))

end Cert.Dn

end
-- ==== Proof.Dn.Res.lean ====
/- The recurrence's outputs laid out by token and lane. -/
module

public import proofs.«01_k».proof.Proof.Dn.Spec

@[expose] public section

noncomputable section

namespace Cert.Dn

/-- A direction's result at a token and a lane: the outputs of the visit to the token's chunk. -/
def Seqs.res (X : Seqs) (d : Fin 2) (b : Fin 8) (T : Fin 2304) (l : Fin 256) : EReal :=
  X.out d b (chk d (T.val / 64)).val ⟨T.val % 64, by omega⟩ ⟨l.val / 64, by omega⟩ ⟨l.val % 64, by omega⟩

theorem chk_chk (d : Fin 2) (n : ℕ) (hn : n < 36) : (chk d (chk d n).val).val = n := by
  have h := chk_val d n hn
  rw [chk_val d _ (chk d n).isLt]
  split_ifs at h ⊢ <;> omega

theorem Seqs.res_at (X : Seqs) (d : Fin 2) (b : Fin 8) (n : ℕ) (hn : n < 36) (r : Fin 64) (h : Fin 4) (x : Fin 64) (T : Fin 2304)
    (hT : T.val = 64 * (chk d n).val + r.val) : X.res d b T (ln h x) = X.out d b n r h x := by
  have e1 : T.val / 64 = (chk d n).val := by omega
  have e2 : (⟨T.val % 64, by omega⟩ : Fin 64) = r := Fin.ext (by dsimp only; omega)
  have e3 : (⟨(ln h x).val / 64, by omega⟩ : Fin 4) = h := Fin.ext (by simp only [ln]; omega)
  have e4 : (⟨(ln h x).val % 64, by omega⟩ : Fin 64) = x := Fin.ext (by simp only [ln]; omega)
  rw [Seqs.res, e1, chk_chk d n hn, e2, e3, e4]

end Cert.Dn

end
-- ==== Proof.Dn.Step.lean ====
/- One visit of one chain of the recurrence, as the kernel's body computes it on a group of four heads laid side by side
   on 256 lanes, and what it is per head at exact values when the state is block diagonal. -/
module

public import proofs.«01_k».proof.Proof.Gen.KernelIdeal.Value
public import proofs.«01_k».proof.Proof.Dn.Spec
public import Idealize.ShloMosaic.Lib.Pointwise
public import Idealize.ShloMosaic.Lib.Pipeline.ValueKit
public import Idealize.ShloMosaic.Lib.Claim

@[expose] public section

set_option maxRecDepth 16384

noncomputable section

namespace Cert.KernelIdeal.Dn

open Cert.Dn Cert.KernelIdeal Cert.KernelIdeal.Gen Idealize.ShloMosaic Idealize.ShloMosaic.TcCoe Idealize.SL.Sem

section Words
variable {F : FTy → Type} [FloatOps F]

/-- Whether a row and a lane of the group belong to one head. -/
def same : IVec S256x256 1 :=
  k0_pay8 k0_pay5 (iota .tc S256x256 32 [1] iota_S256x256_d1_w32) 64#32 k0_pay6 k0_pay7
    (Scalar.subi (Scalar.extui (Scalar.cmpi .sgt 64#32 0#32)) (Scalar.extui (Scalar.cmpi .slt 64#32 0#32)))

/-- The chunk's corrected values: the chunk's `u` less `w` times the state. -/
def vnew (u : Vec F S1x1x64x256 .f32) (w : Vec F S1x1x64x256 .bf16) (s : FVec F S256x256 .f32) : FVec F S64x256 .bf16 :=
  k0_pay43 (k0_pay25 s) u w

/-- The four copies of a chunk, one per head, each kept on its own head's lanes only. -/
def spread (v : FVec F S64x256 .bf16) : FVec F S256x256 .bf16 :=
  k0_pay66 v k0_pay61 (k0_pay62 v) (k0_pay63 v) k0_pay64 k0_pay65

/-- The chunk's outputs: the queries times the state, and the scores times the corrected values. -/
def outp (a q : Vec F S1x1x64x256 .bf16) (s : FVec F S256x256 .f32) (v : FVec F S64x256 .bf16) : FVec F S64x256 .f32 :=
  k0_pay135 (k0_pay25 s) (spread v) q a

/-- The state the chunk leaves. -/
def next (k : Vec F S1x1x64x256 .bf16) (g : Vec F S1x1x8x256 .f32) (s : FVec F S256x256 .f32) (v : FVec F S64x256 .bf16) : FVec F S256x256 .f32 :=
  k0_pay192 same s (k0_pay159 v k) g

end Words

/-- A sum over the lanes, head by head. -/
theorem sum_ln (f : Fin 256 → EReal) : ∑ x, f x = ∑ h : Fin 4, ∑ i : Fin 64, f (ln h i) := by
  rw [Fin.sum_univ_tiles 4 64 (by norm_num) f]
  refine Finset.sum_congr rfl fun h _ => Finset.sum_congr rfl fun i _ => congrArg f (Fin.ext ?_)
  simp only [ln]; omega

/-- Of a sum whose terms off one head are zero that head's terms are left. -/
theorem sum_ln_of (f : Fin 256 → EReal) (h : Fin 4) (hf : ∀ h' i, h' ≠ h → f (ln h' i) = 0) :
    ∑ x, f x = ∑ i : Fin 64, f (ln h i) := by
  rw [sum_ln, Finset.sum_eq_single h]
  · intro h' _ hne
    exact Finset.sum_eq_zero fun i _ => hf h' i hne
  · intro hh; exact absurd (Finset.mem_univ h) hh

/-- The row's head, and the lane's head, as words. -/
theorem row_head (x y : Fin 256) : (k0_pay5 (ix2 x y) : BitVec 32) = BitVec.ofNat 32 (x.val / 64) := by
  pointwise [k0_pay5]
  revert x
  decide +kernel

theorem lane_head (c : Fin 256) : (k0_pay61 (ix2 0 c) : BitVec 32) = BitVec.ofNat 32 (c.val / 64) := by
  pointwise [k0_pay61]
  revert c
  decide +kernel

/-- A choice by the equality of two head numbers. -/
theorem pick_head {α : Type} (p q : ℕ) (hp : p < 4) (hq : q < 4) (a b : α) :
    Scalar.select (IntOp.cmpi .eq (BitVec.ofNat 32 p) (BitVec.ofNat 32 q)) a b = if p = q then a else b := by
  interval_cases p <;> interval_cases q <;> rfl

theorem same_at (x y : Fin 256) : (same (ix2 x y) = 1#1) ↔ x.val / 64 = y.val / 64 := by
  pointwise [same, k0_pay8, k0_pay6, k0_pay7, row_head]
  have hx : x.val / 64 < 4 := by omega
  generalize x.val / 64 = p at hx
  interval_cases p <;> (revert y; decide +kernel)

theorem vnew_at (u : Vec Ideal S1x1x64x256 .f32) (w : Vec Ideal S1x1x64x256 .bf16) (s : FVec Ideal S256x256 .f32)
    (r : Fin 64) (c : Fin 256) :
    vnew u w s (ix2 r c) = u (ix4 0 0 r c) - ∑ k : Fin 256, w (ix4 0 0 r k) * s (ix2 k c) := by
  pointwise [vnew, k0_pay43, k0_pay25]

theorem next_at (k : Vec Ideal S1x1x64x256 .bf16) (g : Vec Ideal S1x1x8x256 .f32) (s : FVec Ideal S256x256 .f32) (v : FVec Ideal S64x256 .bf16)
    (x y : Fin 256) :
    next k g s v (ix2 x y) = s (ix2 x y) * g (ix4 0 0 0 y)
      + if x.val / 64 = y.val / 64 then ∑ r : Fin 64, k (ix4 0 0 r x) * v (ix2 r y) else 0 := by
  pointwise [next, k0_pay192, k0_pay159]
  refine congrArg _ ?_
  by_cases h : x.val / 64 = y.val / 64
  · rw [if_pos h, (same_at x y).mpr h]; rfl
  · rw [if_neg h]; exact if_neg fun e => h ((same_at x y).mp e)

theorem outp_at (a q : Vec Ideal S1x1x64x256 .bf16) (s : FVec Ideal S256x256 .f32) (v : FVec Ideal S64x256 .bf16)
    (r : Fin 64) (c : Fin 256) :
    outp a q s v (ix2 r c) = ∑ k : Fin 256, q (ix4 0 0 r k) * s (ix2 k c) + ∑ k : Fin 256, a (ix4 0 0 r k) * spread v (ix2 k c) := by
  pointwise [outp, k0_pay135, k0_pay25]

theorem spread_at (v : FVec Ideal S64x256 .bf16) (k : Fin 256) (c : Fin 256) :
    spread v (ix2 k c) = if k.val / 64 = c.val / 64 then v (ix2 ⟨k.val % 64, by omega⟩ c) else 0 := by
  pointwise [spread, k0_pay66, k0_pay62, k0_pay63, k0_pay64, k0_pay65, lane_head]
  have hc : c.val / 64 < 4 := by omega
  simp only [fun a b => pick_head (α := EReal) _ 0 hc (by decide) a b, fun a b => pick_head (α := EReal) _ 1 hc (by decide) a b,
    fun a b => pick_head (α := EReal) _ 2 hc (by decide) a b, fun a b => pick_head (α := EReal) _ 3 hc (by decide) a b]
  have hk := k.isLt
  by_cases e : k.val / 64 = c.val / 64
  · rw [if_pos e]
    split_ifs <;> first
      | (exfalso; omega)
      | (refine congrArg (fun z => v (ix2 z c)) (Fin.ext ?_); dsimp only; omega)
  · rw [if_neg e]
    split_ifs <;> first
      | (exfalso; omega)
      | rfl

/-! ## Per head, over a block-diagonal state -/

/-- The state of a group holds one 64 by 64 block per head, and zeros off the blocks. -/
def Diag (s : FVec Ideal S256x256 .f32) (sh : Fin 4 → Fin 64 → Fin 64 → EReal) : Prop :=
  ∀ h i h' j, s (ix2 (ln h i) (ln h' j)) = if h = h' then sh h i j else 0

/-- A row of a product with a block-diagonal state. -/
theorem row_diag (f : Fin 256 → EReal) {s : FVec Ideal S256x256 .f32} {sh : Fin 4 → Fin 64 → Fin 64 → EReal} (hs : Diag s sh)
    (h : Fin 4) (c : Fin 64) : ∑ k : Fin 256, f k * s (ix2 k (ln h c)) = ∑ i : Fin 64, f (ln h i) * sh h i c := by
  rw [sum_ln_of _ h fun h' i hne => by rw [hs, if_neg hne, mul_zero]]
  exact Finset.sum_congr rfl fun i _ => by rw [hs, if_pos rfl]

theorem vnew_head {u : Vec Ideal S1x1x64x256 .f32} {w : Vec Ideal S1x1x64x256 .bf16} {s : FVec Ideal S256x256 .f32}
    {sh : Fin 4 → Fin 64 → Fin 64 → EReal} {U W : Fin 64 → Fin 4 → Fin 64 → EReal} (hs : Diag s sh)
    (hu : ∀ r h c, u (ix4 0 0 r (ln h c)) = U r h c) (hw : ∀ r h c, w (ix4 0 0 r (ln h c)) = W r h c) (r : Fin 64) (h : Fin 4) (c : Fin 64) :
    vnew u w s (ix2 r (ln h c)) = vH U W sh r h c := by
  rw [vnew_at, row_diag (fun k => w (ix4 0 0 r k)) hs, hu]
  simp only [hw, vH]

theorem outp_head {a q : Vec Ideal S1x1x64x256 .bf16} {s : FVec Ideal S256x256 .f32} {v : FVec Ideal S64x256 .bf16}
    {sh : Fin 4 → Fin 64 → Fin 64 → EReal} {A Q V : Fin 64 → Fin 4 → Fin 64 → EReal} (hs : Diag s sh)
    (ha : ∀ r h c, a (ix4 0 0 r (ln h c)) = A r h c) (hq : ∀ r h c, q (ix4 0 0 r (ln h c)) = Q r h c)
    (hv : ∀ r h c, v (ix2 r (ln h c)) = V r h c) (r : Fin 64) (h : Fin 4) (c : Fin 64) :
    outp a q s v (ix2 r (ln h c)) = oH A Q sh V r h c := by
  rw [outp_at, row_diag (fun k => q (ix4 0 0 r k)) hs,
    sum_ln_of _ h fun h' i hne => by
      rw [spread_at, if_neg (by rw [ln_div, ln_div]; exact fun e => hne (Fin.ext e)), mul_zero]]
  simp only [hq, ha, oH]
  refine congrArg _ (Finset.sum_congr rfl fun i _ => congrArg _ ?_)
  rw [spread_at, if_pos (by rw [ln_div, ln_div]), ← hv]
  exact congrArg (fun z => v (ix2 z (ln h c))) (Fin.ext (by simp only [ln]; omega))

theorem next_head {k : Vec Ideal S1x1x64x256 .bf16} {g : Vec Ideal S1x1x8x256 .f32} {s : FVec Ideal S256x256 .f32} {v : FVec Ideal S64x256 .bf16}
    {sh : Fin 4 → Fin 64 → Fin 64 → EReal} {K V : Fin 64 → Fin 4 → Fin 64 → EReal} {G : Fin 4 → EReal} (hs : Diag s sh)
    (hk : ∀ r h c, k (ix4 0 0 r (ln h c)) = K r h c) (hg : ∀ h c, g (ix4 0 0 0 (ln h c)) = G h)
    (hv : ∀ r h c, v (ix2 r (ln h c)) = V r h c) : Diag (next k g s v) (nH K G sh V) := by
  intro h i h' j
  rw [next_at, hs, ln_div, ln_div]
  by_cases e : h = h'
  · subst e
    rw [if_pos rfl, if_pos rfl, if_pos rfl, hg]
    simp only [hk, hv, nH]
  · rw [if_neg e, if_neg e, if_neg fun e' => e (Fin.ext e'), zero_mul, zero_add]

end Cert.KernelIdeal.Dn

end
-- ==== Proof.Dn.Pieces.lean ====
module

public import proofs.«01_k».proof.Proof.Gen.KernelIdeal.Value
public import proofs.«01_k».proof.Proof.Dn.Step
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.KernelIdeal.Dn

open Cert.KernelIdeal Cert.KernelIdeal.Gen Idealize.ShloMosaic Idealize.ShloMosaic.TcCoe Idealize.SL.Sem
variable {F : FTy → Type} [FloatOps F]

/-- The rows of chunk `r` of a block, for batch element `j`. -/
def rows {e : EltTy} (X : Vec F S1x8x128x256 e) (j : Fin 8) (r : Fin 2) : Vec F S1x1x64x256 e :=
  View.ld X (Rect.unit (s := S1x8x128x256) ![0, j.val, 64 * r.val, 0] ![1, 1, 64, 256]
    (by intro a; fin_cases a <;> simp <;> omega))

/-- The decay's rows of chunk `r` of a block. -/
def grows (X : Vec F S1x8x16x256 .f32) (j : Fin 8) (r : Fin 2) : Vec F S1x1x8x256 .f32 :=
  View.ld X (Rect.unit (s := S1x8x16x256) ![0, j.val, 8 * r.val, 0] ![1, 1, 8, 256]
    (by intro a; fin_cases a <;> simp <;> omega))

/-- The state of a chain in the scratch. -/
def held (X : Vec F S16x256x256 .f32) (d : Fin 2) (j : Fin 8) : FVec F S256x256 .f32 :=
  k0_pay9 (View.ld X (Rect.unit (s := S16x256x256) ![8 * d.val + j.val, 0, 0] ![1, 256, 256]
    (by intro a; fin_cases a <;> simp <;> omega)))

/-- The blocks of one direction. -/
structure Ins (F : FTy → Type) where
  u : Vec F S1x8x128x256 .f32
  w : Vec F S1x8x128x256 .bf16
  a : Vec F S1x8x128x256 .bf16
  q : Vec F S1x8x128x256 .bf16
  k : Vec F S1x8x128x256 .bf16
  g : Vec F S1x8x16x256 .f32

/-- The corrected values, the outputs and the next state of a visit to chunk `r` of the block. -/
def vAt (x : Ins F) (j : Fin 8) (r : Fin 2) (s : FVec F S256x256 .f32) : FVec F S64x256 .bf16 := vnew (rows x.u j r) (rows x.w j r) s
def oAt (x : Ins F) (j : Fin 8) (r : Fin 2) (s : FVec F S256x256 .f32) : FVec F S64x256 .f32 := outp (rows x.a j r) (rows x.q j r) s (vAt x j r s)
def nAt (x : Ins F) (j : Fin 8) (r : Fin 2) (s : FVec F S256x256 .f32) : FVec F S256x256 .f32 := next (rows x.k j r) (grows x.g j r) s (vAt x j r s)

/-- The rows a visit stores. -/
def oPiece (x : Ins F) (s : Fin 8 → FVec F S256x256 .f32) (j : Fin 8) (r : Fin 2) : View.Piece (Elt F) S8x128x256 .f32 :=
  ⟨Rect.unit (s := S8x128x256) ![j.val, 64 * r.val, 0] ![1, 64, 256] (by intro a; fin_cases a <;> simp <;> omega),
    k0_pay176 (oAt x j r (s j))⟩

/-- The state a chain leaves in the scratch. -/
def sPiece (s : FVec F S256x256 .f32) (d : Fin 2) (j : Fin 8) : View.Piece (Elt F) S16x256x256 .f32 :=
  ⟨Rect.unit (s := S16x256x256) ![8 * d.val + j.val, 0, 0] ![1, 256, 256] (by intro a; fin_cases a <;> simp <;> omega), k0_pay1 s⟩

/-- What the two visits of a point store in the output of direction `d`: chunk `r₀` of the block first, then chunk `r₁`. -/
def outL (x : Ins F) (X : Vec F S16x256x256 .f32) (d r₀ r₁ : Fin 2) : List (View.Piece (Elt F) S8x128x256 .f32) :=
  ([7, 6, 5, 4, 3, 2, 1, 0].map fun j => oPiece x (fun j => nAt x j r₀ (held X d j)) j r₁)
    ++ [7, 6, 5, 4, 3, 2, 1, 0].map fun j => oPiece x (held X d) j r₀

/-- The chunk of the block a direction visits first, and the one it visits second. -/
def fst (d : Fin 2) : Fin 2 := if d = 0 then 0 else 1
def snd (d : Fin 2) : Fin 2 := if d = 0 then 1 else 0

/-- The chains, the last stored first. -/
def chains : List (Fin 2 × Fin 8) :=
  [(1, 7), (0, 7), (1, 6), (0, 6), (1, 5), (0, 5), (1, 4), (0, 4), (1, 3), (0, 3), (1, 2), (0, 2), (1, 1), (0, 1), (1, 0), (0, 0)]

/-- The state a chain has after both visits of a point. -/
def left (x : Fin 2 → Ins F) (X : Vec F S16x256x256 .f32) (d : Fin 2) (j : Fin 8) : FVec F S256x256 .f32 :=
  nAt (x d) j (snd d) (nAt (x d) j (fst d) (held X d j))

/-- What a point stores in the scratch. -/
def stL (x : Fin 2 → Ins F) (X : Vec F S16x256x256 .f32) : List (View.Piece (Elt F) S16x256x256 .f32) :=
  chains.map fun p => sPiece (left x X p.1 p.2) p.1 p.2

variable (m : (ℓ : Loc nD τ sig) → Buf (Elt F) ℓ)

/-- The blocks point `t` reads, per direction. -/
def ins (c : Dev nD) (t : Fin cfg0.N) : Fin 2 → Ins F
  | 0 => ⟨iblk m c 0 t, iblk m c 1 t, iblk m c 2 t, iblk m c 3 t, iblk m c 4 t, iblk m c 5 t⟩
  | 1 => ⟨iblk m c 6 t, iblk m c 7 t, iblk m c 8 t, iblk m c 9 t, iblk m c 10 t, iblk m c 11 t⟩

end Cert.KernelIdeal.Dn

end
-- ==== Proof.Dn.Reads.lean ====
module

public import proofs.«01_k».proof.Proof.Gen.KernelIdeal.Value
public import proofs.«01_k».proof.Proof.Dn.Pieces
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.KernelIdeal.Dn

open Cert.Dn Cert.KernelIdeal Cert.KernelIdeal.Gen Idealize.ShloMosaic Idealize.ShloMosaic.TcCoe Idealize.SL.Sem

/-- The block of its own direction a point reads: the point's number, or the mirrored one. -/
def blkOf (d : Fin 2) (t : ℕ) : ℕ := if d = 0 then t else if t < 2 then 1 - t else 19 - t

theorem idx_in : ∀ t : Fin cfg0.N,
    win0_0.index t = ![0, 0, blkOf 0 t.val, 0] ∧ win0_1.index t = ![0, 0, blkOf 0 t.val, 0] ∧ win0_2.index t = ![0, 0, blkOf 0 t.val, 0]
      ∧ win0_3.index t = ![0, 0, blkOf 0 t.val, 0] ∧ win0_4.index t = ![0, 0, blkOf 0 t.val, 0] ∧ win0_5.index t = ![0, 0, blkOf 0 t.val, 0]
      ∧ win0_6.index t = ![1, 0, blkOf 1 t.val, 0] ∧ win0_7.index t = ![1, 0, blkOf 1 t.val, 0] ∧ win0_8.index t = ![1, 0, blkOf 1 t.val, 0]
      ∧ win0_9.index t = ![1, 0, blkOf 1 t.val, 0] ∧ win0_10.index t = ![1, 0, blkOf 1 t.val, 0] ∧ win0_11.index t = ![1, 0, blkOf 1 t.val, 0]
      ∧ win0_12.index t = ![0, blkOf 0 t.val, 0] ∧ win0_13.index t = ![0, blkOf 1 t.val, 0] ∧ t.val < 18 :=
  (by decide +kernel : ∀ t : Fin grid0.N, _)

variable (m : (ℓ : Loc nD τ sig) → Buf (Elt Ideal) ℓ)

/-- The arguments, as the recurrence takes them. -/
def seqs (c : Dev nD) : Seqs where
  u d b T h i := m ((c.tc : Thread nD τ).loc main_arg0) (ix5 d b T h i)
  w d b T h i := m ((c.tc : Thread nD τ).loc main_arg1) (ix5 d b T h i)
  a d b T h i := m ((c.tc : Thread nD τ).loc main_arg2) (ix5 d b T h i)
  q d b T h i := m ((c.tc : Thread nD τ).loc main_arg3) (ix5 d b T h i)
  k d b T h i := m ((c.tc : Thread nD τ).loc main_arg4) (ix5 d b T h i)
  g d b n h := m ((c.tc : Thread nD τ).loc main_arg5) (ix4 d b n h)

theorem rows_at {e : EltTy} (X : Vec Ideal S1x8x128x256 e) (j : Fin 8) (r : Fin 2) (ρ : Fin 64) (x : Fin 256) :
    rows X j r (ix4 0 0 ρ x) = X (ix4 0 j ⟨64 * r.val + ρ.val, by omega⟩ x) :=
  View.ld_unit_apply_of _ _ _ _ _ _ (by intro a; fin_cases a <;> simp [ix4])

theorem grows_at (X : Vec Ideal S1x8x16x256 .f32) (j : Fin 8) (r : Fin 2) (x : Fin 256) :
    grows X j r (ix4 0 0 0 x) = X (ix4 0 j ⟨8 * r.val, by omega⟩ x) :=
  View.ld_unit_apply_of _ _ _ _ _ _ (by intro a; fin_cases a <;> simp [ix4])

/-- Which of a point's two visits goes to chunk `r` of the block. -/
def vis (d r : Fin 2) : ℕ := if d = 0 then r.val else 1 - r.val

theorem chk_blk (d r : Fin 2) (t : ℕ) (ht : t < 18) : (chk d (2 * t + vis d r)).val = 2 * blkOf d t + r.val := by
  have hr := r.isLt
  have hv : vis d r < 2 := by unfold vis; split_ifs <;> omega
  rw [chk_val d _ (by omega)]
  unfold vis blkOf
  split_ifs <;> omega

theorem tok_blk (d r : Fin 2) (t : ℕ) (ht : t < 18) (ρ : Fin 64) :
    (tok d (2 * t + vis d r) ρ).val = blkOf d t * 128 + (64 * r.val + ρ.val) := by
  have e := chk_blk d r t ht
  simp only [tok, e]; omega

theorem ln_val (h : Fin 4) (i : Fin 64) : (ln h i).val = 64 * h.val + i.val := rfl

set_option maxHeartbeats 2000000 in
theorem in_f (c : Dev nD) (t : Fin cfg0.N) (j : Fin 8) (r : Fin 2) (ρ : Fin 64) (h : Fin 4) (x : Fin 64) :
    iblk m c 0 t (ix4 0 j ⟨64 * r.val + ρ.val, by omega⟩ (ln h x)) = (seqs m c).u 0 j (tok 0 (2 * t.val + vis 0 r) ρ) h x
      ∧ iblk m c 1 t (ix4 0 j ⟨64 * r.val + ρ.val, by omega⟩ (ln h x)) = (seqs m c).w 0 j (tok 0 (2 * t.val + vis 0 r) ρ) h x
      ∧ iblk m c 2 t (ix4 0 j ⟨64 * r.val + ρ.val, by omega⟩ (ln h x)) = (seqs m c).a 0 j (tok 0 (2 * t.val + vis 0 r) ρ) h x
      ∧ iblk m c 3 t (ix4 0 j ⟨64 * r.val + ρ.val, by omega⟩ (ln h x)) = (seqs m c).q 0 j (tok 0 (2 * t.val + vis 0 r) ρ) h x
      ∧ iblk m c 4 t (ix4 0 j ⟨64 * r.val + ρ.val, by omega⟩ (ln h x)) = (seqs m c).k 0 j (tok 0 (2 * t.val + vis 0 r) ρ) h x := by
  have ht := (idx_in t).2.2.2.2.2.2.2.2.2.2.2.2.2.2
  have e := tok_blk 0 r t.val ht ρ
  have el := ln_val h x
  refine ⟨?_, ?_, ?_, ?_, ?_⟩
  all_goals
    dsimp only [seqs]
    blk_simp [iblk, idx_in t]
    entry_read
    pointwise
    blk_ext [idx_in t]

set_option maxHeartbeats 2000000 in
theorem in_b (c : Dev nD) (t : Fin cfg0.N) (j : Fin 8) (r : Fin 2) (ρ : Fin 64) (h : Fin 4) (x : Fin 64) :
    iblk m c 6 t (ix4 0 j ⟨64 * r.val + ρ.val, by omega⟩ (ln h x)) = (seqs m c).u 1 j (tok 1 (2 * t.val + vis 1 r) ρ) h x
      ∧ iblk m c 7 t (ix4 0 j ⟨64 * r.val + ρ.val, by omega⟩ (ln h x)) = (seqs m c).w 1 j (tok 1 (2 * t.val + vis 1 r) ρ) h x
      ∧ iblk m c 8 t (ix4 0 j ⟨64 * r.val + ρ.val, by omega⟩ (ln h x)) = (seqs m c).a 1 j (tok 1 (2 * t.val + vis 1 r) ρ) h x
      ∧ iblk m c 9 t (ix4 0 j ⟨64 * r.val + ρ.val, by omega⟩ (ln h x)) = (seqs m c).q 1 j (tok 1 (2 * t.val + vis 1 r) ρ) h x
      ∧ iblk m c 10 t (ix4 0 j ⟨64 * r.val + ρ.val, by omega⟩ (ln h x)) = (seqs m c).k 1 j (tok 1 (2 * t.val + vis 1 r) ρ) h x := by
  have ht := (idx_in t).2.2.2.2.2.2.2.2.2.2.2.2.2.2
  have e := tok_blk 1 r t.val ht ρ
  have el := ln_val h x
  refine ⟨?_, ?_, ?_, ?_, ?_⟩
  all_goals
    dsimp only [seqs]
    blk_simp [iblk, idx_in t]
    entry_read
    pointwise
    blk_ext [idx_in t]

set_option maxHeartbeats 2000000 in
theorem in_g (c : Dev nD) (t : Fin cfg0.N) (j : Fin 8) (r : Fin 2) (h : Fin 4) (x : Fin 64) :
    iblk m c 5 t (ix4 0 j ⟨8 * r.val, by omega⟩ (ln h x)) = (seqs m c).g 0 j (chk 0 (2 * t.val + vis 0 r)) h
      ∧ iblk m c 11 t (ix4 0 j ⟨8 * r.val, by omega⟩ (ln h x)) = (seqs m c).g 1 j (chk 1 (2 * t.val + vis 1 r)) h := by
  have ht := (idx_in t).2.2.2.2.2.2.2.2.2.2.2.2.2.2
  have e := And.intro (chk_blk 0 r t.val ht) (chk_blk 1 r t.val ht)
  have el := ln_val h x
  refine ⟨?_, ?_⟩
  all_goals
    dsimp only [seqs]
    blk_simp [iblk, idx_in t]
    entry_read
    pointwise
    blk_ext [idx_in t]

end Cert.KernelIdeal.Dn

end
-- ==== Proof.Dn.Stores.lean ====
module

public import proofs.«01_k».proof.Proof.Gen.KernelIdeal.Value
public import proofs.«01_k».proof.Proof.Dn.Reads
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.KernelIdeal.Dn

open Cert.Dn Cert.KernelIdeal Cert.KernelIdeal.Gen Idealize.ShloMosaic Idealize.ShloMosaic.TcCoe Idealize.SL.Sem

/-! ## What a point's stores leave, at an index -/

theorem held_at (X : Vec Ideal S16x256x256 .f32) (d : Fin 2) (j : Fin 8) (x y : Fin 256) :
    held X d j (ix2 x y) = X (ix3 ⟨8 * d.val + j.val, by omega⟩ x y) := by
  have e : ∀ v : Vec Ideal S1x256x256 .f32, k0_pay9 v (ix2 x y) = v (ix3 0 x y) := by
    intro v
    pointwise [k0_pay9]
  rw [held, e]
  exact View.ld_unit_apply_of _ _ _ _ _ _ (by intro a; fin_cases a <;> simp [ix3])

theorem oPiece_at (x : Ins Ideal) (s : Fin 8 → FVec Ideal S256x256 .f32) (j : Fin 8) (r : Fin 2) (ρ : Fin 64) (y : Fin 256) :
    (oPiece x s j r).2 (ix3 0 ρ y) = oAt x j r (s j) (ix2 ρ y) := by
  have e : ∀ v : FVec Ideal S64x256 .f32, k0_pay176 v (ix3 0 ρ y) = v (ix2 ρ y) := by
    intro v
    pointwise [k0_pay176]
  exact e (oAt x j r (s j))

theorem oPiece_emb (x : Ins Ideal) (s : Fin 8 → FVec Ideal S256x256 .f32) (j : Fin 8) (r : Fin 2) (ρ : Fin 64) (y : Fin 256) :
    (oPiece x s j r).1.emb (ix3 0 ρ y) = ix3 j ⟨64 * r.val + ρ.val, by omega⟩ y := by
  funext a
  refine Fin.ext ((Rect.idx_unit_val (s := S8x128x256) ![j.val, 64 * r.val, 0] ![1, 64, 256]
    (by intro a; fin_cases a <;> simp <;> omega) (ix3 0 ρ y) a).trans ?_)
  fin_cases a <;> simp [ix3]

theorem sPiece_at (s : FVec Ideal S256x256 .f32) (d : Fin 2) (j : Fin 8) (x y : Fin 256) :
    (sPiece s d j).2 (ix3 0 x y) = s (ix2 x y) := by
  have e : ∀ v : FVec Ideal S256x256 .f32, k0_pay1 v (ix3 0 x y) = v (ix2 x y) := by
    intro v
    pointwise [k0_pay1]
  exact e s

theorem sPiece_emb (s : FVec Ideal S256x256 .f32) (d : Fin 2) (j : Fin 8) (x y : Fin 256) :
    (sPiece s d j).1.emb (ix3 0 x y) = ix3 ⟨8 * d.val + j.val, by omega⟩ x y := by
  funext a
  refine Fin.ext ((Rect.idx_unit_val (s := S16x256x256) ![8 * d.val + j.val, 0, 0] ![1, 256, 256]
    (by intro a; fin_cases a <;> simp <;> omega) (ix3 0 x y) a).trans ?_)
  fin_cases a <;> simp [ix3]

theorem outL_at (x : Ins Ideal) (X : Vec Ideal S16x256x256 .f32) (d r₀ r₁ : Fin 2) (hne : r₀ ≠ r₁) (j : Fin 8) (r : Fin 2) (ρ : Fin 64) (y : Fin 256) :
    View.canon (outL x X d r₀ r₁) (ix3 j ⟨64 * r.val + ρ.val, by omega⟩ y)
      = oAt x j r (if r = r₀ then held X d j else nAt x j r₀ (held X d j)) (ix2 ρ y) := by
  let G : S8x128x256.Idx → EReal := fun i =>
    oAt x (i 0) ⟨(i 1).val / 64, by have := (i 1).isLt; simp at this; omega⟩
      (if (⟨(i 1).val / 64, by have := (i 1).isLt; simp at this; omega⟩ : Fin 2) = r₀ then held X d (i 0) else nAt x (i 0) r₀ (held X d (i 0)))
      (ix2 ⟨(i 1).val % 64, by omega⟩ (i 2))
  have hG : ∀ (j : Fin 8) (r : Fin 2) (ρ : Fin 64) (y : Fin 256), G (ix3 j ⟨64 * r.val + ρ.val, by omega⟩ y)
      = oAt x j r (if r = r₀ then held X d j else nAt x j r₀ (held X d j)) (ix2 ρ y) := by
    intro j r ρ y
    have e1 : (⟨(64 * r.val + ρ.val) / 64, by omega⟩ : Fin 2) = r := Fin.ext (by dsimp only; omega)
    have e2 : (⟨(64 * r.val + ρ.val) % 64, by omega⟩ : Fin 64) = ρ := Fin.ext (by dsimp only; omega)
    show oAt x j ⟨(64 * r.val + ρ.val) / 64, _⟩ (if (⟨(64 * r.val + ρ.val) / 64, _⟩ : Fin 2) = r₀ then _ else _) (ix2 ⟨(64 * r.val + ρ.val) % 64, _⟩ y) = _
    rw [e1, e2]
    rfl
  have hp : ∀ (s : Fin 8 → FVec Ideal S256x256 .f32) (j : Fin 8) (r : Fin 2), s j = (if r = r₀ then held X d j else nAt x j r₀ (held X d j)) →
      ∀ z, (oPiece x s j r).2 z = G ((oPiece x s j r).1.emb z) := by
    intro s j r hs z
    obtain ⟨z0, ρ, y, rfl⟩ : ∃ (z0 : Fin 1) (ρ : Fin 64) (y : Fin 256), z = ix3 z0 ρ y := ⟨z 0, z 1, z 2, eq_ix3 z⟩
    obtain rfl : z0 = 0 := Subsingleton.elim _ _
    rw [oPiece_emb, oPiece_at, hG, hs]
  have key := View.canon_append_of_pieces G [] (outL x X d r₀ r₁) ?_ (ix3 j ⟨64 * r.val + ρ.val, by omega⟩ y) ?_
  · rw [List.append_nil] at key
    rw [key, hG]
  · intro p hpm
    simp only [outL, List.mem_append, List.mem_map] at hpm
    rcases hpm with ⟨j, -, rfl⟩ | ⟨j, -, rfl⟩
    · exact hp _ j r₁ (by rw [if_neg hne.symm])
    · exact hp _ j r₀ (by rw [if_pos rfl])
  · have hj : j ∈ ([7, 6, 5, 4, 3, 2, 1, 0] : List (Fin 8)) := by fin_cases j <;> simp
    have hr : r = r₁ ∨ r = r₀ := by omega
    rcases hr with rfl | rfl
    · refine ⟨_, List.mem_append_left _ (List.mem_map.mpr ⟨j, hj, rfl⟩), ?_⟩
      rw [← oPiece_emb x (fun j => nAt x j r₀ (held X d j)) j r ρ y]
      rw [← Rect.map_emb_univ]; exact Finset.mem_map_of_mem _ (Finset.mem_univ _)
    · refine ⟨_, List.mem_append_right _ (List.mem_map.mpr ⟨j, hj, rfl⟩), ?_⟩
      rw [← oPiece_emb x (held X d) j r ρ y]
      rw [← Rect.map_emb_univ]; exact Finset.mem_map_of_mem _ (Finset.mem_univ _)

theorem stL_at (x : Fin 2 → Ins Ideal) (X : Vec Ideal S16x256x256 .f32) (L : List (View.Piece (Elt Ideal) S16x256x256 .f32)) (d : Fin 2) (j : Fin 8) :
    held (View.canon (stL x X ++ L)) d j = left x X d j := by
  funext i
  obtain ⟨y0, y1, rfl⟩ : ∃ (y0 y1 : Fin 256), i = ix2 y0 y1 := ⟨i 0, i 1, eq_ix2 i⟩
  rw [held_at]
  let G : S16x256x256.Idx → EReal := fun i =>
    left x X ⟨(i 0).val / 8, by have := (i 0).isLt; simp at this; omega⟩ ⟨(i 0).val % 8, by omega⟩ (ix2 (i 1) (i 2))
  have hG : ∀ (d : Fin 2) (j : Fin 8) (y0 y1 : Fin 256), G (ix3 ⟨8 * d.val + j.val, by omega⟩ y0 y1) = left x X d j (ix2 y0 y1) := by
    intro d j y0 y1
    have e1 : (⟨(8 * d.val + j.val) / 8, by omega⟩ : Fin 2) = d := Fin.ext (by dsimp only; omega)
    have e2 : (⟨(8 * d.val + j.val) % 8, by omega⟩ : Fin 8) = j := Fin.ext (by dsimp only; omega)
    show left x X ⟨(8 * d.val + j.val) / 8, _⟩ ⟨(8 * d.val + j.val) % 8, _⟩ (ix2 y0 y1) = _
    rw [e1, e2]
  rw [View.canon_append_of_pieces G L (stL x X) ?_ _ ?_, hG]
  · intro p hpm z
    simp only [stL, List.mem_map] at hpm
    obtain ⟨⟨d, j⟩, -, rfl⟩ := hpm
    obtain ⟨z0, y0, y1, rfl⟩ : ∃ (z0 : Fin 1) (y0 y1 : Fin 256), z = ix3 z0 y0 y1 := ⟨z 0, z 1, z 2, eq_ix3 z⟩
    obtain rfl : z0 = 0 := Subsingleton.elim _ _
    rw [sPiece_emb, sPiece_at, hG]
  · have hj : (d, j) ∈ chains := by fin_cases d <;> fin_cases j <;> simp [chains]
    refine ⟨_, List.mem_map.mpr ⟨(d, j), hj, rfl⟩, ?_⟩
    rw [← sPiece_emb (left x X d j) d j y0 y1]
    rw [← Rect.map_emb_univ]; exact Finset.mem_map_of_mem _ (Finset.mem_univ _)

end Cert.KernelIdeal.Dn

end
-- ==== Proof.Dn.CaseA.lean ====
module

public import proofs.«01_k».proof.Proof.Gen.KernelIdeal.Value
public import proofs.«01_k».proof.Proof.Dn.Pieces
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.KernelIdeal.Dn

open Cert.KernelIdeal Cert.KernelIdeal.Gen Idealize.ShloMosaic Idealize.ShloMosaic.TcCoe Idealize.SL.Sem
variable {F : FTy → Type} [FloatOps F] (m : (ℓ : Loc nD τ sig) → Buf (Elt F) ℓ)

/-! What the first point, over zero states, stores. -/

set_option maxHeartbeats 2000000 in
theorem fwd_A (c : Dev nD) (t : Fin cfg0.N) (h0 : t.val % 18 = 0) :
    (outsAt0 m c t.val t.isLt).1 = View.canon (outL (ins m c t 0) k0_pay4 0 0 1) := by
  rw [outsAt0_A m c t h0]
  dsimp only
  frame_out [View.readCov_fill, read_unread_whole]
  rfl

set_option maxHeartbeats 2000000 in
theorem bwd_A (c : Dev nD) (t : Fin cfg0.N) (h0 : t.val % 18 = 0) :
    (outsAt0 m c t.val t.isLt).2.1 = View.canon (outL (ins m c t 1) k0_pay4 1 1 0) := by
  rw [outsAt0_A m c t h0]
  dsimp only
  frame_out [View.readCov_fill, read_unread_whole]
  rfl

set_option maxHeartbeats 2000000 in
theorem scr_A (c : Dev nD) (t : Fin cfg0.N) (h0 : t.val % 18 = 0) :
    (outsAt0 m c t.val t.isLt).2.2 = View.canon (stL (ins m c t) k0_pay4 ++ [⟨Rect.unit ![0, 0, 0] ![16, 256, 256] inb_S16x256x256_S16x256x256_0_0_0, k0_pay4⟩]) := by
  rw [outsAt0_A m c t h0]
  dsimp only
  frame_out [View.readCov_fill, read_unread_whole]
  rfl

end Cert.KernelIdeal.Dn

end
-- ==== Proof.Dn.CaseB.lean ====
module

public import proofs.«01_k».proof.Proof.Gen.KernelIdeal.Value
public import proofs.«01_k».proof.Proof.Dn.Pieces
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.KernelIdeal.Dn

open Cert.KernelIdeal Cert.KernelIdeal.Gen Idealize.ShloMosaic Idealize.ShloMosaic.TcCoe Idealize.SL.Sem
variable {F : FTy → Type} [FloatOps F] (m : (ℓ : Loc nD τ sig) → Buf (Elt F) ℓ)

/-! What a later point, over the states the point before left, stores. -/

set_option maxHeartbeats 2000000 in
theorem fwd_B (c : Dev nD) (t : Fin cfg0.N) (h0 : ¬t.val % 18 = 0) :
    (outsAt0 m c t.val t.isLt).1 = View.canon (outL (ins m c t 0) (outsAt0 m c (t.val - 1) (Nat.lt_of_le_of_lt (Nat.sub_le _ _) t.isLt)).2.2 0 0 1) := by
  rw [outsAt0_B m c t h0]
  dsimp only
  frame_out [View.readCov_fill, read_unread_whole]
  rfl

set_option maxHeartbeats 2000000 in
theorem bwd_B (c : Dev nD) (t : Fin cfg0.N) (h0 : ¬t.val % 18 = 0) :
    (outsAt0 m c t.val t.isLt).2.1 = View.canon (outL (ins m c t 1) (outsAt0 m c (t.val - 1) (Nat.lt_of_le_of_lt (Nat.sub_le _ _) t.isLt)).2.2 1 1 0) := by
  rw [outsAt0_B m c t h0]
  dsimp only
  frame_out [View.readCov_fill, read_unread_whole]
  rfl

set_option maxHeartbeats 2000000 in
theorem scr_B (c : Dev nD) (t : Fin cfg0.N) (h0 : ¬t.val % 18 = 0) :
    (outsAt0 m c t.val t.isLt).2.2 = View.canon (stL (ins m c t) (outsAt0 m c (t.val - 1) (Nat.lt_of_le_of_lt (Nat.sub_le _ _) t.isLt)).2.2) := by
  rw [outsAt0_B m c t h0]
  dsimp only
  frame_out [View.readCov_fill, read_unread_whole]
  rfl

end Cert.KernelIdeal.Dn

end
-- ==== Proof.Dn.Sweep.lean ====
module

public import proofs.«01_k».proof.Proof.Gen.KernelIdeal.Value
public import proofs.«01_k».proof.Proof.Dn.Res
public import proofs.«01_k».proof.Proof.Dn.Stores
public import proofs.«01_k».proof.Proof.Dn.CaseA
public import proofs.«01_k».proof.Proof.Dn.CaseB
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.KernelIdeal.Dn

open Idealize.ShloMosaic.Pipeline (Dat)
open Cert.Dn Cert.KernelIdeal Cert.KernelIdeal.Gen Idealize.ShloMosaic Idealize.ShloMosaic.TcCoe Idealize.SL.Sem

variable (m : (ℓ : Loc nD τ sig) → Buf (Elt Ideal) ℓ)

/-! ## A visit, per head -/

section Visit
variable (c : Dev nD) (t : Fin cfg0.N) (d : Fin 2) (j : Fin 8) (r : Fin 2)

theorem ins_u (ρ : Fin 64) (h : Fin 4) (x : Fin 64) :
    rows (ins m c t d).u j r (ix4 0 0 ρ (ln h x)) = (seqs m c).u d j (tok d (2 * t.val + vis d r) ρ) h x := by
  rw [rows_at]
  match d with
  | 0 => exact (in_f m c t j r ρ h x).1
  | 1 => exact (in_b m c t j r ρ h x).1

theorem ins_w (ρ : Fin 64) (h : Fin 4) (x : Fin 64) :
    rows (ins m c t d).w j r (ix4 0 0 ρ (ln h x)) = (seqs m c).w d j (tok d (2 * t.val + vis d r) ρ) h x := by
  rw [rows_at]
  match d with
  | 0 => exact (in_f m c t j r ρ h x).2.1
  | 1 => exact (in_b m c t j r ρ h x).2.1

theorem ins_a (ρ : Fin 64) (h : Fin 4) (x : Fin 64) :
    rows (ins m c t d).a j r (ix4 0 0 ρ (ln h x)) = (seqs m c).a d j (tok d (2 * t.val + vis d r) ρ) h x := by
  rw [rows_at]
  match d with
  | 0 => exact (in_f m c t j r ρ h x).2.2.1
  | 1 => exact (in_b m c t j r ρ h x).2.2.1

theorem ins_q (ρ : Fin 64) (h : Fin 4) (x : Fin 64) :
    rows (ins m c t d).q j r (ix4 0 0 ρ (ln h x)) = (seqs m c).q d j (tok d (2 * t.val + vis d r) ρ) h x := by
  rw [rows_at]
  match d with
  | 0 => exact (in_f m c t j r ρ h x).2.2.2.1
  | 1 => exact (in_b m c t j r ρ h x).2.2.2.1

theorem ins_k (ρ : Fin 64) (h : Fin 4) (x : Fin 64) :
    rows (ins m c t d).k j r (ix4 0 0 ρ (ln h x)) = (seqs m c).k d j (tok d (2 * t.val + vis d r) ρ) h x := by
  rw [rows_at]
  match d with
  | 0 => exact (in_f m c t j r ρ h x).2.2.2.2
  | 1 => exact (in_b m c t j r ρ h x).2.2.2.2

theorem ins_g (h : Fin 4) (x : Fin 64) :
    grows (ins m c t d).g j r (ix4 0 0 0 (ln h x)) = (seqs m c).g d j (chk d (2 * t.val + vis d r)) h := by
  rw [grows_at]
  match d with
  | 0 => exact (in_g m c t j r h x).1
  | 1 => exact (in_g m c t j r h x).2

variable {s : FVec Ideal S256x256 .f32} (hs : Diag s ((seqs m c).st d j (2 * t.val + vis d r)))
include hs

theorem vAt_head (ρ : Fin 64) (h : Fin 4) (x : Fin 64) :
    vAt (ins m c t d) j r s (ix2 ρ (ln h x)) = (seqs m c).v d j (2 * t.val + vis d r) ((seqs m c).st d j (2 * t.val + vis d r)) ρ h x :=
  vnew_head hs (fun ρ h x => ins_u m c t d j r ρ h x) (fun ρ h x => ins_w m c t d j r ρ h x) ρ h x

theorem oAt_head (ρ : Fin 64) (h : Fin 4) (x : Fin 64) :
    oAt (ins m c t d) j r s (ix2 ρ (ln h x)) = (seqs m c).out d j (2 * t.val + vis d r) ρ h x :=
  outp_head hs (fun ρ h x => ins_a m c t d j r ρ h x) (fun ρ h x => ins_q m c t d j r ρ h x) (fun ρ h x => vAt_head m c t d j r hs ρ h x) ρ h x

theorem nAt_head : Diag (nAt (ins m c t d) j r s) ((seqs m c).st d j (2 * t.val + vis d r + 1)) :=
  next_head hs (fun ρ h x => ins_k m c t d j r ρ h x) (fun h x => ins_g m c t d j r h x) (fun ρ h x => vAt_head m c t d j r hs ρ h x)

end Visit

/-! ## A point -/

theorem vis_fst : ∀ d : Fin 2, vis d (fst d) = 0 := by decide
theorem vis_snd : ∀ d : Fin 2, vis d (snd d) = 1 := by decide
theorem fst_ne_snd : ∀ d : Fin 2, fst d ≠ snd d := by decide
theorem eq_snd : ∀ d r : Fin 2, r ≠ fst d → r = snd d := by decide

section Point
variable (c : Dev nD) (t : Fin cfg0.N) (d : Fin 2) (j : Fin 8) {X : Vec Ideal S16x256x256 .f32}
  (hX : Diag (held X d j) ((seqs m c).st d j (2 * t.val)))
include hX

theorem first_head : Diag (nAt (ins m c t d) j (fst d) (held X d j)) ((seqs m c).st d j (2 * t.val + 1)) := by
  have h := nAt_head m c t d j (fst d) (s := held X d j) (by rw [vis_fst]; exact hX)
  rw [vis_fst] at h
  exact h

theorem left_head : Diag (left (ins m c t) X d j) ((seqs m c).st d j (2 * (t.val + 1))) := by
  have h := nAt_head m c t d j (snd d) (s := nAt (ins m c t d) j (fst d) (held X d j)) (by rw [vis_snd]; exact first_head m c t d j hX)
  rw [vis_snd] at h
  exact h

theorem outL_head (r : Fin 2) (ρ : Fin 64) (h : Fin 4) (x : Fin 64) :
    View.canon (outL (ins m c t d) X d (fst d) (snd d)) (ix3 j ⟨64 * r.val + ρ.val, by omega⟩ (ln h x))
      = (seqs m c).out d j (2 * t.val + vis d r) ρ h x := by
  rw [outL_at _ _ _ _ _ (fst_ne_snd d)]
  refine oAt_head m c t d j r ?_ ρ h x
  by_cases e : r = fst d
  · rw [if_pos e, e, vis_fst]; exact hX
  · rw [if_neg e, eq_snd d r e, vis_snd]; exact first_head m c t d j hX

end Point

/-! ## All points -/

/-- The scratch before the first point's visits, zeros, holds the states before the first visit. -/
theorem zero_head (c : Dev nD) (d : Fin 2) (j : Fin 8) : Diag (held (k0_pay4 (F := Ideal)) d j) ((seqs m c).st d j 0) := by
  intro h i h' i'
  rw [held_at]
  have e : ∀ z : S16x256x256.Idx, k0_pay4 (F := Ideal) z = 0 := by
    intro z
    pointwise [k0_pay4]
  rw [e]
  split_ifs <;> rfl

/-- What the scratch holds when point `n` starts its visits. -/
def prev (c : Dev nD) (t : Fin cfg0.N) : Vec Ideal S16x256x256 .f32 :=
  if t.val % 18 = 0 then k0_pay4 (F := Ideal) else (outsAt0 m c (t.val - 1) (Nat.lt_of_le_of_lt (Nat.sub_le _ _) t.isLt)).2.2

theorem fwd_prev (c : Dev nD) (t : Fin cfg0.N) :
    (outsAt0 m c t.val t.isLt).1 = View.canon (outL (ins m c t 0) (prev m c t) 0 (fst 0) (snd 0)) := by
  by_cases h : t.val % 18 = 0
  · rw [prev, if_pos h]; exact fwd_A m c t h
  · rw [prev, if_neg h]; exact fwd_B m c t h

theorem bwd_prev (c : Dev nD) (t : Fin cfg0.N) :
    (outsAt0 m c t.val t.isLt).2.1 = View.canon (outL (ins m c t 1) (prev m c t) 1 (fst 1) (snd 1)) := by
  by_cases h : t.val % 18 = 0
  · rw [prev, if_pos h]; exact bwd_A m c t h
  · rw [prev, if_neg h]; exact bwd_B m c t h

theorem scr_prev (c : Dev nD) (t : Fin cfg0.N) :
    ∃ L, (outsAt0 m c t.val t.isLt).2.2 = View.canon (stL (ins m c t) (prev m c t) ++ L) := by
  by_cases h : t.val % 18 = 0
  · exact ⟨_, by rw [prev, if_pos h]; exact scr_A m c t h⟩
  · exact ⟨[], by rw [prev, if_neg h, List.append_nil]; exact scr_B m c t h⟩

/-- Each chain's states, point after point. -/
theorem prev_head (c : Dev nD) (d : Fin 2) (j : Fin 8) : ∀ (n : ℕ) (hn : n < cfg0.N),
    Diag (held (prev m c ⟨n, hn⟩) d j) ((seqs m c).st d j (2 * n)) := by
  intro n
  induction n with
  | zero =>
    intro hn
    rw [prev, if_pos (by simp)]
    exact zero_head m c d j
  | succ n ih =>
    intro hn
    have hN : cfg0.N = 18 := N_0
    rw [prev, if_neg (by show ¬(n + 1) % 18 = 0; omega)]
    obtain ⟨L, e⟩ := scr_prev m c ⟨n, Nat.lt_of_succ_lt hn⟩
    show Diag (held (outsAt0 m c n _).2.2 d j) _
    rw [show (outsAt0 m c n (Nat.lt_of_succ_lt hn)).2.2 = _ from e, stL_at]
    exact left_head m c ⟨n, Nat.lt_of_succ_lt hn⟩ d j (ih _)

theorem fwd_head (c : Dev nD) (t : Fin cfg0.N) (j : Fin 8) (r : Fin 2) (ρ : Fin 64) (h : Fin 4) (x : Fin 64) :
    (outsAt0 m c t.val t.isLt).1 (ix3 j ⟨64 * r.val + ρ.val, by omega⟩ (ln h x)) = (seqs m c).out 0 j (2 * t.val + vis 0 r) ρ h x := by
  rw [fwd_prev]
  exact outL_head m c t 0 j (prev_head m c 0 j t.val t.isLt) r ρ h x

theorem bwd_head (c : Dev nD) (t : Fin cfg0.N) (j : Fin 8) (r : Fin 2) (ρ : Fin 64) (h : Fin 4) (x : Fin 64) :
    (outsAt0 m c t.val t.isLt).2.1 (ix3 j ⟨64 * r.val + ρ.val, by omega⟩ (ln h x)) = (seqs m c).out 1 j (2 * t.val + vis 1 r) ρ h x := by
  rw [bwd_prev]
  exact outL_head m c t 1 j (prev_head m c 1 j t.val t.isLt) r ρ h x

/-! ## The two result arrays -/

theorem cell_split (y : S8x128x256.Idx) : ∃ (j : Fin 8) (r : Fin 2) (ρ : Fin 64) (h : Fin 4) (x : Fin 64),
    y = ix3 j ⟨64 * r.val + ρ.val, by omega⟩ (ln h x) := by
  have h1 : (y 1).val < 128 := (y 1).isLt
  have h2 : (y 2).val < 256 := (y 2).isLt
  refine ⟨y 0, ⟨(y 1).val / 64, by omega⟩, ⟨(y 1).val % 64, by omega⟩, ⟨(y 2).val / 64, by omega⟩, ⟨(y 2).val % 64, by omega⟩, ?_⟩
  funext a
  fin_cases a
  · rfl
  · exact Fin.ext (by show (y 1).val = 64 * ((y 1).val / 64) + (y 1).val % 64; omega)
  · exact Fin.ext (by show (y 2).val = 64 * ((y 2).val / 64) + (y 2).val % 64; omega)

theorem fwd_final (c : Dev nD) (b : Fin 8) (T : Fin 2304) (l : Fin 256) :
    (dats m 0 c).arrAt 12 cfg0.N (ix3 b T l) = (seqs m c).res 0 b T l := by
  have key : (dats m 0 c).arrAt 12 cfg0.N = (fun i : S8x2304x256.Idx => (seqs m c).res 0 (i 0) (i 1) (i 2)) := by
    refine (dats m 0 c).arrAt_eq_of_covers 12 _ (by decide +kernel) fun t hf y => ?_
    blk_simp [idx_in t]
    rw [after0_12]
    have ht := (idx_in t).2.2.2.2.2.2.2.2.2.2.2.2.2.2
    obtain ⟨j, r, ρ, h, x, rfl⟩ := cell_split y
    have hv : vis 0 r < 2 := by unfold vis; have := r.isLt; split_ifs <;> omega
    have e := tok_blk 0 r t.val ht ρ
    have hk := chk_blk 0 r t.val ht
    have el := ln_val h x
    have em : (win0_12.blk t).view.emb (ix3 j ⟨64 * r.val + ρ.val, by omega⟩ (ln h x)) = ix3 j (tok 0 (2 * t.val + vis 0 r) ρ) (ln h x) := by
      blk_ext [idx_in t]
    rw [fwd_head m c t j r ρ h x, em]
    exact (Seqs.res_at _ 0 j _ (by omega) ρ h x _ rfl).symm
  rw [key]
  rfl

theorem bwd_final (c : Dev nD) (b : Fin 8) (T : Fin 2304) (l : Fin 256) :
    (dats m 0 c).arrAt 13 cfg0.N (ix3 b T l) = (seqs m c).res 1 b T l := by
  have key : (dats m 0 c).arrAt 13 cfg0.N = (fun i : S8x2304x256.Idx => (seqs m c).res 1 (i 0) (i 1) (i 2)) := by
    refine (dats m 0 c).arrAt_eq_of_covers 13 _ (by decide +kernel) fun t hf y => ?_
    blk_simp [idx_in t]
    rw [after0_13]
    have ht := (idx_in t).2.2.2.2.2.2.2.2.2.2.2.2.2.2
    obtain ⟨j, r, ρ, h, x, rfl⟩ := cell_split y
    have hv : vis 1 r < 2 := by unfold vis; have := r.isLt; split_ifs <;> omega
    have e := tok_blk 1 r t.val ht ρ
    have hk := chk_blk 1 r t.val ht
    have el := ln_val h x
    have em : (win0_13.blk t).view.emb (ix3 j ⟨64 * r.val + ρ.val, by omega⟩ (ln h x)) = ix3 j (tok 1 (2 * t.val + vis 1 r) ρ) (ln h x) := by
      blk_ext [idx_in t]
    rw [bwd_head m c t j r ρ h x, em]
    exact (Seqs.res_at _ 1 j _ (by omega) ρ h x _ rfl).symm
  rw [key]
  rfl

end Cert.KernelIdeal.Dn

end
-- ==== Proof.Dn.Orient.lean ====
module

public import proofs.«01_k».proof.Proof.Gen.ReferenceIdeal.Step
public import proofs.«01_k».proof.Proof.Dn.Spec
public import Idealize.ShloMosaic.Lib.Pointwise
public import Idealize.ShloMosaic.Lib.ValueIdxRank6
public import Idealize.ShloMosaic.Lib.Claim

@[expose] public section

set_option maxRecDepth 16384

noncomputable section

namespace Cert.ReferenceIdeal.Dn

open Cert.Dn Cert.ReferenceIdeal Cert.ReferenceIdeal.Gen Cert.ReferenceIdeal.Step Idealize.ShloMosaic Idealize.ShloMosaic.TcCoe Idealize.SL.Sem

/-! The reference lays the chunks out in the order each direction visits them. -/

/-- The chunks' rows, chunk by chunk. -/
def chunks (x : Vec Ideal S2x8x2304x4x64 .f32) : Vec Ideal S2x36x8x4x64x64 .f32 :=
  transpose S2x36x8x4x64x64 [0, 2, 1, 4, 3, 5] (shapeCast S2x8x36x64x4x64 x shapeCasts_S2x8x2304x4x64_S2x8x36x64x4x64) transposes_S2x8x36x64x4x64_S2x36x8x4x64x64_0_2_1_4_3_5

theorem chunks_at (x : Vec Ideal S2x8x2304x4x64 .f32) (d : Fin 2) (n : Fin 36) (b : Fin 8) (h : Fin 4) (r c : Fin 64) :
    chunks x (ix6 d n b h r c) = x (ix5 d b ⟨64 * n.val + r.val, by omega⟩ h c) := by
  pointwise [chunks]
  congr 2
  exact Fin.ext (by dsimp only; omega)

/-- The first direction's chunks. -/
def ahead (y : Vec Ideal S2x36x8x4x64x64 .f32) : Vec Ideal S36x8x4x64x64 .f32 :=
  shapeCast S36x8x4x64x64 (extractStridedSlice S1x36x8x4x64x64 ![0, 0, 0, 0, 0, 0] y slices_S2x36x8x4x64x64_S1x36x8x4x64x64_0_0_0_0_0_0) shapeCasts_S1x36x8x4x64x64_S36x8x4x64x64

theorem ahead_at (y : Vec Ideal S2x36x8x4x64x64 .f32) (n : Fin 36) (b : Fin 8) (h : Fin 4) (r c : Fin 64) :
    ahead y (ix5 n b h r c) = y (ix6 0 n b h r c) := by
  pointwise [ahead]

/-- The second direction's. -/
def behind (y : Vec Ideal S2x36x8x4x64x64 .f32) : Vec Ideal S36x8x4x64x64 .f32 :=
  concatenate S36x8x4x64x64 0
    [⟨S4x8x4x64x64, Host.reverse [0] (shapeCast S4x8x4x64x64 (extractStridedSlice S1x4x8x4x64x64 ![1, 0, 0, 0, 0, 0] y slices_S2x36x8x4x64x64_S1x4x8x4x64x64_1_0_0_0_0_0) shapeCasts_S1x4x8x4x64x64_S4x8x4x64x64)⟩,
      ⟨S32x8x4x64x64, Host.reverse [0] (shapeCast S32x8x4x64x64 (extractStridedSlice S1x32x8x4x64x64 ![1, 4, 0, 0, 0, 0] y slices_S2x36x8x4x64x64_S1x32x8x4x64x64_1_4_0_0_0_0) shapeCasts_S1x32x8x4x64x64_S32x8x4x64x64)⟩]
    concatenates_S4x8x4x64x64_S32x8x4x64x64_S36x8x4x64x64_d0

theorem behind_at (y : Vec Ideal S2x36x8x4x64x64 .f32) (n : Fin 36) (b : Fin 8) (h : Fin 4) (r c : Fin 64) :
    behind y (ix5 n b h r c) = y (ix6 1 (chk 1 n.val) b h r c) := by
  have e := chk_val 1 n.val n.isLt
  rw [if_neg (by decide)] at e
  pointwise [behind]
  have hn := n.isLt
  by_cases h1 : n.val < 4
  · rw [dif_pos h1]
    rw [if_pos h1] at e
    refine congrArg y (funext fun a => ?_)
    fin_cases a
    all_goals first
      | rfl
      | exact Fin.ext (by show 4 - (n.val + 1) = (chk 1 n.val).val; omega)
  · rw [dif_neg h1]
    rw [if_neg h1] at e
    refine congrArg y (funext fun a => ?_)
    fin_cases a
    all_goals first
      | rfl
      | exact Fin.ext (by show 4 + (32 - (n.val - 4 + 1)) = (chk 1 n.val).val; omega)

/-- Both, visit by visit. -/
def orient (x : Vec Ideal S2x8x2304x4x64 .f32) : Vec Ideal S36x2x8x4x64x64 .f32 :=
  concatenate S36x2x8x4x64x64 1
    [⟨S36x1x8x4x64x64, broadcastInDim S36x1x8x4x64x64 ![0, 2, 3, 4, 5] bcast_S36x8x4x64x64_S36x1x8x4x64x64_0_2_3_4_5 (ahead (chunks x))⟩,
      ⟨S36x1x8x4x64x64, broadcastInDim S36x1x8x4x64x64 ![0, 2, 3, 4, 5] bcast_S36x8x4x64x64_S36x1x8x4x64x64_0_2_3_4_5 (behind (chunks x))⟩]
    concatenates_S36x1x8x4x64x64_S36x1x8x4x64x64_S36x2x8x4x64x64_d1

theorem orient_at (x : Vec Ideal S2x8x2304x4x64 .f32) (n : Fin 36) (d : Fin 2) (b : Fin 8) (h : Fin 4) (r c : Fin 64) :
    orient x (ix6 n d b h r c) = x (ix5 d b (tok d n.val r) h c) := by
  pointwise [orient]
  have hn := n.isLt
  have hd := d.isLt
  have e := chk_val d n.val n.isLt
  by_cases h0 : d.val < 1
  · obtain rfl : d = 0 := Fin.ext (by omega)
    rw [if_pos (by decide)] at e
    rw [dif_pos h0, ahead_at, chunks_at]
    congr 2
    exact Fin.ext (by simp only [tok]; omega)
  · obtain rfl : d = 1 := Fin.ext (by simp; omega)
    rw [dif_neg h0, behind_at, chunks_at]
    rfl

/-! The decays likewise. -/

def chunksG (x : Vec Ideal S2x8x36x4 .f32) : Vec Ideal S2x36x8x4 .f32 := transpose S2x36x8x4 [0, 2, 1, 3] x transposes_S2x8x36x4_S2x36x8x4_0_2_1_3

def aheadG (y : Vec Ideal S2x36x8x4 .f32) : Vec Ideal S36x8x4 .f32 :=
  shapeCast S36x8x4 (extractStridedSlice S1x36x8x4 ![0, 0, 0, 0] y slices_S2x36x8x4_S1x36x8x4_0_0_0_0) shapeCasts_S1x36x8x4_S36x8x4

def behindG (y : Vec Ideal S2x36x8x4 .f32) : Vec Ideal S36x8x4 .f32 :=
  concatenate S36x8x4 0
    [⟨S4x8x4, Host.reverse [0] (shapeCast S4x8x4 (extractStridedSlice S1x4x8x4 ![1, 0, 0, 0] y slices_S2x36x8x4_S1x4x8x4_1_0_0_0) shapeCasts_S1x4x8x4_S4x8x4)⟩,
      ⟨S32x8x4, Host.reverse [0] (shapeCast S32x8x4 (extractStridedSlice S1x32x8x4 ![1, 4, 0, 0] y slices_S2x36x8x4_S1x32x8x4_1_4_0_0) shapeCasts_S1x32x8x4_S32x8x4)⟩]
    concatenates_S4x8x4_S32x8x4_S36x8x4_d0

theorem behindG_at (y : Vec Ideal S2x36x8x4 .f32) (n : Fin 36) (b : Fin 8) (h : Fin 4) :
    behindG y (ix3 n b h) = y (ix4 1 (chk 1 n.val) b h) := by
  have e := chk_val 1 n.val n.isLt
  rw [if_neg (by decide)] at e
  pointwise [behindG]
  have hn := n.isLt
  by_cases h1 : n.val < 4
  · rw [dif_pos h1]
    rw [if_pos h1] at e
    refine congrArg y (funext fun a => ?_)
    fin_cases a
    all_goals first
      | rfl
      | exact Fin.ext (by show 4 - (n.val + 1) = (chk 1 n.val).val; omega)
  · rw [dif_neg h1]
    rw [if_neg h1] at e
    refine congrArg y (funext fun a => ?_)
    fin_cases a
    all_goals first
      | rfl
      | exact Fin.ext (by show 4 + (32 - (n.val - 4 + 1)) = (chk 1 n.val).val; omega)

def orientG (x : Vec Ideal S2x8x36x4 .f32) : Vec Ideal S36x2x8x4 .f32 :=
  concatenate S36x2x8x4 1
    [⟨S36x1x8x4, broadcastInDim S36x1x8x4 ![0, 2, 3] bcast_S36x8x4_S36x1x8x4_0_2_3 (aheadG (chunksG x))⟩,
      ⟨S36x1x8x4, broadcastInDim S36x1x8x4 ![0, 2, 3] bcast_S36x8x4_S36x1x8x4_0_2_3 (behindG (chunksG x))⟩]
    concatenates_S36x1x8x4_S36x1x8x4_S36x2x8x4_d1

theorem orientG_at (x : Vec Ideal S2x8x36x4 .f32) (n : Fin 36) (d : Fin 2) (b : Fin 8) (h : Fin 4) :
    orientG x (ix4 n d b h) = x (ix4 d b (chk d n.val) h) := by
  pointwise [orientG]
  have hn := n.isLt
  have hd := d.isLt
  have e := chk_val d n.val n.isLt
  by_cases h0 : d.val < 1
  · obtain rfl : d = 0 := Fin.ext (by omega)
    rw [if_pos (by decide)] at e
    rw [dif_pos h0]
    pointwise [aheadG, chunksG]
    congr 2
    exact Fin.ext (by omega)
  · obtain rfl : d = 1 := Fin.ext (by simp; omega)
    rw [dif_neg h0, behindG_at]
    pointwise [chunksG]

/-! And back, the outputs. -/

def toks (y : Vec Ideal S36x8x4x64x64 .f32) : Vec Ideal S8x2304x256 .f32 :=
  shapeCast S8x2304x256 (transpose S8x36x64x4x64 [1, 0, 3, 2, 4] y transposes_S36x8x4x64x64_S8x36x64x4x64_1_0_3_2_4) shapeCasts_S8x36x64x4x64_S8x2304x256

theorem toks_at (y : Vec Ideal S36x8x4x64x64 .f32) (b : Fin 8) (n : Fin 36) (h : Fin 4) (r c : Fin 64) :
    toks y (ix3 b ⟨64 * n.val + r.val, by omega⟩ (ln h c)) = y (ix5 n b h r c) := by
  have el : (ln h c).val = 64 * h.val + c.val := rfl
  pointwise [toks]
  congr 2
  · exact Fin.ext (by dsimp only; omega)
  · exact Fin.ext (by dsimp only; omega)

end Cert.ReferenceIdeal.Dn

end
-- ==== Proof.Dn.Trip.lean ====
module

public import proofs.«01_k».proof.Proof.Dn.Orient
public import Idealize.ShloMosaic.Lib.Pointwise
public import Idealize.ShloMosaic.Lib.ValueIdxRank6
public import Idealize.ShloMosaic.Lib.Claim

@[expose] public section

set_option maxRecDepth 16384

noncomputable section

namespace Cert.ReferenceIdeal.Dn

open Cert.Dn Cert.ReferenceIdeal Cert.ReferenceIdeal.Gen Cert.ReferenceIdeal.Step Idealize.ShloMosaic Idealize.ShloMosaic.TcCoe Idealize.SL.Sem

/-! One trip of the reference's loop is one visit of the recurrence. -/

theorem num_toInt : ∀ n : Fin 36, (BitVec.ofNat 32 n.val).toInt = (n.val : ℤ) := by decide

/-- Where trip `n`'s slices start. -/
def from6 (n : Fin 36) : Fin 6 → ℤ := ![(n.val : ℤ), 0, 0, 0, 0, 0]
def from4 (n : Fin 36) : Fin 4 → ℤ := ![(n.val : ℤ), 0, 0, 0]

theorem cl6 (n : Fin 36) : Host.clampedStart S36x2x8x4x64x64 S1x2x8x4x64x64 rfl (from6 n) 0 = n.val
    ∧ Host.clampedStart S36x2x8x4x64x64 S1x2x8x4x64x64 rfl (from6 n) 1 = 0
    ∧ Host.clampedStart S36x2x8x4x64x64 S1x2x8x4x64x64 rfl (from6 n) 2 = 0
    ∧ Host.clampedStart S36x2x8x4x64x64 S1x2x8x4x64x64 rfl (from6 n) 3 = 0
    ∧ Host.clampedStart S36x2x8x4x64x64 S1x2x8x4x64x64 rfl (from6 n) 4 = 0
    ∧ Host.clampedStart S36x2x8x4x64x64 S1x2x8x4x64x64 rfl (from6 n) 5 = 0 := by
  refine ⟨Host.clampedStart_of_le _ _ _ _ rfl ?_, Host.clampedStart_of_le _ _ _ _ rfl ?_, Host.clampedStart_of_le _ _ _ _ rfl ?_,
    Host.clampedStart_of_le _ _ _ _ rfl ?_, Host.clampedStart_of_le _ _ _ _ rfl ?_, Host.clampedStart_of_le _ _ _ _ rfl ?_⟩
  · show n.val + 1 ≤ 36; omega
  all_goals decide

theorem cl4 (n : Fin 36) : Host.clampedStart S36x2x8x4 S1x2x8x4 rfl (from4 n) 0 = n.val
    ∧ Host.clampedStart S36x2x8x4 S1x2x8x4 rfl (from4 n) 1 = 0
    ∧ Host.clampedStart S36x2x8x4 S1x2x8x4 rfl (from4 n) 2 = 0
    ∧ Host.clampedStart S36x2x8x4 S1x2x8x4 rfl (from4 n) 3 = 0 := by
  refine ⟨Host.clampedStart_of_le _ _ _ _ rfl ?_, Host.clampedStart_of_le _ _ _ _ rfl ?_, Host.clampedStart_of_le _ _ _ _ rfl ?_,
    Host.clampedStart_of_le _ _ _ _ rfl ?_⟩
  · show n.val + 1 ≤ 36; omega
  all_goals decide

variable (s : State Ideal) (n : Fin 36) (d : Fin 2) (b : Fin 8) (h : Fin 4) (r c : Fin 64)

theorem slice_at (x : Vec Ideal S36x2x8x4x64x64 .f32) (st : Fin 6 → ℤ) (hst : st = from6 n) :
    shapeCast S2x8x4x64x64 (Host.dynamicSlice S1x2x8x4x64x64 x st sliceFits_S36x2x8x4x64x64_S1x2x8x4x64x64) shapeCasts_S1x2x8x4x64x64_S2x8x4x64x64
      (ix5 d b h r c) = x (ix6 n d b h r c) := by
  subst hst
  pointwise
  refine congrArg x (funext fun a => ?_)
  obtain ⟨e0, e1, e2, e3, e4, e5⟩ := cl6 n
  fin_cases a
  · exact Fin.ext (by show Host.clampedStart S36x2x8x4x64x64 S1x2x8x4x64x64 rfl (from6 n) 0 + 0 = n.val; omega)
  · exact Fin.ext (by show Host.clampedStart S36x2x8x4x64x64 S1x2x8x4x64x64 rfl (from6 n) 1 + d.val = d.val; omega)
  · exact Fin.ext (by show Host.clampedStart S36x2x8x4x64x64 S1x2x8x4x64x64 rfl (from6 n) 2 + b.val = b.val; omega)
  · exact Fin.ext (by show Host.clampedStart S36x2x8x4x64x64 S1x2x8x4x64x64 rfl (from6 n) 3 + h.val = h.val; omega)
  · exact Fin.ext (by show Host.clampedStart S36x2x8x4x64x64 S1x2x8x4x64x64 rfl (from6 n) 4 + r.val = r.val; omega)
  · exact Fin.ext (by show Host.clampedStart S36x2x8x4x64x64 S1x2x8x4x64x64 rfl (from6 n) 5 + c.val = c.val; omega)

theorem sliceG_at (x : Vec Ideal S36x2x8x4 .f32) (st : Fin 4 → ℤ) (hst : st = from4 n) :
    shapeCast S2x8x4 (Host.dynamicSlice S1x2x8x4 x st sliceFits_S36x2x8x4_S1x2x8x4) shapeCasts_S1x2x8x4_S2x8x4 (ix3 d b h) = x (ix4 n d b h) := by
  subst hst
  pointwise
  refine congrArg x (funext fun a => ?_)
  obtain ⟨e0, e1, e2, e3⟩ := cl4 n
  fin_cases a
  · exact Fin.ext (by show Host.clampedStart S36x2x8x4 S1x2x8x4 rfl (from4 n) 0 + 0 = n.val; omega)
  · exact Fin.ext (by show Host.clampedStart S36x2x8x4 S1x2x8x4 rfl (from4 n) 1 + d.val = d.val; omega)
  · exact Fin.ext (by show Host.clampedStart S36x2x8x4 S1x2x8x4 rfl (from4 n) 2 + b.val = b.val; omega)
  · exact Fin.ext (by show Host.clampedStart S36x2x8x4 S1x2x8x4 rfl (from4 n) 3 + h.val = h.val; omega)

theorem put_at (x : Vec Ideal S36x2x8x4x64x64 .f32) (y : Vec Ideal S1x2x8x4x64x64 .f32) (st : Fin 6 → ℤ) (hst : st = from6 n) (k : Fin 36) :
    Host.dynamicUpdateSlice x y st updateFits_S36x2x8x4x64x64_S1x2x8x4x64x64 (ix6 k d b h r c)
      = if k = n then y (ix6 0 d b h r c) else x (ix6 k d b h r c) := by
  subst hst
  obtain ⟨e0, e1, e2, e3, e4, e5⟩ := cl6 n
  pointwise
  have hd := d.isLt
  have hb := b.isLt
  have hh := h.isLt
  have hr := r.isLt
  have hc := c.isLt
  by_cases e : k = n
  · subst e
    rw [if_pos rfl, dif_pos (by rw [e0, e1, e2, e3, e4, e5]; omega)]
    refine congrArg y (funext fun a => ?_)
    fin_cases a
    · exact Fin.ext (by show k.val - Host.clampedStart S36x2x8x4x64x64 S1x2x8x4x64x64 rfl (from6 k) 0 = 0; omega)
    · exact Fin.ext (by show d.val - Host.clampedStart S36x2x8x4x64x64 S1x2x8x4x64x64 rfl (from6 k) 1 = d.val; omega)
    · exact Fin.ext (by show b.val - Host.clampedStart S36x2x8x4x64x64 S1x2x8x4x64x64 rfl (from6 k) 2 = b.val; omega)
    · exact Fin.ext (by show h.val - Host.clampedStart S36x2x8x4x64x64 S1x2x8x4x64x64 rfl (from6 k) 3 = h.val; omega)
    · exact Fin.ext (by show r.val - Host.clampedStart S36x2x8x4x64x64 S1x2x8x4x64x64 rfl (from6 k) 4 = r.val; omega)
    · exact Fin.ext (by show c.val - Host.clampedStart S36x2x8x4x64x64 S1x2x8x4x64x64 rfl (from6 k) 5 = c.val; omega)
  · have e' : k.val ≠ n.val := fun w => e (Fin.ext w)
    rw [if_neg e, dif_neg (by rw [e0, e1, e2, e3, e4, e5]; omega)]

theorem start6 : (fun k => ((![(constantI S_ 32 (BitVec.ofNat 32 n.val) : (⟨S_, .i32⟩ : BufTy).Contents (Elt Ideal)), constantI S_ 32 0#32, constantI S_ 32 0#32,
      constantI S_ 32 0#32, constantI S_ 32 0#32, constantI S_ 32 0#32] : Fin 6 → (⟨S_, .i32⟩ : BufTy).Contents (Elt Ideal)) k (Shape.Idx.first h_S_)).toInt)
    = from6 n := by
  funext k
  fin_cases k
  · exact num_toInt n
  all_goals rfl

theorem start4 : (fun k => ((![(constantI S_ 32 (BitVec.ofNat 32 n.val) : (⟨S_, .i32⟩ : BufTy).Contents (Elt Ideal)), constantI S_ 32 0#32, constantI S_ 32 0#32,
      constantI S_ 32 0#32] : Fin 4 → (⟨S_, .i32⟩ : BufTy).Contents (Elt Ideal)) k (Shape.Idx.first h_S_)).toInt)
    = from4 n := by
  funext k
  fin_cases k
  · exact num_toInt n
  all_goals rfl

theorem b6_at : b6 n.val s (ix5 d b h r c) = s.main_v89_0 (ix6 n d b h r c) := slice_at n d b h r c _ _ (start6 n)
theorem b13_at : b13 n.val s (ix5 d b h r c) = s.main_v89_1 (ix6 n d b h r c) := slice_at n d b h r c _ _ (start6 n)
theorem b20_at : b20 n.val s (ix5 d b h r c) = s.main_v89_2 (ix6 n d b h r c) := slice_at n d b h r c _ _ (start6 n)
theorem b27_at : b27 n.val s (ix5 d b h r c) = s.main_v89_3 (ix6 n d b h r c) := slice_at n d b h r c _ _ (start6 n)
theorem b34_at : b34 n.val s (ix5 d b h r c) = s.main_v89_4 (ix6 n d b h r c) := slice_at n d b h r c _ _ (start6 n)
theorem b39_at : b39 n.val s (ix3 d b h) = s.main_v89_5 (ix4 n d b h) := sliceG_at n d b h _ _ (start4 n)

theorem b40_at : b40 n.val s (ix5 d b h r c) = ∑ i, b13 n.val s (ix5 d b h r i) * s.main_v89_7 (ix5 d b h i c) := by
  pointwise [b40]

theorem b41_at : b41 n.val s (ix5 d b h r c) = b6 n.val s (ix5 d b h r c) - b40 n.val s (ix5 d b h r c) := by
  pointwise [b41]

theorem b44_at : b44 n.val s (ix5 d b h r c)
    = ∑ i, b27 n.val s (ix5 d b h r i) * s.main_v89_7 (ix5 d b h i c) + ∑ i, b20 n.val s (ix5 d b h r i) * b41 n.val s (ix5 d b h i c) := by
  pointwise [b44, b42, b43]

theorem b49_at : b49 n.val s (ix5 d b h r c)
    = s.main_v89_7 (ix5 d b h r c) * b39 n.val s (ix3 d b h) + ∑ i, b34 n.val s (ix5 d b h i r) * b41 n.val s (ix5 d b h i c) := by
  pointwise [b49, b47, b46, b45, b48]

theorem b56_at (k : Fin 36) : b56 n.val s (ix6 k d b h r c) = if k = n then b44 n.val s (ix5 d b h r c) else s.main_v89_8 (ix6 k d b h r c) := by
  refine (put_at n d b h r c _ _ _ (start6 n) k).trans ?_
  pointwise [b50]

/-- The loop carries the sequences of `X`, the states before visit `n`, and the outputs of the visits before it. -/
structure Carries (X : Seqs) (n : ℕ) (s : State Ideal) : Prop where
  u : ∀ k d b h r c, s.main_v89_0 (ix6 k d b h r c) = X.u d b (tok d k.val r) h c
  w : ∀ k d b h r c, s.main_v89_1 (ix6 k d b h r c) = X.w d b (tok d k.val r) h c
  a : ∀ k d b h r c, s.main_v89_2 (ix6 k d b h r c) = X.a d b (tok d k.val r) h c
  q : ∀ k d b h r c, s.main_v89_3 (ix6 k d b h r c) = X.q d b (tok d k.val r) h c
  k : ∀ k d b h r c, s.main_v89_4 (ix6 k d b h r c) = X.k d b (tok d k.val r) h c
  g : ∀ k d b h, s.main_v89_5 (ix4 k d b h) = X.g d b (chk d k.val) h
  st : ∀ d b h i j, s.main_v89_7 (ix5 d b h i j) = X.st d b n h i j
  out : ∀ (k : Fin 36) d b h r c, k.val < n → s.main_v89_8 (ix6 k d b h r c) = X.out d b k.val r h c

theorem Carries.step {X : Seqs} {s : State Ideal} (n : Fin 36) (H : Carries X n.val s) : Carries X (n.val + 1) (step n.val s) := by
  have hv : ∀ d b h r c, b41 n.val s (ix5 d b h r c) = X.v d b n.val (X.st d b n.val) r h c := by
    intro d b h r c
    rw [b41_at, b40_at, b6_at, H.u]
    simp only [b13_at, H.w, H.st]
    rfl
  refine ⟨H.u, H.w, H.a, H.q, H.k, H.g, ?_, ?_⟩
  · intro d b h i j
    rw [step_main_v89_7, b49_at, b39_at, H.g, H.st]
    simp only [b34_at, H.k, hv]
    rfl
  · intro k d b h r c hk
    rw [step_main_v89_8, b56_at]
    by_cases e : k = n
    · rw [if_pos e, b44_at, e]
      simp only [b27_at, b20_at, H.q, H.a, H.st, hv]
      rfl
    · have e' : k.val ≠ n.val := fun w => e (Fin.ext w)
      rw [if_neg e, H.out k d b h r c (by omega)]

end Cert.ReferenceIdeal.Dn

end
-- ==== Proof.Dn.Loop.lean ====
module

public import proofs.«01_k».proof.Proof.Gen.ReferenceIdeal.Run
public import proofs.«01_k».proof.Proof.Gen.ReferenceIdeal.Step

@[expose] public section

set_option maxRecDepth 65536

noncomputable section

namespace Cert.ReferenceIdeal.Dn

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

/-! The reference's loop: what its buffers hold before each trip. -/

section
variable {F : FTy → Type} [FloatOps F] (V : Valuation τ sig (Elt F)) (s : State F) (j : ℕ)

/-- The buffers hold the state `s` and the trip's number. -/
structure Holds : Prop where
  num : V (Proc.devRef .tc main_v89_6) = constantI S_ 32 (BitVec.ofNat 32 j)
  st : V (Proc.devRef .tc main_v89_7) = s.main_v89_7
  out : V (Proc.devRef .tc main_v89_8) = s.main_v89_8
  u : V (Proc.devRef .tc main_v89_0) = s.main_v89_0
  w : V (Proc.devRef .tc main_v89_1) = s.main_v89_1
  a : V (Proc.devRef .tc main_v89_2) = s.main_v89_2
  q : V (Proc.devRef .tc main_v89_3) = s.main_v89_3
  k : V (Proc.devRef .tc main_v89_4) = s.main_v89_4
  g : V (Proc.devRef .tc main_v89_5) = s.main_v89_5

variable {V s j}

theorem Holds.st_step (h : Holds V s j) : step_main_v89_7 V = (step j s).main_v89_7 := by
  unfold step_main_v89_7 res_main_while0b_v110
  rw [h.num, h.st, h.u, h.w, h.k, h.g]
  rfl

theorem Holds.out_step (h : Holds V s j) : step_main_v89_8 V = (step j s).main_v89_8 := by
  unfold step_main_v89_8 res_main_while0b_v110
  rw [h.num, h.st, h.out, h.u, h.w, h.a, h.q]
  rfl

theorem Holds.num_step (h : Holds V s j) : step_main_v89_6 V = constantI S_ 32 (BitVec.ofNat 32 (j + 1)) := by
  unfold step_main_v89_6
  rw [h.num]
  funext i
  exact (BitVec.ofNat_add j 1).symm

theorem Holds.next (h : Holds V s j) : Holds (STEP V) (step j s) (j + 1) where
  num := (STEP_main_v89_6 V).trans h.num_step
  st := (STEP_main_v89_7 V).trans h.st_step
  out := (STEP_main_v89_8 V).trans h.out_step
  u := (STEP_main_v89_0 V).trans h.u
  w := (STEP_main_v89_1 V).trans h.w
  a := (STEP_main_v89_2 V).trans h.a
  q := (STEP_main_v89_3 V).trans h.q
  k := (STEP_main_v89_4 V).trans h.k
  g := (STEP_main_v89_5 V).trans h.g

theorem Holds.fwd (h : Holds V s j) : out_main_v100 V = Cert.ReferenceIdeal.Step.R_main_v100 s := by
  unfold out_main_v100
  rw [h.out]
  rfl

theorem Holds.bwd (h : Holds V s j) : out_main_v102 V = Cert.ReferenceIdeal.Step.R_main_v102 s := by
  unfold out_main_v102
  rw [h.out]
  rfl

/-- The state before the first trip. -/
def initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

variable (m : (ℓ : Loc nD τ sig) → Buf (Elt F) ℓ) (c : Dev nD)

set_option maxHeartbeats 2000000 in
theorem first_num : entryContents preI m c (Proc.devRef .tc main_v89_6) = constantI S_ 32 (BitVec.ofNat 32 0) := by
  simp only [entryContents, afterL_cons, afterL_nil]
  after_reads_simp
  rfl

set_option maxHeartbeats 4000000 in
theorem first_u : entryContents preI m c (Proc.devRef .tc main_v89_0) = (initState m c).main_v89_0 := by
  simp only [entryContents, afterL_cons, afterL_nil]
  after_reads_simp
  rfl

set_option maxHeartbeats 4000000 in
theorem first_w : entryContents preI m c (Proc.devRef .tc main_v89_1) = (initState m c).main_v89_1 := by
  simp only [entryContents, afterL_cons, afterL_nil]
  after_reads_simp
  rfl

set_option maxHeartbeats 4000000 in
theorem first_a : entryContents preI m c (Proc.devRef .tc main_v89_2) = (initState m c).main_v89_2 := by
  simp only [entryContents, afterL_cons, afterL_nil]
  after_reads_simp
  rfl

set_option maxHeartbeats 4000000 in
theorem first_q : entryContents preI m c (Proc.devRef .tc main_v89_3) = (initState m c).main_v89_3 := by
  simp only [entryContents, afterL_cons, afterL_nil]
  after_reads_simp
  rfl

set_option maxHeartbeats 4000000 in
theorem first_k : entryContents preI m c (Proc.devRef .tc main_v89_4) = (initState m c).main_v89_4 := by
  simp only [entryContents, afterL_cons, afterL_nil]
  after_reads_simp
  rfl

set_option maxHeartbeats 4000000 in
theorem first_g : entryContents preI m c (Proc.devRef .tc main_v89_5) = (initState m c).main_v89_5 := by
  simp only [entryContents, afterL_cons, afterL_nil]
  after_reads_simp
  rfl

set_option maxHeartbeats 4000000 in
theorem first_st : entryContents preI m c (Proc.devRef .tc main_v89_7) = (initState m c).main_v89_7 := by
  simp only [entryContents, afterL_cons, afterL_nil]
  after_reads_simp
  rfl

set_option maxHeartbeats 4000000 in
theorem first_out : entryContents preI m c (Proc.devRef .tc main_v89_8) = (initState m c).main_v89_8 := by
  simp only [entryContents, afterL_cons, afterL_nil]
  after_reads_simp
  rfl

theorem first_holds : Holds (entryContents preI m c) (initState m c) 0 :=
  ⟨first_num m c, first_st m c, first_out m c, first_u m c, first_w m c, first_a m c, first_q m c, first_k m c, first_g m c⟩

/-- The states before each trip. -/
def it : ℕ → State F
  | 0 => initState m c
  | n + 1 => step n (it n)

theorem it_holds : ∀ n, Holds (STEP^[n] (entryContents preI m c)) (it m c n) n
  | 0 => first_holds m c
  | n + 1 => by
    rw [Function.iterate_succ_apply']
    exact (it_holds n).next

end

end Cert.ReferenceIdeal.Dn

end
-- ==== Proof.Dn.Ref.lean ====
module

public import proofs.«01_k».proof.Proof.Dn.Trip
public import proofs.«01_k».proof.Proof.Dn.Res
public import proofs.«01_k».proof.Proof.Dn.Loop
public import Idealize.ShloMosaic.Lib.Pointwise
public import Idealize.ShloMosaic.Lib.ValueIdxRank6
public import Idealize.ShloMosaic.Lib.Claim

@[expose] public section

set_option maxRecDepth 16384

noncomputable section

namespace Cert.ReferenceIdeal.Dn

open Cert.Dn Cert.ReferenceIdeal Cert.ReferenceIdeal.Gen Cert.ReferenceIdeal.Step Idealize.ShloMosaic Idealize.ShloMosaic.TcCoe Idealize.SL.Sem

/-! The reference's results. -/

/-- The second direction's outputs, chunk by chunk. -/
def back (z : Vec Ideal S36x2x8x4x64x64 .f32) : Vec Ideal S36x8x4x64x64 .f32 :=
  concatenate S36x8x4x64x64 0
    [⟨S4x8x4x64x64, Host.reverse [0] (shapeCast S4x8x4x64x64 (extractStridedSlice S4x1x8x4x64x64 ![0, 1, 0, 0, 0, 0] z slices_S36x2x8x4x64x64_S4x1x8x4x64x64_0_1_0_0_0_0) shapeCasts_S4x1x8x4x64x64_S4x8x4x64x64)⟩,
      ⟨S32x8x4x64x64, Host.reverse [0] (shapeCast S32x8x4x64x64 (extractStridedSlice S32x1x8x4x64x64 ![4, 1, 0, 0, 0, 0] z slices_S36x2x8x4x64x64_S32x1x8x4x64x64_4_1_0_0_0_0) shapeCasts_S32x1x8x4x64x64_S32x8x4x64x64)⟩]
    concatenates_S4x8x4x64x64_S32x8x4x64x64_S36x8x4x64x64_d0

theorem back_at (z : Vec Ideal S36x2x8x4x64x64 .f32) (n : Fin 36) (b : Fin 8) (h : Fin 4) (r c : Fin 64) :
    back z (ix5 n b h r c) = z (ix6 (chk 1 n.val) 1 b h r c) := by
  have e := chk_val 1 n.val n.isLt
  rw [if_neg (by decide)] at e
  pointwise [back]
  have hn := n.isLt
  by_cases h1 : n.val < 4
  · rw [dif_pos h1]
    rw [if_pos h1] at e
    refine congrArg z (funext fun a => ?_)
    fin_cases a
    all_goals first
      | rfl
      | exact Fin.ext (by show 4 - (n.val + 1) = (chk 1 n.val).val; omega)
  · rw [dif_neg h1]
    rw [if_neg h1] at e
    refine congrArg z (funext fun a => ?_)
    fin_cases a
    all_goals first
      | rfl
      | exact Fin.ext (by show 4 + (32 - (n.val - 4 + 1)) = (chk 1 n.val).val; omega)

/-- The first direction's. -/
def fore (z : Vec Ideal S36x2x8x4x64x64 .f32) : Vec Ideal S36x8x4x64x64 .f32 :=
  shapeCast S36x8x4x64x64 (extractStridedSlice S36x1x8x4x64x64 ![0, 0, 0, 0, 0, 0] z slices_S36x2x8x4x64x64_S36x1x8x4x64x64_0_0_0_0_0_0) shapeCasts_S36x1x8x4x64x64_S36x8x4x64x64

theorem fore_at (z : Vec Ideal S36x2x8x4x64x64 .f32) (n : Fin 36) (b : Fin 8) (h : Fin 4) (r c : Fin 64) :
    fore z (ix5 n b h r c) = z (ix6 n 0 b h r c) := by
  pointwise [fore]

variable {X : Seqs} {s : State Ideal}

theorem res_fwd (H : Carries X 36 s) (b : Fin 8) (T : Fin 2304) (l : Fin 256) : R_main_v100 s (ix3 b T l) = X.res 0 b T l := by
  obtain ⟨n, r, hn, rfl⟩ := tok_surj 0 T
  obtain ⟨h, c, rfl⟩ := ln_surj l
  rw [Seqs.res_at X 0 b n hn r h c _ rfl]
  have e : chk 0 n = ⟨n, hn⟩ := Fin.ext (by rw [chk_val 0 n hn, if_pos rfl])
  refine (toks_at (fore s.main_v89_8) b (chk 0 n) h r c).trans ?_
  rw [fore_at, e]
  exact H.out ⟨n, hn⟩ 0 b h r c hn

theorem res_bwd (H : Carries X 36 s) (b : Fin 8) (T : Fin 2304) (l : Fin 256) : R_main_v102 s (ix3 b T l) = X.res 1 b T l := by
  obtain ⟨n, r, hn, rfl⟩ := tok_surj 1 T
  obtain ⟨h, c, rfl⟩ := ln_surj l
  rw [Seqs.res_at X 1 b n hn r h c _ rfl]
  have e : chk 1 (chk 1 n).val = ⟨n, hn⟩ := Fin.ext (chk_chk 1 n hn)
  refine (toks_at (back s.main_v89_8) b (chk 1 n) h r c).trans ?_
  rw [back_at, e]
  exact H.out ⟨n, hn⟩ 1 b h r c hn

variable (m : (ℓ : Loc nD τ sig) → Buf (Elt Ideal) ℓ)

/-- What the reference's arguments hold. -/
def seqs (c : Dev nD) : Seqs where
  u d b T h i := m ((c.tc : Thread nD τ).loc main_arg0) (ix5 d b T h i)
  w d b T h i := m ((c.tc : Thread nD τ).loc main_arg1) (ix5 d b T h i)
  a d b T h i := m ((c.tc : Thread nD τ).loc main_arg2) (ix5 d b T h i)
  q d b T h i := m ((c.tc : Thread nD τ).loc main_arg3) (ix5 d b T h i)
  k d b T h i := m ((c.tc : Thread nD τ).loc main_arg4) (ix5 d b T h i)
  g d b n h := m ((c.tc : Thread nD τ).loc main_arg5) (ix4 d b n h)

theorem wide_at (x : Vec Ideal S2x8x2304x4x64 .bf16) (n : Fin 36) (d : Fin 2) (b : Fin 8) (h : Fin 4) (r c : Fin 64) :
    orient (extf (F := Ideal) .f32 x bitsLt_bf16_f32) (ix6 n d b h r c) = x (ix5 d b (tok d n.val r) h c) := by
  rw [orient_at]
  pointwise

theorem first_carries (c : Dev nD) : Carries (seqs m c) 0 (initState m c) := by
  refine ⟨fun k d b h r x => orient_at _ k d b h r x, fun k d b h r x => wide_at _ k d b h r x, fun k d b h r x => wide_at _ k d b h r x,
    fun k d b h r x => wide_at _ k d b h r x, fun k d b h r x => wide_at _ k d b h r x, fun k d b h => orientG_at _ k d b h, ?_,
    fun k d b h r x hk => absurd hk (Nat.not_lt_zero _)⟩
  intro d b h i j
  show K_main_v87 (F := Ideal) (ix5 d b h i j) = 0
  pointwise [K_main_v87, K_main_cst]

theorem carries (c : Dev nD) : ∀ n, n ≤ 36 → Carries (seqs m c) n (it m c n)
  | 0, _ => first_carries m c
  | n + 1, hn => (carries c n (by omega)).step ⟨n, by omega⟩

end Cert.ReferenceIdeal.Dn

end
-- ==== Proof.Dn.Whole.lean ====
module

public import proofs.«01_k».proof.Defs
public import proofs.«01_k».proof.Proof.Gen.Kernel.Frame
public import proofs.«01_k».proof.Proof.Gen.KernelIdeal.Frame
public import proofs.«01_k».proof.Proof.Dn.Sweep
public import proofs.«01_k».proof.Proof.Dn.Ref

@[expose] public section

set_option maxRecDepth 16384

noncomputable section

namespace Cert.Proof.Dn

open Idealize.ShloMosaic Idealize.ShloMosaic.TcCoe Idealize.SL.Sem

/-! The claims about the recurrence across chunks. -/

theorem frame_kernel : Cert.quiescent_Kernel := fun m ρ _ => Cert.Kernel.Gen.frame m ρ

theorem frame_kernelIdeal : Cert.quiescent_KernelIdeal := fun m ρ _ => Cert.KernelIdeal.Gen.frame m ρ

theorem frame_referenceIdeal : Cert.quiescent_ReferenceIdeal := fun m ρ _ =>
  (θ_run Cert.ReferenceIdeal.defs _ _).mono
    (fun r h => ⟨fun c => ⟨(h c).2.2.1, (h c).2.2.2.1, (h c).2.2.2.2.1, (h c).2.2.2.2.2.1, (h c).2.2.2.2.2.2.1, (h c).2.2.2.2.2.2.2⟩,
      sem_eq_zero_of_no_sems (by decide) r.2⟩)
    (Cert.ReferenceIdeal.Value.run m ρ)

theorem algebraic : Cert.algebraic_KernelIdeal_ReferenceIdeal := fun m ρ m' ρ' _ hm => by
  have hs : ∀ c, Cert.ReferenceIdeal.Dn.seqs m' c = Cert.KernelIdeal.Dn.seqs m c := fun c => by
    obtain ⟨h0, h1, h2, h3, h4, h5⟩ := hm c
    unfold Cert.ReferenceIdeal.Dn.seqs Cert.KernelIdeal.Dn.seqs
    rw [h0, h1, h2, h3, h4, h5]
  refine ⟨fun c => (Cert.KernelIdeal.Gen.dats m 0 c).arrAt 12 Cert.KernelIdeal.cfg0.N,
    fun c => (Cert.KernelIdeal.Gen.dats m 0 c).arrAt 13 Cert.KernelIdeal.cfg0.N, Cert.KernelIdeal.Value.run_blocks m ρ, ?_⟩
  refine (θ_run Cert.ReferenceIdeal.defs _ _).mono (fun r h c => ?_) (Cert.ReferenceIdeal.Value.run m' ρ')
  have hc := Cert.ReferenceIdeal.Dn.carries m' c 36 le_rfl
  have hh := Cert.ReferenceIdeal.Dn.it_holds m' c 36
  rw [hs c] at hc
  refine ⟨?_, ?_, (h c).2.2⟩
  · rw [(h c).1, hh.fwd]
    funext i
    obtain ⟨b, T, l, rfl⟩ : ∃ b T l, i = ix3 b T l := ⟨i 0, i 1, i 2, eq_ix3 i⟩
    exact (Cert.ReferenceIdeal.Dn.res_fwd hc b T l).trans (Cert.KernelIdeal.Dn.fwd_final m c b T l).symm
  · rw [(h c).2.1, hh.bwd]
    funext i
    obtain ⟨b, T, l, rfl⟩ : ∃ b T l, i = ix3 b T l := ⟨i 0, i 1, i 2, eq_ix3 i⟩
    exact (Cert.ReferenceIdeal.Dn.res_bwd hc b T l).trans (Cert.KernelIdeal.Dn.bwd_final m c b T l).symm

end Cert.Proof.Dn

end
-- ==== Proof.Ffn.Row.lean ====
/- The feed-forward half-step of one row at exact values: the modulated RMS norm, the gated hidden units, the projection
   back and the gated step onto the residual. -/
module

public import Idealize.ShloMosaic.Lib.Pointwise
public import Idealize.ShloMosaic.Lib.Claim

@[expose] public section

set_option maxRecDepth 16384

noncomputable section

namespace Cert.Ffn

open Idealize.ShloMosaic

/-- The constants of the layer, as the programs write them. -/
def eps : EReal := FloatOps.ofBits (F := Ideal) .f32 0x358637BD#32
def width : EReal := FloatOps.ofBits (F := Ideal) .f32 0x44800000#32
def one : EReal := FloatOps.ofBits (F := Ideal) .f32 0x3F800000#32
def half : EReal := FloatOps.ofBits (F := Ideal) .f32 0x3F000000#32

/-- The RMS-normalised row, scaled and shifted. -/
def adaln (x nw scale shift : Fin 1024 → EReal) (j : Fin 1024) : EReal :=
  x j * Ideal.rsqrt (Ideal.div (∑ k, x k * x k) width + eps) * nw j * (one + scale j) + shift j

/-- The gate's activation. -/
def silu (g : EReal) : EReal := g * Ideal.div one (one + Ideal.exp (0 - g))

/-- A gated hidden unit, from the columns of its gate and of its value. -/
def unit (h wg wu : Fin 1024 → EReal) : EReal := silu (∑ k, h k * wg k) * ∑ k, h k * wu k

/-- A hidden unit of the row, from the gates' and values' weights side by side. -/
def hid (h : Fin 1024 → EReal) (w : Fin 1024 → Fin 5632 → EReal) (f : Fin 2816) : EReal :=
  unit h (fun k => w k ⟨f.val, by omega⟩) (fun k => w k ⟨2816 + f.val, by omega⟩)

/-- The row through the feed-forward network. -/
def ffn (h : Fin 1024 → EReal) (w : Fin 1024 → Fin 5632 → EReal) (wd : Fin 2816 → Fin 1024 → EReal) (j : Fin 1024) : EReal :=
  ∑ f, hid h w f * wd f j

/-- What `n` hidden units from `a` on add. -/
def part (h : Fin 1024 → EReal) (w : Fin 1024 → Fin 5632 → EReal) (wd : Fin 2816 → Fin 1024 → EReal) (j : Fin 1024)
    (a n : ℕ) (han : a + n ≤ 2816) : EReal :=
  ∑ f : Fin n, hid h w ⟨a + f.val, by omega⟩ * wd ⟨a + f.val, by omega⟩ j

/-- The half-step of the row. -/
def halfStep (x nw scale shift gate : Fin 1024 → EReal) (w : Fin 1024 → Fin 5632 → EReal)
    (wd : Fin 2816 → Fin 1024 → EReal) (j : Fin 1024) : EReal :=
  x j + half * gate j * ffn (adaln x nw scale shift) w wd j

/-- The half-step of every token: the first 256 of a sequence take the context's modulation, the others their sequence's. -/
def layer (x : Fin 8 → Fin 2304 → Fin 1024 → EReal) (mod : Fin 8 → Fin 9 → Fin 1024 → EReal) (modc : Fin 9 → Fin 1024 → EReal)
    (nw : Fin 1024 → EReal) (w : Fin 1024 → Fin 5632 → EReal) (wd : Fin 2816 → Fin 1024 → EReal)
    (b : Fin 8) (T : Fin 2304) (j : Fin 1024) : EReal :=
  if T.val < 256 then halfStep (x b T) nw (modc 1) (modc 0) (modc 2) w wd j
  else halfStep (x b T) nw (mod b 1) (mod b 0) (mod b 2) w wd j

/-- The modulated norm ahead of the input projection, of every token. -/
def normed (x : Fin 8 → Fin 2304 → Fin 1024 → EReal) (mod : Fin 8 → Fin 9 → Fin 1024 → EReal) (modc : Fin 9 → Fin 1024 → EReal)
    (nw : Fin 1024 → EReal) (b : Fin 8) (T : Fin 2304) (j : Fin 1024) : EReal :=
  if T.val < 256 then adaln (x b T) nw (modc 4) (modc 3) j else adaln (x b T) nw (mod b 4) (mod b 3) j

/-- The input projection of every token. -/
def proj (x : Fin 8 → Fin 2304 → Fin 1024 → EReal) (mod : Fin 8 → Fin 9 → Fin 1024 → EReal) (modc : Fin 9 → Fin 1024 → EReal)
    (nw : Fin 1024 → EReal) (w : Fin 1024 → Fin 3472 → EReal) (b : Fin 8) (T : Fin 2304) (f : Fin 3472) : EReal :=
  ∑ k, normed x mod modc nw b T k * w k f

/-- The hidden units taken in five groups of 512 and one of 256. -/
theorem ffn_parts (h : Fin 1024 → EReal) (w : Fin 1024 → Fin 5632 → EReal) (wd : Fin 2816 → Fin 1024 → EReal) (j : Fin 1024) :
    part h w wd j 0 512 (by omega) + part h w wd j 512 512 (by omega) + part h w wd j 1024 512 (by omega)
      + part h w wd j 1536 512 (by omega) + part h w wd j 2048 512 (by omega) + part h w wd j 2560 256 (by omega)
      = ffn h w wd j := by
  have e : ffn h w wd j = ∑ f : Fin (512 + 512 + 512 + 512 + 512 + 256), hid h w f * wd f j := rfl
  rw [e]
  simp only [Fin.sum_univ_add, part]
  refine congrArg₂ _ (congrArg₂ _ (congrArg₂ _ (congrArg₂ _ (congrArg₂ _ ?_ ?_) ?_) ?_) ?_) ?_
  all_goals
    refine Finset.sum_congr rfl fun f _ => ?_
    congr 2 <;> exact Fin.ext (by simp)

/-- The activation written with a sign change. -/
theorem silu_neg (g : EReal) : g * Ideal.div one (one + Ideal.exp (-g)) = silu g := by
  unfold silu
  rw [zero_sub]

/-! ## Which modulation a row takes -/

/-- The rows of the block before a point's own, within its sequence. -/
def before (n : ℕ) : BitVec 32 :=
  Scalar.muli
    (Scalar.select
      (Scalar.andi
        (Scalar.xori
          (Scalar.cmpi .slt (Scalar.remsi (BitVec.ofNat 32 n) (Scalar.select (Scalar.cmpi .eq 3#32 0#32) 1#32 3#32)) 0#32)
          (Scalar.cmpi .slt (Scalar.select (Scalar.cmpi .eq 3#32 0#32) 1#32 3#32) 0#32))
        (Scalar.cmpi .ne (Scalar.remsi (BitVec.ofNat 32 n) (Scalar.select (Scalar.cmpi .eq 3#32 0#32) 1#32 3#32)) 0#32))
      (Scalar.addi (Scalar.remsi (BitVec.ofNat 32 n) (Scalar.select (Scalar.cmpi .eq 3#32 0#32) 1#32 3#32))
        (Scalar.select (Scalar.cmpi .eq 3#32 0#32) 1#32 3#32))
      (Scalar.remsi (BitVec.ofNat 32 n) (Scalar.select (Scalar.cmpi .eq 3#32 0#32) 1#32 3#32)))
    768#32

theorem before_eq : ∀ n : Fin 24, before n.val = BitVec.ofNat 32 (n.val % 3 * 768) := by decide +kernel

theorem early : ∀ (p : Fin 3) (r : Fin 768),
    IntOp.cmpi .slt (IntOp.addi (BitVec.ofNat 32 r.val) (BitVec.ofNat 32 (p.val * 768))) 256#32 = 1#1 ↔ p.val = 0 ∧ r.val < 256 := by
  decide +kernel

theorem pick_row {α : Type} (n : ℕ) (hn : n < 24) (r : Fin 768) (a b : α) :
    Scalar.select (IntOp.cmpi .slt (IntOp.addi (BitVec.ofNat 32 r.val) (before n)) 256#32) a b
      = if n % 3 = 0 ∧ r.val < 256 then a else b := by
  have e := early ⟨n % 3, by omega⟩ r
  rw [before_eq ⟨n, hn⟩]
  simp only at e ⊢
  by_cases h : n % 3 = 0 ∧ r.val < 256
  · rw [if_pos h, e.mpr h]; rfl
  · rw [if_neg h]; exact if_neg fun q => h (e.mp q)

/-- The row of modulation a row takes: the context's on the first 256 rows of a sequence, else its own sequence's. -/
def pick (n : ℕ) (r : Fin 768) (a b : Fin 1024 → EReal) : Fin 1024 → EReal := if n % 3 = 0 ∧ r.val < 256 then a else b

theorem pick_at (n : ℕ) (hn : n < 24) (r : Fin 768) (a b : Fin 1024 → EReal) (j : Fin 1024) :
    Scalar.select (IntOp.cmpi .slt (IntOp.addi (BitVec.ofNat 32 r.val) (before n)) 256#32) (a j) (b j) = pick n r a b j := by
  rw [pick_row n hn]; unfold pick; split_ifs <;> rfl

end Cert.Ffn

end
-- ==== Proof.Mix.Row.lean ====
/- The mixing of one row at exact values: the norms of the two recurrences' outputs taken within a head, the output
   projection of the four mixers' outputs side by side, and its gated step onto the residual. -/
module

public import proofs.«01_k».proof.Proof.Ffn.Row
public import Idealize.ShloMosaic.Lib.Pointwise
public import Idealize.ShloMosaic.Lib.Claim

@[expose] public section

set_option maxRecDepth 16384

noncomputable section

namespace Cert.Mix

open Cert.Ffn Idealize.ShloMosaic

/-- The constants of the layer, as the programs write them. -/
def headWidth : EReal := FloatOps.ofBits (F := Ideal) .f32 0x42800000#32
def perLane : EReal := FloatOps.ofBits (F := Ideal) .f32 0x3C800000#32
def lnEps : EReal := FloatOps.ofBits (F := Ideal) .f32 0x3A27C5AC#32

/-- The mean over the lanes of a lane's head. -/
def headMean (a : Fin 256 → EReal) (l : Fin 256) : EReal :=
  Ideal.div (∑ i : Fin 64, a ⟨l.val / 64 * 64 + i.val, by omega⟩) headWidth

/-- The delta rule's output: RMS-normalised within its head, weighted and gated. -/
def dnRow (o z : Fin 256 → EReal) (w : Fin 64 → EReal) (l : Fin 256) : EReal :=
  o l * Ideal.rsqrt (headMean (fun k => o k * o k) l + eps) * w ⟨l.val % 64, by omega⟩ * silu (z l)

/-- A row less its mean within each head. -/
def centred (y : Fin 256 → EReal) (l : Fin 256) : EReal := y l - headMean y l

/-- The other recurrence's output: layer-normalised within its head, with its bonus, gated. -/
def rwRow (y lw lb bonus g : Fin 256 → EReal) (l : Fin 256) : EReal :=
  (centred y l * Ideal.rsqrt (headMean (fun k => centred y k * centred y k) l + lnEps) * lw l + lb l + bonus l) * g l

/-- The lanes of a head have one mean. -/
theorem headMean_lane (y : Fin 256 → EReal) (l : Fin 256) (i : Fin 64) :
    headMean y ⟨l.val / 64 * 64 + i.val, by omega⟩ = headMean y l := by
  unfold headMean
  simp only [show (l.val / 64 * 64 + i.val) / 64 = l.val / 64 by omega]

/-- The layer norm written over the lanes of one head. -/
theorem rwRow_head (y lw lb bonus g : Fin 256 → EReal) (l : Fin 256) : rwRow y lw lb bonus g l
    = ((y l - headMean y l) * Ideal.rsqrt (Ideal.div (∑ i : Fin 64, (y ⟨l.val / 64 * 64 + i.val, by omega⟩ - headMean y l)
        * (y ⟨l.val / 64 * 64 + i.val, by omega⟩ - headMean y l)) headWidth + lnEps) * lw l + lb l + bonus l) * g l := by
  unfold rwRow
  rw [show headMean (fun k => centred y k * centred y k) l = Ideal.div (∑ i : Fin 64,
    centred y ⟨l.val / 64 * 64 + i.val, by omega⟩ * centred y ⟨l.val / 64 * 64 + i.val, by omega⟩) headWidth from rfl]
  simp only [centred, headMean_lane]

/-- Four rows of 256 side by side. -/
def side (p q r s : Fin 256 → EReal) (c : Fin 1024) : EReal :=
  if h : c.val < 256 then p ⟨c.val, h⟩
  else if h' : c.val < 512 then q ⟨c.val - 256, by omega⟩
  else if h'' : c.val < 768 then r ⟨c.val - 512, by omega⟩
  else s ⟨c.val - 768, by omega⟩

/-- The row of the residual after the mixers. -/
def after (x gate : Fin 1024 → EReal) (p q r s : Fin 256 → EReal) (wo : Fin 1024 → Fin 1024 → EReal) (j : Fin 1024) : EReal :=
  x j + gate j * ∑ c, side p q r s c * wo c j

/-- A latent token's residual after the mixers and the second feed-forward half-step. -/
def latent (x : Fin 8 → Fin 2304 → Fin 1024 → EReal) (mod : Fin 8 → Fin 9 → Fin 1024 → EReal) (nw : Fin 1024 → EReal)
    (hy na oF oB z yF yB bonus g : Fin 8 → Fin 2304 → Fin 256 → EReal) (dnw : Fin 64 → EReal) (lw lb : Fin 256 → EReal)
    (wo : Fin 1024 → Fin 1024 → EReal) (w : Fin 1024 → Fin 5632 → EReal) (wd : Fin 2816 → Fin 1024 → EReal)
    (b : Fin 8) (T : Fin 2304) : Fin 1024 → EReal :=
  halfStep (after (x b T) (mod b 5) (hy b T) (na b T) (dnRow (fun k => oF b T k + oB b T k) (z b T) dnw)
    (rwRow (fun k => yF b T k + yB b T k) lw lb (bonus b T) (g b T)) wo) nw (mod b 7) (mod b 6) (mod b 8) w wd

/-- Two arrays' sum is finite everywhere. -/
def FiniteSum (p q : Fin 8 → Fin 2304 → Fin 256 → EReal) : Prop := ∀ b T k, ∃ y : ℝ, p b T k + q b T k = (y : EReal)

/-- The projection taken mixer by mixer. -/
theorem side_parts (p q r s : Fin 256 → EReal) (w : Fin 1024 → EReal) :
    (∑ k : Fin 256, p k * w ⟨k.val, by omega⟩) + (∑ k : Fin 256, q k * w ⟨256 + k.val, by omega⟩)
      + (∑ k : Fin 256, r k * w ⟨512 + k.val, by omega⟩) + (∑ k : Fin 256, s k * w ⟨768 + k.val, by omega⟩)
      = ∑ c, side p q r s c * w c := by
  have e : (∑ c, side p q r s c * w c) = ∑ c : Fin (256 + 256 + 256 + 256), side p q r s c * w c := rfl
  rw [e]
  simp only [Fin.sum_univ_add]
  refine congrArg₂ _ (congrArg₂ _ (congrArg₂ _ ?_ ?_) ?_) ?_
  all_goals
    refine Finset.sum_congr rfl fun k _ => ?_
    refine congrArg₂ _ ?_ (congrArg w (Fin.ext (by simp [Nat.add_comm])))
    have hk := k.isLt
    unfold side
    simp only [Fin.val_castAdd, Fin.val_natAdd]
  · rw [dif_pos hk]
  · rw [dif_neg (by omega), dif_pos (by omega)]
    exact congrArg q (Fin.ext (by dsimp only; omega))
  · rw [dif_neg (by omega), dif_neg (by omega), dif_pos (by omega)]
    exact congrArg r (Fin.ext (by dsimp only; omega))
  · rw [dif_neg (by omega), dif_neg (by omega), dif_neg (by omega)]
    exact congrArg s (Fin.ext (by dsimp only; omega))

/-! ## The mean within a head as a product with a matrix -/

/-- The matrix: the reciprocal of the width where two lanes are of one head. -/
def same (k l : Fin 256) : EReal := if k.val / 64 = l.val / 64 then perLane else 0

/-- The product taken in two parts, of the values and of what their first part leaves. -/
def split (a : Fin 256 → EReal) (l : Fin 256) : EReal := (∑ k, a k * same k l) + ∑ k, (a k - a k) * same k l

theorem perLane_eq : perLane = ((1 / 64 : ℝ) : EReal) := by
  simp [perLane, Ideal.ofBits, Ideal.ieee, -EReal.coe_mul, FloatOps.ofBits]; norm_num

theorem headWidth_eq : headWidth = ((64 : ℝ) : EReal) := by
  simp [headWidth, Ideal.ofBits, Ideal.ieee, -EReal.coe_mul, FloatOps.ofBits]; norm_num

/-- A sum over lanes of which only those of one head count. -/
theorem sum_head {A : Type} [AddCommMonoid A] (f : Fin 256 → A) (l : Fin 256) (hf : ∀ k : Fin 256, k.val / 64 ≠ l.val / 64 → f k = 0) :
    ∑ k, f k = ∑ i : Fin 64, f ⟨l.val / 64 * 64 + i.val, by omega⟩ := by
  symm
  refine Finset.sum_of_injOn (fun i : Fin 64 => (⟨l.val / 64 * 64 + i.val, by omega⟩ : Fin 256)) ?_ ?_ ?_ ?_
  · intro i _ i' _ h
    have := congrArg Fin.val h
    exact Fin.ext (by dsimp only at this; omega)
  · intro i _
    exact Finset.mem_coe.mpr (Finset.mem_univ _)
  · intro k _ hk
    refine hf k fun e => hk ⟨⟨k.val % 64, by omega⟩, Finset.mem_coe.mpr (Finset.mem_univ _), Fin.ext (by dsimp only; omega)⟩
  · intro i _; rfl

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- For finite values the product in two parts is the mean within the head. -/
theorem split_eq (a : Fin 256 → EReal) (ha : ∀ k, ∃ x : ℝ, a k = (x : EReal)) (l : Fin 256) : split a l = headMean a l := by
  choose x hx using ha
  have hz : ∀ k, (a k - a k) * same k l = 0 := fun k => by
    rw [hx, ← EReal.coe_sub, sub_self, EReal.coe_zero, zero_mul]
  unfold split
  rw [Finset.sum_eq_zero fun k _ => hz k, add_zero,
    sum_head _ l fun k hk => by rw [same, if_neg hk, mul_zero]]
  unfold headMean Ideal.div
  rw [headWidth_eq, if_neg (by norm_num)]
  have e : ∀ i : Fin 64, a ⟨l.val / 64 * 64 + i.val, by omega⟩ * same ⟨l.val / 64 * 64 + i.val, by omega⟩ l
      = ((x ⟨l.val / 64 * 64 + i.val, by omega⟩ * (1 / 64) : ℝ) : EReal) := fun i => by
    rw [same, if_pos (by dsimp only; omega), perLane_eq, hx, EReal.coe_mul]
  simp only [e]
  simp only [hx]
  rw [← coe_sum, ← coe_sum, ← Finset.sum_mul, EReal.coe_mul, ← EReal.coe_inv]
  norm_num

theorem square_real {a : Fin 256 → EReal} (ha : ∀ k, ∃ x : ℝ, a k = (x : EReal)) (k : Fin 256) : ∃ x : ℝ, a k * a k = (x : EReal) := by
  obtain ⟨x, hx⟩ := ha k
  exact ⟨x * x, by rw [hx, EReal.coe_mul]⟩

theorem headMean_real {a : Fin 256 → EReal} (ha : ∀ k, ∃ x : ℝ, a k = (x : EReal)) (l : Fin 256) : ∃ x : ℝ, headMean a l = (x : EReal) := by
  choose x hx using ha
  unfold headMean Ideal.div
  rw [headWidth_eq, if_neg (by norm_num)]
  simp only [hx]
  exact ⟨_, by rw [← coe_sum, ← EReal.coe_inv, ← EReal.coe_mul]⟩

theorem centred_real {a : Fin 256 → EReal} (ha : ∀ k, ∃ x : ℝ, a k = (x : EReal)) (l : Fin 256) : ∃ x : ℝ, centred a l = (x : EReal) := by
  obtain ⟨x, hx⟩ := ha l
  obtain ⟨y, hy⟩ := headMean_real ha l
  exact ⟨x - y, by rw [centred, hx, hy, EReal.coe_sub]⟩

end Cert.Mix

end
-- ==== Proof.Mix.Pieces.lean ====
module

public import proofs.«01_k».proof.Proof.Gen.Kernel2Ideal.Value
public import proofs.«01_k».proof.Proof.Mix.Row
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel2Ideal.Mix

open Cert.Ffn Cert.Mix Cert.Kernel2Ideal Cert.Kernel2Ideal.Gen Idealize.ShloMosaic Idealize.ShloMosaic.TcCoe Idealize.SL.Sem

/-! ## The matrix of the mean within a head -/

theorem row_head (a b : Fin 256) : (k0_pay2 (ix2 a b) : BitVec 32) = BitVec.ofNat 32 (a.val / 64) := by
  pointwise [k0_pay2]
  revert a
  decide +kernel

theorem col_head (a b : Fin 256) :
    (Scalar.select (IntOp.andi (k0_pay4 (ix2 a b)) (k0_pay5 (ix2 a b))) (IntOp.subi (k0_pay3 (ix2 a b)) 1#32) (k0_pay3 (ix2 a b)) : BitVec 32)
      = BitVec.ofNat 32 (b.val / 64) := by
  pointwise [k0_pay3, k0_pay4, k0_pay5]
  revert b
  decide +kernel

theorem pick_head {α : Type} (p q : ℕ) (hp : p < 4) (hq : q < 4) (a b : α) :
    Scalar.select (IntOp.cmpi .eq (BitVec.ofNat 32 p) (BitVec.ofNat 32 q)) a b = if p = q then a else b := by
  interval_cases p <;> interval_cases q <;> rfl

theorem same_at (a b : Fin 256) :
    (k0_pay6 (F := Ideal) k0_pay2 k0_pay3 k0_pay4 k0_pay5 (ix2 a b) : EReal) = same a b := by
  have hr := row_head a b
  have hc := col_head a b
  have hp := pick_head (a.val / 64) (b.val / 64) (by omega) (by omega) perLane (0 : EReal)
  unfold k0_pay6
  revert hr hc
  generalize (k0_pay2 : IVec S256x256 32) = p2
  generalize (k0_pay3 : IVec S256x256 32) = p3
  generalize (k0_pay4 : IVec S256x256 1) = p4
  generalize (k0_pay5 : IVec S256x256 1) = p5
  intro hr hc
  pointwise
  rw [hr, hc]
  exact hp

/-! ## The mixers' outputs of a row -/

theorem pay7_at (a b z : Vec Ideal S512x256 .f32) (w : Vec Ideal S1x256 .f32) (r : Fin 512) (l : Fin 256) :
    k0_pay7 k0_pay2 k0_pay3 k0_pay4 k0_pay5 a b w z (ix2 r l)
      = (a (ix2 r l) + b (ix2 r l))
          * Ideal.rsqrt (split (fun k => (a (ix2 r k) + b (ix2 r k)) * (a (ix2 r k) + b (ix2 r k))) l + eps)
          * w (ix2 0 l) * silu (z (ix2 r l)) := by
  unfold split
  simp only [← same_at]
  unfold k0_pay7
  generalize k0_pay6 (F := Ideal) k0_pay2 k0_pay3 k0_pay4 k0_pay5 = M
  pointwise [silu, one, eps]

theorem pay8_at (a b bonus g : Vec Ideal S512x256 .f32) (lw lb : Vec Ideal S1x256 .f32) (r : Fin 512) (l : Fin 256) :
    k0_pay8 (k0_pay6 k0_pay2 k0_pay3 k0_pay4 k0_pay5) a b lw lb bonus g (ix2 r l)
      = ((a (ix2 r l) + b (ix2 r l) - split (fun k => a (ix2 r k) + b (ix2 r k)) l)
          * Ideal.rsqrt (split (fun k => (a (ix2 r k) + b (ix2 r k) - split (fun k => a (ix2 r k) + b (ix2 r k)) k)
              * (a (ix2 r k) + b (ix2 r k) - split (fun k => a (ix2 r k) + b (ix2 r k)) k)) l + lnEps)
          * lw (ix2 0 l) + lb (ix2 0 l) + bonus (ix2 r l)) * g (ix2 r l) := by
  unfold split
  simp only [← same_at]
  generalize k0_pay6 (F := Ideal) k0_pay2 k0_pay3 k0_pay4 k0_pay5 = M
  pointwise [k0_pay8, lnEps]

theorem pay10_at (dn rw : FVec Ideal S512x256 .f32) (hy na : Vec Ideal S512x256 .f32) (w0 w1 w2 w3 : Vec Ideal S1x256x1024 .bf16)
    (x : Vec Ideal S512x1024 .f32) (g : Vec Ideal S1x1x1024 .f32) (r : Fin 512) (j : Fin 1024) :
    k0_pay10 dn rw (k0_pay9 hy) w0 na w1 w2 w3 x g (ix2 r j)
      = x (ix2 r j) + g (ix3 0 0 j)
          * ((∑ k : Fin 256, hy (ix2 r k) * w0 (ix3 0 k j)) + (∑ k : Fin 256, na (ix2 r k) * w1 (ix3 0 k j))
              + (∑ k : Fin 256, dn (ix2 r k) * w2 (ix3 0 k j)) + (∑ k : Fin 256, rw (ix2 r k) * w3 (ix3 0 k j))) := by
  pointwise [k0_pay10, k0_pay9]

/-! ## The feed-forward half-step of a row -/

theorem pay13_at (x : FVec Ideal S512x1024 .f32) (a b : Vec Ideal S1x1x1024 .f32) (n : Vec Ideal S1x1024 .f32) (r : Fin 512) (j : Fin 1024) :
    k0_pay13 x (k0_pay11 a) (k0_pay12 b) n (ix2 r j)
      = adaln (fun k => x (ix2 r k)) (fun k => n (ix2 0 k)) (fun k => b (ix3 0 0 k)) (fun k => a (ix3 0 0 k)) j := by
  pointwise [k0_pay13, k0_pay11, k0_pay12, adaln, one, eps, width]

theorem pay14_at (x : FVec Ideal S512x1024 .f32) (a b : FVec Ideal S1x1024 .f32) (n : Vec Ideal S1x1024 .f32)
    (wg wu : Vec Ideal S1x1x1024x512 .bf16) (r : Fin 512) (f : Fin 512) :
    k0_pay14 x a b n wg wu (ix2 r f)
      = unit (fun k => k0_pay13 x a b n (ix2 r k)) (fun k => wg (ix4 0 0 k f)) (fun k => wu (ix4 0 0 k f)) := by
  unfold k0_pay14
  generalize k0_pay13 x a b n = h
  pointwise [unit, silu, one]

theorem pay15_at (h : FVec Ideal S512x1024 .bf16) (p : FVec Ideal S512x512 .bf16)
    (wd : Vec Ideal S1x1x512x1024 .bf16) (wg' wu' : Vec Ideal S1x1x1024x512 .bf16) (wd' : Vec Ideal S1x1x512x1024 .bf16) (r : Fin 512) (j : Fin 1024) :
    k0_pay15 h p wd wg' wu' wd' (ix2 r j)
      = (∑ f : Fin 512, p (ix2 r f) * wd (ix4 0 0 f j))
        + ∑ f : Fin 512, unit (fun k => h (ix2 r k)) (fun k => wg' (ix4 0 0 k f)) (fun k => wu' (ix4 0 0 k f)) * wd' (ix4 0 0 f j) := by
  pointwise [k0_pay15, unit, silu, one]

theorem pay17_at (h : FVec Ideal S512x1024 .bf16) (acc : FVec Ideal S512x1024 .f32)
    (wg wu : Vec Ideal S1x1x1024x512 .bf16) (wd : Vec Ideal S1x1x512x1024 .bf16)
    (wg' wu' : Vec Ideal S1x1x1024x512 .bf16) (wd' : Vec Ideal S1x1x512x1024 .bf16) (r : Fin 512) (j : Fin 1024) :
    k0_pay17 h acc (k0_pay16 h wg) wu wd wg' wu' wd' (ix2 r j)
      = acc (ix2 r j)
        + (∑ f : Fin 512, unit (fun k => h (ix2 r k)) (fun k => wg (ix4 0 0 k f)) (fun k => wu (ix4 0 0 k f)) * wd (ix4 0 0 f j))
        + ∑ f : Fin 512, unit (fun k => h (ix2 r k)) (fun k => wg' (ix4 0 0 k f)) (fun k => wu' (ix4 0 0 k f)) * wd' (ix4 0 0 f j) := by
  pointwise [k0_pay17, k0_pay16, unit, silu, one]

theorem pay18_at (h : FVec Ideal S512x1024 .bf16) (acc : FVec Ideal S512x1024 .f32)
    (wg wu : Vec Ideal S1x1x1024x512 .bf16) (wd : Vec Ideal S1x1x512x1024 .bf16) (r : Fin 512) (j : Fin 1024) :
    k0_pay18 h acc wg wu wd (ix2 r j)
      = acc (ix2 r j)
        + ∑ f : Fin 512, unit (fun k => h (ix2 r k)) (fun k => wg (ix4 0 0 k f)) (fun k => wu (ix4 0 0 k f)) * wd (ix4 0 0 f j) := by
  pointwise [k0_pay18, unit, silu, one]

theorem pay1_at (x : FVec Ideal S512x1024 .f32) (h : FVec Ideal S512x1024 .bf16) (acc : FVec Ideal S512x1024 .f32)
    (wg wu : Vec Ideal S1x1x1024x256 .bf16) (wd : Vec Ideal S1x1x256x1024 .bf16) (g : Vec Ideal S1x1x1024 .f32) (r : Fin 512) (j : Fin 1024) :
    k0_pay1 x h acc (k0_pay19 h wg) (k0_pay20 wu) wd g (ix2 r j)
      = x (ix2 r j) + half * g (ix3 0 0 j) * (acc (ix2 r j)
        + ∑ f : Fin 256, unit (fun k => h (ix2 r k)) (fun k => wg (ix4 0 0 k f)) (fun k => wu (ix4 0 0 k f)) * wd (ix4 0 0 f j)) := by
  pointwise [k0_pay1, k0_pay19, k0_pay20, unit, silu, one, half]

end Cert.Kernel2Ideal.Mix

end
-- ==== Proof.Mix.Mixers.lean ====
module

public import proofs.«01_k».proof.Proof.Gen.Kernel2Ideal.Value
public import proofs.«01_k».proof.Proof.Mix.Pieces
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel2Ideal.Mix

open Cert.Ffn Cert.Mix Cert.Kernel2Ideal Cert.Kernel2Ideal.Gen Idealize.ShloMosaic Idealize.ShloMosaic.TcCoe Idealize.SL.Sem

/-! ## The loads of whole blocks and of rows -/

theorem ld_blk (x : Vec Ideal S512x256 .f32) (r : Fin 512) (k : Fin 256) : View.ld x r0_0 (ix2 r k) = x (ix2 r k) := by pointwise
theorem ld_dnw (x : Vec Ideal S1x256 .f32) (k : Fin 256) : View.ld x r0_1 (ix2 0 k) = x (ix2 0 k) := by pointwise
theorem ld_lw (x : Vec Ideal S16x256 .f32) (k : Fin 256) : View.ld x r0_2 (ix2 0 k) = x (ix2 7 k) := by pointwise
theorem ld_lb (x : Vec Ideal S16x256 .f32) (k : Fin 256) : View.ld x r0_3 (ix2 0 k) = x (ix2 8 k) := by pointwise
theorem ld_w0 (x : Vec Ideal S1x1024x1024 .bf16) (k : Fin 256) (j : Fin 1024) :
    View.ld x r0_4 (ix3 0 k j) = x (ix3 0 ⟨k.val, by omega⟩ j) := by pointwise
theorem ld_w1 (x : Vec Ideal S1x1024x1024 .bf16) (k : Fin 256) (j : Fin 1024) :
    View.ld x r0_5 (ix3 0 k j) = x (ix3 0 ⟨256 + k.val, by omega⟩ j) := by pointwise
theorem ld_w2 (x : Vec Ideal S1x1024x1024 .bf16) (k : Fin 256) (j : Fin 1024) :
    View.ld x r0_6 (ix3 0 k j) = x (ix3 0 ⟨512 + k.val, by omega⟩ j) := by pointwise
theorem ld_w3 (x : Vec Ideal S1x1024x1024 .bf16) (k : Fin 256) (j : Fin 1024) :
    View.ld x r0_7 (ix3 0 k j) = x (ix3 0 ⟨768 + k.val, by omega⟩ j) := by pointwise
theorem ld_x (x : Vec Ideal S512x1024 .f32) (r : Fin 512) (j : Fin 1024) : View.ld x r0_8 (ix2 r j) = x (ix2 r j) := by pointwise
theorem ld_m5 (x : Vec Ideal S1x9x1024 .f32) (j : Fin 1024) : View.ld x r0_9 (ix3 0 0 j) = x (ix3 0 5 j) := by pointwise
theorem ld_m6 (x : Vec Ideal S1x9x1024 .f32) (j : Fin 1024) : View.ld x r0_10 (ix3 0 0 j) = x (ix3 0 6 j) := by pointwise
theorem ld_m7 (x : Vec Ideal S1x9x1024 .f32) (j : Fin 1024) : View.ld x r0_11 (ix3 0 0 j) = x (ix3 0 7 j) := by pointwise
theorem ld_m8 (x : Vec Ideal S1x9x1024 .f32) (j : Fin 1024) : View.ld x r0_31 (ix3 0 0 j) = x (ix3 0 8 j) := by pointwise
theorem ld_nw (x : Vec Ideal S1x1024 .f32) (j : Fin 1024) : View.ld x r0_12 (ix2 0 j) = x (ix2 0 j) := by pointwise

/-! ## The stages of a row, from the rows of what they load -/

theorem pay7_row {a b z : Vec Ideal S512x256 .f32} {w : Vec Ideal S1x256 .f32} {r : Fin 512} {o zr wr : Fin 256 → EReal}
    (ho : ∀ k, a (ix2 r k) + b (ix2 r k) = o k) (hz : ∀ k, z (ix2 r k) = zr k) (hw : ∀ k, w (ix2 0 k) = wr k) (l : Fin 256) :
    k0_pay7 k0_pay2 k0_pay3 k0_pay4 k0_pay5 a b w z (ix2 r l)
      = o l * Ideal.rsqrt (split (fun k => o k * o k) l + eps) * wr l * silu (zr l) := by
  rw [pay7_at]
  simp only [ho, hz, hw]

theorem pay8_row {a b bonus g : Vec Ideal S512x256 .f32} {lw lb : Vec Ideal S1x256 .f32} {r : Fin 512} {y br gr lwr lbr : Fin 256 → EReal}
    (hy : ∀ k, a (ix2 r k) + b (ix2 r k) = y k) (hb : ∀ k, bonus (ix2 r k) = br k) (hg : ∀ k, g (ix2 r k) = gr k)
    (hlw : ∀ k, lw (ix2 0 k) = lwr k) (hlb : ∀ k, lb (ix2 0 k) = lbr k) (l : Fin 256) :
    k0_pay8 (k0_pay6 k0_pay2 k0_pay3 k0_pay4 k0_pay5) a b lw lb bonus g (ix2 r l)
      = ((y l - split y l) * Ideal.rsqrt (split (fun k => (y k - split y k) * (y k - split y k)) l + lnEps) * lwr l + lbr l + br l) * gr l := by
  rw [pay8_at]
  simp only [hy, hb, hg, hlw, hlb]

theorem pay10_row {dn rw : FVec Ideal S512x256 .f32} {hy na : Vec Ideal S512x256 .f32} {w0 w1 w2 w3 : Vec Ideal S1x256x1024 .bf16}
    {x : Vec Ideal S512x1024 .f32} {g : Vec Ideal S1x1x1024 .f32} {r : Fin 512} {xr gr : Fin 1024 → EReal} {p q s t : Fin 256 → EReal}
    {w : Fin 1024 → Fin 1024 → EReal} (hx : ∀ k, x (ix2 r k) = xr k) (hg : ∀ k, g (ix3 0 0 k) = gr k)
    (hp : ∀ k, hy (ix2 r k) = p k) (hq : ∀ k, na (ix2 r k) = q k) (hs : ∀ k, dn (ix2 r k) = s k) (ht : ∀ k, rw (ix2 r k) = t k)
    (h0 : ∀ k j, w0 (ix3 0 k j) = w ⟨k.val, by omega⟩ j) (h1 : ∀ k j, w1 (ix3 0 k j) = w ⟨256 + k.val, by omega⟩ j)
    (h2 : ∀ k j, w2 (ix3 0 k j) = w ⟨512 + k.val, by omega⟩ j) (h3 : ∀ k j, w3 (ix3 0 k j) = w ⟨768 + k.val, by omega⟩ j) (j : Fin 1024) :
    k0_pay10 dn rw (k0_pay9 hy) w0 na w1 w2 w3 x g (ix2 r j) = after xr gr p q s t w j := by
  rw [pay10_at]
  simp only [hx, hg, hp, hq, hs, ht, h0, h1, h2, h3]
  exact congrArg (fun z => xr j + gr j * z) (side_parts p q s t fun c => w c j)

theorem pay13_row {x : FVec Ideal S512x1024 .f32} {a b : Vec Ideal S1x1x1024 .f32} {n : Vec Ideal S1x1024 .f32} {r : Fin 512}
    {xr ar br nr : Fin 1024 → EReal} (hx : ∀ k, x (ix2 r k) = xr k) (ha : ∀ k, a (ix3 0 0 k) = ar k) (hb : ∀ k, b (ix3 0 0 k) = br k)
    (hn : ∀ k, n (ix2 0 k) = nr k) (j : Fin 1024) : k0_pay13 x (k0_pay11 a) (k0_pay12 b) n (ix2 r j) = adaln xr nr br ar j := by
  rw [pay13_at]
  simp only [hx, ha, hb, hn]

section Mixers
variable (x0 : Vec Ideal S512x1024 .f32) (x1 x2 : Vec Ideal S1x9x1024 .f32) (x3 : Vec Ideal S1x1024 .f32)
    (x4 x5 x6 x7 x8 : Vec Ideal S512x256 .f32) (x9 : Vec Ideal S1x256 .f32) (x10 x11 x12 x13 : Vec Ideal S512x256 .f32)
    (x14 : Vec Ideal S16x256 .f32) (x15 : Vec Ideal S1x1024x1024 .bf16)
    (x16 : Vec Ideal S1x1x1024x5632 .bf16) (x17 : Vec Ideal S1x1x2816x1024 .bf16) (w : Fin 64 → EReal) (r : Fin 512) (j : Fin 1024)

/-- A row of the residual after the mixers, from the blocks of the point. -/
def xRow : Fin 1024 → EReal :=
  after (fun k => x0 (ix2 r k)) (fun k => x2 (ix3 0 5 k)) (fun k => x4 (ix2 r k)) (fun k => x5 (ix2 r k))
    (dnRow (fun k => x6 (ix2 r k) + x7 (ix2 r k)) (fun k => x8 (ix2 r k)) w)
    (rwRow (fun k => x10 (ix2 r k) + x11 (ix2 r k)) (fun k => x14 (ix2 7 k)) (fun k => x14 (ix2 8 k)) (fun k => x12 (ix2 r k))
      (fun k => x13 (ix2 r k))) (fun c j => x15 (ix3 0 c j))

/-- The lanes' weights are a head's, head after head. -/
def Tiled : Prop := ∀ l : Fin 256, x9 (ix2 0 l) = w ⟨l.val % 64, by omega⟩

/-- The sums of the two directions are finite on the row. -/
def FiniteRow : Prop :=
  (∀ k, ∃ y : ℝ, x6 (ix2 r k) + x7 (ix2 r k) = (y : EReal)) ∧ ∀ k, ∃ y : ℝ, x10 (ix2 r k) + x11 (ix2 r k) = (y : EReal)

theorem dn_at (hw : Tiled x9 w)
    (hf : ∀ k, ∃ y : ℝ, x6 (ix2 r k) + x7 (ix2 r k) = (y : EReal)) (l : Fin 256) :
    k0_pay7 k0_pay2 k0_pay3 k0_pay4 k0_pay5 (View.ld x6 r0_0) (View.ld x7 r0_0) (View.ld x9 r0_1) (View.ld x8 r0_0) (ix2 r l)
      = dnRow (fun k => x6 (ix2 r k) + x7 (ix2 r k)) (fun k => x8 (ix2 r k)) w l := by
  refine (pay7_row (fun k => congrArg₂ _ (ld_blk x6 r k) (ld_blk x7 r k)) (ld_blk x8 r) (ld_dnw x9) l).trans ?_
  rw [split_eq _ (square_real hf), hw]
  rfl

theorem rw_at (hf : ∀ k, ∃ y : ℝ, x10 (ix2 r k) + x11 (ix2 r k) = (y : EReal)) (l : Fin 256) :
    k0_pay8 (k0_pay6 k0_pay2 k0_pay3 k0_pay4 k0_pay5) (View.ld x10 r0_0) (View.ld x11 r0_0) (View.ld x14 r0_2) (View.ld x14 r0_3)
        (View.ld x12 r0_0) (View.ld x13 r0_0) (ix2 r l)
      = rwRow (fun k => x10 (ix2 r k) + x11 (ix2 r k)) (fun k => x14 (ix2 7 k)) (fun k => x14 (ix2 8 k)) (fun k => x12 (ix2 r k))
          (fun k => x13 (ix2 r k)) l := by
  refine (pay8_row (fun k => congrArg₂ _ (ld_blk x10 r k) (ld_blk x11 r k)) (ld_blk x12 r) (ld_blk x13 r) (ld_lw x14) (ld_lb x14) l).trans ?_
  have e : ∀ k, split (fun k => x10 (ix2 r k) + x11 (ix2 r k)) k = headMean (fun k => x10 (ix2 r k) + x11 (ix2 r k)) k :=
    split_eq _ hf
  simp only [e]
  unfold rwRow
  rw [← split_eq _ (square_real (centred_real hf))]
  rfl

theorem x_at (hw : Tiled x9 w) (hf : FiniteRow x6 x7 x10 x11 r) :
    k0_pay25 x0 x1 x2 x3 x4 x5 x6 x7 x8 x9 x10 x11 x12 x13 x14 x15 x16 x17 (ix2 r j) = xRow x0 x2 x4 x5 x6 x7 x8 x10 x11 x12 x13 x14 x15 w r j := by
  unfold k0_pay25 k0_pay21 k0_pay22 k0_pay23 k0_pay24
  exact pay10_row (ld_x x0 r) (ld_m5 x2) (ld_blk x4 r) (ld_blk x5 r) (dn_at x6 x7 x8 x9 w r hw hf.1) (rw_at x10 x11 x12 x13 x14 r hf.2)
    (ld_w0 x15) (ld_w1 x15) (ld_w2 x15) (ld_w3 x15) j

/-- A row's modulated norm, from the blocks of the point. -/
def hRow : Fin 1024 → EReal :=
  adaln (xRow x0 x2 x4 x5 x6 x7 x8 x10 x11 x12 x13 x14 x15 w r) (fun k => x3 (ix2 0 k)) (fun k => x2 (ix3 0 7 k)) (fun k => x2 (ix3 0 6 k))

theorem h_at (hw : Tiled x9 w) (hf : FiniteRow x6 x7 x10 x11 r) :
    k0_pay28 x0 x1 x2 x3 x4 x5 x6 x7 x8 x9 x10 x11 x12 x13 x14 x15 x16 x17 (ix2 r j) = hRow x0 x2 x3 x4 x5 x6 x7 x8 x10 x11 x12 x13 x14 x15 w r j := by
  unfold k0_pay28 k0_pay26 k0_pay27
  exact pay13_row (fun k => x_at x0 x1 x2 x3 x4 x5 x6 x7 x8 x9 x10 x11 x12 x13 x14 x15 x16 x17 w r k hw hf) (ld_m6 x2) (ld_m7 x2) (ld_nw x3) j

end Mixers

end Cert.Kernel2Ideal.Mix

end
-- ==== Proof.Mix.Rows.lean ====
module

public import proofs.«01_k».proof.Proof.Gen.Kernel2Ideal.Value
public import proofs.«01_k».proof.Proof.Mix.Mixers
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel2Ideal.Mix

open Cert.Ffn Cert.Mix Cert.Kernel2Ideal Cert.Kernel2Ideal.Gen Idealize.ShloMosaic Idealize.ShloMosaic.TcCoe Idealize.SL.Sem

section Rows
variable (x0 : Vec Ideal S512x1024 .f32) (x1 x2 : Vec Ideal S1x9x1024 .f32) (x3 : Vec Ideal S1x1024 .f32)
    (x4 x5 x6 x7 x8 : Vec Ideal S512x256 .f32) (x9 : Vec Ideal S1x256 .f32) (x10 x11 x12 x13 : Vec Ideal S512x256 .f32)
    (x14 : Vec Ideal S16x256 .f32) (x15 : Vec Ideal S1x1024x1024 .bf16)
    (x16 : Vec Ideal S1x1x1024x5632 .bf16) (x17 : Vec Ideal S1x1x2816x1024 .bf16) (w : Fin 64 → EReal) (r : Fin 512) (j : Fin 1024)

/-- A group of hidden units of the row, with the weights the point reads. -/
abbrev grp (a n : ℕ) (han : a + n ≤ 2816) : EReal :=
  part (hRow x0 x2 x3 x4 x5 x6 x7 x8 x10 x11 x12 x13 x14 x15 w r) (fun k f => x16 (ix4 0 0 k f)) (fun f j => x17 (ix4 0 0 f j)) j a n han

section Groups
variable (hw : Tiled x9 w) (hf : FiniteRow x6 x7 x10 x11 r)
include hw hf

theorem grp_eq (j : Fin 1024) (a n : ℕ) (han : a + n ≤ 2816) (wg wu : Fin 1024 → Fin n → EReal) (wd : Fin n → Fin 1024 → EReal)
    (hg : ∀ k f, wg k f = x16 (ix4 0 0 k ⟨a + f.val, by omega⟩)) (hu : ∀ k f, wu k f = x16 (ix4 0 0 k ⟨2816 + a + f.val, by omega⟩))
    (hd : ∀ f j, wd f j = x17 (ix4 0 0 ⟨a + f.val, by omega⟩ j)) :
    ∑ f : Fin n, unit (fun k => k0_pay28 x0 x1 x2 x3 x4 x5 x6 x7 x8 x9 x10 x11 x12 x13 x14 x15 x16 x17 (ix2 r k)) (fun k => wg k f) (fun k => wu k f) * wd f j
      = grp x0 x2 x3 x4 x5 x6 x7 x8 x10 x11 x12 x13 x14 x15 x16 x17 w r j a n han := by
  refine Finset.sum_congr rfl fun f _ => ?_
  simp only [h_at x0 x1 x2 x3 x4 x5 x6 x7 x8 x9 x10 x11 x12 x13 x14 x15 x16 x17 w r _ hw hf, hid, hg, hu, hd, Nat.add_assoc]

/-- What the point leaves at a row and a column of its block. -/
theorem out_at : out0_18 x0 x1 x2 x3 x4 x5 x6 x7 x8 x9 x10 x11 x12 x13 x14 x15 x16 x17 (ix2 r j)
    = halfStep (xRow x0 x2 x4 x5 x6 x7 x8 x10 x11 x12 x13 x14 x15 w r) (fun k => x3 (ix2 0 k))
        (fun k => x2 (ix3 0 7 k)) (fun k => x2 (ix3 0 6 k)) (fun k => x2 (ix3 0 8 k))
        (fun k f => x16 (ix4 0 0 k f)) (fun f j => x17 (ix4 0 0 f j)) j := by
  unfold out0_18
  rw [View.canon_cons_unit_lit _ _ _ (by decide), pay1_at, pay18_at, pay17_at, pay15_at]
  simp only [pay14_at]
  unfold halfStep
  rw [← ffn_parts]
  refine congrArg₂ _ (x_at x0 x1 x2 x3 x4 x5 x6 x7 x8 x9 x10 x11 x12 x13 x14 x15 x16 x17 w r j hw hf) (congrArg₂ _ (congrArg _ (ld_m8 x2 j))
    (congrArg₂ _ (congrArg₂ _ (congrArg₂ _ (congrArg₂ _ (congrArg₂ _ ?_ ?_) ?_) ?_) ?_) ?_))
  · refine grp_eq x0 x1 x2 x3 x4 x5 x6 x7 x8 x9 x10 x11 x12 x13 x14 x15 x16 x17 w r hw hf j 0 512 (by omega) (fun k f => View.ld x16 r0_13 (ix4 0 0 k f)) (fun k f => View.ld x16 r0_14 (ix4 0 0 k f))
      (fun f j => View.ld x17 r0_15 (ix4 0 0 f j)) ?_ ?_ ?_
    all_goals intro k f; exact View.ld_unit_apply_of _ _ _ _ _ _ (by intro a; fin_cases a <;> simp [ix4])
  · refine grp_eq x0 x1 x2 x3 x4 x5 x6 x7 x8 x9 x10 x11 x12 x13 x14 x15 x16 x17 w r hw hf j 512 512 (by omega) (fun k f => View.ld x16 r0_16 (ix4 0 0 k f)) (fun k f => View.ld x16 r0_17 (ix4 0 0 k f))
      (fun f j => View.ld x17 r0_18 (ix4 0 0 f j)) ?_ ?_ ?_
    all_goals intro k f; exact View.ld_unit_apply_of _ _ _ _ _ _ (by intro a; fin_cases a <;> simp [ix4])
  · refine grp_eq x0 x1 x2 x3 x4 x5 x6 x7 x8 x9 x10 x11 x12 x13 x14 x15 x16 x17 w r hw hf j 1024 512 (by omega) (fun k f => View.ld x16 r0_19 (ix4 0 0 k f)) (fun k f => View.ld x16 r0_20 (ix4 0 0 k f))
      (fun f j => View.ld x17 r0_21 (ix4 0 0 f j)) ?_ ?_ ?_
    all_goals intro k f; exact View.ld_unit_apply_of _ _ _ _ _ _ (by intro a; fin_cases a <;> simp [ix4])
  · refine grp_eq x0 x1 x2 x3 x4 x5 x6 x7 x8 x9 x10 x11 x12 x13 x14 x15 x16 x17 w r hw hf j 1536 512 (by omega) (fun k f => View.ld x16 r0_22 (ix4 0 0 k f)) (fun k f => View.ld x16 r0_23 (ix4 0 0 k f))
      (fun f j => View.ld x17 r0_24 (ix4 0 0 f j)) ?_ ?_ ?_
    all_goals intro k f; exact View.ld_unit_apply_of _ _ _ _ _ _ (by intro a; fin_cases a <;> simp [ix4])
  · refine grp_eq x0 x1 x2 x3 x4 x5 x6 x7 x8 x9 x10 x11 x12 x13 x14 x15 x16 x17 w r hw hf j 2048 512 (by omega) (fun k f => View.ld x16 r0_25 (ix4 0 0 k f)) (fun k f => View.ld x16 r0_26 (ix4 0 0 k f))
      (fun f j => View.ld x17 r0_27 (ix4 0 0 f j)) ?_ ?_ ?_
    all_goals intro k f; exact View.ld_unit_apply_of _ _ _ _ _ _ (by intro a; fin_cases a <;> simp [ix4])
  · refine grp_eq x0 x1 x2 x3 x4 x5 x6 x7 x8 x9 x10 x11 x12 x13 x14 x15 x16 x17 w r hw hf j 2560 256 (by omega) (fun k f => View.ld x16 r0_28 (ix4 0 0 k f)) (fun k f => View.ld x16 r0_29 (ix4 0 0 k f))
      (fun f j => View.ld x17 r0_30 (ix4 0 0 f j)) ?_ ?_ ?_
    all_goals intro k f; exact View.ld_unit_apply_of _ _ _ _ _ _ (by intro a; fin_cases a <;> simp [ix4])

end Groups

end Rows

end Cert.Kernel2Ideal.Mix

end
-- ==== Proof.Mix.Blocks.lean ====
module

public import proofs.«01_k».proof.Proof.Gen.Kernel2Ideal.Value
public import proofs.«01_k».proof.Proof.Mix.Rows
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel2Ideal.Mix

open Cert.Ffn Cert.Mix Cert.Kernel2Ideal Cert.Kernel2Ideal.Gen Idealize.ShloMosaic Idealize.ShloMosaic.TcCoe Idealize.SL.Sem

theorem idx_rows : ∀ t : Fin cfg0.N,
    win0_0.index t = ![t.val / 4 * 2304 + 256 + t.val % 4 * 512, 0] ∧ win0_4.index t = ![t.val / 4 * 2304 + 256 + t.val % 4 * 512, 0]
      ∧ win0_5.index t = ![t.val / 4 * 2304 + 256 + t.val % 4 * 512, 0] ∧ win0_6.index t = ![t.val / 4 * 2304 + 256 + t.val % 4 * 512, 0]
      ∧ win0_7.index t = ![t.val / 4 * 2304 + 256 + t.val % 4 * 512, 0] ∧ win0_8.index t = ![t.val / 4 * 2304 + 256 + t.val % 4 * 512, 768]
      ∧ win0_10.index t = ![t.val / 4 * 2304 + 256 + t.val % 4 * 512, 0] ∧ win0_11.index t = ![t.val / 4 * 2304 + 256 + t.val % 4 * 512, 0]
      ∧ win0_12.index t = ![t.val / 4 * 2304 + 256 + t.val % 4 * 512, 0] ∧ win0_13.index t = ![t.val / 4 * 2304 + 256 + t.val % 4 * 512, 0] :=
  (by decide +kernel : ∀ t : Fin grid0.N, _)

theorem idx_all : ∀ t : Fin cfg0.N,
    win0_2.index t = ![t.val / 4, 0, 0] ∧ win0_3.index t = ![0, 0] ∧ win0_9.index t = ![0, 0] ∧ win0_14.index t = ![0, 0]
      ∧ win0_15.index t = ![1, 0, 0] ∧ win0_16.index t = ![1, 1, 0, 0] ∧ win0_17.index t = ![1, 1, 0, 0] ∧ win0_18.index t = ![t.val, 0] :=
  (by decide +kernel : ∀ t : Fin grid0.N, _)

theorem lt_all : ∀ t : Fin cfg0.N, t.val < 32 :=
  (by decide +kernel : ∀ t : Fin grid0.N, _)

/-- The row of the flattened arrays a row of a point's block is, its sequence and its token. -/
def rowOf (t : Fin cfg0.N) (r : Fin 512) : Fin 18432 := ⟨t.val / 4 * 2304 + 256 + t.val % 4 * 512 + r.val, by have := lt_all t; omega⟩
def seqOf (t : Fin cfg0.N) : Fin 8 := ⟨t.val / 4, by have := lt_all t; omega⟩
def tokOf (t : Fin cfg0.N) (r : Fin 512) : Fin 2304 := ⟨256 + (t.val % 4 * 512 + r.val), by omega⟩

section Place
variable (t : Fin cfg0.N) (r : Fin 512)

theorem emb_x (j : Fin 1024) : ((View.whole main_v7).slice (win0_0.rect t)).emb (ix2 r j) = (ix2 (rowOf t r) j : S18432x1024.Idx) := by
  refine funext fun a => Fin.ext ((win0_0.rect_emb_val_off t (ix2 r j) a).trans ?_)
  rw [(idx_rows t).1]
  fin_cases a
  · rfl
  · exact Nat.zero_add _

theorem emb_z (j : Fin 256) : ((View.whole main_v10).slice (win0_8.rect t)).emb (ix2 r j)
    = (ix2 (rowOf t r) ⟨768 + j.val, by omega⟩ : S18432x1152.Idx) := by
  refine funext fun a => Fin.ext ((win0_8.rect_emb_val_off t (ix2 r j) a).trans ?_)
  rw [(idx_rows t).2.2.2.2.2.1]
  fin_cases a <;> rfl

theorem place (j : Fin 256) {f : S18432x256.Idx} {v : Fin 2 → ℕ} (hv : v = ![t.val / 4 * 2304 + 256 + t.val % 4 * 512, 0])
    (h0 : (f 0).val = v 0 + r.val) (h1 : (f 1).val = v 1 + j.val) : f = ix2 (rowOf t r) j := by
  subst hv
  funext a
  match a with
  | 0 => exact Fin.ext h0
  | 1 => exact Fin.ext (h1.trans (Nat.zero_add _))

theorem emb_rows (j : Fin 256) :
    ((View.whole main_v8).slice (win0_4.rect t)).emb (ix2 r j) = (ix2 (rowOf t r) j : S18432x256.Idx) ∧
    ((View.whole main_v9).slice (win0_5.rect t)).emb (ix2 r j) = (ix2 (rowOf t r) j : S18432x256.Idx) ∧
    ((View.whole main_v17).slice (win0_6.rect t)).emb (ix2 r j) = (ix2 (rowOf t r) j : S18432x256.Idx) ∧
    ((View.whole main_v18).slice (win0_7.rect t)).emb (ix2 r j) = (ix2 (rowOf t r) j : S18432x256.Idx) ∧
    ((View.whole main_v23).slice (win0_10.rect t)).emb (ix2 r j) = (ix2 (rowOf t r) j : S18432x256.Idx) ∧
    ((View.whole main_v24).slice (win0_11.rect t)).emb (ix2 r j) = (ix2 (rowOf t r) j : S18432x256.Idx) ∧
    ((View.whole main_v11).slice (win0_12.rect t)).emb (ix2 r j) = (ix2 (rowOf t r) j : S18432x256.Idx) ∧
    ((View.whole main_v12).slice (win0_13.rect t)).emb (ix2 r j) = (ix2 (rowOf t r) j : S18432x256.Idx) := by
  obtain ⟨h0, h4, h5, h6, h7, h8, h10, h11, h12, h13⟩ := idx_rows t
  exact ⟨place t r j h4 (win0_4.rect_emb_val_off t (ix2 r j) 0) (win0_4.rect_emb_val_off t (ix2 r j) 1),
    place t r j h5 (win0_5.rect_emb_val_off t (ix2 r j) 0) (win0_5.rect_emb_val_off t (ix2 r j) 1),
    place t r j h6 (win0_6.rect_emb_val_off t (ix2 r j) 0) (win0_6.rect_emb_val_off t (ix2 r j) 1),
    place t r j h7 (win0_7.rect_emb_val_off t (ix2 r j) 0) (win0_7.rect_emb_val_off t (ix2 r j) 1),
    place t r j h10 (win0_10.rect_emb_val_off t (ix2 r j) 0) (win0_10.rect_emb_val_off t (ix2 r j) 1),
    place t r j h11 (win0_11.rect_emb_val_off t (ix2 r j) 0) (win0_11.rect_emb_val_off t (ix2 r j) 1),
    place t r j h12 (win0_12.rect_emb_val_off t (ix2 r j) 0) (win0_12.rect_emb_val_off t (ix2 r j) 1),
    place t r j h13 (win0_13.rect_emb_val_off t (ix2 r j) 0) (win0_13.rect_emb_val_off t (ix2 r j) 1)⟩

end Place

variable (m : (ℓ : Loc nD τ sig) → Buf (Elt Ideal) ℓ) (c : Dev nD)

section Blocks
variable (t : Fin cfg0.N)

theorem blk_x (r : Fin 512) (j : Fin 1024) :
    iblk m c 0 t (ix2 r j) = m ((c.tc : Thread nD τ).loc main_arg0) (ix3 (seqOf t) (tokOf t r) j) := by
  blk_simp [iblk]
  rw [emb_x]
  entry_read
  pointwise
  blk_ext [rowOf, seqOf, tokOf]

theorem blk_z (r : Fin 512) (j : Fin 256) :
    iblk m c 8 t (ix2 r j) = m ((c.tc : Thread nD τ).loc main_arg8) (ix3 (seqOf t) (tokOf t r) ⟨768 + j.val, by omega⟩) := by
  blk_simp [iblk]
  rw [emb_z]
  entry_read
  pointwise
  blk_ext [rowOf, seqOf, tokOf]

set_option maxHeartbeats 4000000 in
theorem blk_rows (r : Fin 512) (j : Fin 256) :
    iblk m c 4 t (ix2 r j) = m ((c.tc : Thread nD τ).loc main_arg4) (ix3 (seqOf t) (tokOf t r) j) ∧
    iblk m c 5 t (ix2 r j) = m ((c.tc : Thread nD τ).loc main_arg5) (ix3 (seqOf t) (tokOf t r) j) ∧
    iblk m c 6 t (ix2 r j) = m ((c.tc : Thread nD τ).loc main_arg6) (ix3 (seqOf t) (tokOf t r) j) ∧
    iblk m c 7 t (ix2 r j) = m ((c.tc : Thread nD τ).loc main_arg7) (ix3 (seqOf t) (tokOf t r) j) ∧
    iblk m c 10 t (ix2 r j) = m ((c.tc : Thread nD τ).loc main_arg10) (ix3 (seqOf t) (tokOf t r) j) ∧
    iblk m c 11 t (ix2 r j) = m ((c.tc : Thread nD τ).loc main_arg11) (ix3 (seqOf t) (tokOf t r) j) ∧
    iblk m c 12 t (ix2 r j) = m ((c.tc : Thread nD τ).loc main_arg12) (ix3 (seqOf t) (tokOf t r) j) ∧
    iblk m c 13 t (ix2 r j) = m ((c.tc : Thread nD τ).loc main_arg13) (ix3 (seqOf t) (tokOf t r) j) := by
  obtain ⟨e4, e5, e6, e7, e10, e11, e12, e13⟩ := emb_rows t r j
  refine ⟨?_, ?_, ?_, ?_, ?_, ?_, ?_, ?_⟩
  all_goals
    blk_simp [iblk]
    simp only [e4, e5, e6, e7, e10, e11, e12, e13]
    entry_read
    pointwise
    blk_ext [rowOf, seqOf, tokOf]

theorem blk_mb (q : Fin 9) (j : Fin 1024) :
    iblk m c 2 t (ix3 0 q j) = m ((c.tc : Thread nD τ).loc main_arg1) (ix3 (seqOf t) q j) := by
  blk_simp [iblk, idx_all t]
  entry_read
  pointwise
  blk_ext [idx_all t, seqOf]

theorem blk_nw (j : Fin 1024) : iblk m c 3 t (ix2 0 j) = m ((c.tc : Thread nD τ).loc main_arg3) (ix1 j) := by
  blk_simp [iblk, idx_all t]
  entry_read
  pointwise
  blk_ext [idx_all t]

theorem blk_dnw (l : Fin 256) : iblk m c 9 t (ix2 0 l) = m ((c.tc : Thread nD τ).loc main_arg9) (ix1 ⟨l.val % 64, by omega⟩) := by
  blk_simp [iblk, idx_all t]
  entry_read
  pointwise
  blk_ext [idx_all t]

theorem blk_wo (k j : Fin 1024) : iblk m c 15 t (ix3 0 k j) = m ((c.tc : Thread nD τ).loc main_arg21) (ix3 1 k j) := by
  blk_simp [iblk, idx_all t]
  entry_read
  pointwise
  blk_ext [idx_all t]

theorem blk_w (k : Fin 1024) (f : Fin 5632) : iblk m c 16 t (ix4 0 0 k f) = m ((c.tc : Thread nD τ).loc main_arg22) (ix4 1 1 k f) := by
  blk_simp [iblk, idx_all t]
  entry_read
  pointwise
  blk_ext [idx_all t]

theorem blk_d (f : Fin 2816) (j : Fin 1024) : iblk m c 17 t (ix4 0 0 f j) = m ((c.tc : Thread nD τ).loc main_arg23) (ix4 1 1 f j) := by
  blk_simp [iblk, idx_all t]
  entry_read
  pointwise
  blk_ext [idx_all t]

end Blocks

end Cert.Kernel2Ideal.Mix

end
-- ==== Proof.Mix.Pack.lean ====
module

public import proofs.«01_k».proof.Proof.Gen.Kernel2Ideal.Value
public import proofs.«01_k».proof.Proof.Mix.Row
public import Idealize.ShloMosaic.Lib.Pointwise
public import Idealize.ShloMosaic.Lib.Pipeline.ValueKit
public import Idealize.ShloMosaic.Lib.Pipeline.ReadBack
public import Idealize.ShloMosaic.Lib.StableHlo.RunRead
public import Idealize.ShloMosaic.Lib.Claim

@[expose] public section

set_option maxRecDepth 16384

noncomputable section

namespace Cert.Kernel2Ideal.Mix

open Cert.Ffn Cert.Mix Cert.Kernel2Ideal Cert.Kernel2Ideal.Gen Idealize.ShloMosaic Idealize.ShloMosaic.TcCoe Idealize.SL.Sem

variable (m : (ℓ : Loc nD τ sig) → Buf (Elt Ideal) ℓ) (c : Dev nD)

/-- The small weights one under the other, as an array of the host's. -/
def packed (a14 a15 : Vec Ideal S2x256 .f32) (a16 a17 a19 a20 : Vec Ideal S256 .f32) (a18 : Vec Ideal S4x64 .f32) : Vec Ideal S16x256 .f32 :=
  concatenate S16x256 0
    [⟨S2x256, a14⟩, ⟨S2x256, a15⟩, ⟨S1x256, broadcastInDim S1x256 ![1] bcast_S256_S1x256_1 a16⟩,
      ⟨S1x256, broadcastInDim S1x256 ![1] bcast_S256_S1x256_1 a17⟩, ⟨S1x256, shapeCast S1x256 a18 shapeCasts_S4x64_S1x256⟩,
      ⟨S1x256, broadcastInDim S1x256 ![1] bcast_S256_S1x256_1 a19⟩, ⟨S1x256, broadcastInDim S1x256 ![1] bcast_S256_S1x256_1 a20⟩,
      ⟨S7x256, broadcastInDim S7x256 ![] bcast_S_S7x256 (constant (F := Ideal) S_ .f32 0x00000000#32)⟩]
    concatenates_S2x256_S2x256_S1x256_S1x256_S1x256_S1x256_S1x256_S7x256_S16x256_d0

set_option maxRecDepth 65536 in
set_option maxHeartbeats 4000000 in
theorem entry_pv : (V m c main_v6 : Vec Ideal S16x256 .f32)
    = packed (m ((c.tc : Thread nD τ).loc main_arg14)) (m ((c.tc : Thread nD τ).loc main_arg15)) (m ((c.tc : Thread nD τ).loc main_arg16))
        (m ((c.tc : Thread nD τ).loc main_arg17)) (m ((c.tc : Thread nD τ).loc main_arg19)) (m ((c.tc : Thread nD τ).loc main_arg20))
        (m ((c.tc : Thread nD τ).loc main_arg18)) := by
  after_reads_simp
  rfl

variable (a14 a15 : Vec Ideal S2x256 .f32) (a16 a17 a19 a20 : Vec Ideal S256 .f32) (a18 : Vec Ideal S4x64 .f32)

theorem packed_lw (l : Fin 256) : packed a14 a15 a16 a17 a19 a20 a18 (ix2 7 l) = a19 (ix1 l) := by
  pointwise [packed]

theorem packed_lb (l : Fin 256) : packed a14 a15 a16 a17 a19 a20 a18 (ix2 8 l) = a20 (ix1 l) := by
  pointwise [packed]

end Cert.Kernel2Ideal.Mix

end
-- ==== Proof.Mix.Final.lean ====
module

public import proofs.«01_k».proof.Proof.Gen.Kernel2Ideal.Value
public import proofs.«01_k».proof.Proof.Mix.Blocks
public import proofs.«01_k».proof.Proof.Mix.Pack
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel2Ideal.Mix

open Cert.Ffn Cert.Mix Cert.Kernel2Ideal Cert.Kernel2Ideal.Gen Idealize.ShloMosaic Idealize.ShloMosaic.TcCoe Idealize.SL.Sem

variable (m : (ℓ : Loc nD τ sig) → Buf (Elt Ideal) ℓ) (c : Dev nD)

theorem blk_pv (t : Fin cfg0.N) (q : Fin 16) (l : Fin 256) : iblk m c 14 t (ix2 q l) = (V m c main_v6 : Vec Ideal S16x256 .f32) (ix2 q l) := by
  blk_simp [iblk, idx_all t]
  have em : (win0_14.blk t).view.emb (ix2 q l) = ix2 q l := by
    blk_ext [idx_all t]
  rw [em]

theorem blk_lw (t : Fin cfg0.N) (l : Fin 256) : iblk m c 14 t (ix2 7 l) = m ((c.tc : Thread nD τ).loc main_arg19) (ix1 l) := by
  rw [blk_pv, entry_pv, packed_lw]

theorem blk_lb (t : Fin cfg0.N) (l : Fin 256) : iblk m c 14 t (ix2 8 l) = m ((c.tc : Thread nD τ).loc main_arg20) (ix1 l) := by
  rw [blk_pv, entry_pv, packed_lb]

/-- The latent tokens' results, from the arguments. -/
def spec : Fin 8 → Fin 2304 → Fin 1024 → EReal :=
  latent (fun b T j => m ((c.tc : Thread nD τ).loc main_arg0) (ix3 b T j)) (fun b q j => m ((c.tc : Thread nD τ).loc main_arg1) (ix3 b q j))
    (fun j => m ((c.tc : Thread nD τ).loc main_arg3) (ix1 j))
    (fun b T k => m ((c.tc : Thread nD τ).loc main_arg4) (ix3 b T k)) (fun b T k => m ((c.tc : Thread nD τ).loc main_arg5) (ix3 b T k))
    (fun b T k => m ((c.tc : Thread nD τ).loc main_arg6) (ix3 b T k)) (fun b T k => m ((c.tc : Thread nD τ).loc main_arg7) (ix3 b T k))
    (fun b T k => m ((c.tc : Thread nD τ).loc main_arg8) (ix3 b T ⟨768 + k.val, by omega⟩))
    (fun b T k => m ((c.tc : Thread nD τ).loc main_arg10) (ix3 b T k)) (fun b T k => m ((c.tc : Thread nD τ).loc main_arg11) (ix3 b T k))
    (fun b T k => m ((c.tc : Thread nD τ).loc main_arg12) (ix3 b T k)) (fun b T k => m ((c.tc : Thread nD τ).loc main_arg13) (ix3 b T k))
    (fun i => m ((c.tc : Thread nD τ).loc main_arg9) (ix1 i)) (fun l => m ((c.tc : Thread nD τ).loc main_arg19) (ix1 l))
    (fun l => m ((c.tc : Thread nD τ).loc main_arg20) (ix1 l)) (fun k j => m ((c.tc : Thread nD τ).loc main_arg21) (ix3 1 k j))
    (fun k f => m ((c.tc : Thread nD τ).loc main_arg22) (ix4 1 1 k f)) (fun f j => m ((c.tc : Thread nD τ).loc main_arg23) (ix4 1 1 f j))

/-- The latent tokens' results, one after the other. -/
def res (i : S16384x1024.Idx) : EReal :=
  spec m c ⟨(i 0).val / 2048, by have : (i 0).val < 16384 := (i 0).isLt; omega⟩ ⟨256 + (i 0).val % 2048, by omega⟩ (i 1)

theorem res_at (t : Fin cfg0.N) (r : Fin 512) (j : Fin 1024) :
    res m c (ix2 ⟨t.val * 512 + r.val, by have := lt_all t; omega⟩ j) = spec m c (seqOf t) (tokOf t r) j := by
  unfold res seqOf tokOf
  congr 1
  · exact Fin.ext (show (t.val * 512 + r.val) / 2048 = t.val / 4 by omega)
  · exact Fin.ext (show 256 + (t.val * 512 + r.val) % 2048 = 256 + (t.val % 4 * 512 + r.val) by omega)

/-- The two directions' sums are finite. -/
def FiniteSums : Prop :=
  FiniteSum (fun b T k => m ((c.tc : Thread nD τ).loc main_arg6) (ix3 b T k)) (fun b T k => m ((c.tc : Thread nD τ).loc main_arg7) (ix3 b T k))
    ∧ FiniteSum (fun b T k => m ((c.tc : Thread nD τ).loc main_arg10) (ix3 b T k)) (fun b T k => m ((c.tc : Thread nD τ).loc main_arg11) (ix3 b T k))

/-- The array the kernel leaves. -/
theorem final (hf : FiniteSums m c) : (dats m 0 c).arrAt 18 cfg0.N = res m c := by
  refine (dats m 0 c).arrAt_eq_of_covers 18 _ (by decide +kernel) fun t hfl y => ?_
  blk_simp [idx_all t]
  rw [after0_18]
  have ht := lt_all t
  obtain ⟨r, j, rfl⟩ : ∃ (r : Fin 512) (j : Fin 1024), y = ix2 r j := ⟨y 0, y 1, eq_ix2 y⟩
  have em : (win0_18.blk t).view.emb (ix2 r j) = ix2 ⟨t.val * 512 + r.val, by omega⟩ j := by
    blk_ext [idx_all t]
  have hr := blk_rows m c t r
  have hrow : FiniteRow (iblk m c 6 t) (iblk m c 7 t) (iblk m c 10 t) (iblk m c 11 t) r :=
    ⟨fun k => by rw [(hr k).2.2.1, (hr k).2.2.2.1]; exact hf.1 _ _ k,
      fun k => by rw [(hr k).2.2.2.2.1, (hr k).2.2.2.2.2.1]; exact hf.2 _ _ k⟩
  rw [out_at _ _ _ _ _ _ _ _ _ _ _ _ _ _ _ _ _ _ (fun i => m ((c.tc : Thread nD τ).loc main_arg9) (ix1 i)) r j (blk_dnw m c t) hrow, em, res_at m c t]
  unfold xRow spec latent
  simp only [blk_x, blk_z, blk_mb, blk_nw, blk_wo, blk_w, blk_d, blk_lw, blk_lb, fun k => (hr k).1, fun k => (hr k).2.1,
    fun k => (hr k).2.2.1, fun k => (hr k).2.2.2.1, fun k => (hr k).2.2.2.2.1, fun k => (hr k).2.2.2.2.2.1,
    fun k => (hr k).2.2.2.2.2.2.1, fun k => (hr k).2.2.2.2.2.2.2]

end Cert.Kernel2Ideal.Mix

end
-- ==== Proof.Mix.Ref.lean ====
module

public import proofs.«01_k».proof.Proof.Gen.Reference2Ideal.Read
public import proofs.«01_k».proof.Proof.Mix.Row
public import Idealize.ShloMosaic.Lib.Pointwise
public import Idealize.ShloMosaic.Lib.Claim

@[expose] public section

set_option maxRecDepth 16384

noncomputable section

namespace Cert.Reference2Ideal.Mix

open Cert.Ffn Cert.Mix Cert.Reference2Ideal Cert.Reference2Ideal.Gen Cert.Reference2Ideal.Read Idealize.ShloMosaic Idealize.ShloMosaic.TcCoe Idealize.SL.Sem

variable (b : Fin 8) (t : Fin 2048)

/-- The token a latent token is of its sequence. -/
def tok (t : Fin 2048) : Fin 2304 := ⟨256 + t.val, by omega⟩

/-! ## The two recurrences' outputs -/

theorem dn_in (x6 x7 : Vec Ideal S8x2304x256 .f32) (h : Fin 4) (i : Fin 64) : (val_main_v13 (F := Ideal) x6 x7 (ix4 b t h i) : EReal)
    = x6 (ix3 b (tok t) ⟨h.val * 64 + i.val, by omega⟩) + x7 (ix3 b (tok t) ⟨h.val * 64 + i.val, by omega⟩) := by
  pointwise [val_main_v13, val_main_v12, val_main_v3, val_main_v4]
  rfl

theorem rw_in (x10 x11 : Vec Ideal S8x2304x256 .f32) (h : Fin 4) (i : Fin 64) : (val_main_v31 (F := Ideal) x10 x11 (ix4 b t h i) : EReal)
    = x10 (ix3 b (tok t) ⟨h.val * 64 + i.val, by omega⟩) + x11 (ix3 b (tok t) ⟨h.val * 64 + i.val, by omega⟩) := by
  pointwise [val_main_v31, val_main_v30, val_main_v6, val_main_v7]
  rfl

/-- A lane's value is its head's at its place. -/
theorem at_lane {f : Fin 4 → Fin 64 → EReal} {y : Fin 256 → EReal} (hf : ∀ h i, f h i = y ⟨h.val * 64 + i.val, by omega⟩) (l : Fin 256) :
    f ⟨l.val / 64, by omega⟩ ⟨l.val % 64, by omega⟩ = y l :=
  (hf _ _).trans (congrArg y (Fin.ext (by dsimp only; omega)))

theorem dn_out (x6 x7 : Vec Ideal S8x2304x256 .f32) (x8 : Vec Ideal S8x2304x1152 .f32) (x9 : Vec Ideal S64 .f32) (l : Fin 256) :
    (val_main_v29 (F := Ideal) x6 x7 x8 x9 (ix3 b t l) : EReal)
      = dnRow (fun k => x6 (ix3 b (tok t) k) + x7 (ix3 b (tok t) k)) (fun k => x8 (ix3 b (tok t) ⟨768 + k.val, by omega⟩)) (fun i => x9 (ix1 i)) l := by
  have e := dn_in b t x6 x7
  have e' := at_lane (f := fun h i => (val_main_v13 (F := Ideal) x6 x7 (ix4 b t h i) : EReal))
    (y := fun k => (x6 (ix3 b (tok t) k) + x7 (ix3 b (tok t) k) : EReal)) e l
  revert e e'
  unfold val_main_v29 val_main_v28 val_main_v26 val_main_v23 val_main_v22 val_main_v21 val_main_v20 val_main_v18 val_main_v16 val_main_v15 val_main_v14
  generalize val_main_v13 (F := Ideal) x6 x7 = o
  intro e e'
  unfold dnRow headMean
  rw [← silu_neg]
  pointwise [val_main_v27, val_main_v25, val_main_v24, val_main_v19, val_main_v17, val_main_cst, val_main_cst_0, val_main_cst_1, val_main_v11, val_main_v10, val_main_v5, val_main_call0_v0, val_main_call0_v1, val_main_call0_v2, val_main_call0_v3, val_main_call0_v4, val_main_call0_v5, val_main_call0_cst, val_main_call0_cst_0, one, eps, headWidth]
  rw [e']
  simp only [e]
  rfl

theorem rw_out (x10 x11 x12 x13 : Vec Ideal S8x2304x256 .f32) (x19 x20 : Vec Ideal S256 .f32) (l : Fin 256) :
    (val_main_v58 (F := Ideal) x10 x11 x12 x13 x19 x20 (ix3 b t l) : EReal)
      = rwRow (fun k => x10 (ix3 b (tok t) k) + x11 (ix3 b (tok t) k)) (fun k => x19 (ix1 k)) (fun k => x20 (ix1 k))
          (fun k => x12 (ix3 b (tok t) k)) (fun k => x13 (ix3 b (tok t) k)) l := by
  have e := rw_in b t x10 x11
  have e' := at_lane (f := fun h i => (val_main_v31 (F := Ideal) x10 x11 (ix4 b t h i) : EReal))
    (y := fun k => (x10 (ix3 b (tok t) k) + x11 (ix3 b (tok t) k) : EReal)) e l
  revert e e'
  unfold val_main_v58 val_main_v57 val_main_v56 val_main_v53 val_main_v50 val_main_v49 val_main_v48 val_main_v47 val_main_v46 val_main_v44 val_main_v43 val_main_v42 val_main_v40 val_main_v39 val_main_v38 val_main_v37 val_main_v36 val_main_v35 val_main_v33 val_main_v32
  generalize val_main_v31 (F := Ideal) x10 x11 = o
  intro e e'
  rw [rwRow_head]
  unfold headMean
  pointwise [val_main_v55, val_main_v54, val_main_v52, val_main_v51, val_main_v45, val_main_v41, val_main_v34, val_main_cst_2, val_main_cst_3, val_main_cst_4, val_main_cst_5, val_main_cst_6, val_main_v8, val_main_v9, lnEps, headWidth]
  rw [e']
  simp only [e]
  rfl

/-! ## The residual after the mixers -/

section Residual
variable (x0 : Vec Ideal S8x2304x1024 .f32) (x1 : Vec Ideal S8x9x1024 .f32) (x3 : Vec Ideal S1024 .f32)
  (x4 x5 x6 x7 : Vec Ideal S8x2304x256 .f32) (x8 : Vec Ideal S8x2304x1152 .f32) (x9 : Vec Ideal S64 .f32)
  (x10 x11 x12 x13 : Vec Ideal S8x2304x256 .f32) (x19 x20 : Vec Ideal S256 .f32) (x21 : Vec Ideal S2x1024x1024 .f32)
  (x22 : Vec Ideal S2x2x1024x5632 .f32) (x23 : Vec Ideal S2x2x2816x1024 .f32)

theorem side_at (c : Fin 1024) : (val_main_v62 (F := Ideal) x4 x5 x6 x7 x8 x9 x10 x11 x12 x13 x19 x20 (ix3 b t c) : EReal)
    = side (fun k => x4 (ix3 b (tok t) k)) (fun k => x5 (ix3 b (tok t) k)) (fun k => val_main_v29 (F := Ideal) x6 x7 x8 x9 (ix3 b t k))
        (fun k => val_main_v58 (F := Ideal) x10 x11 x12 x13 x19 x20 (ix3 b t k)) c := by
  unfold val_main_v62
  generalize val_main_v29 (F := Ideal) x6 x7 x8 x9 = d
  generalize val_main_v58 (F := Ideal) x10 x11 x12 x13 x19 x20 = w
  unfold side tok
  pointwise [val_main_v1, val_main_v2]
  by_cases h : c.val < 256
  · rw [dif_pos h, dif_pos h]
  rw [dif_neg h, dif_neg h]
  by_cases h' : c.val < 512
  · rw [dif_pos (by omega), dif_pos h']
  rw [dif_neg (by omega), dif_neg h']
  by_cases h'' : c.val < 768
  · rw [dif_pos (by omega), dif_pos h'']
    exact congrArg (fun z => d (ix3 b t z)) (Fin.ext (by dsimp only; omega))
  · rw [dif_neg (by omega), dif_neg h'']
    exact congrArg (fun z => w (ix3 b t z)) (Fin.ext (by dsimp only; omega))

theorem after_at (j : Fin 1024) : (val_main_v68 (F := Ideal) x0 x1 x4 x5 x6 x7 x8 x9 x10 x11 x12 x13 x19 x20 x21 (ix3 b t j) : EReal)
    = after (fun k => x0 (ix3 b (tok t) k)) (fun k => x1 (ix3 b 5 k)) (fun k => x4 (ix3 b (tok t) k)) (fun k => x5 (ix3 b (tok t) k))
        (fun k => val_main_v29 (F := Ideal) x6 x7 x8 x9 (ix3 b t k)) (fun k => val_main_v58 (F := Ideal) x10 x11 x12 x13 x19 x20 (ix3 b t k))
        (fun k j => x21 (ix3 1 k j)) j := by
  unfold after
  simp only [← side_at b t x4 x5 x6 x7 x8 x9 x10 x11 x12 x13 x19 x20]
  unfold val_main_v68 val_main_v67 val_main_v65
  generalize val_main_v62 (F := Ideal) x4 x5 x6 x7 x8 x9 x10 x11 x12 x13 x19 x20 = s
  unfold tok
  pointwise [val_main_v0, val_main_v59, val_main_v60, val_main_v61, val_main_v63, val_main_v64, val_main_v66]

/-! ## The second feed-forward half-step -/

theorem norm_at (j : Fin 1024) : (val_main_v98 (F := Ideal) x0 x1 x3 x4 x5 x6 x7 x8 x9 x10 x11 x12 x13 x19 x20 x21 (ix3 b t j) : EReal)
    = adaln (fun k => val_main_v68 (F := Ideal) x0 x1 x4 x5 x6 x7 x8 x9 x10 x11 x12 x13 x19 x20 x21 (ix3 b t k)) (fun k => x3 (ix1 k)) (fun k => x1 (ix3 b 7 k)) (fun k => x1 (ix3 b 6 k)) j := by
  unfold val_main_v98 val_main_v93 val_main_v86 val_main_v83 val_main_v82 val_main_v81 val_main_v80 val_main_v78 val_main_v76 val_main_v75 val_main_v74
  generalize val_main_v68 (F := Ideal) x0 x1 x4 x5 x6 x7 x8 x9 x10 x11 x12 x13 x19 x20 x21 = x
  unfold adaln
  pointwise [val_main_v77, val_main_v79, val_main_v84, val_main_v85, val_main_v87, val_main_v88, val_main_v89, val_main_v90, val_main_v91, val_main_v92, val_main_v94, val_main_v95, val_main_v96, val_main_v97, val_main_cst_8, val_main_cst_9, val_main_cst_10, val_main_cst_11, one, eps, width]

theorem up_at (f : Fin 5632) : (val_main_v103 (F := Ideal) x0 x1 x3 x4 x5 x6 x7 x8 x9 x10 x11 x12 x13 x19 x20 x21 x22 (ix3 b t f) : EReal)
    = ∑ k : Fin 1024, (val_main_v98 (F := Ideal) x0 x1 x3 x4 x5 x6 x7 x8 x9 x10 x11 x12 x13 x19 x20 x21 (ix3 b t k) : EReal) * x22 (ix4 1 1 k f) := by
  unfold val_main_v103
  generalize val_main_v98 (F := Ideal) x0 x1 x3 x4 x5 x6 x7 x8 x9 x10 x11 x12 x13 x19 x20 x21 = h
  pointwise [val_main_v99, val_main_v100]

theorem hid_at (f : Fin 2816) : (val_main_v107 (F := Ideal) x0 x1 x3 x4 x5 x6 x7 x8 x9 x10 x11 x12 x13 x19 x20 x21 x22 (ix3 b t f) : EReal)
    = hid (fun k => val_main_v98 (F := Ideal) x0 x1 x3 x4 x5 x6 x7 x8 x9 x10 x11 x12 x13 x19 x20 x21 (ix3 b t k)) (fun k f => x22 (ix4 1 1 k f)) f := by
  unfold hid unit
  rw [← silu_neg, ← up_at, ← up_at]
  unfold val_main_v107
  pointwise [val_main_v104, val_main_v105, val_main_v106, val_main_call1_v0, val_main_call1_v1, val_main_call1_v2, val_main_call1_v3, val_main_call1_v4, val_main_call1_v5, val_main_call1_cst, val_main_call1_cst_0, one]

theorem half_at (j : Fin 1024) : (val_main_v111 (F := Ideal) x0 x1 x3 x4 x5 x6 x7 x8 x9 x10 x11 x12 x13 x19 x20 x21 x22 x23 (ix3 b t j) : EReal)
    = halfStep (fun k => val_main_v68 (F := Ideal) x0 x1 x4 x5 x6 x7 x8 x9 x10 x11 x12 x13 x19 x20 x21 (ix3 b t k)) (fun k => x3 (ix1 k)) (fun k => x1 (ix3 b 7 k)) (fun k => x1 (ix3 b 6 k))
        (fun k => x1 (ix3 b 8 k)) (fun k f => x22 (ix4 1 1 k f)) (fun f j => x23 (ix4 1 1 f j)) j := by
  unfold halfStep ffn
  rw [show adaln _ _ _ _ = _ from funext fun k => (norm_at b t x0 x1 x3 x4 x5 x6 x7 x8 x9 x10 x11 x12 x13 x19 x20 x21 k).symm]
  simp only [← hid_at b t x0 x1 x3 x4 x5 x6 x7 x8 x9 x10 x11 x12 x13 x19 x20 x21 x22]
  unfold val_main_v111 val_main_v110 val_main_v108
  generalize val_main_v107 (F := Ideal) x0 x1 x3 x4 x5 x6 x7 x8 x9 x10 x11 x12 x13 x19 x20 x21 x22 = h
  generalize val_main_v68 (F := Ideal) x0 x1 x4 x5 x6 x7 x8 x9 x10 x11 x12 x13 x19 x20 x21 = x
  pointwise [val_main_v69, val_main_v70, val_main_v71, val_main_v72, val_main_v73, val_main_v101, val_main_v102, val_main_v109, val_main_cst_7, half]

/-- A latent token's result. -/
theorem out_at (j : Fin 1024) : (val_main_v111 (F := Ideal) x0 x1 x3 x4 x5 x6 x7 x8 x9 x10 x11 x12 x13 x19 x20 x21 x22 x23 (ix3 b t j) : EReal)
    = latent (fun b T j => x0 (ix3 b T j)) (fun b q j => x1 (ix3 b q j)) (fun j => x3 (ix1 j)) (fun b T k => x4 (ix3 b T k))
        (fun b T k => x5 (ix3 b T k)) (fun b T k => x6 (ix3 b T k)) (fun b T k => x7 (ix3 b T k)) (fun b T k => x8 (ix3 b T ⟨768 + k.val, by omega⟩))
        (fun b T k => x10 (ix3 b T k)) (fun b T k => x11 (ix3 b T k)) (fun b T k => x12 (ix3 b T k)) (fun b T k => x13 (ix3 b T k))
        (fun i => x9 (ix1 i)) (fun l => x19 (ix1 l)) (fun l => x20 (ix1 l)) (fun k j => x21 (ix3 1 k j)) (fun k f => x22 (ix4 1 1 k f))
        (fun f j => x23 (ix4 1 1 f j)) b (tok t) j := by
  rw [half_at]
  unfold latent
  rw [show (fun k => val_main_v68 (F := Ideal) x0 x1 x4 x5 x6 x7 x8 x9 x10 x11 x12 x13 x19 x20 x21 (ix3 b t k)) = _ from funext fun k => after_at b t x0 x1 x4 x5 x6 x7 x8 x9 x10 x11 x12 x13 x19 x20 x21 k]
  simp only [dn_out, rw_out]

end Residual

end Cert.Reference2Ideal.Mix

end
-- ==== Proof.Mix.Whole.lean ====
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Pre_finite_states
public import Idealize.ShloMosaic.Lib.ReduceAll
public import Idealize.ShloMosaic.Lib.KernelVsHost
public import proofs.«01_k».proof.Proof.Mix.Final
public import proofs.«01_k».proof.Proof.Mix.Ref

@[expose] public section

set_option maxRecDepth 16384

noncomputable section

namespace Cert.Proof.Mix

open Idealize.ShloMosaic Idealize.ShloMosaic.TcCoe Idealize.SL.Sem

/-! The claims about the output projection and the second feed-forward half-step. -/

theorem frame_kernel : Cert.quiescent_Kernel2 := fun m ρ _ => Cert.Kernel2.Gen.frame m ρ

theorem frame_kernelIdeal : Cert.quiescent_Kernel2Ideal := fun m ρ _ => Cert.Kernel2Ideal.Gen.frame m ρ

theorem frame_kernelIdeal_pre : Cert.quiescent_Kernel2Ideal_pre_finite_states := fun m ρ _ => Cert.Kernel2Ideal.Gen.frame m ρ

theorem frame_referenceIdeal : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run m ρ)

theorem frame_referenceIdeal_pre : Cert.quiescent_Reference2Ideal_pre_finite_states := fun m ρ _ => frame_referenceIdeal m ρ trivial

/-- A value whose size is below infinity is a real number. -/
theorem real_of_lt (x : EReal) (h : FloatOps.cmpf (F := Ideal) (φ := .f32) .olt (FloatOps.hostAbsf (F := Ideal) (φ := .f32) x)
    (FloatOps.ofBits (F := Ideal) .f32 0x7F800000#32) = 1#1) : ∃ y : ℝ, x = (y : EReal) := by
  rw [← Idealize.ShloMosaic.Ideal.xori_weird_eq_hostAbsf_olt_inf] at h
  change IntOp.xori (BitVec.ofBool (decide (x = ⊤ ∨ x = ⊥))) 1#1 = 1#1 at h
  by_cases hx : x = ⊤ ∨ x = ⊥
  · exact absurd h (by simp [hx, IntOp.xori])
  · exact ⟨x.toReal, (EReal.coe_toReal (fun e => hx (.inl e)) (fun e => hx (.inr e))).symm⟩

/-- Two arrays of real numbers have real sums. -/
theorem finiteSum (p q : Fin 8 → Fin 2304 → Fin 256 → EReal) (hp : ∀ b T k, ∃ y : ℝ, p b T k = (y : EReal))
    (hq : ∀ b T k, ∃ y : ℝ, q b T k = (y : EReal)) : Cert.Mix.FiniteSum p q := fun b T k => by
  obtain ⟨u, hu⟩ := hp b T k
  obtain ⟨v, hv⟩ := hq b T k
  exact ⟨u + v, by rw [hu, hv, EReal.coe_add]⟩

instance : Subsingleton Cert.Pre_finite_states.S_.Idx := ⟨fun _ _ => funext fun a => a.elim0⟩

/-- What the precondition says of the sums of the two directions. -/
theorem finite_of_pre (m : (ℓ : Loc Cert.Kernel2Ideal.nD Cert.Kernel2Ideal.τ Cert.Kernel2Ideal.sig) → Buf (Elt Ideal) ℓ)
    (h : Cert.Pre_Kernel2Ideal_finite_states m) (c : Dev Cert.Kernel2Ideal.nD) : Cert.Kernel2Ideal.Mix.FiniteSums m c := by
  have e := congrFun (h c) ix0
  simp only [Cert.Pre_finite_states.fn, Cert.Pre_finite_states.fn_part1] at e
  obtain ⟨e, h11⟩ := IntOp.andi_eq_one.1 e
  obtain ⟨e, h10⟩ := IntOp.andi_eq_one.1 e
  obtain ⟨h6, h7⟩ := IntOp.andi_eq_one.1 e
  exact ⟨finiteSum _ _ (fun b T k => real_of_lt _ (Host.reduce_andi_all _ _ _ _ _ h6 (ix3 b T k)))
      (fun b T k => real_of_lt _ (Host.reduce_andi_all _ _ _ _ _ h7 (ix3 b T k))),
    finiteSum _ _ (fun b T k => real_of_lt _ (Host.reduce_andi_all _ _ _ _ _ h10 (ix3 b T k)))
      (fun b T k => real_of_lt _ (Host.reduce_andi_all _ _ _ _ _ h11 (ix3 b T k)))⟩

theorem algebraic : Cert.algebraic_Kernel2Ideal_Reference2Ideal_pre_finite_states := fun m ρ m' ρ' hpre hm => by
  refine ⟨fun c => (Cert.Kernel2Ideal.Gen.dats m 0 c).arrAt 18 Cert.Kernel2Ideal.cfg0.N, Cert.Kernel2Ideal.Value.run_blocks m ρ, ?_⟩
  refine (θ_run Cert.Reference2Ideal.defs _ _).mono (fun r h c => ⟨?_, (h c).2⟩) (Cert.Reference2Ideal.Value.run m' ρ')
  obtain ⟨h0, h1, h2, h3, h4, h5, h6, h7, h8, h9, h10, h11, h12, h13, h14, h15, h16, h17, h18, h19, h20, h21, h22, h23⟩ := hm c
  rw [(h c).1, Cert.Reference2Ideal.Read.val_main_v112_eq, h0, h1, h3, h4, h5, h6, h7, h8, h9, h10, h11, h12, h13, h19, h20, h21, h22, h23]
  refine Eq.trans ?_ (Cert.Kernel2Ideal.Mix.final m c (finite_of_pre m hpre c)).symm
  funext i
  rw [Cert.Reference2Ideal.Read.val_main_v112_apply]
  obtain ⟨R, j, rfl⟩ : ∃ (R : Fin 16384) (j : Fin 1024), i = ix2 R j := ⟨i 0, i 1, eq_ix2 i⟩
  have e : Cert.Reference2Ideal.Read.idx_main_v112 (ix2 R j) = ix3 ⟨R.val / 2048, by omega⟩ ⟨R.val % 2048, by omega⟩ j := by
    funext a
    match a with
    | 0 => exact Fin.ext (show (R.val * 1024 + j.val) / 2097152 = R.val / 2048 by omega)
    | 1 => exact Fin.ext (show (R.val * 1024 + j.val) / 1024 % 2048 = R.val % 2048 by omega)
    | 2 => exact Fin.ext (show (R.val * 1024 + j.val) % 1024 = j.val by omega)
  rw [e]
  exact Cert.Reference2Ideal.Mix.out_at _ _ _ _ _ _ _ _ _ _ _ _ _ _ _ _ _ _ _ _ j

end Cert.Proof.Mix

end
-- ==== Proof.Ffn.Pieces.lean ====
module

public import proofs.«01_k».proof.Proof.Gen.Kernel3Ideal.Value
public import proofs.«01_k».proof.Proof.Ffn.Row
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel3Ideal.Ffn

open Cert.Ffn Cert.Kernel3Ideal Cert.Kernel3Ideal.Gen Idealize.ShloMosaic Idealize.ShloMosaic.TcCoe Idealize.SL.Sem

theorem pay5_at (v1 v28 : FVec Ideal S768x1024 .f32) (v29 : IVec S768x1 32) (v31 v32 : BitVec 32) (v33 v36 : BitVec 1)
    (a b : Vec Ideal S1x1x1024 .f32) (n : Vec Ideal S1x1024 .f32) (w : Vec Ideal S1x1x1024x512 .bf16) (r : Fin 768) (f : Fin 512) :
    k0_pay5 v1 v28 v29 v31 v32 v33 v36 a b n w (ix2 r f)
      = ∑ k : Fin 1024, k0_pay4 v1 v28 v29 v31 v32 v33 v36 a b n (ix2 r k) * w (ix4 0 0 k f) := by
  unfold k0_pay5
  generalize k0_pay4 v1 v28 v29 v31 v32 v33 v36 a b n = h
  pointwise

theorem pay6_at (h : FVec Ideal S768x1024 .bf16) (g : FVec Ideal S768x512 .f32) (wu : Vec Ideal S1x1x1024x512 .bf16)
    (wd : Vec Ideal S1x1x512x1024 .bf16) (r : Fin 768) (j : Fin 1024) :
    k0_pay6 h g wu wd (ix2 r j)
      = ∑ f : Fin 512, silu (g (ix2 r f)) * (∑ k : Fin 1024, h (ix2 r k) * wu (ix4 0 0 k f)) * wd (ix4 0 0 f j) := by
  pointwise [k0_pay6, silu, one]

theorem pay7_at (h : FVec Ideal S768x1024 .bf16) (wg wu : Vec Ideal S1x1x1024x512 .bf16) (r : Fin 768) (f : Fin 512) :
    k0_pay7 h wg wu (ix2 r f)
      = unit (fun k => h (ix2 r k)) (fun k => wg (ix4 0 0 k f)) (fun k => wu (ix4 0 0 k f)) := by
  pointwise [k0_pay7, unit, silu, one]

theorem pay8_at (h : FVec Ideal S768x1024 .bf16) (acc : FVec Ideal S768x1024 .f32) (p : FVec Ideal S768x512 .bf16)
    (wd : Vec Ideal S1x1x512x1024 .bf16) (wg' wu' : Vec Ideal S1x1x1024x512 .bf16) (wd' : Vec Ideal S1x1x512x1024 .bf16) (r : Fin 768) (j : Fin 1024) :
    k0_pay8 h acc p wd wg' wu' wd' (ix2 r j)
      = acc (ix2 r j) + (∑ f : Fin 512, p (ix2 r f) * wd (ix4 0 0 f j))
        + ∑ f : Fin 512, unit (fun k => h (ix2 r k)) (fun k => wg' (ix4 0 0 k f)) (fun k => wu' (ix4 0 0 k f)) * wd' (ix4 0 0 f j) := by
  pointwise [k0_pay8, unit, silu, one]

theorem pay11_at (h : FVec Ideal S768x1024 .bf16) (acc : FVec Ideal S768x1024 .f32)
    (wg wu : Vec Ideal S1x1x1024x512 .bf16) (wd : Vec Ideal S1x1x512x1024 .bf16) (r : Fin 768) (j : Fin 1024) :
    k0_pay11 h acc (k0_pay9 h wg) (k0_pay10 h wg) wu wd (ix2 r j)
      = acc (ix2 r j)
        + ∑ f : Fin 512, unit (fun k => h (ix2 r k)) (fun k => wg (ix4 0 0 k f)) (fun k => wu (ix4 0 0 k f)) * wd (ix4 0 0 f j) := by
  pointwise [k0_pay11, k0_pay9, k0_pay10, unit, silu, one]

theorem pay12_at (h : FVec Ideal S768x1024 .bf16)
    (wg wu : Vec Ideal S1x1x1024x512 .bf16) (wd : Vec Ideal S1x1x512x1024 .bf16) (r : Fin 768) (j : Fin 1024) :
    k0_pay12 h wg wu wd (ix2 r j)
      = ∑ f : Fin 512, unit (fun k => h (ix2 r k)) (fun k => wg (ix4 0 0 k f)) (fun k => wu (ix4 0 0 k f)) * wd (ix4 0 0 f j) := by
  pointwise [k0_pay12, unit, silu, one]

theorem pay13_at (h : FVec Ideal S768x1024 .bf16) (acc p : FVec Ideal S768x1024 .f32)
    (wg wu : Vec Ideal S1x1x1024x256 .bf16) (wd : Vec Ideal S1x1x256x1024 .bf16) (r : Fin 768) (j : Fin 1024) :
    k0_pay13 h acc p wg wu wd (ix2 r j)
      = acc (ix2 r j) + p (ix2 r j)
        + ∑ f : Fin 256, unit (fun k => h (ix2 r k)) (fun k => wg (ix4 0 0 k f)) (fun k => wu (ix4 0 0 k f)) * wd (ix4 0 0 f j) := by
  pointwise [k0_pay13, unit, silu, one]

end Cert.Kernel3Ideal.Ffn

end
-- ==== Proof.Ffn.Rows.lean ====
module

public import proofs.«01_k».proof.Proof.Gen.Kernel3Ideal.Value
public import proofs.«01_k».proof.Proof.Ffn.Pieces
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel3Ideal.Ffn

open Cert.Ffn Cert.Kernel3Ideal Cert.Kernel3Ideal.Gen Idealize.ShloMosaic Idealize.ShloMosaic.TcCoe Idealize.SL.Sem

section Rows
variable (i : grid0.Coords) (x0 : Vec Ideal S768x1024 .f32) (x1 x2 : Vec Ideal S1x9x1024 .f32) (x3 : Vec Ideal S1x1024 .f32)
    (x4 : Vec Ideal S1x1x1024x5632 .bf16) (x5 : Vec Ideal S1x1x2816x1024 .bf16) (r : Fin 768) (j : Fin 1024)

/-- A row's modulated norm, from the blocks of the point. -/
def hRow : Fin 1024 → EReal :=
  adaln (fun k => x0 (ix2 r k)) (fun k => x3 (ix2 0 k)) (pick (i 0).val r (fun k => x1 (ix3 0 1 k)) (fun k => x2 (ix3 0 1 k)))
    (pick (i 0).val r (fun k => x1 (ix3 0 0 k)) (fun k => x2 (ix3 0 0 k)))

theorem pay3_at (a b : Vec Ideal S1x1x1024 .f32) :
    k0_pay3 i a b (ix2 r j) = pick (i 0).val r (fun k => a (ix3 0 0 k)) (fun k => b (ix3 0 0 k)) j := by
  pointwise [k0_pay3]
  exact pick_at (i 0).val (i 0).isLt r (fun k => a (ix3 0 0 k)) (fun k => b (ix3 0 0 k)) j

theorem pay1_at (x acc : FVec Ideal S768x1024 .f32) (a b : Vec Ideal S1x1x1024 .f32) :
    k0_pay1 x acc (k0_pay14 (BitVec.ofNat 32 (i 0).val)) a b (ix2 r j)
      = x (ix2 r j) + half * pick (i 0).val r (fun k => a (ix3 0 0 k)) (fun k => b (ix3 0 0 k)) j * acc (ix2 r j) := by
  pointwise [k0_pay1, k0_pay14]
  rw [← pick_at (i 0).val (i 0).isLt r (fun k => a (ix3 0 0 k)) (fun k => b (ix3 0 0 k)) j]
  rfl

theorem h_at : k0_pay18 i x0 x1 x2 x3 x4 x5 (ix2 r j) = hRow i x0 x1 x2 x3 r j := by
  unfold k0_pay18
  pointwise [k0_pay4, k0_pay15, k0_pay16, k0_pay17, k0_pay2, pay3_at]
  unfold hRow adaln one
  rw [← pick_at (i 0).val (i 0).isLt r (fun k => x1 (ix3 0 1 k)) (fun k => x2 (ix3 0 1 k)) j]
  simp only [show FloatOps.ofBits (F := Ideal) .f32 0x3F800000#32 = (1 : EReal) from Ideal.ofBits_one_f32]
  rfl

/-- A group of hidden units of the row, with the weights the point reads. -/
abbrev grp (a n : ℕ) (han : a + n ≤ 2816) : EReal :=
  part (hRow i x0 x1 x2 x3 r) (fun k f => x4 (ix4 0 0 k f)) (fun f j => x5 (ix4 0 0 f j)) j a n han

theorem grp_eq (a n : ℕ) (han : a + n ≤ 2816) (wg wu : Fin 1024 → Fin n → EReal) (wd : Fin n → Fin 1024 → EReal)
    (hg : ∀ k f, wg k f = x4 (ix4 0 0 k ⟨a + f.val, by omega⟩)) (hu : ∀ k f, wu k f = x4 (ix4 0 0 k ⟨2816 + a + f.val, by omega⟩))
    (hd : ∀ f j, wd f j = x5 (ix4 0 0 ⟨a + f.val, by omega⟩ j)) :
    ∑ f : Fin n, unit (fun k => k0_pay18 i x0 x1 x2 x3 x4 x5 (ix2 r k)) (fun k => wg k f) (fun k => wu k f) * wd f j
      = grp i x0 x1 x2 x3 x4 x5 r j a n han := by
  refine Finset.sum_congr rfl fun f _ => ?_
  simp only [h_at, hid, hg, hu, hd, Nat.add_assoc]

/-- What the point leaves at a row and a column of its block. -/
theorem out_at : out0_6 i x0 x1 x2 x3 x4 x5 (ix2 r j)
    = halfStep (fun k => x0 (ix2 r k)) (fun k => x3 (ix2 0 k))
        (pick (i 0).val r (fun k => x1 (ix3 0 1 k)) (fun k => x2 (ix3 0 1 k)))
        (pick (i 0).val r (fun k => x1 (ix3 0 0 k)) (fun k => x2 (ix3 0 0 k)))
        (pick (i 0).val r (fun k => x1 (ix3 0 2 k)) (fun k => x2 (ix3 0 2 k)))
        (fun k f => x4 (ix4 0 0 k f)) (fun f j => x5 (ix4 0 0 f j)) j := by
  unfold out0_6
  rw [View.canon_cons_unit_lit _ _ _ (by decide), pay1_at, pay13_at, pay11_at, pay8_at, pay12_at, pay6_at]
  simp only [pay7_at]
  unfold halfStep
  rw [← ffn_parts]
  refine congrArg₂ _ ?_ (congrArg₂ _ ?_ (congrArg₂ _ (congrArg₂ _ (congrArg₂ _ (congrArg₂ _ (congrArg₂ _ ?_ ?_) ?_) ?_) ?_) ?_))
  · pointwise [k0_pay16, k0_pay2]
  · pointwise
  · refine Eq.trans (Finset.sum_congr rfl fun f _ => ?_) (grp_eq i x0 x1 x2 x3 x4 x5 r j 0 512 (by omega) (fun k f => View.ld x4 r0_4 (ix4 0 0 k f)) (fun k f => View.ld x4 r0_5 (ix4 0 0 k f)) (fun f j => View.ld x5 r0_6 (ix4 0 0 f j)) ?_ ?_ ?_)
    · rw [pay5_at]
      rfl
    all_goals intro k f; exact View.ld_unit_apply_of _ _ _ _ _ _ (by intro a; fin_cases a <;> simp [ix4])
  · refine grp_eq i x0 x1 x2 x3 x4 x5 r j 512 512 (by omega) (fun k f => View.ld x4 r0_7 (ix4 0 0 k f)) (fun k f => View.ld x4 r0_8 (ix4 0 0 k f)) (fun f j => View.ld x5 r0_9 (ix4 0 0 f j)) ?_ ?_ ?_
    all_goals intro k f; exact View.ld_unit_apply_of _ _ _ _ _ _ (by intro a; fin_cases a <;> simp [ix4])
  · refine grp_eq i x0 x1 x2 x3 x4 x5 r j 1024 512 (by omega) (fun k f => View.ld x4 r0_10 (ix4 0 0 k f)) (fun k f => View.ld x4 r0_11 (ix4 0 0 k f)) (fun f j => View.ld x5 r0_12 (ix4 0 0 f j)) ?_ ?_ ?_
    all_goals intro k f; exact View.ld_unit_apply_of _ _ _ _ _ _ (by intro a; fin_cases a <;> simp [ix4])
  · refine grp_eq i x0 x1 x2 x3 x4 x5 r j 1536 512 (by omega) (fun k f => View.ld x4 r0_13 (ix4 0 0 k f)) (fun k f => View.ld x4 r0_14 (ix4 0 0 k f)) (fun f j => View.ld x5 r0_15 (ix4 0 0 f j)) ?_ ?_ ?_
    all_goals intro k f; exact View.ld_unit_apply_of _ _ _ _ _ _ (by intro a; fin_cases a <;> simp [ix4])
  · refine grp_eq i x0 x1 x2 x3 x4 x5 r j 2048 512 (by omega) (fun k f => View.ld x4 r0_16 (ix4 0 0 k f)) (fun k f => View.ld x4 r0_17 (ix4 0 0 k f)) (fun f j => View.ld x5 r0_18 (ix4 0 0 f j)) ?_ ?_ ?_
    all_goals intro k f; exact View.ld_unit_apply_of _ _ _ _ _ _ (by intro a; fin_cases a <;> simp [ix4])
  · refine grp_eq i x0 x1 x2 x3 x4 x5 r j 2560 256 (by omega) (fun k f => View.ld x4 r0_19 (ix4 0 0 k f)) (fun k f => View.ld x4 r0_20 (ix4 0 0 k f)) (fun f j => View.ld x5 r0_21 (ix4 0 0 f j)) ?_ ?_ ?_
    all_goals intro k f; exact View.ld_unit_apply_of _ _ _ _ _ _ (by intro a; fin_cases a <;> simp [ix4])

end Rows

end Cert.Kernel3Ideal.Ffn

end
-- ==== Proof.Ffn.Final.lean ====
module

public import proofs.«01_k».proof.Proof.Gen.Kernel3Ideal.Value
public import proofs.«01_k».proof.Proof.Ffn.Rows
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel3Ideal.Ffn

open Cert.Ffn Cert.Kernel3Ideal Cert.Kernel3Ideal.Gen Idealize.ShloMosaic Idealize.ShloMosaic.TcCoe Idealize.SL.Sem

theorem idx_all : ∀ t : Fin cfg0.N,
    win0_0.index t = ![t.val, 0] ∧ win0_1.index t = ![0, 0, 0] ∧ win0_2.index t = ![t.val / 3, 0, 0] ∧ win0_3.index t = ![0, 0]
      ∧ win0_4.index t = ![1, 0, 0, 0] ∧ win0_5.index t = ![1, 0, 0, 0] ∧ win0_6.index t = ![t.val, 0]
      ∧ (grid0.coords t 0).val = t.val ∧ t.val < 24 :=
  (by decide +kernel : ∀ t : Fin grid0.N, _)

variable (m : (ℓ : Loc nD τ sig) → Buf (Elt Ideal) ℓ) (c : Dev nD)

/-- The half-step of every token, from the arguments. -/
def spec : Fin 8 → Fin 2304 → Fin 1024 → EReal :=
  layer (fun b T j => m ((c.tc : Thread nD τ).loc main_arg0) (ix3 b T j)) (fun b q j => m ((c.tc : Thread nD τ).loc main_arg1) (ix3 b q j))
    (fun q j => m ((c.tc : Thread nD τ).loc main_arg2) (ix3 0 q j)) (fun j => m ((c.tc : Thread nD τ).loc main_arg3) (ix1 j))
    (fun k f => m ((c.tc : Thread nD τ).loc main_arg4) (ix4 1 0 k f)) (fun f j => m ((c.tc : Thread nD τ).loc main_arg5) (ix4 1 0 f j))

section Blocks
variable (t : Fin cfg0.N)

theorem blk_x (r : Fin 768) (j : Fin 1024) :
    iblk m c 0 t (ix2 r j) = m ((c.tc : Thread nD τ).loc main_arg0)
      (ix3 ⟨t.val / 3, by have := (idx_all t).2.2.2.2.2.2.2.2; omega⟩ ⟨t.val % 3 * 768 + r.val, by omega⟩ j) := by
  blk_simp [iblk, idx_all t]
  entry_read
  pointwise
  blk_ext [idx_all t]

theorem blk_mc (q : Fin 9) (j : Fin 1024) : iblk m c 1 t (ix3 0 q j) = m ((c.tc : Thread nD τ).loc main_arg2) (ix3 0 q j) := by
  blk_simp [iblk, idx_all t]
  entry_read
  pointwise
  blk_ext [idx_all t]

theorem blk_mb (q : Fin 9) (j : Fin 1024) : iblk m c 2 t (ix3 0 q j) = m ((c.tc : Thread nD τ).loc main_arg1)
      (ix3 ⟨t.val / 3, by have := (idx_all t).2.2.2.2.2.2.2.2; omega⟩ q j) := by
  blk_simp [iblk, idx_all t]
  entry_read
  pointwise
  blk_ext [idx_all t]

theorem blk_nw (j : Fin 1024) : iblk m c 3 t (ix2 0 j) = m ((c.tc : Thread nD τ).loc main_arg3) (ix1 j) := by
  blk_simp [iblk, idx_all t]
  entry_read
  pointwise
  blk_ext [idx_all t]

theorem blk_w (k : Fin 1024) (f : Fin 5632) : iblk m c 4 t (ix4 0 0 k f) = m ((c.tc : Thread nD τ).loc main_arg4) (ix4 1 0 k f) := by
  blk_simp [iblk, idx_all t]
  entry_read
  pointwise
  blk_ext [idx_all t]

theorem blk_d (f : Fin 2816) (j : Fin 1024) : iblk m c 5 t (ix4 0 0 f j) = m ((c.tc : Thread nD τ).loc main_arg5) (ix4 1 0 f j) := by
  blk_simp [iblk, idx_all t]
  entry_read
  pointwise
  blk_ext [idx_all t]

end Blocks

/-- The half-step of every token, the sequences' tokens one after the other. -/
def res (i : S18432x1024.Idx) : EReal :=
  spec m c ⟨(i 0).val / 2304, by have : (i 0).val < 18432 := (i 0).isLt; omega⟩ ⟨(i 0).val % 2304, by omega⟩ (i 1)

theorem res_at (t : ℕ) (ht : t < 24) (r : Fin 768) (j : Fin 1024) :
    res m c (ix2 ⟨t * 768 + r.val, by omega⟩ j) = spec m c ⟨t / 3, by omega⟩ ⟨t % 3 * 768 + r.val, by omega⟩ j := by
  unfold res
  congr 1
  · exact Fin.ext (show (t * 768 + r.val) / 2304 = t / 3 by omega)
  · exact Fin.ext (show (t * 768 + r.val) % 2304 = t % 3 * 768 + r.val by omega)

/-- The array the kernel leaves. -/
theorem final : (dats m 0 c).arrAt 6 cfg0.N = res m c := by
  refine (dats m 0 c).arrAt_eq_of_covers 6 _ (by decide +kernel) fun t hf y => ?_
  blk_simp [idx_all t]
  rw [after0_6]
  have ht := (idx_all t).2.2.2.2.2.2.2.2
  have hc := (idx_all t).2.2.2.2.2.2.2.1
  obtain ⟨r, j, rfl⟩ : ∃ (r : Fin 768) (j : Fin 1024), y = ix2 r j := ⟨y 0, y 1, eq_ix2 y⟩
  have em : (win0_6.blk t).view.emb (ix2 r j) = ix2 ⟨t.val * 768 + r.val, by omega⟩ j := by
    blk_ext [idx_all t]
  rw [out_at, em, res_at m c t.val ht]
  simp only [blk_x, blk_mc, blk_mb, blk_nw, blk_w, blk_d, hc]
  unfold spec layer pick
  by_cases h : t.val % 3 = 0 ∧ r.val < 256
  · rw [if_pos h, if_pos h, if_pos h, if_pos (by dsimp only; omega)]
  · rw [if_neg h, if_neg h, if_neg h, if_neg (by dsimp only; omega)]

end Cert.Kernel3Ideal.Ffn

end
-- ==== Proof.Ffn.Ref.lean ====
module

public import proofs.«01_k».proof.Proof.Gen.Reference3Ideal.Read
public import proofs.«01_k».proof.Proof.Ffn.Row
public import Idealize.ShloMosaic.Lib.Pointwise
public import Idealize.ShloMosaic.Lib.Claim

@[expose] public section

set_option maxRecDepth 16384

noncomputable section

namespace Cert.Reference3Ideal.Ffn

open Cert.Ffn Cert.Reference3Ideal Cert.Reference3Ideal.Gen Cert.Reference3Ideal.Read Idealize.ShloMosaic Idealize.ShloMosaic.TcCoe Idealize.SL.Sem

section ctx
variable (x0 : Vec Ideal S8x2304x1024 .f32) (x2 : Vec Ideal S1x9x1024 .f32) (x3 : Vec Ideal S1024 .f32)
  (x4 : Vec Ideal S2x2x1024x5632 .f32) (x5 : Vec Ideal S2x2x2816x1024 .f32) (b : Fin 8) (t : Fin 256)

theorem ctx_norm (j : Fin 1024) : val_main_v30 (F := Ideal) x0 x2 x3 (ix3 b t j)
    = adaln (fun k => x0 (ix3 b ⟨t.val, by omega⟩ k)) (fun k => x3 (ix1 k)) (fun k => x2 (ix3 0 1 k)) (fun k => x2 (ix3 0 0 k)) j := by
  pointwise [val_main_v0, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_cst_0, val_main_cst_1, val_main_cst_2, val_main_cst_3, val_main_cst, adaln, width, eps, one]

theorem ctx_up (f : Fin 5632) : val_main_v35 (F := Ideal) x0 x2 x3 x4 (ix3 b t f)
    = ∑ k : Fin 1024, val_main_v30 (F := Ideal) x0 x2 x3 (ix3 b t k) * x4 (ix4 1 0 k f) := by
  unfold val_main_v35
  generalize val_main_v30 (F := Ideal) x0 x2 x3 = h
  pointwise [val_main_v31, val_main_v32]

theorem ctx_hid (f : Fin 2816) : val_main_v39 (F := Ideal) x0 x2 x3 x4 (ix3 b t f)
    = hid (fun k => val_main_v30 (F := Ideal) x0 x2 x3 (ix3 b t k)) (fun k f => x4 (ix4 1 0 k f)) f := by
  unfold hid unit
  rw [← silu_neg, ← ctx_up, ← ctx_up]
  unfold val_main_v39
  pointwise [val_main_v36, val_main_v37, val_main_v38, val_main_call0_v0, val_main_call0_v1, val_main_call0_v2, val_main_call0_v3, val_main_call0_v4, val_main_call0_v5, val_main_call0_cst, val_main_call0_cst_0, one]

theorem ctx_out (j : Fin 1024) : val_main_v43 (F := Ideal) x0 x2 x3 x4 x5 (ix3 b t j)
    = halfStep (fun k => x0 (ix3 b ⟨t.val, by omega⟩ k)) (fun k => x3 (ix1 k)) (fun k => x2 (ix3 0 1 k)) (fun k => x2 (ix3 0 0 k)) (fun k => x2 (ix3 0 2 k))
        (fun k f => x4 (ix4 1 0 k f)) (fun f j => x5 (ix4 1 0 f j)) j := by
  unfold halfStep ffn
  rw [show adaln _ _ _ _ = _ from funext fun k => (ctx_norm x0 x2 x3 b t k).symm]
  simp only [← ctx_hid x0 x2 x3 x4 b t]
  unfold val_main_v43 val_main_v42 val_main_v40
  generalize val_main_v39 (F := Ideal) x0 x2 x3 x4 = h
  pointwise [val_main_v0, val_main_v1, val_main_v2, val_main_v3, val_main_v4, val_main_v5, val_main_v33, val_main_v34, val_main_v41, val_main_cst, half]

end ctx

section lat
variable (x0 : Vec Ideal S8x2304x1024 .f32) (x1 : Vec Ideal S8x9x1024 .f32) (x3 : Vec Ideal S1024 .f32)
  (x4 : Vec Ideal S2x2x1024x5632 .f32) (x5 : Vec Ideal S2x2x2816x1024 .f32) (b : Fin 8) (t : Fin 2048)

theorem lat_norm (j : Fin 1024) : val_main_v74 (F := Ideal) x0 x1 x3 (ix3 b t j)
    = adaln (fun k => x0 (ix3 b ⟨256 + t.val, by omega⟩ k)) (fun k => x3 (ix1 k)) (fun k => x1 (ix3 b 1 k)) (fun k => x1 (ix3 b 0 k)) j := by
  pointwise [val_main_v44, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_cst_5, val_main_cst_6, val_main_cst_7, val_main_cst_8, val_main_cst_4, adaln, width, eps, one]

theorem lat_up (f : Fin 5632) : val_main_v79 (F := Ideal) x0 x1 x3 x4 (ix3 b t f)
    = ∑ k : Fin 1024, val_main_v74 (F := Ideal) x0 x1 x3 (ix3 b t k) * x4 (ix4 1 0 k f) := by
  unfold val_main_v79
  generalize val_main_v74 (F := Ideal) x0 x1 x3 = h
  pointwise [val_main_v75, val_main_v76]

theorem lat_hid (f : Fin 2816) : val_main_v83 (F := Ideal) x0 x1 x3 x4 (ix3 b t f)
    = hid (fun k => val_main_v74 (F := Ideal) x0 x1 x3 (ix3 b t k)) (fun k f => x4 (ix4 1 0 k f)) f := by
  unfold hid unit
  rw [← silu_neg, ← lat_up, ← lat_up]
  unfold val_main_v83
  pointwise [val_main_v80, val_main_v81, val_main_v82, val_main_call1_v0, val_main_call1_v1, val_main_call1_v2, val_main_call1_v3, val_main_call1_v4, val_main_call1_v5, val_main_call1_cst, val_main_call1_cst_0, one]

theorem lat_out (j : Fin 1024) : val_main_v87 (F := Ideal) x0 x1 x3 x4 x5 (ix3 b t j)
    = halfStep (fun k => x0 (ix3 b ⟨256 + t.val, by omega⟩ k)) (fun k => x3 (ix1 k)) (fun k => x1 (ix3 b 1 k)) (fun k => x1 (ix3 b 0 k)) (fun k => x1 (ix3 b 2 k))
        (fun k f => x4 (ix4 1 0 k f)) (fun f j => x5 (ix4 1 0 f j)) j := by
  unfold halfStep ffn
  rw [show adaln _ _ _ _ = _ from funext fun k => (lat_norm x0 x1 x3 b t k).symm]
  simp only [← lat_hid x0 x1 x3 x4 b t]
  unfold val_main_v87 val_main_v86 val_main_v84
  generalize val_main_v83 (F := Ideal) x0 x1 x3 x4 = h
  pointwise [val_main_v44, val_main_v45, val_main_v46, val_main_v47, val_main_v48, val_main_v49, val_main_v77, val_main_v78, val_main_v85, val_main_cst_4, half]

end lat

theorem both (x0 : Vec Ideal S8x2304x1024 .f32) (x1 : Vec Ideal S8x9x1024 .f32) (x2 : Vec Ideal S1x9x1024 .f32) (x3 : Vec Ideal S1024 .f32)
    (x4 : Vec Ideal S2x2x1024x5632 .f32) (x5 : Vec Ideal S2x2x2816x1024 .f32) (b : Fin 8) (T : Fin 2304) (j : Fin 1024) :
    val_main_v88 (F := Ideal) x0 x1 x2 x3 x4 x5 (ix3 b T j)
      = layer (fun b T j => x0 (ix3 b T j)) (fun b q j => x1 (ix3 b q j)) (fun q j => x2 (ix3 0 q j)) (fun j => x3 (ix1 j))
          (fun k f => x4 (ix4 1 0 k f)) (fun f j => x5 (ix4 1 0 f j)) b T j := by
  unfold layer val_main_v88
  pointwise
  by_cases h : T.val < 256
  · rw [if_pos h, dif_pos h]
    exact ctx_out x0 x2 x3 x4 x5 b ⟨T.val, h⟩ j
  · rw [if_neg h, dif_neg h]
    have e := lat_out x0 x1 x3 x4 x5 b ⟨T.val - 256, by omega⟩ j
    simp only [show 256 + (T.val - 256) = T.val by omega] at e
    exact e

end Cert.Reference3Ideal.Ffn

end
-- ==== Proof.Ffn.Whole.lean ====
module

public import proofs.«01_k».proof.Defs
public import proofs.«01_k».proof.Proof.Gen.Kernel3.Frame
public import proofs.«01_k».proof.Proof.Gen.Kernel3Ideal.Frame
public import proofs.«01_k».proof.Proof.Gen.Reference3Ideal.Run
public import proofs.«01_k».proof.Proof.Ffn.Final
public import proofs.«01_k».proof.Proof.Ffn.Ref

@[expose] public section

set_option maxRecDepth 16384

noncomputable section

namespace Cert.Proof.Ffn

open Idealize.ShloMosaic Idealize.ShloMosaic.TcCoe Idealize.SL.Sem

/-! The claims about the first feed-forward half-step. -/

theorem frame_kernel : Cert.quiescent_Kernel3 := fun m ρ _ => Cert.Kernel3.Gen.frame m ρ

theorem frame_kernelIdeal : Cert.quiescent_Kernel3Ideal := fun m ρ _ => Cert.Kernel3Ideal.Gen.frame m ρ

theorem frame_referenceIdeal : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run m ρ)

theorem algebraic : Cert.algebraic_Kernel3Ideal_Reference3Ideal := fun m ρ m' ρ' _ hm => by
  refine ⟨fun c => (Cert.Kernel3Ideal.Gen.dats m 0 c).arrAt 6 Cert.Kernel3Ideal.cfg0.N, Cert.Kernel3Ideal.Value.run_blocks m ρ, ?_⟩
  refine (θ_run Cert.Reference3Ideal.defs _ _).mono (fun r h c => ⟨?_, (h c).2⟩) (Cert.Reference3Ideal.Value.run m' ρ')
  obtain ⟨h0, h1, h2, h3, h4, h5⟩ := hm c
  rw [(h c).1, Cert.Reference3Ideal.Read.val_main_v89_eq, h0, h1, h2, h3, h4, h5]
  refine Eq.trans ?_ (Cert.Kernel3Ideal.Ffn.final m c).symm
  funext i
  rw [Cert.Reference3Ideal.Read.val_main_v89_apply]
  obtain ⟨R, j, rfl⟩ : ∃ (R : Fin 18432) (j : Fin 1024), i = ix2 R j := ⟨i 0, i 1, eq_ix2 i⟩
  have e : Cert.Reference3Ideal.Read.idx_main_v89 (ix2 R j) = ix3 ⟨R.val / 2304, by omega⟩ ⟨R.val % 2304, by omega⟩ j := by
    funext a
    match a with
    | 0 => exact Fin.ext (show (R.val * 1024 + j.val) / 2359296 = R.val / 2304 by omega)
    | 1 => exact Fin.ext (show (R.val * 1024 + j.val) / 1024 % 2304 = R.val % 2304 by omega)
    | 2 => exact Fin.ext (show (R.val * 1024 + j.val) % 1024 = j.val by omega)
  rw [e]
  exact Cert.Reference3Ideal.Ffn.both _ _ _ _ _ _ _ _ _

end Cert.Proof.Ffn

end
-- ==== Proof.Join.Row.lean ====
/- The rows of a block that the two streams give together. -/
module

public import proofs.«01_k».proof.Proof.Ffn.Row

@[expose] public section

set_option maxRecDepth 16384

noncomputable section

namespace Cert.Ffn

open Idealize.ShloMosaic

/-- A point's block within its sequence. -/
def turn (n : ℕ) : BitVec 32 :=
  Scalar.select
    (Scalar.andi
      (Scalar.xori
        (Scalar.cmpi .slt (Scalar.remsi (BitVec.ofNat 32 n) (Scalar.select (Scalar.cmpi .eq 3#32 0#32) 1#32 3#32)) 0#32)
        (Scalar.cmpi .slt (Scalar.select (Scalar.cmpi .eq 3#32 0#32) 1#32 3#32) 0#32))
      (Scalar.cmpi .ne (Scalar.remsi (BitVec.ofNat 32 n) (Scalar.select (Scalar.cmpi .eq 3#32 0#32) 1#32 3#32)) 0#32))
    (Scalar.addi (Scalar.remsi (BitVec.ofNat 32 n) (Scalar.select (Scalar.cmpi .eq 3#32 0#32) 1#32 3#32))
      (Scalar.select (Scalar.cmpi .eq 3#32 0#32) 1#32 3#32))
    (Scalar.remsi (BitVec.ofNat 32 n) (Scalar.select (Scalar.cmpi .eq 3#32 0#32) 1#32 3#32))

theorem opens : ∀ n : Fin 24, Scalar.cmpi .eq (turn n.val) 0#32 = 1#1 ↔ n.val % 3 = 0 := by decide +kernel

theorem pick_turn {α : Type} (n : ℕ) (hn : n < 24) (a b : α) :
    Scalar.select (Scalar.cmpi .eq (turn n) 0#32) a b = if n % 3 = 0 then a else b := by
  have e := opens ⟨n, hn⟩
  simp only at e
  by_cases h : n % 3 = 0
  · rw [if_pos h, e.mpr h]; rfl
  · rw [if_neg h]; exact if_neg fun q => h (e.mp q)

/-- A row of a block: on a sequence's first block from its context and its first latent rows, else from its latent rows. -/
def joined (n : ℕ) (r : Fin 768) (p : Fin 256 → Fin 1024 → EReal) (q : Fin 512 → Fin 1024 → EReal)
    (s : Fin 768 → Fin 1024 → EReal) (j : Fin 1024) : EReal :=
  if n % 3 = 0 then (if h : r.val < 256 then p ⟨r.val, h⟩ j else q ⟨r.val - 256, by omega⟩ j) else s r j

/-- The two streams one after the other in each sequence. -/
def streams (lat : Fin 8 → Fin 2048 → Fin 1024 → EReal) (ctx : Fin 8 → Fin 256 → Fin 1024 → EReal)
    (b : Fin 8) (T : Fin 2304) (j : Fin 1024) : EReal :=
  if h : T.val < 256 then ctx b ⟨T.val, h⟩ j else lat b ⟨T.val - 256, by omega⟩ j

end Cert.Ffn

end
-- ==== Proof.Join.Pieces.lean ====
module

public import proofs.«01_k».proof.Proof.Gen.Kernel6Ideal.Value
public import proofs.«01_k».proof.Proof.Join.Row
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel6Ideal.Ffn

open Cert.Ffn Cert.Kernel6Ideal Cert.Kernel6Ideal.Gen Idealize.ShloMosaic Idealize.ShloMosaic.TcCoe Idealize.SL.Sem

theorem pay1_at (i : grid0.Coords) (p : Vec Ideal S256x1024 .f32) (q : Vec Ideal S512x1024 .f32) (s : Vec Ideal S768x1024 .f32)
    (r : Fin 768) (j : Fin 1024) :
    k0_pay1 i p q s (ix2 r j)
      = joined (i 0).val r (fun r j => p (ix2 r j)) (fun r j => q (ix2 r j)) (fun r j => s (ix2 r j)) j := by
  unfold k0_pay1
  dsimp only
  have e := fun a b => congrFun (pick_turn (α := FVec Ideal S768x1024 .f32) (i 0).val (i 0).isLt a b) (ix2 r j)
  refine (e _ _).trans ?_
  unfold joined
  by_cases h : (i 0).val % 3 = 0
  · rw [if_pos h, if_pos h]
    pointwise
  · rw [if_neg h, if_neg h]
    pointwise

theorem pay2_at (i : grid0.Coords) (r : Fin 768) :
    k0_pay2 i (ix2 r 0) = IntOp.cmpi .slt (IntOp.addi (BitVec.ofNat 32 r.val) (before (i 0).val)) 256#32 := by
  pointwise [k0_pay2]
  rfl

theorem pay3_at (i : grid0.Coords) (a b : Vec Ideal S1x1x1024 .f32) (r : Fin 768) (j : Fin 1024) :
    k0_pay3 (k0_pay2 i) a b (ix2 r j) = pick (i 0).val r (fun k => a (ix3 0 0 k)) (fun k => b (ix3 0 0 k)) j := by
  have e := pay2_at i r
  revert e
  generalize k0_pay2 i = v
  intro e
  pointwise [k0_pay3]
  rw [e]
  exact pick_at (i 0).val (i 0).isLt r (fun k => a (ix3 0 0 k)) (fun k => b (ix3 0 0 k)) j

theorem pay4_at (i : grid0.Coords) (a b : Vec Ideal S1x1x1024 .f32) (r : Fin 768) (j : Fin 1024) :
    k0_pay4 (BitVec.ofNat 32 (i 0).val) a b (ix2 r j) = pick (i 0).val r (fun k => a (ix3 0 0 k)) (fun k => b (ix3 0 0 k)) j := by
  pointwise [k0_pay4]
  exact pick_at (i 0).val (i 0).isLt r (fun k => a (ix3 0 0 k)) (fun k => b (ix3 0 0 k)) j

theorem pay7_at (x sh sc : FVec Ideal S768x1024 .f32) (n : Vec Ideal S1x1024 .f32) (r : Fin 768) (j : Fin 1024) :
    k0_pay7 x sh sc (k0_pay5 n) (k0_pay6 x) (ix2 r j)
      = adaln (fun k => x (ix2 r k)) (fun k => n (ix2 0 k)) (fun k => sc (ix2 r k)) (fun k => sh (ix2 r k)) j := by
  pointwise [k0_pay7, k0_pay5, k0_pay6, adaln, one, eps, width]

theorem pay8_at (x sh sc y : FVec Ideal S768x1024 .f32) (n : FVec Ideal S1x1024 .f32)
    (wg wu : Vec Ideal S1x1x1024x512 .bf16) (wd : Vec Ideal S1x1x512x1024 .bf16) (r : Fin 768) (j : Fin 1024) :
    k0_pay8 x sh sc n y wg wu wd (ix2 r j)
      = ∑ f : Fin 512, unit (fun k => k0_pay7 x sh sc n y (ix2 r k)) (fun k => wg (ix4 0 0 k f)) (fun k => wu (ix4 0 0 k f)) * wd (ix4 0 0 f j) := by
  unfold k0_pay8
  generalize k0_pay7 x sh sc n y = h
  pointwise [unit, silu, one]

theorem pay9_at (h : FVec Ideal S768x1024 .bf16) (acc : FVec Ideal S768x1024 .f32)
    (wg wu : Vec Ideal S1x1x1024x512 .bf16) (wd : Vec Ideal S1x1x512x1024 .bf16) (r : Fin 768) (j : Fin 1024) :
    k0_pay9 h acc wg wu wd (ix2 r j)
      = acc (ix2 r j)
        + ∑ f : Fin 512, unit (fun k => h (ix2 r k)) (fun k => wg (ix4 0 0 k f)) (fun k => wu (ix4 0 0 k f)) * wd (ix4 0 0 f j) := by
  pointwise [k0_pay9, unit, silu, one]

theorem pay12_at (h : FVec Ideal S768x1024 .bf16) (acc : FVec Ideal S768x1024 .f32)
    (wg wu : Vec Ideal S1x1x1024x512 .bf16) (wd : Vec Ideal S1x1x512x1024 .bf16)
    (wg' wu' : Vec Ideal S1x1x1024x512 .bf16) (wd' : Vec Ideal S1x1x512x1024 .bf16) (r : Fin 768) (j : Fin 1024) :
    k0_pay12 h acc (k0_pay10 h wg) (k0_pay11 wu) wd wg' wu' wd' (ix2 r j)
      = acc (ix2 r j)
        + (∑ f : Fin 512, unit (fun k => h (ix2 r k)) (fun k => wg (ix4 0 0 k f)) (fun k => wu (ix4 0 0 k f)) * wd (ix4 0 0 f j))
        + ∑ f : Fin 512, unit (fun k => h (ix2 r k)) (fun k => wg' (ix4 0 0 k f)) (fun k => wu' (ix4 0 0 k f)) * wd' (ix4 0 0 f j) := by
  pointwise [k0_pay12, k0_pay10, k0_pay11, unit, silu, one]

theorem pay14_at (h : FVec Ideal S768x1024 .bf16) (acc : FVec Ideal S768x1024 .f32)
    (wg wu : Vec Ideal S1x1x1024x512 .bf16) (wd : Vec Ideal S1x1x512x1024 .bf16) (r : Fin 768) (j : Fin 1024) :
    k0_pay14 h acc (k0_pay13 h wg) (Scalar.ofBits .f32 0x00000000#32) wu wd (ix2 r j)
      = acc (ix2 r j)
        + ∑ f : Fin 512, unit (fun k => h (ix2 r k)) (fun k => wg (ix4 0 0 k f)) (fun k => wu (ix4 0 0 k f)) * wd (ix4 0 0 f j) := by
  pointwise [k0_pay14, k0_pay13, unit, silu, one]

theorem pay16_at (i : grid0.Coords) (x : FVec Ideal S768x1024 .f32) (h : FVec Ideal S768x1024 .bf16) (acc : FVec Ideal S768x1024 .f32)
    (wg wu : Vec Ideal S1x1x1024x256 .bf16) (wd : Vec Ideal S1x1x256x1024 .bf16) (a b : Vec Ideal S1x1x1024 .f32) (r : Fin 768) (j : Fin 1024) :
    k0_pay16 (BitVec.ofNat 32 (i 0).val) x acc (k0_pay15 h wg wu) wd a b (ix2 r j)
      = x (ix2 r j) + half * pick (i 0).val r (fun k => a (ix3 0 0 k)) (fun k => b (ix3 0 0 k)) j * (acc (ix2 r j)
        + ∑ f : Fin 256, unit (fun k => h (ix2 r k)) (fun k => wg (ix4 0 0 k f)) (fun k => wu (ix4 0 0 k f)) * wd (ix4 0 0 f j)) := by
  pointwise [k0_pay16, k0_pay15, unit, silu, one]
  rw [← pick_at (i 0).val (i 0).isLt r (fun k => a (ix3 0 0 k)) (fun k => b (ix3 0 0 k)) j]
  rfl

end Cert.Kernel6Ideal.Ffn

end
-- ==== Proof.Join.Rows.lean ====
module

public import proofs.«01_k».proof.Proof.Gen.Kernel6Ideal.Value
public import proofs.«01_k».proof.Proof.Join.Pieces
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel6Ideal.Ffn

open Cert.Ffn Cert.Kernel6Ideal Cert.Kernel6Ideal.Gen Idealize.ShloMosaic Idealize.ShloMosaic.TcCoe Idealize.SL.Sem

section Rows
variable (i : grid0.Coords) (x0 : Vec Ideal S256x1024 .f32) (x1 : Vec Ideal S512x1024 .f32) (x2 : Vec Ideal S768x1024 .f32)
    (x3 x4 : Vec Ideal S1x9x1024 .f32) (x5 : Vec Ideal S1x1024 .f32)
    (x6 : Vec Ideal S1x1x1024x5632 .bf16) (x7 : Vec Ideal S1x1x2816x1024 .bf16) (r : Fin 768) (j : Fin 1024)

/-- A row of the joined streams, from the blocks of the point. -/
def xRow : Fin 1024 → EReal := joined (i 0).val r (fun r j => x0 (ix2 r j)) (fun r j => x1 (ix2 r j)) (fun r j => x2 (ix2 r j))

/-- A row's modulated norm, from the blocks of the point. -/
def hRow : Fin 1024 → EReal :=
  adaln (xRow i x0 x1 x2 r) (fun k => x5 (ix2 0 k)) (pick (i 0).val r (fun k => x3 (ix3 0 1 k)) (fun k => x4 (ix3 0 1 k)))
    (pick (i 0).val r (fun k => x3 (ix3 0 0 k)) (fun k => x4 (ix3 0 0 k)))

theorem ld_p (k : Fin 256) : View.ld x0 r0_0 (ix2 k j) = x0 (ix2 k j) := by pointwise
theorem ld_q (k : Fin 512) : View.ld x1 r0_1 (ix2 k j) = x1 (ix2 k j) := by pointwise
theorem ld_s (k : Fin 768) : View.ld x2 r0_2 (ix2 k j) = x2 (ix2 k j) := by pointwise
theorem ld_0 (x : Vec Ideal S1x9x1024 .f32) : View.ld x r0_3 (ix3 0 0 j) = x (ix3 0 0 j) := by pointwise
theorem ld_1 (x : Vec Ideal S1x9x1024 .f32) : View.ld x r0_4 (ix3 0 0 j) = x (ix3 0 1 j) := by pointwise
theorem ld_2 (x : Vec Ideal S1x9x1024 .f32) : View.ld x r0_24 (ix3 0 0 j) = x (ix3 0 2 j) := by pointwise
theorem ld_n : View.ld x5 r0_5 (ix2 0 j) = x5 (ix2 0 j) := by pointwise

theorem x_at : k0_pay17 i x0 x1 x2 x3 x4 x5 x6 x7 (ix2 r j) = xRow i x0 x1 x2 r j := by
  unfold k0_pay17 xRow
  rw [pay1_at]
  rw [show (fun r j => View.ld x0 r0_0 (ix2 r j)) = fun r j => x0 (ix2 r j) from funext fun k => funext fun l => ld_p x0 l k,
    show (fun r j => View.ld x1 r0_1 (ix2 r j)) = fun r j => x1 (ix2 r j) from funext fun k => funext fun l => ld_q x1 l k,
    show (fun r j => View.ld x2 r0_2 (ix2 r j)) = fun r j => x2 (ix2 r j) from funext fun k => funext fun l => ld_s x2 l k]

theorem h_at : k0_pay22 i x0 x1 x2 x3 x4 x5 x6 x7 (ix2 r j) = hRow i x0 x1 x2 x3 x4 x5 r j := by
  unfold k0_pay22 k0_pay20 k0_pay21
  rw [pay7_at]
  unfold hRow
  refine congrFun (congr (congr (congr (congrArg adaln ?_) ?_) ?_) ?_) j
  · funext k; exact x_at i x0 x1 x2 x3 x4 x5 x6 x7 r k
  · funext k; exact ld_n x5 k
  · funext k
    unfold k0_pay19
    rw [pay4_at]
    rw [show (fun k => View.ld x3 r0_4 (ix3 0 0 k)) = fun k => x3 (ix3 0 1 k) from funext fun k => ld_1 k x3,
      show (fun k => View.ld x4 r0_4 (ix3 0 0 k)) = fun k => x4 (ix3 0 1 k) from funext fun k => ld_1 k x4]
  · funext k
    unfold k0_pay18
    rw [pay3_at]
    rw [show (fun k => View.ld x3 r0_3 (ix3 0 0 k)) = fun k => x3 (ix3 0 0 k) from funext fun k => ld_0 k x3,
      show (fun k => View.ld x4 r0_3 (ix3 0 0 k)) = fun k => x4 (ix3 0 0 k) from funext fun k => ld_0 k x4]

/-- A group of hidden units of the row, with the weights the point reads. -/
abbrev grp (a n : ℕ) (han : a + n ≤ 2816) : EReal :=
  part (hRow i x0 x1 x2 x3 x4 x5 r) (fun k f => x6 (ix4 0 0 k f)) (fun f j => x7 (ix4 0 0 f j)) j a n han

theorem grp_eq (a n : ℕ) (han : a + n ≤ 2816) (wg wu : Fin 1024 → Fin n → EReal) (wd : Fin n → Fin 1024 → EReal)
    (hg : ∀ k f, wg k f = x6 (ix4 0 0 k ⟨a + f.val, by omega⟩)) (hu : ∀ k f, wu k f = x6 (ix4 0 0 k ⟨2816 + a + f.val, by omega⟩))
    (hd : ∀ f j, wd f j = x7 (ix4 0 0 ⟨a + f.val, by omega⟩ j)) :
    ∑ f : Fin n, unit (fun k => k0_pay22 i x0 x1 x2 x3 x4 x5 x6 x7 (ix2 r k)) (fun k => wg k f) (fun k => wu k f) * wd f j
      = grp i x0 x1 x2 x3 x4 x5 x6 x7 r j a n han := by
  refine Finset.sum_congr rfl fun f _ => ?_
  simp only [h_at, hid, hg, hu, hd, Nat.add_assoc]

/-- What the point leaves at a row and a column of its block. -/
theorem out_at : out0_8 i x0 x1 x2 x3 x4 x5 x6 x7 (ix2 r j)
    = halfStep (xRow i x0 x1 x2 r) (fun k => x5 (ix2 0 k))
        (pick (i 0).val r (fun k => x3 (ix3 0 1 k)) (fun k => x4 (ix3 0 1 k)))
        (pick (i 0).val r (fun k => x3 (ix3 0 0 k)) (fun k => x4 (ix3 0 0 k)))
        (pick (i 0).val r (fun k => x3 (ix3 0 2 k)) (fun k => x4 (ix3 0 2 k)))
        (fun k f => x6 (ix4 0 0 k f)) (fun f j => x7 (ix4 0 0 f j)) j := by
  unfold out0_8
  rw [View.canon_cons_unit_lit _ _ _ (by decide), pay16_at, pay14_at, pay12_at, pay9_at, pay8_at]
  unfold halfStep
  rw [← ffn_parts]
  refine congrArg₂ _ (x_at i x0 x1 x2 x3 x4 x5 x6 x7 r j) (congrArg₂ _ (congrArg _ ?_)
    (congrArg₂ _ (congrArg₂ _ (congrArg₂ _ (congrArg₂ _ (congrArg₂ _ ?_ ?_) ?_) ?_) ?_) ?_))
  · rw [show (fun k => View.ld x3 r0_24 (ix3 0 0 k)) = fun k => x3 (ix3 0 2 k) from funext fun k => ld_2 k x3,
      show (fun k => View.ld x4 r0_24 (ix3 0 0 k)) = fun k => x4 (ix3 0 2 k) from funext fun k => ld_2 k x4]
  · refine grp_eq i x0 x1 x2 x3 x4 x5 x6 x7 r j 0 512 (by omega) (fun k f => View.ld x6 r0_6 (ix4 0 0 k f)) (fun k f => View.ld x6 r0_7 (ix4 0 0 k f)) (fun f j => View.ld x7 r0_8 (ix4 0 0 f j)) ?_ ?_ ?_
    all_goals intro k f; exact View.ld_unit_apply_of _ _ _ _ _ _ (by intro a; fin_cases a <;> simp [ix4])
  · refine grp_eq i x0 x1 x2 x3 x4 x5 x6 x7 r j 512 512 (by omega) (fun k f => View.ld x6 r0_9 (ix4 0 0 k f)) (fun k f => View.ld x6 r0_10 (ix4 0 0 k f)) (fun f j => View.ld x7 r0_11 (ix4 0 0 f j)) ?_ ?_ ?_
    all_goals intro k f; exact View.ld_unit_apply_of _ _ _ _ _ _ (by intro a; fin_cases a <;> simp [ix4])
  · refine grp_eq i x0 x1 x2 x3 x4 x5 x6 x7 r j 1024 512 (by omega) (fun k f => View.ld x6 r0_12 (ix4 0 0 k f)) (fun k f => View.ld x6 r0_13 (ix4 0 0 k f)) (fun f j => View.ld x7 r0_14 (ix4 0 0 f j)) ?_ ?_ ?_
    all_goals intro k f; exact View.ld_unit_apply_of _ _ _ _ _ _ (by intro a; fin_cases a <;> simp [ix4])
  · refine grp_eq i x0 x1 x2 x3 x4 x5 x6 x7 r j 1536 512 (by omega) (fun k f => View.ld x6 r0_15 (ix4 0 0 k f)) (fun k f => View.ld x6 r0_16 (ix4 0 0 k f)) (fun f j => View.ld x7 r0_17 (ix4 0 0 f j)) ?_ ?_ ?_
    all_goals intro k f; exact View.ld_unit_apply_of _ _ _ _ _ _ (by intro a; fin_cases a <;> simp [ix4])
  · refine grp_eq i x0 x1 x2 x3 x4 x5 x6 x7 r j 2048 512 (by omega) (fun k f => View.ld x6 r0_18 (ix4 0 0 k f)) (fun k f => View.ld x6 r0_19 (ix4 0 0 k f)) (fun f j => View.ld x7 r0_20 (ix4 0 0 f j)) ?_ ?_ ?_
    all_goals intro k f; exact View.ld_unit_apply_of _ _ _ _ _ _ (by intro a; fin_cases a <;> simp [ix4])
  · refine grp_eq i x0 x1 x2 x3 x4 x5 x6 x7 r j 2560 256 (by omega) (fun k f => View.ld x6 r0_21 (ix4 0 0 k f)) (fun k f => View.ld x6 r0_22 (ix4 0 0 k f)) (fun f j => View.ld x7 r0_23 (ix4 0 0 f j)) ?_ ?_ ?_
    all_goals intro k f; exact View.ld_unit_apply_of _ _ _ _ _ _ (by intro a; fin_cases a <;> simp [ix4])

end Rows

end Cert.Kernel6Ideal.Ffn

end
-- ==== Proof.Join.Final.lean ====
module

public import proofs.«01_k».proof.Proof.Gen.Kernel6Ideal.Value
public import proofs.«01_k».proof.Proof.Join.Rows
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel6Ideal.Ffn

open Cert.Ffn Cert.Kernel6Ideal Cert.Kernel6Ideal.Gen Idealize.ShloMosaic Idealize.ShloMosaic.TcCoe Idealize.SL.Sem

theorem idx_all : ∀ t : Fin cfg0.N,
    win0_0.index t = ![t.val / 3, 0] ∧ win0_3.index t = ![0, 0, 0] ∧ win0_4.index t = ![t.val / 3, 0, 0] ∧ win0_5.index t = ![0, 0]
      ∧ win0_6.index t = ![0, 0, 0, 0] ∧ win0_7.index t = ![0, 0, 0, 0] ∧ win0_8.index t = ![t.val, 0]
      ∧ (grid0.coords t 0).val = t.val :=
  (by decide +kernel : ∀ t : Fin grid0.N, _)

theorem idx_rows : ∀ t : Fin cfg0.N, win0_1.index t = ![t.val / 3 * 2048, 0]
    ∧ win0_2.index t = ![t.val / 3 * 2048 + 512 + (max (t.val % 3) 1 - 1) * 768, 0] :=
  (by decide +kernel : ∀ t : Fin grid0.N, _)

theorem lt_all : ∀ t : Fin cfg0.N, t.val < 24 :=
  (by decide +kernel : ∀ t : Fin grid0.N, _)

section Place
variable (t : Fin cfg0.N) (j : Fin 1024)

theorem emb_q (r : Fin 512) : ((View.whole main_v2).slice (win0_1.rect t)).emb (ix2 r j)
    = (ix2 ⟨t.val / 3 * 2048 + r.val, by have := lt_all t; omega⟩ j : S16384x1024.Idx) := by
  refine funext fun a => Fin.ext ((win0_1.rect_emb_val_off t (ix2 r j) a).trans ?_)
  rw [(idx_rows t).1]
  fin_cases a
  · rfl
  · exact Nat.zero_add _

theorem emb_s (r : Fin 768) : ((View.whole main_v2).slice (win0_2.rect t)).emb (ix2 r j)
    = (ix2 ⟨t.val / 3 * 2048 + 512 + (max (t.val % 3) 1 - 1) * 768 + r.val, by have := lt_all t; omega⟩ j : S16384x1024.Idx) := by
  refine funext fun a => Fin.ext ((win0_2.rect_emb_val_off t (ix2 r j) a).trans ?_)
  rw [(idx_rows t).2]
  fin_cases a
  · rfl
  · exact Nat.zero_add _

end Place

variable (m : (ℓ : Loc nD τ sig) → Buf (Elt Ideal) ℓ) (c : Dev nD)

/-- The half-step of every token of the joined sequences, from the arguments. -/
def spec : Fin 8 → Fin 2304 → Fin 1024 → EReal :=
  layer (streams (fun b T j => m ((c.tc : Thread nD τ).loc main_arg0) (ix3 b T j)) (fun b T j => m ((c.tc : Thread nD τ).loc main_arg1) (ix3 b T j)))
    (fun b q j => m ((c.tc : Thread nD τ).loc main_arg2) (ix3 b q j)) (fun q j => m ((c.tc : Thread nD τ).loc main_arg3) (ix3 0 q j)) (fun j => m ((c.tc : Thread nD τ).loc main_arg4) (ix1 j))
    (fun k f => m ((c.tc : Thread nD τ).loc main_arg5) (ix4 0 0 k f)) (fun f j => m ((c.tc : Thread nD τ).loc main_arg6) (ix4 0 0 f j))

section Blocks
variable (t : Fin cfg0.N)

theorem blk_p (r : Fin 256) (j : Fin 1024) : iblk m c 0 t (ix2 r j) = m ((c.tc : Thread nD τ).loc main_arg1)
      (ix3 ⟨t.val / 3, by have := lt_all t; omega⟩ r j) := by
  blk_simp [iblk, idx_all t]
  entry_read
  pointwise
  blk_ext [idx_all t]

theorem blk_q (r : Fin 512) (j : Fin 1024) : iblk m c 1 t (ix2 r j) = m ((c.tc : Thread nD τ).loc main_arg0)
      (ix3 ⟨t.val / 3, by have := lt_all t; omega⟩ ⟨r.val, by omega⟩ j) := by
  blk_simp [iblk]
  rw [emb_q]
  entry_read
  pointwise
  blk_ext

theorem blk_s (r : Fin 768) (j : Fin 1024) : iblk m c 2 t (ix2 r j) = m ((c.tc : Thread nD τ).loc main_arg0)
      (ix3 ⟨t.val / 3, by have := lt_all t; omega⟩ ⟨512 + (max (t.val % 3) 1 - 1) * 768 + r.val, by omega⟩ j) := by
  blk_simp [iblk]
  rw [emb_s]
  entry_read
  pointwise
  blk_ext

theorem blk_mc (q : Fin 9) (j : Fin 1024) : iblk m c 3 t (ix3 0 q j) = m ((c.tc : Thread nD τ).loc main_arg3) (ix3 0 q j) := by
  blk_simp [iblk, idx_all t]
  entry_read
  pointwise
  blk_ext [idx_all t]

theorem blk_mb (q : Fin 9) (j : Fin 1024) : iblk m c 4 t (ix3 0 q j) = m ((c.tc : Thread nD τ).loc main_arg2)
      (ix3 ⟨t.val / 3, by have := lt_all t; omega⟩ q j) := by
  blk_simp [iblk, idx_all t]
  entry_read
  pointwise
  blk_ext [idx_all t]

theorem blk_nw (j : Fin 1024) : iblk m c 5 t (ix2 0 j) = m ((c.tc : Thread nD τ).loc main_arg4) (ix1 j) := by
  blk_simp [iblk, idx_all t]
  entry_read
  pointwise
  blk_ext [idx_all t]

theorem blk_w (k : Fin 1024) (f : Fin 5632) : iblk m c 6 t (ix4 0 0 k f) = m ((c.tc : Thread nD τ).loc main_arg5) (ix4 0 0 k f) := by
  blk_simp [iblk, idx_all t]
  entry_read
  pointwise
  blk_ext [idx_all t]

theorem blk_d (f : Fin 2816) (j : Fin 1024) : iblk m c 7 t (ix4 0 0 f j) = m ((c.tc : Thread nD τ).loc main_arg6) (ix4 0 0 f j) := by
  blk_simp [iblk, idx_all t]
  entry_read
  pointwise
  blk_ext [idx_all t]

/-- A row of the point's block is the token it stands for. -/
theorem blk_x (r : Fin 768) : xRow (grid0.coords t) (iblk m c 0 t) (iblk m c 1 t) (iblk m c 2 t) r
    = streams (fun b T j => m ((c.tc : Thread nD τ).loc main_arg0) (ix3 b T j)) (fun b T j => m ((c.tc : Thread nD τ).loc main_arg1) (ix3 b T j))
        ⟨t.val / 3, by have := lt_all t; omega⟩ ⟨t.val % 3 * 768 + r.val, by omega⟩ := by
  have hc := (idx_all t).2.2.2.2.2.2.2
  unfold xRow
  funext j
  simp only [blk_p, blk_q, blk_s, hc]
  unfold joined streams
  by_cases h : t.val % 3 = 0
  · rw [if_pos h]
    by_cases h' : r.val < 256
    · rw [dif_pos h', dif_pos (by dsimp only; omega)]
      exact congrArg (fun T => m ((c.tc : Thread nD τ).loc main_arg1) (ix3 _ T j)) (Fin.ext (show r.val = t.val % 3 * 768 + r.val by omega))
    · rw [dif_neg h', dif_neg (by dsimp only; omega)]
      exact congrArg (fun T => m ((c.tc : Thread nD τ).loc main_arg0) (ix3 _ T j)) (Fin.ext (show r.val - 256 = t.val % 3 * 768 + r.val - 256 by omega))
  · rw [if_neg h, dif_neg (by dsimp only; omega)]
    exact congrArg (fun T => m ((c.tc : Thread nD τ).loc main_arg0) (ix3 _ T j))
      (Fin.ext (show 512 + (max (t.val % 3) 1 - 1) * 768 + r.val = t.val % 3 * 768 + r.val - 256 by omega))

end Blocks

/-- The half-step of every token, the joined sequences' tokens one after the other. -/
def res (i : S18432x1024.Idx) : EReal :=
  spec m c ⟨(i 0).val / 2304, by have : (i 0).val < 18432 := (i 0).isLt; omega⟩ ⟨(i 0).val % 2304, by omega⟩ (i 1)

theorem res_at (t : ℕ) (ht : t < 24) (r : Fin 768) (j : Fin 1024) :
    res m c (ix2 ⟨t * 768 + r.val, by omega⟩ j) = spec m c ⟨t / 3, by omega⟩ ⟨t % 3 * 768 + r.val, by omega⟩ j := by
  unfold res
  congr 1
  · exact Fin.ext (show (t * 768 + r.val) / 2304 = t / 3 by omega)
  · exact Fin.ext (show (t * 768 + r.val) % 2304 = t % 3 * 768 + r.val by omega)

/-- The array the kernel leaves. -/
theorem final : (dats m 0 c).arrAt 8 cfg0.N = res m c := by
  refine (dats m 0 c).arrAt_eq_of_covers 8 _ (by decide +kernel) fun t hf y => ?_
  blk_simp [idx_all t]
  rw [after0_8]
  have ht := lt_all t
  have hc := (idx_all t).2.2.2.2.2.2.2
  obtain ⟨r, j, rfl⟩ : ∃ (r : Fin 768) (j : Fin 1024), y = ix2 r j := ⟨y 0, y 1, eq_ix2 y⟩
  have em : (win0_8.blk t).view.emb (ix2 r j) = ix2 ⟨t.val * 768 + r.val, by omega⟩ j := by
    blk_ext [idx_all t]
  rw [out_at, em, res_at m c t.val ht]
  simp only [blk_x, blk_mc, blk_mb, blk_nw, blk_w, blk_d, hc]
  unfold spec layer pick
  by_cases h : t.val % 3 = 0 ∧ r.val < 256
  · rw [if_pos h, if_pos h, if_pos h, if_pos (by dsimp only; omega)]
  · rw [if_neg h, if_neg h, if_neg h, if_neg (by dsimp only; omega)]

end Cert.Kernel6Ideal.Ffn

end
-- ==== Proof.Join.Ref.lean ====
module

public import proofs.«01_k».proof.Proof.Gen.Reference6Ideal.Read
public import proofs.«01_k».proof.Proof.Join.Row
public import Idealize.ShloMosaic.Lib.Pointwise
public import Idealize.ShloMosaic.Lib.Claim

@[expose] public section

set_option maxRecDepth 16384

noncomputable section

namespace Cert.Reference6Ideal.Ffn

open Cert.Ffn Cert.Reference6Ideal Cert.Reference6Ideal.Gen Cert.Reference6Ideal.Read Idealize.ShloMosaic Idealize.ShloMosaic.TcCoe Idealize.SL.Sem

section ctx
variable (x1 : Vec Ideal S8x256x1024 .f32) (x3 : Vec Ideal S1x9x1024 .f32) (x4 : Vec Ideal S1024 .f32)
  (x5 : Vec Ideal S2x2x1024x5632 .f32) (x6 : Vec Ideal S2x2x2816x1024 .f32) (b : Fin 8) (t : Fin 256)

theorem ctx_norm (j : Fin 1024) : val_main_v29 (F := Ideal) x1 x3 x4 (ix3 b t j)
    = adaln (fun k => x1 (ix3 b t k)) (fun k => x4 (ix1 k)) (fun k => x3 (ix3 0 1 k)) (fun k => x3 (ix3 0 0 k)) j := by
  pointwise [val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_cst_0, val_main_cst_1, val_main_cst_2, val_main_cst_3, val_main_cst, adaln, width, eps, one]

theorem ctx_up (f : Fin 5632) : val_main_v34 (F := Ideal) x1 x3 x4 x5 (ix3 b t f)
    = ∑ k : Fin 1024, val_main_v29 (F := Ideal) x1 x3 x4 (ix3 b t k) * x5 (ix4 0 0 k f) := by
  unfold val_main_v34
  generalize val_main_v29 (F := Ideal) x1 x3 x4 = h
  pointwise [val_main_v30, val_main_v31]

theorem ctx_hid (f : Fin 2816) : val_main_v38 (F := Ideal) x1 x3 x4 x5 (ix3 b t f)
    = hid (fun k => val_main_v29 (F := Ideal) x1 x3 x4 (ix3 b t k)) (fun k f => x5 (ix4 0 0 k f)) f := by
  unfold hid unit
  rw [← silu_neg, ← ctx_up, ← ctx_up]
  unfold val_main_v38
  pointwise [val_main_v35, val_main_v36, val_main_v37, val_main_call0_v0, val_main_call0_v1, val_main_call0_v2, val_main_call0_v3, val_main_call0_v4, val_main_call0_v5, val_main_call0_cst, val_main_call0_cst_0, one]

theorem ctx_out (j : Fin 1024) : val_main_v42 (F := Ideal) x1 x3 x4 x5 x6 (ix3 b t j)
    = halfStep (fun k => x1 (ix3 b t k)) (fun k => x4 (ix1 k)) (fun k => x3 (ix3 0 1 k)) (fun k => x3 (ix3 0 0 k)) (fun k => x3 (ix3 0 2 k))
        (fun k f => x5 (ix4 0 0 k f)) (fun f j => x6 (ix4 0 0 f j)) j := by
  unfold halfStep ffn
  rw [show adaln _ _ _ _ = _ from funext fun k => (ctx_norm x1 x3 x4 b t k).symm]
  simp only [← ctx_hid x1 x3 x4 x5 b t]
  unfold val_main_v42 val_main_v41 val_main_v39
  generalize val_main_v38 (F := Ideal) x1 x3 x4 x5 = h
  pointwise [val_main_v0, val_main_v1, val_main_v2, val_main_v3, val_main_v4, val_main_v32, val_main_v33, val_main_v40, val_main_cst, half]

end ctx

section lat
variable (x0 : Vec Ideal S8x2048x1024 .f32) (x2 : Vec Ideal S8x9x1024 .f32) (x4 : Vec Ideal S1024 .f32)
  (x5 : Vec Ideal S2x2x1024x5632 .f32) (x6 : Vec Ideal S2x2x2816x1024 .f32) (b : Fin 8) (t : Fin 2048)

theorem lat_norm (j : Fin 1024) : val_main_v72 (F := Ideal) x0 x2 x4 (ix3 b t j)
    = adaln (fun k => x0 (ix3 b t k)) (fun k => x4 (ix1 k)) (fun k => x2 (ix3 b 1 k)) (fun k => x2 (ix3 b 0 k)) j := by
  pointwise [val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_cst_5, val_main_cst_6, val_main_cst_7, val_main_cst_8, val_main_cst_4, adaln, width, eps, one]

theorem lat_up (f : Fin 5632) : val_main_v77 (F := Ideal) x0 x2 x4 x5 (ix3 b t f)
    = ∑ k : Fin 1024, val_main_v72 (F := Ideal) x0 x2 x4 (ix3 b t k) * x5 (ix4 0 0 k f) := by
  unfold val_main_v77
  generalize val_main_v72 (F := Ideal) x0 x2 x4 = h
  pointwise [val_main_v73, val_main_v74]

theorem lat_hid (f : Fin 2816) : val_main_v81 (F := Ideal) x0 x2 x4 x5 (ix3 b t f)
    = hid (fun k => val_main_v72 (F := Ideal) x0 x2 x4 (ix3 b t k)) (fun k f => x5 (ix4 0 0 k f)) f := by
  unfold hid unit
  rw [← silu_neg, ← lat_up, ← lat_up]
  unfold val_main_v81
  pointwise [val_main_v78, val_main_v79, val_main_v80, val_main_call1_v0, val_main_call1_v1, val_main_call1_v2, val_main_call1_v3, val_main_call1_v4, val_main_call1_v5, val_main_call1_cst, val_main_call1_cst_0, one]

theorem lat_out (j : Fin 1024) : val_main_v85 (F := Ideal) x0 x2 x4 x5 x6 (ix3 b t j)
    = halfStep (fun k => x0 (ix3 b t k)) (fun k => x4 (ix1 k)) (fun k => x2 (ix3 b 1 k)) (fun k => x2 (ix3 b 0 k)) (fun k => x2 (ix3 b 2 k))
        (fun k f => x5 (ix4 0 0 k f)) (fun f j => x6 (ix4 0 0 f j)) j := by
  unfold halfStep ffn
  rw [show adaln _ _ _ _ = _ from funext fun k => (lat_norm x0 x2 x4 b t k).symm]
  simp only [← lat_hid x0 x2 x4 x5 b t]
  unfold val_main_v85 val_main_v84 val_main_v82
  generalize val_main_v81 (F := Ideal) x0 x2 x4 x5 = h
  pointwise [val_main_v43, val_main_v44, val_main_v45, val_main_v46, val_main_v47, val_main_v75, val_main_v76, val_main_v83, val_main_cst_4, half]

end lat

theorem both (x0 : Vec Ideal S8x2048x1024 .f32) (x1 : Vec Ideal S8x256x1024 .f32) (x2 : Vec Ideal S8x9x1024 .f32) (x3 : Vec Ideal S1x9x1024 .f32)
    (x4 : Vec Ideal S1024 .f32) (x5 : Vec Ideal S2x2x1024x5632 .f32) (x6 : Vec Ideal S2x2x2816x1024 .f32) (b : Fin 8) (T : Fin 2304) (j : Fin 1024) :
    val_main_v86 (F := Ideal) x0 x1 x2 x3 x4 x5 x6 (ix3 b T j)
      = layer (streams (fun b T j => x0 (ix3 b T j)) (fun b T j => x1 (ix3 b T j))) (fun b q j => x2 (ix3 b q j)) (fun q j => x3 (ix3 0 q j))
          (fun j => x4 (ix1 j)) (fun k f => x5 (ix4 0 0 k f)) (fun f j => x6 (ix4 0 0 f j)) b T j := by
  unfold layer val_main_v86
  pointwise
  by_cases h : T.val < 256
  · rw [if_pos h, dif_pos h, show streams (fun b T j => x0 (ix3 b T j)) (fun b T j => x1 (ix3 b T j)) b T = fun k => x1 (ix3 b ⟨T.val, h⟩ k)
      from funext fun k => dif_pos h]
    exact ctx_out x1 x3 x4 x5 x6 b ⟨T.val, h⟩ j
  · rw [if_neg h, dif_neg h, show streams (fun b T j => x0 (ix3 b T j)) (fun b T j => x1 (ix3 b T j)) b T = fun k => x0 (ix3 b ⟨T.val - 256, by omega⟩ k)
      from funext fun k => dif_neg h]
    exact lat_out x0 x2 x4 x5 x6 b ⟨T.val - 256, by omega⟩ j

end Cert.Reference6Ideal.Ffn

end
-- ==== Proof.Join.Whole.lean ====
module

public import proofs.«01_k».proof.Defs
public import proofs.«01_k».proof.Proof.Gen.Kernel6.Frame
public import proofs.«01_k».proof.Proof.Gen.Kernel6Ideal.Frame
public import proofs.«01_k».proof.Proof.Gen.Reference6Ideal.Run
public import proofs.«01_k».proof.Proof.Join.Final
public import proofs.«01_k».proof.Proof.Join.Ref

@[expose] public section

set_option maxRecDepth 16384

noncomputable section

namespace Cert.Proof.Join

open Idealize.ShloMosaic Idealize.ShloMosaic.TcCoe Idealize.SL.Sem

/-! The claims about the first layer's first feed-forward half-step, whose call joins the two streams. -/

theorem frame_kernel : Cert.quiescent_Kernel6 := fun m ρ _ => Cert.Kernel6.Gen.frame m ρ

theorem frame_kernelIdeal : Cert.quiescent_Kernel6Ideal := fun m ρ _ => Cert.Kernel6Ideal.Gen.frame m ρ

theorem frame_referenceIdeal : Cert.quiescent_Reference6Ideal := fun m ρ _ =>
  (θ_run Cert.Reference6Ideal.defs _ _).mono
    (fun r h => ⟨fun c => (h c).2, sem_eq_zero_of_no_sems (by decide) r.2⟩)
    (Cert.Reference6Ideal.Value.run m ρ)

theorem algebraic : Cert.algebraic_Kernel6Ideal_Reference6Ideal := fun m ρ m' ρ' _ hm => by
  refine ⟨fun c => (Cert.Kernel6Ideal.Gen.dats m 0 c).arrAt 8 Cert.Kernel6Ideal.cfg0.N, Cert.Kernel6Ideal.Value.run_blocks m ρ, ?_⟩
  refine (θ_run Cert.Reference6Ideal.defs _ _).mono (fun r h c => ⟨?_, (h c).2⟩) (Cert.Reference6Ideal.Value.run m' ρ')
  obtain ⟨h0, h1, h2, h3, h4, h5, h6⟩ := hm c
  rw [(h c).1, Cert.Reference6Ideal.Read.val_main_v87_eq, h0, h1, h2, h3, h4, h5, h6]
  refine Eq.trans ?_ (Cert.Kernel6Ideal.Ffn.final m c).symm
  funext i
  rw [Cert.Reference6Ideal.Read.val_main_v87_apply]
  obtain ⟨R, j, rfl⟩ : ∃ (R : Fin 18432) (j : Fin 1024), i = ix2 R j := ⟨i 0, i 1, eq_ix2 i⟩
  have e : Cert.Reference6Ideal.Read.idx_main_v87 (ix2 R j) = ix3 ⟨R.val / 2304, by omega⟩ ⟨R.val % 2304, by omega⟩ j := by
    funext a
    match a with
    | 0 => exact Fin.ext (show (R.val * 1024 + j.val) / 2359296 = R.val / 2304 by omega)
    | 1 => exact Fin.ext (show (R.val * 1024 + j.val) / 1024 % 2304 = R.val % 2304 by omega)
    | 2 => exact Fin.ext (show (R.val * 1024 + j.val) % 1024 = j.val by omega)
  rw [e]
  exact Cert.Reference6Ideal.Ffn.both _ _ _ _ _ _ _ _ _ _

end Cert.Proof.Join

end
-- ==== Proof.All.Open.lean ====
module

public import proofs.«01_k».proof.Proof.Gen.Kernel5Ideal.Value
public import proofs.«01_k».proof.Proof.Mix.Row
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel5Ideal.All

open Cert.Ffn Cert.Mix Cert.Kernel5Ideal Cert.Kernel5Ideal.Gen Idealize.ShloMosaic Idealize.ShloMosaic.TcCoe Idealize.SL.Sem

/-! ## The parts of the blocks that the body loads -/

abbrev rB : Rect S768x256 := Rect.unit (s := S768x256) ![0, 0] S768x256.size inb_S768x256_S768x256_0_0
abbrev rD : Rect S1x256 := Rect.unit (s := S1x256) ![0, 0] S1x256.size inb_S1x256_S1x256_0_0
abbrev rP7 : Rect S16x256 := Rect.unit (s := S16x256) ![7, 0] S1x256.size inb_S16x256_S1x256_7_0
abbrev rP8 : Rect S16x256 := Rect.unit (s := S16x256) ![8, 0] S1x256.size inb_S16x256_S1x256_8_0
abbrev rO0 : Rect S1x1024x1024 := Rect.unit (s := S1x1024x1024) ![0, 0, 0] S1x256x1024.size inb_S1x1024x1024_S1x256x1024_0_0_0
abbrev rO1 : Rect S1x1024x1024 := Rect.unit (s := S1x1024x1024) ![0, 256, 0] S1x256x1024.size inb_S1x1024x1024_S1x256x1024_0_256_0
abbrev rO2 : Rect S1x1024x1024 := Rect.unit (s := S1x1024x1024) ![0, 512, 0] S1x256x1024.size inb_S1x1024x1024_S1x256x1024_0_512_0
abbrev rO3 : Rect S1x1024x1024 := Rect.unit (s := S1x1024x1024) ![0, 768, 0] S1x256x1024.size inb_S1x1024x1024_S1x256x1024_0_768_0
abbrev rX : Rect S768x1024 := Rect.unit (s := S768x1024) ![0, 0] S768x1024.size inb_S768x1024_S768x1024_0_0
abbrev rN : Rect S1x1024 := Rect.unit (s := S1x1024) ![0, 0] S1x1024.size inb_S1x1024_S1x1024_0_0
abbrev rM5 : Rect S1x9x1024 := Rect.unit (s := S1x9x1024) ![0, 5, 0] S1x1x1024.size inb_S1x9x1024_S1x1x1024_0_5_0
abbrev rM6 : Rect S1x9x1024 := Rect.unit (s := S1x9x1024) ![0, 6, 0] S1x1x1024.size inb_S1x9x1024_S1x1x1024_0_6_0
abbrev rM7 : Rect S1x9x1024 := Rect.unit (s := S1x9x1024) ![0, 7, 0] S1x1x1024.size inb_S1x9x1024_S1x1x1024_0_7_0
abbrev rM8 : Rect S1x9x1024 := Rect.unit (s := S1x9x1024) ![0, 8, 0] S1x1x1024.size inb_S1x9x1024_S1x1x1024_0_8_0
abbrev rG0 : Rect S1x1x1024x5632 := Rect.unit (s := S1x1x1024x5632) ![0, 0, 0, 0] S1x1x1024x512.size inb_S1x1x1024x5632_S1x1x1024x512_0_0_0_0
abbrev rU0 : Rect S1x1x1024x5632 := Rect.unit (s := S1x1x1024x5632) ![0, 0, 0, 2816] S1x1x1024x512.size inb_S1x1x1024x5632_S1x1x1024x512_0_0_0_2816
abbrev rV0 : Rect S1x1x2816x1024 := Rect.unit (s := S1x1x2816x1024) ![0, 0, 0, 0] S1x1x512x1024.size inb_S1x1x2816x1024_S1x1x512x1024_0_0_0_0
abbrev rG1 : Rect S1x1x1024x5632 := Rect.unit (s := S1x1x1024x5632) ![0, 0, 0, 512] S1x1x1024x512.size inb_S1x1x1024x5632_S1x1x1024x512_0_0_0_512
abbrev rU1 : Rect S1x1x1024x5632 := Rect.unit (s := S1x1x1024x5632) ![0, 0, 0, 3328] S1x1x1024x512.size inb_S1x1x1024x5632_S1x1x1024x512_0_0_0_3328
abbrev rV1 : Rect S1x1x2816x1024 := Rect.unit (s := S1x1x2816x1024) ![0, 0, 512, 0] S1x1x512x1024.size inb_S1x1x2816x1024_S1x1x512x1024_0_0_512_0
abbrev rG2 : Rect S1x1x1024x5632 := Rect.unit (s := S1x1x1024x5632) ![0, 0, 0, 1024] S1x1x1024x512.size inb_S1x1x1024x5632_S1x1x1024x512_0_0_0_1024
abbrev rU2 : Rect S1x1x1024x5632 := Rect.unit (s := S1x1x1024x5632) ![0, 0, 0, 3840] S1x1x1024x512.size inb_S1x1x1024x5632_S1x1x1024x512_0_0_0_3840
abbrev rV2 : Rect S1x1x2816x1024 := Rect.unit (s := S1x1x2816x1024) ![0, 0, 1024, 0] S1x1x512x1024.size inb_S1x1x2816x1024_S1x1x512x1024_0_0_1024_0
abbrev rG3 : Rect S1x1x1024x5632 := Rect.unit (s := S1x1x1024x5632) ![0, 0, 0, 1536] S1x1x1024x512.size inb_S1x1x1024x5632_S1x1x1024x512_0_0_0_1536
abbrev rU3 : Rect S1x1x1024x5632 := Rect.unit (s := S1x1x1024x5632) ![0, 0, 0, 4352] S1x1x1024x512.size inb_S1x1x1024x5632_S1x1x1024x512_0_0_0_4352
abbrev rV3 : Rect S1x1x2816x1024 := Rect.unit (s := S1x1x2816x1024) ![0, 0, 1536, 0] S1x1x512x1024.size inb_S1x1x2816x1024_S1x1x512x1024_0_0_1536_0
abbrev rG4 : Rect S1x1x1024x5632 := Rect.unit (s := S1x1x1024x5632) ![0, 0, 0, 2048] S1x1x1024x512.size inb_S1x1x1024x5632_S1x1x1024x512_0_0_0_2048
abbrev rU4 : Rect S1x1x1024x5632 := Rect.unit (s := S1x1x1024x5632) ![0, 0, 0, 4864] S1x1x1024x512.size inb_S1x1x1024x5632_S1x1x1024x512_0_0_0_4864
abbrev rV4 : Rect S1x1x2816x1024 := Rect.unit (s := S1x1x2816x1024) ![0, 0, 2048, 0] S1x1x512x1024.size inb_S1x1x2816x1024_S1x1x512x1024_0_0_2048_0
abbrev rG5 : Rect S1x1x1024x5632 := Rect.unit (s := S1x1x1024x5632) ![0, 0, 0, 2560] S1x1x1024x256.size inb_S1x1x1024x5632_S1x1x1024x256_0_0_0_2560
abbrev rU5 : Rect S1x1x1024x5632 := Rect.unit (s := S1x1x1024x5632) ![0, 0, 0, 5376] S1x1x1024x256.size inb_S1x1x1024x5632_S1x1x1024x256_0_0_0_5376
abbrev rV5 : Rect S1x1x2816x1024 := Rect.unit (s := S1x1x2816x1024) ![0, 0, 2560, 0] S1x1x256x1024.size inb_S1x1x2816x1024_S1x1x256x1024_0_0_2560_0

section Stages
variable (i : grid0.Coords) (x0 : Vec Ideal S768x1024 .f32) (x1 x2 : Vec Ideal S1x9x1024 .f32) (x3 : Vec Ideal S1x1024 .f32)
    (x4 x5 x6 x7 x8 : Vec Ideal S768x256 .f32) (x9 : Vec Ideal S1x256 .f32) (x10 x11 x12 x13 : Vec Ideal S768x256 .f32)
    (x14 : Vec Ideal S16x256 .f32) (x15 : Vec Ideal S1x1024x1024 .bf16)
    (x16 : Vec Ideal S1x1x1024x5632 .bf16) (x17 : Vec Ideal S1x1x2816x1024 .bf16)

/-- The residual of the block after the mixers. -/
def xs : FVec Ideal S768x1024 .f32 :=
  k0_pay12
    (k0_pay10 (k0_pay7 k0_pay2 k0_pay3 k0_pay4 k0_pay5 (View.ld x6 rB) (View.ld x7 rB) (View.ld x9 rD) (View.ld x8 rB))
      (k0_pay8 (k0_pay6 k0_pay2 k0_pay3 k0_pay4 k0_pay5) (View.ld x10 rB) (View.ld x11 rB) (View.ld x14 rP7) (View.ld x14 rP8)
        (View.ld x12 rB) (View.ld x13 rB))
      (k0_pay9 (View.ld x4 rB)) (View.ld x15 rO0) (View.ld x5 rB) (View.ld x15 rO1) (View.ld x15 rO2) (View.ld x15 rO3))
    (k0_pay11 (View.ld x0 rX)) (iota .tc S768x1 32 [0] iota_S768x1_d0_w32) (before (i 0).val) (View.ld x1 rM5) (View.ld x2 rM5)

/-- The shift that each row takes. -/
def shiftBlk : FVec Ideal S768x1024 .f32 :=
  k0_pay16 (k0_pay13 (View.ld x1 rM6)) (k0_pay14 (View.ld x2 rM6)) (k0_pay15 (BitVec.ofNat 32 (i 0).val))

/-- The scale that each row takes. -/
def scaleBlk : FVec Ideal S768x1024 .f32 := k0_pay17 (BitVec.ofNat 32 (i 0).val) (View.ld x1 rM7) (View.ld x2 rM7)

/-- The feed-forward's value from the residual, the shift and the scale. -/
def ffnBlk (x s g : FVec Ideal S768x1024 .f32) : FVec Ideal S768x1024 .f32 :=
  k0_pay29 (k0_pay20 x s g (k0_pay18 (View.ld x3 rN)) (k0_pay19 x))
    (k0_pay26 (k0_pay20 x s g (k0_pay18 (View.ld x3 rN)) (k0_pay19 x))
      (k0_pay24 (k0_pay20 x s g (k0_pay18 (View.ld x3 rN)) (k0_pay19 x))
        (k0_pay21 x s g (k0_pay18 (View.ld x3 rN)) (k0_pay19 x) (View.ld x16 rG0) (View.ld x16 rU0) (View.ld x17 rV0))
        (k0_pay22 x s g (k0_pay18 (View.ld x3 rN)) (k0_pay19 x) (View.ld x16 rG1))
        (k0_pay23 x s g (k0_pay18 (View.ld x3 rN)) (k0_pay19 x) (View.ld x16 rG1))
        (View.ld x16 rU1) (View.ld x17 rV1))
      (k0_pay25 (k0_pay20 x s g (k0_pay18 (View.ld x3 rN)) (k0_pay19 x)) (View.ld x16 rG2) (View.ld x16 rU2))
      (View.ld x17 rV2) (View.ld x16 rG3) (View.ld x16 rU3) (View.ld x17 rV3))
    (k0_pay27 (k0_pay20 x s g (k0_pay18 (View.ld x3 rN)) (k0_pay19 x)) (View.ld x16 rG4))
    (k0_pay28 (k0_pay20 x s g (k0_pay18 (View.ld x3 rN)) (k0_pay19 x)) (View.ld x16 rG4))
    (View.ld x16 rU4) (View.ld x17 rV4) (View.ld x16 rG5) (View.ld x16 rU5) (View.ld x17 rV5)

/-- What the body stores. -/
def stored : FVec Ideal S768x1024 .f32 :=
  k0_pay1 (BitVec.ofNat 32 (i 0).val) (xs i x0 x1 x2 x4 x5 x6 x7 x8 x9 x10 x11 x12 x13 x14 x15)
    (ffnBlk x3 x16 x17 (xs i x0 x1 x2 x4 x5 x6 x7 x8 x9 x10 x11 x12 x13 x14 x15) (shiftBlk i x1 x2) (scaleBlk i x1 x2))
    (iota .tc S768x1 32 [0] iota_S768x1_d0_w32) 3#32 (View.ld x1 rM8) (View.ld x2 rM8)

end Stages

/-- The pieces that the run leaves are one piece, of what the body stores. -/
theorem out_eq (c : Dev nD) (i : grid0.Coords) (arg1 : Memref sig .tc .vmem S768x1024 .f32) (harg1 : arg1.IsWhole) (arg2 : Memref sig .tc .vmem S1x9x1024 .f32) (harg2 : arg2.IsWhole) (arg3 : Memref sig .tc .vmem S1x9x1024 .f32) (harg3 : arg3.IsWhole) (arg4 : Memref sig .tc .vmem S1x1024 .f32) (harg4 : arg4.IsWhole) (arg5 : Memref sig .tc .vmem S768x256 .f32) (harg5 : arg5.IsWhole) (arg6 : Memref sig .tc .vmem S768x256 .f32) (harg6 : arg6.IsWhole) (arg7 : Memref sig .tc .vmem S768x256 .f32) (harg7 : arg7.IsWhole) (arg8 : Memref sig .tc .vmem S768x256 .f32) (harg8 : arg8.IsWhole) (arg9 : Memref sig .tc .vmem S768x256 .f32) (harg9 : arg9.IsWhole) (arg10 : Memref sig .tc .vmem S1x256 .f32) (harg10 : arg10.IsWhole) (arg11 : Memref sig .tc .vmem S768x256 .f32) (harg11 : arg11.IsWhole) (arg12 : Memref sig .tc .vmem S768x256 .f32) (harg12 : arg12.IsWhole) (arg13 : Memref sig .tc .vmem S768x256 .f32) (harg13 : arg13.IsWhole) (arg14 : Memref sig .tc .vmem S768x256 .f32) (harg14 : arg14.IsWhole) (arg15 : Memref sig .tc .vmem S16x256 .f32) (harg15 : arg15.IsWhole) (arg16 : Memref sig .tc .vmem S1x1024x1024 .bf16) (harg16 : arg16.IsWhole) (arg17 : Memref sig .tc .vmem S1x1x1024x5632 .bf16) (harg17 : arg17.IsWhole) (arg18 : Memref sig .tc .vmem S1x1x2816x1024 .bf16) (harg18 : arg18.IsWhole) (arg19 : Memref sig .tc .vmem S768x1024 .f32) (harg19 : arg19.IsWhole)
    (x0 : Vec Ideal S768x1024 .f32) (x1 x2 : Vec Ideal S1x9x1024 .f32) (x3 : Vec Ideal S1x1024 .f32)
    (x4 x5 x6 x7 x8 : Vec Ideal S768x256 .f32) (x9 : Vec Ideal S1x256 .f32) (x10 x11 x12 x13 : Vec Ideal S768x256 .f32)
    (x14 : Vec Ideal S16x256 .f32) (x15 : Vec Ideal S1x1024x1024 .bf16)
    (x16 : Vec Ideal S1x1x1024x5632 .bf16) (x17 : Vec Ideal S1x1x2816x1024 .bf16) :
    out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17
      = stored i x0 x1 x2 x3 x4 x5 x6 x7 x8 x9 x10 x11 x12 x13 x14 x15 x16 x17 := by
  unfold out0_A_18
  rw [View.read_writes_junk_eq_canon]
  unfold kernelRun0_A
  dsimp only
  sl_unfold_words
  rw [View.canon_cons_unit_lit _ _ _ (by decide)]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  rfl

end Cert.Kernel5Ideal.All

end
-- ==== Proof.All.Pieces.lean ====
module

public import proofs.«01_k».proof.Proof.Gen.Kernel5Ideal.Value
public import proofs.«01_k».proof.Proof.All.Open
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel5Ideal.All

open Cert.Ffn Cert.Mix Cert.Kernel5Ideal Cert.Kernel5Ideal.Gen Idealize.ShloMosaic Idealize.ShloMosaic.TcCoe Idealize.SL.Sem

/-! ## The matrix of the mean within a head -/

theorem row_head (a b : Fin 256) : (k0_pay2 (ix2 a b) : BitVec 32) = BitVec.ofNat 32 (a.val / 64) := by
  pointwise [k0_pay2]
  revert a
  decide +kernel

theorem col_head (a b : Fin 256) :
    (Scalar.select (IntOp.andi (k0_pay4 (ix2 a b)) (k0_pay5 (ix2 a b))) (IntOp.subi (k0_pay3 (ix2 a b)) 1#32) (k0_pay3 (ix2 a b)) : BitVec 32)
      = BitVec.ofNat 32 (b.val / 64) := by
  pointwise [k0_pay3, k0_pay4, k0_pay5]
  revert b
  decide +kernel

theorem pick_head {α : Type} (p q : ℕ) (hp : p < 4) (hq : q < 4) (a b : α) :
    Scalar.select (IntOp.cmpi .eq (BitVec.ofNat 32 p) (BitVec.ofNat 32 q)) a b = if p = q then a else b := by
  interval_cases p <;> interval_cases q <;> rfl

theorem same_at (a b : Fin 256) :
    (k0_pay6 (F := Ideal) k0_pay2 k0_pay3 k0_pay4 k0_pay5 (ix2 a b) : EReal) = same a b := by
  have hr := row_head a b
  have hc := col_head a b
  have hp := pick_head (a.val / 64) (b.val / 64) (by omega) (by omega) perLane (0 : EReal)
  unfold k0_pay6
  revert hr hc
  generalize (k0_pay2 : IVec S256x256 32) = p2
  generalize (k0_pay3 : IVec S256x256 32) = p3
  generalize (k0_pay4 : IVec S256x256 1) = p4
  generalize (k0_pay5 : IVec S256x256 1) = p5
  intro hr hc
  pointwise
  rw [hr, hc]
  exact hp

/-! ## The mixers' outputs of a row -/

theorem pay7_at (a b z : Vec Ideal S768x256 .f32) (w : Vec Ideal S1x256 .f32) (r : Fin 768) (l : Fin 256) :
    k0_pay7 k0_pay2 k0_pay3 k0_pay4 k0_pay5 a b w z (ix2 r l)
      = (a (ix2 r l) + b (ix2 r l))
          * Ideal.rsqrt (split (fun k => (a (ix2 r k) + b (ix2 r k)) * (a (ix2 r k) + b (ix2 r k))) l + eps)
          * w (ix2 0 l) * silu (z (ix2 r l)) := by
  unfold split
  simp only [← same_at]
  unfold k0_pay7
  generalize k0_pay6 (F := Ideal) k0_pay2 k0_pay3 k0_pay4 k0_pay5 = M
  pointwise [silu, one, eps]

theorem pay8_at (a b bonus g : Vec Ideal S768x256 .f32) (lw lb : Vec Ideal S1x256 .f32) (r : Fin 768) (l : Fin 256) :
    k0_pay8 (k0_pay6 k0_pay2 k0_pay3 k0_pay4 k0_pay5) a b lw lb bonus g (ix2 r l)
      = ((a (ix2 r l) + b (ix2 r l) - split (fun k => a (ix2 r k) + b (ix2 r k)) l)
          * Ideal.rsqrt (split (fun k => (a (ix2 r k) + b (ix2 r k) - split (fun k => a (ix2 r k) + b (ix2 r k)) k)
              * (a (ix2 r k) + b (ix2 r k) - split (fun k => a (ix2 r k) + b (ix2 r k)) k)) l + lnEps)
          * lw (ix2 0 l) + lb (ix2 0 l) + bonus (ix2 r l)) * g (ix2 r l) := by
  unfold split
  simp only [← same_at]
  generalize k0_pay6 (F := Ideal) k0_pay2 k0_pay3 k0_pay4 k0_pay5 = M
  pointwise [k0_pay8, lnEps]

theorem pay10_at (dn rw : FVec Ideal S768x256 .f32) (hy na : Vec Ideal S768x256 .f32) (w0 w1 w2 w3 : Vec Ideal S1x256x1024 .bf16)
    (r : Fin 768) (j : Fin 1024) :
    k0_pay10 dn rw (k0_pay9 hy) w0 na w1 w2 w3 (ix2 r j)
      = (∑ k : Fin 256, hy (ix2 r k) * w0 (ix3 0 k j)) + (∑ k : Fin 256, na (ix2 r k) * w1 (ix3 0 k j))
          + (∑ k : Fin 256, dn (ix2 r k) * w2 (ix3 0 k j)) + (∑ k : Fin 256, rw (ix2 r k) * w3 (ix3 0 k j)) := by
  pointwise [k0_pay10, k0_pay9]

theorem pay12_at (i : grid0.Coords) (y : FVec Ideal S768x1024 .f32) (x : Vec Ideal S768x1024 .f32) (a b : Vec Ideal S1x1x1024 .f32)
    (r : Fin 768) (j : Fin 1024) :
    k0_pay12 y (k0_pay11 x) (iota .tc S768x1 32 [0] iota_S768x1_d0_w32) (before (i 0).val) a b (ix2 r j)
      = x (ix2 r j) + pick (i 0).val r (fun k => a (ix3 0 0 k)) (fun k => b (ix3 0 0 k)) j * y (ix2 r j) := by
  rw [← pick_at (i 0).val (i 0).isLt r (fun k => a (ix3 0 0 k)) (fun k => b (ix3 0 0 k)) j]
  generalize before (i 0).val = q
  pointwise [k0_pay12, k0_pay11]

/-! ## The modulation of a row -/

theorem shift_at (i : grid0.Coords) (a b : Vec Ideal S1x1x1024 .f32) (r : Fin 768) (j : Fin 1024) :
    k0_pay16 (k0_pay13 a) (k0_pay14 b) (k0_pay15 (BitVec.ofNat 32 (i 0).val)) (ix2 r j)
      = pick (i 0).val r (fun k => a (ix3 0 0 k)) (fun k => b (ix3 0 0 k)) j := by
  pointwise [k0_pay16, k0_pay13, k0_pay14, k0_pay15]
  exact pick_at (i 0).val (i 0).isLt r (fun k => a (ix3 0 0 k)) (fun k => b (ix3 0 0 k)) j

theorem scale_at (i : grid0.Coords) (a b : Vec Ideal S1x1x1024 .f32) (r : Fin 768) (j : Fin 1024) :
    k0_pay17 (BitVec.ofNat 32 (i 0).val) a b (ix2 r j) = pick (i 0).val r (fun k => a (ix3 0 0 k)) (fun k => b (ix3 0 0 k)) j := by
  pointwise [k0_pay17]
  exact pick_at (i 0).val (i 0).isLt r (fun k => a (ix3 0 0 k)) (fun k => b (ix3 0 0 k)) j

theorem normed_at (x s g : FVec Ideal S768x1024 .f32) (n : Vec Ideal S1x1024 .f32) (r : Fin 768) (j : Fin 1024) :
    k0_pay20 x s g (k0_pay18 n) (k0_pay19 x) (ix2 r j)
      = adaln (fun k => x (ix2 r k)) (fun k => n (ix2 0 k)) (fun k => g (ix2 r k)) (fun k => s (ix2 r k)) j := by
  pointwise [k0_pay20, k0_pay18, k0_pay19, adaln, one, eps, width]

/-! ## The feed-forward half-step of a row -/

theorem pay21_at (x s g : FVec Ideal S768x1024 .f32) (n : FVec Ideal S1x1024 .f32) (y : FVec Ideal S768x1 .f32)
    (wg wu : Vec Ideal S1x1x1024x512 .bf16) (wd : Vec Ideal S1x1x512x1024 .bf16) (r : Fin 768) (j : Fin 1024) :
    k0_pay21 x s g n y wg wu wd (ix2 r j)
      = ∑ f : Fin 512, unit (fun k => k0_pay20 x s g n y (ix2 r k)) (fun k => wg (ix4 0 0 k f)) (fun k => wu (ix4 0 0 k f)) * wd (ix4 0 0 f j) := by
  unfold k0_pay21
  generalize k0_pay20 x s g n y = h
  pointwise [unit, silu, one]

theorem pay24_at (x s g : FVec Ideal S768x1024 .f32) (n : FVec Ideal S1x1024 .f32) (y : FVec Ideal S768x1 .f32) (acc : FVec Ideal S768x1024 .f32)
    (wg wu : Vec Ideal S1x1x1024x512 .bf16) (wd : Vec Ideal S1x1x512x1024 .bf16) (r : Fin 768) (j : Fin 1024) :
    k0_pay24 (k0_pay20 x s g n y) acc (k0_pay22 x s g n y wg) (k0_pay23 x s g n y wg) wu wd (ix2 r j)
      = acc (ix2 r j)
        + ∑ f : Fin 512, unit (fun k => k0_pay20 x s g n y (ix2 r k)) (fun k => wg (ix4 0 0 k f)) (fun k => wu (ix4 0 0 k f)) * wd (ix4 0 0 f j) := by
  unfold k0_pay23 k0_pay22
  generalize k0_pay20 x s g n y = h
  pointwise [k0_pay24, unit, silu, one]

theorem pay26_at (h : FVec Ideal S768x1024 .bf16) (acc : FVec Ideal S768x1024 .f32)
    (wg wu : Vec Ideal S1x1x1024x512 .bf16) (wd : Vec Ideal S1x1x512x1024 .bf16)
    (wg' wu' : Vec Ideal S1x1x1024x512 .bf16) (wd' : Vec Ideal S1x1x512x1024 .bf16) (r : Fin 768) (j : Fin 1024) :
    k0_pay26 h acc (k0_pay25 h wg wu) wd wg' wu' wd' (ix2 r j)
      = acc (ix2 r j)
        + (∑ f : Fin 512, unit (fun k => h (ix2 r k)) (fun k => wg (ix4 0 0 k f)) (fun k => wu (ix4 0 0 k f)) * wd (ix4 0 0 f j))
        + ∑ f : Fin 512, unit (fun k => h (ix2 r k)) (fun k => wg' (ix4 0 0 k f)) (fun k => wu' (ix4 0 0 k f)) * wd' (ix4 0 0 f j) := by
  pointwise [k0_pay26, k0_pay25, unit, silu, one]

theorem pay29_at (h : FVec Ideal S768x1024 .bf16) (acc : FVec Ideal S768x1024 .f32)
    (wg wu : Vec Ideal S1x1x1024x512 .bf16) (wd : Vec Ideal S1x1x512x1024 .bf16)
    (wg' wu' : Vec Ideal S1x1x1024x256 .bf16) (wd' : Vec Ideal S1x1x256x1024 .bf16) (r : Fin 768) (j : Fin 1024) :
    k0_pay29 h acc (k0_pay27 h wg) (k0_pay28 h wg) wu wd wg' wu' wd' (ix2 r j)
      = acc (ix2 r j)
        + (∑ f : Fin 512, unit (fun k => h (ix2 r k)) (fun k => wg (ix4 0 0 k f)) (fun k => wu (ix4 0 0 k f)) * wd (ix4 0 0 f j))
        + ∑ f : Fin 256, unit (fun k => h (ix2 r k)) (fun k => wg' (ix4 0 0 k f)) (fun k => wu' (ix4 0 0 k f)) * wd' (ix4 0 0 f j) := by
  pointwise [k0_pay29, k0_pay27, k0_pay28, unit, silu, one]

theorem pay1_at (i : grid0.Coords) (x y : FVec Ideal S768x1024 .f32) (a b : Vec Ideal S1x1x1024 .f32) (r : Fin 768) (j : Fin 1024) :
    k0_pay1 (BitVec.ofNat 32 (i 0).val) x y (iota .tc S768x1 32 [0] iota_S768x1_d0_w32) 3#32 a b (ix2 r j)
      = x (ix2 r j) + half * pick (i 0).val r (fun k => a (ix3 0 0 k)) (fun k => b (ix3 0 0 k)) j * y (ix2 r j) := by
  rw [← pick_at (i 0).val (i 0).isLt r (fun k => a (ix3 0 0 k)) (fun k => b (ix3 0 0 k)) j]
  pointwise [k0_pay1]
  rfl

end Cert.Kernel5Ideal.All

end
-- ==== Proof.All.Rows.lean ====
module

public import proofs.«01_k».proof.Proof.Gen.Kernel5Ideal.Value
public import proofs.«01_k».proof.Proof.All.Pieces
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel5Ideal.All

open Cert.Ffn Cert.Mix Cert.Kernel5Ideal Cert.Kernel5Ideal.Gen Idealize.ShloMosaic Idealize.ShloMosaic.TcCoe Idealize.SL.Sem

/-! ## The loads of whole blocks and of rows -/

theorem ld_blk (x : Vec Ideal S768x256 .f32) (r : Fin 768) (k : Fin 256) : View.ld x rB (ix2 r k) = x (ix2 r k) := by pointwise
theorem ld_dnw (x : Vec Ideal S1x256 .f32) (k : Fin 256) : View.ld x rD (ix2 0 k) = x (ix2 0 k) := by pointwise
theorem ld_lw (x : Vec Ideal S16x256 .f32) (k : Fin 256) : View.ld x rP7 (ix2 0 k) = x (ix2 7 k) := by pointwise
theorem ld_lb (x : Vec Ideal S16x256 .f32) (k : Fin 256) : View.ld x rP8 (ix2 0 k) = x (ix2 8 k) := by pointwise
theorem ld_w0 (x : Vec Ideal S1x1024x1024 .bf16) (k : Fin 256) (j : Fin 1024) :
    View.ld x rO0 (ix3 0 k j) = x (ix3 0 ⟨k.val, by omega⟩ j) := by pointwise
theorem ld_w1 (x : Vec Ideal S1x1024x1024 .bf16) (k : Fin 256) (j : Fin 1024) :
    View.ld x rO1 (ix3 0 k j) = x (ix3 0 ⟨256 + k.val, by omega⟩ j) := by pointwise
theorem ld_w2 (x : Vec Ideal S1x1024x1024 .bf16) (k : Fin 256) (j : Fin 1024) :
    View.ld x rO2 (ix3 0 k j) = x (ix3 0 ⟨512 + k.val, by omega⟩ j) := by pointwise
theorem ld_w3 (x : Vec Ideal S1x1024x1024 .bf16) (k : Fin 256) (j : Fin 1024) :
    View.ld x rO3 (ix3 0 k j) = x (ix3 0 ⟨768 + k.val, by omega⟩ j) := by pointwise
theorem ld_x (x : Vec Ideal S768x1024 .f32) (r : Fin 768) (j : Fin 1024) : View.ld x rX (ix2 r j) = x (ix2 r j) := by pointwise
theorem ld_nw (x : Vec Ideal S1x1024 .f32) (j : Fin 1024) : View.ld x rN (ix2 0 j) = x (ix2 0 j) := by pointwise
theorem ld_m5 (x : Vec Ideal S1x9x1024 .f32) (j : Fin 1024) : View.ld x rM5 (ix3 0 0 j) = x (ix3 0 5 j) := by pointwise
theorem ld_m6 (x : Vec Ideal S1x9x1024 .f32) (j : Fin 1024) : View.ld x rM6 (ix3 0 0 j) = x (ix3 0 6 j) := by pointwise
theorem ld_m7 (x : Vec Ideal S1x9x1024 .f32) (j : Fin 1024) : View.ld x rM7 (ix3 0 0 j) = x (ix3 0 7 j) := by pointwise
theorem ld_m8 (x : Vec Ideal S1x9x1024 .f32) (j : Fin 1024) : View.ld x rM8 (ix3 0 0 j) = x (ix3 0 8 j) := by pointwise

/-! ## The stages of a row, from the rows of what they load -/

theorem pay7_row {a b z : Vec Ideal S768x256 .f32} {w : Vec Ideal S1x256 .f32} {r : Fin 768} {o zr wr : Fin 256 → EReal}
    (ho : ∀ k, a (ix2 r k) + b (ix2 r k) = o k) (hz : ∀ k, z (ix2 r k) = zr k) (hw : ∀ k, w (ix2 0 k) = wr k) (l : Fin 256) :
    k0_pay7 k0_pay2 k0_pay3 k0_pay4 k0_pay5 a b w z (ix2 r l)
      = o l * Ideal.rsqrt (split (fun k => o k * o k) l + eps) * wr l * silu (zr l) := by
  rw [pay7_at]
  simp only [ho, hz, hw]

theorem pay8_row {a b bonus g : Vec Ideal S768x256 .f32} {lw lb : Vec Ideal S1x256 .f32} {r : Fin 768} {y br gr lwr lbr : Fin 256 → EReal}
    (hy : ∀ k, a (ix2 r k) + b (ix2 r k) = y k) (hb : ∀ k, bonus (ix2 r k) = br k) (hg : ∀ k, g (ix2 r k) = gr k)
    (hlw : ∀ k, lw (ix2 0 k) = lwr k) (hlb : ∀ k, lb (ix2 0 k) = lbr k) (l : Fin 256) :
    k0_pay8 (k0_pay6 k0_pay2 k0_pay3 k0_pay4 k0_pay5) a b lw lb bonus g (ix2 r l)
      = ((y l - split y l) * Ideal.rsqrt (split (fun k => (y k - split y k) * (y k - split y k)) l + lnEps) * lwr l + lbr l + br l) * gr l := by
  rw [pay8_at]
  simp only [hy, hb, hg, hlw, hlb]

theorem pay12_row {i : grid0.Coords} {dn rw : FVec Ideal S768x256 .f32} {hy na : Vec Ideal S768x256 .f32} {w0 w1 w2 w3 : Vec Ideal S1x256x1024 .bf16}
    {x : Vec Ideal S768x1024 .f32} {a b : Vec Ideal S1x1x1024 .f32} {r : Fin 768} {xr ar br : Fin 1024 → EReal} {p q s t : Fin 256 → EReal}
    {w : Fin 1024 → Fin 1024 → EReal} (hx : ∀ k, x (ix2 r k) = xr k) (ha : ∀ k, a (ix3 0 0 k) = ar k) (hb : ∀ k, b (ix3 0 0 k) = br k)
    (hp : ∀ k, hy (ix2 r k) = p k) (hq : ∀ k, na (ix2 r k) = q k) (hs : ∀ k, dn (ix2 r k) = s k) (ht : ∀ k, rw (ix2 r k) = t k)
    (h0 : ∀ k j, w0 (ix3 0 k j) = w ⟨k.val, by omega⟩ j) (h1 : ∀ k j, w1 (ix3 0 k j) = w ⟨256 + k.val, by omega⟩ j)
    (h2 : ∀ k j, w2 (ix3 0 k j) = w ⟨512 + k.val, by omega⟩ j) (h3 : ∀ k j, w3 (ix3 0 k j) = w ⟨768 + k.val, by omega⟩ j) (j : Fin 1024) :
    k0_pay12 (k0_pay10 dn rw (k0_pay9 hy) w0 na w1 w2 w3) (k0_pay11 x) (iota .tc S768x1 32 [0] iota_S768x1_d0_w32) (before (i 0).val) a b (ix2 r j)
      = after xr (pick (i 0).val r ar br) p q s t w j := by
  rw [pay12_at, pay10_at]
  simp only [hx, ha, hb, hp, hq, hs, ht, h0, h1, h2, h3]
  exact congrArg (fun z => xr j + pick (i 0).val r ar br j * z) (side_parts p q s t fun c => w c j)

theorem picked {i : grid0.Coords} {a b : Vec Ideal S1x1x1024 .f32} {r : Fin 768} {ar br : Fin 1024 → EReal}
    (ha : ∀ k, a (ix3 0 0 k) = ar k) (hb : ∀ k, b (ix3 0 0 k) = br k) :
    pick (i 0).val r (fun k => a (ix3 0 0 k)) (fun k => b (ix3 0 0 k)) = pick (i 0).val r ar br := by
  rw [funext ha, funext hb]

theorem normed_row {x s g : FVec Ideal S768x1024 .f32} {n : Vec Ideal S1x1024 .f32} {r : Fin 768}
    {xr sr gr nr : Fin 1024 → EReal} (hx : ∀ k, x (ix2 r k) = xr k) (hs : ∀ k, s (ix2 r k) = sr k) (hg : ∀ k, g (ix2 r k) = gr k)
    (hn : ∀ k, n (ix2 0 k) = nr k) (j : Fin 1024) : k0_pay20 x s g (k0_pay18 n) (k0_pay19 x) (ix2 r j) = adaln xr nr gr sr j := by
  rw [normed_at]
  simp only [hx, hs, hg, hn]

section Rows
variable (i : grid0.Coords) (x0 : Vec Ideal S768x1024 .f32) (x1 x2 : Vec Ideal S1x9x1024 .f32) (x3 : Vec Ideal S1x1024 .f32)
    (x4 x5 x6 x7 x8 : Vec Ideal S768x256 .f32) (x9 : Vec Ideal S1x256 .f32) (x10 x11 x12 x13 : Vec Ideal S768x256 .f32)
    (x14 : Vec Ideal S16x256 .f32) (x15 : Vec Ideal S1x1024x1024 .bf16)
    (x16 : Vec Ideal S1x1x1024x5632 .bf16) (x17 : Vec Ideal S1x1x2816x1024 .bf16) (w : Fin 64 → EReal) (r : Fin 768) (j : Fin 1024)

/-- A row of one of the modulation's vectors: of the context's rows or of the sequence's. -/
abbrev modRow (q : Fin 9) : Fin 1024 → EReal := pick (i 0).val r (fun k => x1 (ix3 0 q k)) (fun k => x2 (ix3 0 q k))

/-- A row of the residual after the mixers, from the blocks of the point. -/
def xRow : Fin 1024 → EReal :=
  after (fun k => x0 (ix2 r k)) (modRow i x1 x2 r 5) (fun k => x4 (ix2 r k)) (fun k => x5 (ix2 r k))
    (dnRow (fun k => x6 (ix2 r k) + x7 (ix2 r k)) (fun k => x8 (ix2 r k)) w)
    (rwRow (fun k => x10 (ix2 r k) + x11 (ix2 r k)) (fun k => x14 (ix2 7 k)) (fun k => x14 (ix2 8 k)) (fun k => x12 (ix2 r k))
      (fun k => x13 (ix2 r k))) (fun c j => x15 (ix3 0 c j))

/-- The lanes' weights are a head's, head after head. -/
def Tiled : Prop := ∀ l : Fin 256, x9 (ix2 0 l) = w ⟨l.val % 64, by omega⟩

/-- The sums of the two directions are finite on the row. -/
def FiniteRow : Prop :=
  (∀ k, ∃ y : ℝ, x6 (ix2 r k) + x7 (ix2 r k) = (y : EReal)) ∧ ∀ k, ∃ y : ℝ, x10 (ix2 r k) + x11 (ix2 r k) = (y : EReal)

theorem dn_at (hw : Tiled x9 w)
    (hf : ∀ k, ∃ y : ℝ, x6 (ix2 r k) + x7 (ix2 r k) = (y : EReal)) (l : Fin 256) :
    k0_pay7 k0_pay2 k0_pay3 k0_pay4 k0_pay5 (View.ld x6 rB) (View.ld x7 rB) (View.ld x9 rD) (View.ld x8 rB) (ix2 r l)
      = dnRow (fun k => x6 (ix2 r k) + x7 (ix2 r k)) (fun k => x8 (ix2 r k)) w l := by
  refine (pay7_row (fun k => congrArg₂ _ (ld_blk x6 r k) (ld_blk x7 r k)) (ld_blk x8 r) (ld_dnw x9) l).trans ?_
  rw [split_eq _ (square_real hf), hw]
  rfl

theorem rw_at (hf : ∀ k, ∃ y : ℝ, x10 (ix2 r k) + x11 (ix2 r k) = (y : EReal)) (l : Fin 256) :
    k0_pay8 (k0_pay6 k0_pay2 k0_pay3 k0_pay4 k0_pay5) (View.ld x10 rB) (View.ld x11 rB) (View.ld x14 rP7) (View.ld x14 rP8)
        (View.ld x12 rB) (View.ld x13 rB) (ix2 r l)
      = rwRow (fun k => x10 (ix2 r k) + x11 (ix2 r k)) (fun k => x14 (ix2 7 k)) (fun k => x14 (ix2 8 k)) (fun k => x12 (ix2 r k))
          (fun k => x13 (ix2 r k)) l := by
  refine (pay8_row (fun k => congrArg₂ _ (ld_blk x10 r k) (ld_blk x11 r k)) (ld_blk x12 r) (ld_blk x13 r) (ld_lw x14) (ld_lb x14) l).trans ?_
  have e : ∀ k, split (fun k => x10 (ix2 r k) + x11 (ix2 r k)) k = headMean (fun k => x10 (ix2 r k) + x11 (ix2 r k)) k :=
    split_eq _ hf
  simp only [e]
  unfold rwRow
  rw [← split_eq _ (square_real (centred_real hf))]
  rfl

theorem x_at (hw : Tiled x9 w) (hf : FiniteRow x6 x7 x10 x11 r) :
    xs i x0 x1 x2 x4 x5 x6 x7 x8 x9 x10 x11 x12 x13 x14 x15 (ix2 r j) = xRow i x0 x1 x2 x4 x5 x6 x7 x8 x10 x11 x12 x13 x14 x15 w r j := by
  unfold xs
  exact pay12_row (ld_x x0 r) (ld_m5 x1) (ld_m5 x2) (ld_blk x4 r) (ld_blk x5 r) (dn_at x6 x7 x8 x9 w r hw hf.1) (rw_at x10 x11 x12 x13 x14 r hf.2)
    (ld_w0 x15) (ld_w1 x15) (ld_w2 x15) (ld_w3 x15) j

theorem s_at : shiftBlk i x1 x2 (ix2 r j) = modRow i x1 x2 r 6 j := by
  unfold shiftBlk
  rw [shift_at, picked (ld_m6 x1) (ld_m6 x2)]

theorem g_at : scaleBlk i x1 x2 (ix2 r j) = modRow i x1 x2 r 7 j := by
  unfold scaleBlk
  rw [scale_at, picked (ld_m7 x1) (ld_m7 x2)]

/-- A group of hidden units of a row, with the weights the point reads. -/
theorem grp_eq {n : ℕ} {h : FVec Ideal S768x1024 .bf16} {hr : Fin 1024 → EReal} (hh : ∀ k, h (ix2 r k) = hr k) (a : ℕ) (han : a + n ≤ 2816)
    (wg wu : Fin 1024 → Fin n → EReal) (wd : Fin n → Fin 1024 → EReal)
    (hg : ∀ k f, wg k f = x16 (ix4 0 0 k ⟨a + f.val, by omega⟩)) (hu : ∀ k f, wu k f = x16 (ix4 0 0 k ⟨2816 + a + f.val, by omega⟩))
    (hd : ∀ f j, wd f j = x17 (ix4 0 0 ⟨a + f.val, by omega⟩ j)) :
    ∑ f : Fin n, unit (fun k => h (ix2 r k)) (fun k => wg k f) (fun k => wu k f) * wd f j
      = part hr (fun k f => x16 (ix4 0 0 k f)) (fun f j => x17 (ix4 0 0 f j)) j a n han := by
  refine Finset.sum_congr rfl fun f _ => ?_
  simp only [hh, hid, hg, hu, hd, Nat.add_assoc]

theorem ffn_at {x s g : FVec Ideal S768x1024 .f32} {xr sr gr : Fin 1024 → EReal} (hx : ∀ k, x (ix2 r k) = xr k)
    (hs : ∀ k, s (ix2 r k) = sr k) (hg : ∀ k, g (ix2 r k) = gr k) :
    ffnBlk x3 x16 x17 x s g (ix2 r j)
      = ffn (adaln xr (fun k => x3 (ix2 0 k)) gr sr) (fun k f => x16 (ix4 0 0 k f)) (fun f j => x17 (ix4 0 0 f j)) j := by
  have hh := normed_row hx hs hg (ld_nw x3)
  unfold ffnBlk
  rw [pay29_at, pay26_at, pay24_at, pay21_at, ← ffn_parts]
  refine congrArg₂ _ (congrArg₂ _ (congrArg₂ _ (congrArg₂ _ (congrArg₂ _ ?_ ?_) ?_) ?_) ?_) ?_
  · refine grp_eq x16 x17 r j hh 0 (by omega) (fun k f => View.ld x16 rG0 (ix4 0 0 k f)) (fun k f => View.ld x16 rU0 (ix4 0 0 k f))
      (fun f j => View.ld x17 rV0 (ix4 0 0 f j)) ?_ ?_ ?_
    all_goals intro k f; exact View.ld_unit_apply_of _ _ _ _ _ _ (by intro a; fin_cases a <;> simp [ix4])
  · refine grp_eq x16 x17 r j hh 512 (by omega) (fun k f => View.ld x16 rG1 (ix4 0 0 k f)) (fun k f => View.ld x16 rU1 (ix4 0 0 k f))
      (fun f j => View.ld x17 rV1 (ix4 0 0 f j)) ?_ ?_ ?_
    all_goals intro k f; exact View.ld_unit_apply_of _ _ _ _ _ _ (by intro a; fin_cases a <;> simp [ix4])
  · refine grp_eq x16 x17 r j hh 1024 (by omega) (fun k f => View.ld x16 rG2 (ix4 0 0 k f)) (fun k f => View.ld x16 rU2 (ix4 0 0 k f))
      (fun f j => View.ld x17 rV2 (ix4 0 0 f j)) ?_ ?_ ?_
    all_goals intro k f; exact View.ld_unit_apply_of _ _ _ _ _ _ (by intro a; fin_cases a <;> simp [ix4])
  · refine grp_eq x16 x17 r j hh 1536 (by omega) (fun k f => View.ld x16 rG3 (ix4 0 0 k f)) (fun k f => View.ld x16 rU3 (ix4 0 0 k f))
      (fun f j => View.ld x17 rV3 (ix4 0 0 f j)) ?_ ?_ ?_
    all_goals intro k f; exact View.ld_unit_apply_of _ _ _ _ _ _ (by intro a; fin_cases a <;> simp [ix4])
  · refine grp_eq x16 x17 r j hh 2048 (by omega) (fun k f => View.ld x16 rG4 (ix4 0 0 k f)) (fun k f => View.ld x16 rU4 (ix4 0 0 k f))
      (fun f j => View.ld x17 rV4 (ix4 0 0 f j)) ?_ ?_ ?_
    all_goals intro k f; exact View.ld_unit_apply_of _ _ _ _ _ _ (by intro a; fin_cases a <;> simp [ix4])
  · refine grp_eq x16 x17 r j hh 2560 (by omega) (fun k f => View.ld x16 rG5 (ix4 0 0 k f)) (fun k f => View.ld x16 rU5 (ix4 0 0 k f))
      (fun f j => View.ld x17 rV5 (ix4 0 0 f j)) ?_ ?_ ?_
    all_goals intro k f; exact View.ld_unit_apply_of _ _ _ _ _ _ (by intro a; fin_cases a <;> simp [ix4])

/-- What the point leaves at a row and a column of its block. -/
theorem stored_at (hw : Tiled x9 w) (hf : FiniteRow x6 x7 x10 x11 r) :
    stored i x0 x1 x2 x3 x4 x5 x6 x7 x8 x9 x10 x11 x12 x13 x14 x15 x16 x17 (ix2 r j)
      = halfStep (xRow i x0 x1 x2 x4 x5 x6 x7 x8 x10 x11 x12 x13 x14 x15 w r) (fun k => x3 (ix2 0 k)) (modRow i x1 x2 r 7) (modRow i x1 x2 r 6) (modRow i x1 x2 r 8)
          (fun k f => x16 (ix4 0 0 k f)) (fun f j => x17 (ix4 0 0 f j)) j := by
  have hx := fun k => x_at i x0 x1 x2 x4 x5 x6 x7 x8 x9 x10 x11 x12 x13 x14 x15 w r k hw hf
  unfold stored halfStep
  rw [pay1_at, hx, ffn_at x3 x16 x17 r j hx (s_at i x1 x2 r) (g_at i x1 x2 r), picked (ld_m8 x1) (ld_m8 x2)]

end Rows

end Cert.Kernel5Ideal.All

end
-- ==== Proof.All.Blocks.lean ====
module

public import proofs.«01_k».proof.Proof.Gen.Kernel5Ideal.Value
public import proofs.«01_k».proof.Proof.All.Rows
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel5Ideal.All

open Cert.Ffn Cert.Mix Cert.Kernel5Ideal Cert.Kernel5Ideal.Gen Idealize.ShloMosaic Idealize.ShloMosaic.TcCoe Idealize.SL.Sem

theorem idx_rows : ∀ t : Fin cfg0.N,
    win0_0.index t = ![t.val, 0] ∧ win0_4.index t = ![t.val, 0] ∧ win0_5.index t = ![t.val, 0] ∧ win0_6.index t = ![t.val, 0]
      ∧ win0_7.index t = ![t.val, 0] ∧ win0_8.index t = ![t.val, 3] ∧ win0_10.index t = ![t.val, 0] ∧ win0_11.index t = ![t.val, 0]
      ∧ win0_12.index t = ![t.val, 0] ∧ win0_13.index t = ![t.val, 0] ∧ win0_18.index t = ![t.val, 0] :=
  (by decide +kernel : ∀ t : Fin grid0.N, _)

theorem idx_all : ∀ t : Fin cfg0.N,
    win0_1.index t = ![0, 0, 0] ∧ win0_2.index t = ![t.val / 3, 0, 0] ∧ win0_3.index t = ![0, 0] ∧ win0_9.index t = ![0, 0]
      ∧ win0_14.index t = ![0, 0] ∧ win0_15.index t = ![0, 0, 0] ∧ win0_16.index t = ![0, 1, 0, 0] ∧ win0_17.index t = ![0, 1, 0, 0] :=
  (by decide +kernel : ∀ t : Fin grid0.N, _)

theorem lt_all : ∀ t : Fin cfg0.N, t.val < 24 :=
  (by decide +kernel : ∀ t : Fin grid0.N, _)

theorem coord_all : ∀ t : Fin cfg0.N, (grid0.coords t 0).val = t.val :=
  (by decide +kernel : ∀ t : Fin grid0.N, _)

/-- The sequence and the token that a row of a point's block is. -/
def seqOf (t : Fin cfg0.N) : Fin 8 := ⟨t.val / 3, by have := lt_all t; omega⟩
def tokOf (t : Fin cfg0.N) (r : Fin 768) : Fin 2304 := ⟨t.val % 3 * 768 + r.val, by omega⟩

variable (m : (ℓ : Loc nD τ sig) → Buf (Elt Ideal) ℓ) (c : Dev nD)

section Blocks
variable (t : Fin cfg0.N)

theorem blk_x (r : Fin 768) (j : Fin 1024) :
    iblk m c 0 t (ix2 r j) = m ((c.tc : Thread nD τ).loc main_arg0) (ix3 (seqOf t) (tokOf t r) j) := by
  have ht := lt_all t
  blk_simp [iblk, idx_rows t]
  entry_read
  pointwise
  blk_ext [idx_rows t, seqOf, tokOf]

set_option maxHeartbeats 4000000 in
theorem blk_rows (r : Fin 768) (j : Fin 256) :
    iblk m c 4 t (ix2 r j) = m ((c.tc : Thread nD τ).loc main_arg4) (ix3 (seqOf t) (tokOf t r) j) ∧
    iblk m c 5 t (ix2 r j) = m ((c.tc : Thread nD τ).loc main_arg5) (ix3 (seqOf t) (tokOf t r) j) ∧
    iblk m c 6 t (ix2 r j) = m ((c.tc : Thread nD τ).loc main_arg6) (ix3 (seqOf t) (tokOf t r) j) ∧
    iblk m c 7 t (ix2 r j) = m ((c.tc : Thread nD τ).loc main_arg7) (ix3 (seqOf t) (tokOf t r) j) ∧
    iblk m c 10 t (ix2 r j) = m ((c.tc : Thread nD τ).loc main_arg10) (ix3 (seqOf t) (tokOf t r) j) ∧
    iblk m c 11 t (ix2 r j) = m ((c.tc : Thread nD τ).loc main_arg11) (ix3 (seqOf t) (tokOf t r) j) ∧
    iblk m c 12 t (ix2 r j) = m ((c.tc : Thread nD τ).loc main_arg12) (ix3 (seqOf t) (tokOf t r) j) ∧
    iblk m c 13 t (ix2 r j) = m ((c.tc : Thread nD τ).loc main_arg13) (ix3 (seqOf t) (tokOf t r) j) := by
  have ht := lt_all t
  refine ⟨?_, ?_, ?_, ?_, ?_, ?_, ?_, ?_⟩
  all_goals
    blk_simp [iblk, idx_rows t]
    entry_read
    pointwise
    blk_ext [idx_rows t, seqOf, tokOf]

theorem blk_z (r : Fin 768) (j : Fin 256) :
    X0_8 m c t (ix2 r j : S768x256.Idx) = m ((c.tc : Thread nD τ).loc main_arg8) (ix3 (seqOf t) (tokOf t r) ⟨768 + j.val, by omega⟩) := by
  have ht := lt_all t
  unfold X0_8 Pipeline.Window.fill
  rw [dif_pos (moved0_8 t (ix2 r j : S768x256.Idx))]
  blk_simp [iblk, idx_rows t]
  entry_read
  pointwise
  blk_ext [idx_rows t, seqOf, tokOf]

theorem blk_mc (q : Fin 9) (j : Fin 1024) :
    iblk m c 1 t (ix3 0 q j) = m ((c.tc : Thread nD τ).loc main_arg2) (ix3 0 q j) := by
  blk_simp [iblk, idx_all t]
  entry_read
  pointwise
  blk_ext [idx_all t]

theorem blk_mb (q : Fin 9) (j : Fin 1024) :
    iblk m c 2 t (ix3 0 q j) = m ((c.tc : Thread nD τ).loc main_arg1) (ix3 (seqOf t) q j) := by
  blk_simp [iblk, idx_all t]
  entry_read
  pointwise
  blk_ext [idx_all t, seqOf]

theorem blk_nw (j : Fin 1024) : iblk m c 3 t (ix2 0 j) = m ((c.tc : Thread nD τ).loc main_arg3) (ix1 j) := by
  blk_simp [iblk, idx_all t]
  entry_read
  pointwise
  blk_ext [idx_all t]

theorem blk_dnw (l : Fin 256) : iblk m c 9 t (ix2 0 l) = m ((c.tc : Thread nD τ).loc main_arg9) (ix1 ⟨l.val % 64, by omega⟩) := by
  blk_simp [iblk, idx_all t]
  entry_read
  pointwise
  blk_ext [idx_all t]

theorem blk_wo (k j : Fin 1024) : iblk m c 15 t (ix3 0 k j) = m ((c.tc : Thread nD τ).loc main_arg21) (ix3 0 k j) := by
  blk_simp [iblk, idx_all t]
  entry_read
  pointwise
  blk_ext [idx_all t]

theorem blk_w (k : Fin 1024) (f : Fin 5632) : iblk m c 16 t (ix4 0 0 k f) = m ((c.tc : Thread nD τ).loc main_arg22) (ix4 0 1 k f) := by
  blk_simp [iblk, idx_all t]
  entry_read
  pointwise
  blk_ext [idx_all t]

theorem blk_d (f : Fin 2816) (j : Fin 1024) : iblk m c 17 t (ix4 0 0 f j) = m ((c.tc : Thread nD τ).loc main_arg23) (ix4 0 1 f j) := by
  blk_simp [iblk, idx_all t]
  entry_read
  pointwise
  blk_ext [idx_all t]

end Blocks

end Cert.Kernel5Ideal.All

end
-- ==== Proof.All.Pack.lean ====
module

public import proofs.«01_k».proof.Proof.Gen.Kernel5Ideal.Value
public import proofs.«01_k».proof.Proof.Mix.Row
public import Idealize.ShloMosaic.Lib.Pointwise
public import Idealize.ShloMosaic.Lib.Pipeline.ValueKit
public import Idealize.ShloMosaic.Lib.Pipeline.ReadBack
public import Idealize.ShloMosaic.Lib.StableHlo.RunRead
public import Idealize.ShloMosaic.Lib.Claim

@[expose] public section

set_option maxRecDepth 16384

noncomputable section

namespace Cert.Kernel5Ideal.All

open Cert.Ffn Cert.Mix Cert.Kernel5Ideal Cert.Kernel5Ideal.Gen Idealize.ShloMosaic Idealize.ShloMosaic.TcCoe Idealize.SL.Sem

variable (m : (ℓ : Loc nD τ sig) → Buf (Elt Ideal) ℓ) (c : Dev nD)

/-- The small weights one under the other, as an array of the host's. -/
def packed (a14 a15 : Vec Ideal S2x256 .f32) (a16 a17 a19 a20 : Vec Ideal S256 .f32) (a18 : Vec Ideal S4x64 .f32) : Vec Ideal S16x256 .f32 :=
  concatenate S16x256 0
    [⟨S2x256, a14⟩, ⟨S2x256, a15⟩, ⟨S1x256, broadcastInDim S1x256 ![1] bcast_S256_S1x256_1 a16⟩,
      ⟨S1x256, broadcastInDim S1x256 ![1] bcast_S256_S1x256_1 a17⟩, ⟨S1x256, shapeCast S1x256 a18 shapeCasts_S4x64_S1x256⟩,
      ⟨S1x256, broadcastInDim S1x256 ![1] bcast_S256_S1x256_1 a19⟩, ⟨S1x256, broadcastInDim S1x256 ![1] bcast_S256_S1x256_1 a20⟩,
      ⟨S7x256, broadcastInDim S7x256 ![] bcast_S_S7x256 (constant (F := Ideal) S_ .f32 0x00000000#32)⟩]
    concatenates_S2x256_S2x256_S1x256_S1x256_S1x256_S1x256_S1x256_S7x256_S16x256_d0

set_option maxRecDepth 65536 in
set_option maxHeartbeats 4000000 in
theorem entry_pv : (V m c main_v6 : Vec Ideal S16x256 .f32)
    = packed (m ((c.tc : Thread nD τ).loc main_arg14)) (m ((c.tc : Thread nD τ).loc main_arg15)) (m ((c.tc : Thread nD τ).loc main_arg16))
        (m ((c.tc : Thread nD τ).loc main_arg17)) (m ((c.tc : Thread nD τ).loc main_arg19)) (m ((c.tc : Thread nD τ).loc main_arg20))
        (m ((c.tc : Thread nD τ).loc main_arg18)) := by
  after_reads_simp
  rfl

variable (a14 a15 : Vec Ideal S2x256 .f32) (a16 a17 a19 a20 : Vec Ideal S256 .f32) (a18 : Vec Ideal S4x64 .f32)

theorem packed_lw (l : Fin 256) : packed a14 a15 a16 a17 a19 a20 a18 (ix2 7 l) = a19 (ix1 l) := by
  pointwise [packed]

theorem packed_lb (l : Fin 256) : packed a14 a15 a16 a17 a19 a20 a18 (ix2 8 l) = a20 (ix1 l) := by
  pointwise [packed]

end Cert.Kernel5Ideal.All

end
-- ==== Proof.All.Row.lean ====
/- The residual and the second feed-forward half-step of a token of either stream. -/
module

public import proofs.«01_k».proof.Proof.Mix.Row
public import Idealize.ShloMosaic.Lib.Pointwise
public import Idealize.ShloMosaic.Lib.Claim

@[expose] public section

set_option maxRecDepth 16384

noncomputable section

namespace Cert.Mix

open Cert.Ffn Idealize.ShloMosaic Idealize.ShloMosaic.TcCoe Idealize.SL.Sem

/-- A token's vector of the modulation: the context's for the first 256 tokens of a sequence, else its sequence's. -/
def mods (mod : Fin 8 → Fin 9 → Fin 1024 → EReal) (modc : Fin 9 → Fin 1024 → EReal) (b : Fin 8) (T : Fin 2304) (q : Fin 9) : Fin 1024 → EReal :=
  if T.val < 256 then modc q else mod b q

/-- A token's residual after the mixers and the second feed-forward half-step, of either stream. -/
def everyToken (x : Fin 8 → Fin 2304 → Fin 1024 → EReal) (mod : Fin 8 → Fin 9 → Fin 1024 → EReal) (modc : Fin 9 → Fin 1024 → EReal)
    (nw : Fin 1024 → EReal) (hy na oF oB z yF yB bonus g : Fin 8 → Fin 2304 → Fin 256 → EReal) (dnw : Fin 64 → EReal) (lw lb : Fin 256 → EReal)
    (wo : Fin 1024 → Fin 1024 → EReal) (w : Fin 1024 → Fin 5632 → EReal) (wd : Fin 2816 → Fin 1024 → EReal)
    (b : Fin 8) (T : Fin 2304) : Fin 1024 → EReal :=
  halfStep (after (x b T) (mods mod modc b T 5) (hy b T) (na b T) (dnRow (fun k => oF b T k + oB b T k) (z b T) dnw)
    (rwRow (fun k => yF b T k + yB b T k) lw lb (bonus b T) (g b T)) wo) nw (mods mod modc b T 7) (mods mod modc b T 6) (mods mod modc b T 8) w wd

end Cert.Mix

end
-- ==== Proof.All.Final.lean ====
module

public import proofs.«01_k».proof.Proof.Gen.Kernel5Ideal.Value
public import proofs.«01_k».proof.Proof.All.Blocks
public import proofs.«01_k».proof.Proof.All.Pack
public import proofs.«01_k».proof.Proof.All.Row
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel5Ideal.All

open Cert.Ffn Cert.Mix Cert.Kernel5Ideal Cert.Kernel5Ideal.Gen Idealize.ShloMosaic Idealize.ShloMosaic.TcCoe Idealize.SL.Sem

variable (m : (ℓ : Loc nD τ sig) → Buf (Elt Ideal) ℓ) (c : Dev nD)

theorem blk_pv (t : Fin cfg0.N) (q : Fin 16) (l : Fin 256) : iblk m c 14 t (ix2 q l) = (V m c main_v6 : Vec Ideal S16x256 .f32) (ix2 q l) := by
  blk_simp [iblk, idx_all t]
  have em : (win0_14.blk t).view.emb (ix2 q l) = ix2 q l := by
    blk_ext [idx_all t]
  rw [em]

theorem blk_lw (t : Fin cfg0.N) (l : Fin 256) : iblk m c 14 t (ix2 7 l) = m ((c.tc : Thread nD τ).loc main_arg19) (ix1 l) := by
  rw [blk_pv, entry_pv, packed_lw]

theorem blk_lb (t : Fin cfg0.N) (l : Fin 256) : iblk m c 14 t (ix2 8 l) = m ((c.tc : Thread nD τ).loc main_arg20) (ix1 l) := by
  rw [blk_pv, entry_pv, packed_lb]

/-- The tokens' results, from the arguments. -/
def spec : Fin 8 → Fin 2304 → Fin 1024 → EReal :=
  everyToken (fun b T j => m ((c.tc : Thread nD τ).loc main_arg0) (ix3 b T j)) (fun b q j => m ((c.tc : Thread nD τ).loc main_arg1) (ix3 b q j)) (fun q j => m ((c.tc : Thread nD τ).loc main_arg2) (ix3 0 q j))
    (fun j => m ((c.tc : Thread nD τ).loc main_arg3) (ix1 j))
    (fun b T k => m ((c.tc : Thread nD τ).loc main_arg4) (ix3 b T k)) (fun b T k => m ((c.tc : Thread nD τ).loc main_arg5) (ix3 b T k))
    (fun b T k => m ((c.tc : Thread nD τ).loc main_arg6) (ix3 b T k)) (fun b T k => m ((c.tc : Thread nD τ).loc main_arg7) (ix3 b T k))
    (fun b T k => m ((c.tc : Thread nD τ).loc main_arg8) (ix3 b T ⟨768 + k.val, by omega⟩))
    (fun b T k => m ((c.tc : Thread nD τ).loc main_arg10) (ix3 b T k)) (fun b T k => m ((c.tc : Thread nD τ).loc main_arg11) (ix3 b T k))
    (fun b T k => m ((c.tc : Thread nD τ).loc main_arg12) (ix3 b T k)) (fun b T k => m ((c.tc : Thread nD τ).loc main_arg13) (ix3 b T k))
    (fun i => m ((c.tc : Thread nD τ).loc main_arg9) (ix1 i)) (fun l => m ((c.tc : Thread nD τ).loc main_arg19) (ix1 l))
    (fun l => m ((c.tc : Thread nD τ).loc main_arg20) (ix1 l)) (fun k j => m ((c.tc : Thread nD τ).loc main_arg21) (ix3 0 k j))
    (fun k f => m ((c.tc : Thread nD τ).loc main_arg22) (ix4 0 1 k f)) (fun f j => m ((c.tc : Thread nD τ).loc main_arg23) (ix4 0 1 f j))

/-- The tokens' results, one after the other. -/
def res (i : S18432x1024.Idx) : EReal :=
  spec m c ⟨(i 0).val / 2304, by have : (i 0).val < 18432 := (i 0).isLt; omega⟩ ⟨(i 0).val % 2304, by omega⟩ (i 1)

theorem res_at (t : Fin cfg0.N) (r : Fin 768) (j : Fin 1024) :
    res m c (ix2 ⟨t.val * 768 + r.val, by have := lt_all t; omega⟩ j) = spec m c (seqOf t) (tokOf t r) j := by
  unfold res seqOf tokOf
  congr 1
  · exact Fin.ext (show (t.val * 768 + r.val) / 2304 = t.val / 3 by omega)
  · exact Fin.ext (show (t.val * 768 + r.val) % 2304 = t.val % 3 * 768 + r.val by omega)

/-- The vectors that a row of the point's block takes are its token's. -/
theorem mods_at (t : Fin cfg0.N) (r : Fin 768) (q : Fin 9) :
    modRow (grid0.coords t) (iblk m c 1 t) (iblk m c 2 t) r q
      = mods (fun b q j => m ((c.tc : Thread nD τ).loc main_arg1) (ix3 b q j)) (fun q j => m ((c.tc : Thread nD τ).loc main_arg2) (ix3 0 q j)) (seqOf t) (tokOf t r) q := by
  have e : ((tokOf t r).val < 256) = (t.val % 3 = 0 ∧ r.val < 256) := propext (by unfold tokOf; dsimp only; omega)
  unfold modRow pick mods
  simp only [blk_mc, blk_mb, coord_all t, e]

/-- The two directions' sums are finite. -/
def FiniteSums : Prop :=
  FiniteSum (fun b T k => m ((c.tc : Thread nD τ).loc main_arg6) (ix3 b T k)) (fun b T k => m ((c.tc : Thread nD τ).loc main_arg7) (ix3 b T k))
    ∧ FiniteSum (fun b T k => m ((c.tc : Thread nD τ).loc main_arg10) (ix3 b T k)) (fun b T k => m ((c.tc : Thread nD τ).loc main_arg11) (ix3 b T k))

/-- The array the kernel leaves. -/
theorem final (hf : FiniteSums m c) : (dats m 0 c).arrAt 18 cfg0.N = res m c := by
  refine (dats m 0 c).arrAt_eq_of_covers 18 _ (by decide +kernel) fun t hfl y => ?_
  blk_simp [idx_rows t]
  rw [after0_18]
  have ht := lt_all t
  obtain ⟨r, j, rfl⟩ : ∃ (r : Fin 768) (j : Fin 1024), y = ix2 r j := ⟨y 0, y 1, eq_ix2 y⟩
  have em : (win0_18.blk t).view.emb (ix2 r j) = ix2 ⟨t.val * 768 + r.val, by omega⟩ j := by
    blk_ext [idx_rows t]
  have hr := blk_rows m c t r
  have hrow : FiniteRow (iblk m c 6 t) (iblk m c 7 t) (iblk m c 10 t) (iblk m c 11 t) r :=
    ⟨fun k => by rw [(hr k).2.2.1, (hr k).2.2.2.1]; exact hf.1 _ _ k,
      fun k => by rw [(hr k).2.2.2.2.1, (hr k).2.2.2.2.2.1]; exact hf.2 _ _ k⟩
  unfold outsAt0
  rw [out_eq, stored_at _ _ _ _ _ _ _ _ _ _ _ _ _ _ _ _ _ _ _ (fun i => m ((c.tc : Thread nD τ).loc main_arg9) (ix1 i)) r j (blk_dnw m c t) hrow, em, res_at m c t]
  unfold xRow spec everyToken
  rw [mods_at, mods_at, mods_at, mods_at]
  simp only [blk_x, blk_z, blk_nw, blk_wo, blk_w, blk_d, blk_lw, blk_lb, fun k => (hr k).1, fun k => (hr k).2.1,
    fun k => (hr k).2.2.1, fun k => (hr k).2.2.2.1, fun k => (hr k).2.2.2.2.1, fun k => (hr k).2.2.2.2.2.1,
    fun k => (hr k).2.2.2.2.2.2.1, fun k => (hr k).2.2.2.2.2.2.2]

end Cert.Kernel5Ideal.All

end
-- ==== Proof.All.Ref.lean ====
module

public import proofs.«01_k».proof.Proof.Gen.Reference5Ideal.Read
public import proofs.«01_k».proof.Proof.All.Row
public import Idealize.ShloMosaic.Lib.Pointwise
public import Idealize.ShloMosaic.Lib.Claim

@[expose] public section

set_option maxRecDepth 16384

noncomputable section

namespace Cert.Reference5Ideal.All

open Cert.Ffn Cert.Mix Cert.Reference5Ideal Cert.Reference5Ideal.Gen Cert.Reference5Ideal.Read Idealize.ShloMosaic Idealize.ShloMosaic.TcCoe Idealize.SL.Sem

/-! ## The two recurrences' outputs -/

section Mixers
variable (b : Fin 8) (T : Fin 2304)

theorem dn_in (x6 x7 : Vec Ideal S8x2304x256 .f32) (h : Fin 4) (i : Fin 64) : (val_main_v3 (F := Ideal) x6 x7 (ix4 b T h i) : EReal)
    = x6 (ix3 b T ⟨h.val * 64 + i.val, by omega⟩) + x7 (ix3 b T ⟨h.val * 64 + i.val, by omega⟩) := by
  pointwise [val_main_v3, val_main_v2]

theorem rw_in (x10 x11 : Vec Ideal S8x2304x256 .f32) (h : Fin 4) (i : Fin 64) : (val_main_v21 (F := Ideal) x10 x11 (ix4 b T h i) : EReal)
    = x10 (ix3 b T ⟨h.val * 64 + i.val, by omega⟩) + x11 (ix3 b T ⟨h.val * 64 + i.val, by omega⟩) := by
  pointwise [val_main_v21, val_main_v20]

/-- A lane's value is its head's at its place. -/
theorem at_lane {f : Fin 4 → Fin 64 → EReal} {y : Fin 256 → EReal} (hf : ∀ h i, f h i = y ⟨h.val * 64 + i.val, by omega⟩) (l : Fin 256) :
    f ⟨l.val / 64, by omega⟩ ⟨l.val % 64, by omega⟩ = y l :=
  (hf _ _).trans (congrArg y (Fin.ext (by dsimp only; omega)))

theorem dn_out (x6 x7 : Vec Ideal S8x2304x256 .f32) (x8 : Vec Ideal S8x2304x1152 .f32) (x9 : Vec Ideal S64 .f32) (l : Fin 256) :
    (val_main_v19 (F := Ideal) x6 x7 x8 x9 (ix3 b T l) : EReal)
      = dnRow (fun k => x6 (ix3 b T k) + x7 (ix3 b T k)) (fun k => x8 (ix3 b T ⟨768 + k.val, by omega⟩)) (fun i => x9 (ix1 i)) l := by
  have e := dn_in b T x6 x7
  have e' := at_lane (f := fun h i => (val_main_v3 (F := Ideal) x6 x7 (ix4 b T h i) : EReal))
    (y := fun k => (x6 (ix3 b T k) + x7 (ix3 b T k) : EReal)) e l
  revert e e'
  unfold val_main_v19 val_main_v18 val_main_v16 val_main_v13 val_main_v12 val_main_v11 val_main_v10 val_main_v8 val_main_v6 val_main_v5 val_main_v4
  generalize val_main_v3 (F := Ideal) x6 x7 = o
  intro e e'
  unfold dnRow headMean
  rw [← silu_neg]
  pointwise [val_main_v17, val_main_v15, val_main_v14, val_main_v9, val_main_v7, val_main_cst, val_main_cst_0, val_main_cst_1, val_main_v1, val_main_v0, val_main_call0_v0, val_main_call0_v1, val_main_call0_v2, val_main_call0_v3, val_main_call0_v4, val_main_call0_v5, val_main_call0_cst, val_main_call0_cst_0, one, eps, headWidth]
  rw [e']
  simp only [e]

theorem rw_out (x10 x11 x12 x13 : Vec Ideal S8x2304x256 .f32) (x19 x20 : Vec Ideal S256 .f32) (l : Fin 256) :
    (val_main_v48 (F := Ideal) x10 x11 x12 x13 x19 x20 (ix3 b T l) : EReal)
      = rwRow (fun k => x10 (ix3 b T k) + x11 (ix3 b T k)) (fun k => x19 (ix1 k)) (fun k => x20 (ix1 k))
          (fun k => x12 (ix3 b T k)) (fun k => x13 (ix3 b T k)) l := by
  have e := rw_in b T x10 x11
  have e' := at_lane (f := fun h i => (val_main_v21 (F := Ideal) x10 x11 (ix4 b T h i) : EReal))
    (y := fun k => (x10 (ix3 b T k) + x11 (ix3 b T k) : EReal)) e l
  revert e e'
  unfold val_main_v48 val_main_v47 val_main_v46 val_main_v43 val_main_v40 val_main_v39 val_main_v38 val_main_v37 val_main_v36 val_main_v34 val_main_v33 val_main_v32 val_main_v30 val_main_v29 val_main_v28 val_main_v27 val_main_v26 val_main_v25 val_main_v23 val_main_v22
  generalize val_main_v21 (F := Ideal) x10 x11 = o
  intro e e'
  rw [rwRow_head]
  unfold headMean
  pointwise [val_main_v45, val_main_v44, val_main_v42, val_main_v41, val_main_v35, val_main_v31, val_main_v24, val_main_cst_2, val_main_cst_3, val_main_cst_4, val_main_cst_5, val_main_cst_6, lnEps, headWidth]
  rw [e']
  simp only [e]

end Mixers

/-! ## The residual after the mixers -/

section Residual
variable (x0 : Vec Ideal S8x2304x1024 .f32) (x1 : Vec Ideal S8x9x1024 .f32) (x2 : Vec Ideal S1x9x1024 .f32) (x3 : Vec Ideal S1024 .f32)
  (x4 x5 x6 x7 : Vec Ideal S8x2304x256 .f32) (x8 : Vec Ideal S8x2304x1152 .f32) (x9 : Vec Ideal S64 .f32)
  (x10 x11 x12 x13 : Vec Ideal S8x2304x256 .f32) (x19 x20 : Vec Ideal S256 .f32) (x21 : Vec Ideal S2x1024x1024 .f32)
  (x22 : Vec Ideal S2x2x1024x5632 .f32) (x23 : Vec Ideal S2x2x2816x1024 .f32) (b : Fin 8)

theorem side_at (T : Fin 2304) (c : Fin 1024) : (val_main_v49 (F := Ideal) x4 x5 x6 x7 x8 x9 x10 x11 x12 x13 x19 x20 (ix3 b T c) : EReal)
    = side (fun k => x4 (ix3 b T k)) (fun k => x5 (ix3 b T k)) (fun k => val_main_v19 (F := Ideal) x6 x7 x8 x9 (ix3 b T k))
        (fun k => val_main_v48 (F := Ideal) x10 x11 x12 x13 x19 x20 (ix3 b T k)) c := by
  unfold val_main_v49
  generalize val_main_v19 (F := Ideal) x6 x7 x8 x9 = d
  generalize val_main_v48 (F := Ideal) x10 x11 x12 x13 x19 x20 = w
  unfold side
  pointwise
  by_cases h : c.val < 256
  · rw [dif_pos h, dif_pos h]
  rw [dif_neg h, dif_neg h]
  by_cases h' : c.val < 512
  · rw [dif_pos (by omega), dif_pos h']
  rw [dif_neg (by omega), dif_neg h']
  by_cases h'' : c.val < 768
  · rw [dif_pos (by omega), dif_pos h'']
    exact congrArg (fun z => d (ix3 b T z)) (Fin.ext (by dsimp only; omega))
  · rw [dif_neg (by omega), dif_neg h'']
    exact congrArg (fun z => w (ix3 b T z)) (Fin.ext (by dsimp only; omega))

/-- The four groups' outputs through the output projection. -/
theorem mix_at (T : Fin 2304) (j : Fin 1024) : (val_main_v52 (F := Ideal) x4 x5 x6 x7 x8 x9 x10 x11 x12 x13 x19 x20 x21 (ix3 b T j) : EReal)
    = ∑ c, side (fun k => x4 (ix3 b T k)) (fun k => x5 (ix3 b T k))
        (dnRow (fun k => x6 (ix3 b T k) + x7 (ix3 b T k)) (fun k => x8 (ix3 b T ⟨768 + k.val, by omega⟩)) (fun i => x9 (ix1 i)))
        (rwRow (fun k => x10 (ix3 b T k) + x11 (ix3 b T k)) (fun k => x19 (ix1 k)) (fun k => x20 (ix1 k))
          (fun k => x12 (ix3 b T k)) (fun k => x13 (ix3 b T k))) c * x21 (ix3 0 c j) := by
  rw [show dnRow _ _ _ = _ from funext fun k => (dn_out b T x6 x7 x8 x9 k).symm,
    show rwRow _ _ _ _ _ = _ from funext fun k => (rw_out b T x10 x11 x12 x13 x19 x20 k).symm]
  simp only [← side_at x4 x5 x6 x7 x8 x9 x10 x11 x12 x13 x19 x20 b T]
  unfold val_main_v52
  generalize val_main_v49 (F := Ideal) x4 x5 x6 x7 x8 x9 x10 x11 x12 x13 x19 x20 = s
  pointwise [val_main_v50, val_main_v51]

theorem ctx_after (t : Fin 256) (j : Fin 1024) : (val_main_v60 (F := Ideal) x0 x2 x4 x5 x6 x7 x8 x9 x10 x11 x12 x13 x19 x20 x21 (ix3 b t j) : EReal)
    = after (fun k => x0 (ix3 b ⟨t.val, by omega⟩ k)) (fun k => x2 (ix3 0 5 k)) (fun k => x4 (ix3 b ⟨t.val, by omega⟩ k)) (fun k => x5 (ix3 b ⟨t.val, by omega⟩ k))
        (dnRow (fun k => x6 (ix3 b ⟨t.val, by omega⟩ k) + x7 (ix3 b ⟨t.val, by omega⟩ k)) (fun k => x8 (ix3 b ⟨t.val, by omega⟩ ⟨768 + k.val, by omega⟩)) (fun i => x9 (ix1 i)))
        (rwRow (fun k => x10 (ix3 b ⟨t.val, by omega⟩ k) + x11 (ix3 b ⟨t.val, by omega⟩ k)) (fun k => x19 (ix1 k)) (fun k => x20 (ix1 k))
          (fun k => x12 (ix3 b ⟨t.val, by omega⟩ k)) (fun k => x13 (ix3 b ⟨t.val, by omega⟩ k))) (fun k j => x21 (ix3 0 k j)) j := by
  unfold after
  rw [← mix_at x4 x5 x6 x7 x8 x9 x10 x11 x12 x13 x19 x20 x21 b ⟨t.val, by omega⟩ j]
  unfold val_main_v60 val_main_v59 val_main_v54
  generalize val_main_v52 (F := Ideal) x4 x5 x6 x7 x8 x9 x10 x11 x12 x13 x19 x20 x21 = s
  pointwise [val_main_v53, val_main_v55, val_main_v56, val_main_v57, val_main_v58]

theorem ctx_norm (t : Fin 256) (j : Fin 1024) : (val_main_v90 (F := Ideal) x0 x2 x3 x4 x5 x6 x7 x8 x9 x10 x11 x12 x13 x19 x20 x21 (ix3 b t j) : EReal)
    = adaln (fun k => val_main_v60 (F := Ideal) x0 x2 x4 x5 x6 x7 x8 x9 x10 x11 x12 x13 x19 x20 x21 (ix3 b t k)) (fun k => x3 (ix1 k)) (fun k => x2 (ix3 0 7 k)) (fun k => x2 (ix3 0 6 k)) j := by
  unfold val_main_v90 val_main_v85 val_main_v78 val_main_v75 val_main_v74 val_main_v73 val_main_v72 val_main_v70 val_main_v68 val_main_v67 val_main_v66
  generalize val_main_v60 (F := Ideal) x0 x2 x4 x5 x6 x7 x8 x9 x10 x11 x12 x13 x19 x20 x21 = x
  unfold adaln
  pointwise [val_main_v69, val_main_v71, val_main_v76, val_main_v77, val_main_v79, val_main_v80, val_main_v81, val_main_v82, val_main_v83, val_main_v84, val_main_v86, val_main_v87, val_main_v88, val_main_v89, val_main_cst_8, val_main_cst_9, val_main_cst_10, val_main_cst_11, one, eps, width]

theorem ctx_up (t : Fin 256) (f : Fin 5632) : (val_main_v95 (F := Ideal) x0 x2 x3 x4 x5 x6 x7 x8 x9 x10 x11 x12 x13 x19 x20 x21 x22 (ix3 b t f) : EReal)
    = ∑ k : Fin 1024, (val_main_v90 (F := Ideal) x0 x2 x3 x4 x5 x6 x7 x8 x9 x10 x11 x12 x13 x19 x20 x21 (ix3 b t k) : EReal) * x22 (ix4 0 1 k f) := by
  unfold val_main_v95
  generalize val_main_v90 (F := Ideal) x0 x2 x3 x4 x5 x6 x7 x8 x9 x10 x11 x12 x13 x19 x20 x21 = h
  pointwise [val_main_v91, val_main_v92]

theorem ctx_hid (t : Fin 256) (f : Fin 2816) : (val_main_v99 (F := Ideal) x0 x2 x3 x4 x5 x6 x7 x8 x9 x10 x11 x12 x13 x19 x20 x21 x22 (ix3 b t f) : EReal)
    = hid (fun k => val_main_v90 (F := Ideal) x0 x2 x3 x4 x5 x6 x7 x8 x9 x10 x11 x12 x13 x19 x20 x21 (ix3 b t k)) (fun k f => x22 (ix4 0 1 k f)) f := by
  unfold hid unit
  rw [← silu_neg, ← ctx_up, ← ctx_up]
  unfold val_main_v99
  pointwise [val_main_v96, val_main_v97, val_main_v98, val_main_call1_v0, val_main_call1_v1, val_main_call1_v2, val_main_call1_v3, val_main_call1_v4, val_main_call1_v5, val_main_call1_cst, val_main_call1_cst_0, one]

theorem ctx_half (t : Fin 256) (j : Fin 1024) : (val_main_v103 (F := Ideal) x0 x2 x3 x4 x5 x6 x7 x8 x9 x10 x11 x12 x13 x19 x20 x21 x22 x23 (ix3 b t j) : EReal)
    = halfStep (fun k => val_main_v60 (F := Ideal) x0 x2 x4 x5 x6 x7 x8 x9 x10 x11 x12 x13 x19 x20 x21 (ix3 b t k)) (fun k => x3 (ix1 k)) (fun k => x2 (ix3 0 7 k)) (fun k => x2 (ix3 0 6 k))
        (fun k => x2 (ix3 0 8 k)) (fun k f => x22 (ix4 0 1 k f)) (fun f j => x23 (ix4 0 1 f j)) j := by
  unfold halfStep ffn
  rw [show adaln _ _ _ _ = _ from funext fun k => (ctx_norm x0 x2 x3 x4 x5 x6 x7 x8 x9 x10 x11 x12 x13 x19 x20 x21 b t k).symm]
  simp only [← ctx_hid x0 x2 x3 x4 x5 x6 x7 x8 x9 x10 x11 x12 x13 x19 x20 x21 x22 b t]
  unfold val_main_v103 val_main_v102 val_main_v100
  generalize val_main_v99 (F := Ideal) x0 x2 x3 x4 x5 x6 x7 x8 x9 x10 x11 x12 x13 x19 x20 x21 x22 = h
  generalize val_main_v60 (F := Ideal) x0 x2 x4 x5 x6 x7 x8 x9 x10 x11 x12 x13 x19 x20 x21 = x
  pointwise [val_main_v61, val_main_v62, val_main_v63, val_main_v64, val_main_v65, val_main_v93, val_main_v94, val_main_v101, val_main_cst_7, half]

theorem lat_after (t : Fin 2048) (j : Fin 1024) : (val_main_v111 (F := Ideal) x0 x1 x4 x5 x6 x7 x8 x9 x10 x11 x12 x13 x19 x20 x21 (ix3 b t j) : EReal)
    = after (fun k => x0 (ix3 b ⟨256 + t.val, by omega⟩ k)) (fun k => x1 (ix3 b 5 k)) (fun k => x4 (ix3 b ⟨256 + t.val, by omega⟩ k)) (fun k => x5 (ix3 b ⟨256 + t.val, by omega⟩ k))
        (dnRow (fun k => x6 (ix3 b ⟨256 + t.val, by omega⟩ k) + x7 (ix3 b ⟨256 + t.val, by omega⟩ k)) (fun k => x8 (ix3 b ⟨256 + t.val, by omega⟩ ⟨768 + k.val, by omega⟩)) (fun i => x9 (ix1 i)))
        (rwRow (fun k => x10 (ix3 b ⟨256 + t.val, by omega⟩ k) + x11 (ix3 b ⟨256 + t.val, by omega⟩ k)) (fun k => x19 (ix1 k)) (fun k => x20 (ix1 k))
          (fun k => x12 (ix3 b ⟨256 + t.val, by omega⟩ k)) (fun k => x13 (ix3 b ⟨256 + t.val, by omega⟩ k))) (fun k j => x21 (ix3 0 k j)) j := by
  unfold after
  rw [← mix_at x4 x5 x6 x7 x8 x9 x10 x11 x12 x13 x19 x20 x21 b ⟨256 + t.val, by omega⟩ j]
  unfold val_main_v111 val_main_v110 val_main_v105
  generalize val_main_v52 (F := Ideal) x4 x5 x6 x7 x8 x9 x10 x11 x12 x13 x19 x20 x21 = s
  pointwise [val_main_v104, val_main_v106, val_main_v107, val_main_v108, val_main_v109]

theorem lat_norm (t : Fin 2048) (j : Fin 1024) : (val_main_v141 (F := Ideal) x0 x1 x3 x4 x5 x6 x7 x8 x9 x10 x11 x12 x13 x19 x20 x21 (ix3 b t j) : EReal)
    = adaln (fun k => val_main_v111 (F := Ideal) x0 x1 x4 x5 x6 x7 x8 x9 x10 x11 x12 x13 x19 x20 x21 (ix3 b t k)) (fun k => x3 (ix1 k)) (fun k => x1 (ix3 b 7 k)) (fun k => x1 (ix3 b 6 k)) j := by
  unfold val_main_v141 val_main_v136 val_main_v129 val_main_v126 val_main_v125 val_main_v124 val_main_v123 val_main_v121 val_main_v119 val_main_v118 val_main_v117
  generalize val_main_v111 (F := Ideal) x0 x1 x4 x5 x6 x7 x8 x9 x10 x11 x12 x13 x19 x20 x21 = x
  unfold adaln
  pointwise [val_main_v120, val_main_v122, val_main_v127, val_main_v128, val_main_v130, val_main_v131, val_main_v132, val_main_v133, val_main_v134, val_main_v135, val_main_v137, val_main_v138, val_main_v139, val_main_v140, val_main_cst_13, val_main_cst_14, val_main_cst_15, val_main_cst_16, one, eps, width]

theorem lat_up (t : Fin 2048) (f : Fin 5632) : (val_main_v146 (F := Ideal) x0 x1 x3 x4 x5 x6 x7 x8 x9 x10 x11 x12 x13 x19 x20 x21 x22 (ix3 b t f) : EReal)
    = ∑ k : Fin 1024, (val_main_v141 (F := Ideal) x0 x1 x3 x4 x5 x6 x7 x8 x9 x10 x11 x12 x13 x19 x20 x21 (ix3 b t k) : EReal) * x22 (ix4 0 1 k f) := by
  unfold val_main_v146
  generalize val_main_v141 (F := Ideal) x0 x1 x3 x4 x5 x6 x7 x8 x9 x10 x11 x12 x13 x19 x20 x21 = h
  pointwise [val_main_v142, val_main_v143]

theorem lat_hid (t : Fin 2048) (f : Fin 2816) : (val_main_v150 (F := Ideal) x0 x1 x3 x4 x5 x6 x7 x8 x9 x10 x11 x12 x13 x19 x20 x21 x22 (ix3 b t f) : EReal)
    = hid (fun k => val_main_v141 (F := Ideal) x0 x1 x3 x4 x5 x6 x7 x8 x9 x10 x11 x12 x13 x19 x20 x21 (ix3 b t k)) (fun k f => x22 (ix4 0 1 k f)) f := by
  unfold hid unit
  rw [← silu_neg, ← lat_up, ← lat_up]
  unfold val_main_v150
  pointwise [val_main_v147, val_main_v148, val_main_v149, val_main_call2_v0, val_main_call2_v1, val_main_call2_v2, val_main_call2_v3, val_main_call2_v4, val_main_call2_v5, val_main_call2_cst, val_main_call2_cst_0, one]

theorem lat_half (t : Fin 2048) (j : Fin 1024) : (val_main_v154 (F := Ideal) x0 x1 x3 x4 x5 x6 x7 x8 x9 x10 x11 x12 x13 x19 x20 x21 x22 x23 (ix3 b t j) : EReal)
    = halfStep (fun k => val_main_v111 (F := Ideal) x0 x1 x4 x5 x6 x7 x8 x9 x10 x11 x12 x13 x19 x20 x21 (ix3 b t k)) (fun k => x3 (ix1 k)) (fun k => x1 (ix3 b 7 k)) (fun k => x1 (ix3 b 6 k))
        (fun k => x1 (ix3 b 8 k)) (fun k f => x22 (ix4 0 1 k f)) (fun f j => x23 (ix4 0 1 f j)) j := by
  unfold halfStep ffn
  rw [show adaln _ _ _ _ = _ from funext fun k => (lat_norm x0 x1 x3 x4 x5 x6 x7 x8 x9 x10 x11 x12 x13 x19 x20 x21 b t k).symm]
  simp only [← lat_hid x0 x1 x3 x4 x5 x6 x7 x8 x9 x10 x11 x12 x13 x19 x20 x21 x22 b t]
  unfold val_main_v154 val_main_v153 val_main_v151
  generalize val_main_v150 (F := Ideal) x0 x1 x3 x4 x5 x6 x7 x8 x9 x10 x11 x12 x13 x19 x20 x21 x22 = h
  generalize val_main_v111 (F := Ideal) x0 x1 x4 x5 x6 x7 x8 x9 x10 x11 x12 x13 x19 x20 x21 = x
  pointwise [val_main_v112, val_main_v113, val_main_v114, val_main_v115, val_main_v116, val_main_v144, val_main_v145, val_main_v152, val_main_cst_12, half]

/-- A token's result. -/
theorem both (T : Fin 2304) (j : Fin 1024) : (val_main_v155 (F := Ideal) x0 x1 x2 x3 x4 x5 x6 x7 x8 x9 x10 x11 x12 x13 x19 x20 x21 x22 x23 (ix3 b T j) : EReal)
    = everyToken (fun b T j => x0 (ix3 b T j)) (fun b q j => x1 (ix3 b q j)) (fun q j => x2 (ix3 0 q j)) (fun j => x3 (ix1 j)) (fun b T k => x4 (ix3 b T k))
        (fun b T k => x5 (ix3 b T k)) (fun b T k => x6 (ix3 b T k)) (fun b T k => x7 (ix3 b T k)) (fun b T k => x8 (ix3 b T ⟨768 + k.val, by omega⟩))
        (fun b T k => x10 (ix3 b T k)) (fun b T k => x11 (ix3 b T k)) (fun b T k => x12 (ix3 b T k)) (fun b T k => x13 (ix3 b T k))
        (fun i => x9 (ix1 i)) (fun l => x19 (ix1 l)) (fun l => x20 (ix1 l)) (fun k j => x21 (ix3 0 k j)) (fun k f => x22 (ix4 0 1 k f))
        (fun f j => x23 (ix4 0 1 f j)) b T j := by
  have ec := fun t => ctx_half x0 x2 x3 x4 x5 x6 x7 x8 x9 x10 x11 x12 x13 x19 x20 x21 x22 x23 b t j
  have el := fun t => lat_half x0 x1 x3 x4 x5 x6 x7 x8 x9 x10 x11 x12 x13 x19 x20 x21 x22 x23 b t j
  unfold everyToken mods val_main_v155
  revert ec el
  generalize val_main_v103 (F := Ideal) x0 x2 x3 x4 x5 x6 x7 x8 x9 x10 x11 x12 x13 x19 x20 x21 x22 x23 = p
  generalize val_main_v154 (F := Ideal) x0 x1 x3 x4 x5 x6 x7 x8 x9 x10 x11 x12 x13 x19 x20 x21 x22 x23 = q
  intro ec el
  pointwise
  by_cases h : T.val < 256
  · rw [dif_pos h]
    simp only [if_pos h]
    refine (ec ⟨T.val, h⟩).trans ?_
    rw [show (fun k => val_main_v60 (F := Ideal) x0 x2 x4 x5 x6 x7 x8 x9 x10 x11 x12 x13 x19 x20 x21 (ix3 b ⟨T.val, h⟩ k)) = _
      from funext fun k => ctx_after x0 x2 x4 x5 x6 x7 x8 x9 x10 x11 x12 x13 x19 x20 x21 b ⟨T.val, h⟩ k]
  · have e : (⟨256 + (T.val - 256), by omega⟩ : Fin 2304) = T := Fin.ext (by dsimp only; omega)
    rw [dif_neg h]
    simp only [if_neg h]
    refine (el ⟨T.val - 256, by omega⟩).trans ?_
    rw [show (fun k => val_main_v111 (F := Ideal) x0 x1 x4 x5 x6 x7 x8 x9 x10 x11 x12 x13 x19 x20 x21 (ix3 b ⟨T.val - 256, by omega⟩ k)) = _
      from funext fun k => lat_after x0 x1 x4 x5 x6 x7 x8 x9 x10 x11 x12 x13 x19 x20 x21 b ⟨T.val - 256, by omega⟩ k]
    simp only [e]

end Residual

end Cert.Reference5Ideal.All

end
-- ==== Proof.All.Whole.lean ====
module

public import proofs.«01_k».proof.Defs
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Pre_finite_states
public import Idealize.ShloMosaic.Lib.ReduceAll
public import Idealize.ShloMosaic.Lib.KernelVsHost
public import proofs.«01_k».proof.Proof.All.Final
public import proofs.«01_k».proof.Proof.All.Ref
public import proofs.«01_k».proof.Proof.Mix.Whole

@[expose] public section

set_option maxRecDepth 16384

noncomputable section

namespace Cert.Proof.All

open Idealize.ShloMosaic Idealize.ShloMosaic.TcCoe Idealize.SL.Sem

/-! The claims about the first layer's output projection and second feed-forward half-step, of every token. -/

theorem frame_kernel : Cert.quiescent_Kernel5 := fun m ρ _ => Cert.Kernel5.Gen.frame m ρ

theorem frame_kernelIdeal : Cert.quiescent_Kernel5Ideal := fun m ρ _ => Cert.Kernel5Ideal.Gen.frame m ρ

theorem frame_kernelIdeal_pre : Cert.quiescent_Kernel5Ideal_pre_finite_states := fun m ρ _ => Cert.Kernel5Ideal.Gen.frame m ρ

theorem frame_referenceIdeal : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run m ρ)

theorem frame_referenceIdeal_pre : Cert.quiescent_Reference5Ideal_pre_finite_states := fun m ρ _ => frame_referenceIdeal m ρ trivial

/-- What the precondition says of the sums of the two directions. -/
theorem finite_of_pre (m : (ℓ : Loc Cert.Kernel5Ideal.nD Cert.Kernel5Ideal.τ Cert.Kernel5Ideal.sig) → Buf (Elt Ideal) ℓ)
    (h : Cert.Pre_Kernel5Ideal_finite_states m) (c : Dev Cert.Kernel5Ideal.nD) : Cert.Kernel5Ideal.All.FiniteSums m c := by
  have e := congrFun (h c) ix0
  simp only [Cert.Pre_finite_states.fn, Cert.Pre_finite_states.fn_part1] at e
  obtain ⟨e, h11⟩ := IntOp.andi_eq_one.1 e
  obtain ⟨e, h10⟩ := IntOp.andi_eq_one.1 e
  obtain ⟨h6, h7⟩ := IntOp.andi_eq_one.1 e
  exact ⟨Cert.Proof.Mix.finiteSum _ _ (fun b T k => Cert.Proof.Mix.real_of_lt _ (Host.reduce_andi_all _ _ _ _ _ h6 (ix3 b T k)))
      (fun b T k => Cert.Proof.Mix.real_of_lt _ (Host.reduce_andi_all _ _ _ _ _ h7 (ix3 b T k))),
    Cert.Proof.Mix.finiteSum _ _ (fun b T k => Cert.Proof.Mix.real_of_lt _ (Host.reduce_andi_all _ _ _ _ _ h10 (ix3 b T k)))
      (fun b T k => Cert.Proof.Mix.real_of_lt _ (Host.reduce_andi_all _ _ _ _ _ h11 (ix3 b T k)))⟩

theorem algebraic : Cert.algebraic_Kernel5Ideal_Reference5Ideal_pre_finite_states := fun m ρ m' ρ' hpre hm => by
  refine ⟨fun c => (Cert.Kernel5Ideal.Gen.dats m 0 c).arrAt 18 Cert.Kernel5Ideal.cfg0.N, Cert.Kernel5Ideal.Value.run_blocks m ρ, ?_⟩
  refine (θ_run Cert.Reference5Ideal.defs _ _).mono (fun r h c => ⟨?_, (h c).2⟩) (Cert.Reference5Ideal.Value.run m' ρ')
  obtain ⟨h0, h1, h2, h3, h4, h5, h6, h7, h8, h9, h10, h11, h12, h13, h14, h15, h16, h17, h18, h19, h20, h21, h22, h23⟩ := hm c
  rw [(h c).1, Cert.Reference5Ideal.Read.val_main_v156_eq]
  change Cert.Reference5Ideal.Read.val_main_v156
      (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1))
      (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3))
      (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5))
      (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7))
      (m' ((c.tc : Thread Cert.Reference5Ideal.nD Cert.Reference5Ideal.τ).loc Cert.Reference5Ideal.main_arg8)) (m' ((c.tc : Thread Cert.Reference5Ideal.nD Cert.Reference5Ideal.τ).loc Cert.Reference5Ideal.main_arg9))
      (m' ((c.tc : Thread Cert.Reference5Ideal.nD Cert.Reference5Ideal.τ).loc Cert.Reference5Ideal.main_arg10)) (m' ((c.tc : Thread Cert.Reference5Ideal.nD Cert.Reference5Ideal.τ).loc Cert.Reference5Ideal.main_arg11))
      (m' ((c.tc : Thread Cert.Reference5Ideal.nD Cert.Reference5Ideal.τ).loc Cert.Reference5Ideal.main_arg12)) (m' ((c.tc : Thread Cert.Reference5Ideal.nD Cert.Reference5Ideal.τ).loc Cert.Reference5Ideal.main_arg13))
      (m' ((c.tc : Thread Cert.Reference5Ideal.nD Cert.Reference5Ideal.τ).loc Cert.Reference5Ideal.main_arg19)) (m' ((c.tc : Thread Cert.Reference5Ideal.nD Cert.Reference5Ideal.τ).loc Cert.Reference5Ideal.main_arg20))
      (m' ((c.tc : Thread Cert.Reference5Ideal.nD Cert.Reference5Ideal.τ).loc Cert.Reference5Ideal.main_arg21)) (m' ((c.tc : Thread Cert.Reference5Ideal.nD Cert.Reference5Ideal.τ).loc Cert.Reference5Ideal.main_arg22))
      (m' ((c.tc : Thread Cert.Reference5Ideal.nD Cert.Reference5Ideal.τ).loc Cert.Reference5Ideal.main_arg23)) = _
  rw [h0, h1, h2, h3, h4, h5, h6, h7, h8, h9, h10, h11, h12, h13, h19, h20, h21, h22, h23]
  refine Eq.trans ?_ (Cert.Kernel5Ideal.All.final m c (finite_of_pre m hpre c)).symm
  funext i
  rw [Cert.Reference5Ideal.Read.val_main_v156_apply]
  obtain ⟨R, j, rfl⟩ : ∃ (R : Fin 18432) (j : Fin 1024), i = ix2 R j := ⟨i 0, i 1, eq_ix2 i⟩
  have e : Cert.Reference5Ideal.Read.idx_main_v156 (ix2 R j) = ix3 ⟨R.val / 2304, by omega⟩ ⟨R.val % 2304, by omega⟩ j := by
    funext a
    match a with
    | 0 => exact Fin.ext (show (R.val * 1024 + j.val) / 2359296 = R.val / 2304 by omega)
    | 1 => exact Fin.ext (show (R.val * 1024 + j.val) / 1024 % 2304 = R.val % 2304 by omega)
    | 2 => exact Fin.ext (show (R.val * 1024 + j.val) % 1024 = j.val by omega)
  rw [e]
  exact Cert.Reference5Ideal.All.both _ _ _ _ _ _ _ _ _ _ _ _ _ _ _ _ _ _ _ _ _ j

end Cert.Proof.All

end
-- ==== Proof.Mod.Kern.lean ====
/- The call that makes the modulation, at exact values: what a grid step writes, the array it leaves, and the two results
   the host cuts from it. -/
module

public import proofs.«01_k».proof.Proof.Gen.Kernel7Ideal.Frame
public import proofs.«01_k».proof.Proof.Ffn.Row
public import Idealize.ShloMosaic.Lib.Pointwise
public import Idealize.ShloMosaic.Lib.Pipeline.ValueKit
public import Idealize.ShloMosaic.Lib.Pipeline.ReadBack
public import Idealize.ShloMosaic.Lib.StableHlo.RunRead
public import Idealize.ShloMosaic.Lib.Claim

@[expose] public section

set_option maxRecDepth 16384

noncomputable section

namespace Cert.Modulation

open Cert.Ffn

/-- One entry of a conditioning row's modulation: the activation against a column of the weights, and the bias. -/
def gen (cond : Fin 1024 → EReal) (w : Fin 1024 → Fin 9216 → EReal) (b : Fin 9216 → EReal) (f : Fin 9216) : EReal :=
  (∑ k, silu (cond k) * w k f) + b f

end Cert.Modulation

namespace Cert.Kernel7Ideal.Modulation

open Cert.Ffn Cert.Modulation Cert.Kernel7Ideal Cert.Kernel7Ideal.Gen Idealize.ShloMosaic Idealize.ShloMosaic.TcCoe Idealize.SL.Sem

theorem out_at (x0 : Vec Ideal S16x1024 .f32) (x1 : Vec Ideal S1x1024x1024 .f32) (x2 : Vec Ideal S1x1x1024 .f32)
    (r : Fin 16) (f : Fin 1024) : out0_3 x0 x1 x2 (ix3 0 r f)
      = (∑ k, silu (x0 (ix2 r k)) * x1 (ix3 0 k f)) + x2 (ix3 0 0 f) := by
  unfold out0_3
  rw [View.canon_cons_unit_lit _ _ _ (by decide)]
  pointwise [k0_pay1]
  unfold silu
  rw [show one = 1 from Ideal.ofBits_one_f32]

theorem idx_all : ∀ t : Fin cfg0.N,
    win0_0.index t = ![0, 0] ∧ win0_1.index t = ![t.val / 9, 0, t.val % 9] ∧ win0_2.index t = ![t.val / 9, 0, t.val % 9]
      ∧ win0_3.index t = ![t.val / 9, 0, t.val % 9] ∧ t.val < 18 :=
  (by decide +kernel : ∀ t : Fin grid0.N, _)

variable (m : (ℓ : Loc nD τ sig) → Buf (Elt Ideal) ℓ) (c : Dev nD)

/-- The conditioning rows: the context's, the samples', and zero rows. -/
def condArr (x0 : Vec Ideal S8x1024 .f32) (x1 : Vec Ideal S1024 .f32) : Vec Ideal S16x1024 .f32 :=
  concatenate S16x1024 0 [⟨S1x1024, broadcastInDim S1x1024 ![1] bcast_S1024_S1x1024_1 x1⟩, ⟨S8x1024, x0⟩,
    ⟨S7x1024, broadcastInDim S7x1024 ![] bcast_S_S7x1024 (constant (F := Ideal) S_ .f32 0x00000000#32)⟩]
    concatenates_S1x1024_S8x1024_S7x1024_S16x1024_d0

theorem entry_cond : (V m c main_v2 : Vec Ideal S16x1024 .f32)
    = condArr (m ((c.tc : Thread nD τ).loc main_arg0)) (m ((c.tc : Thread nD τ).loc main_arg1)) := by
  after_reads_simp
  rfl

/-- The biases with a unit axis. -/
def biasArr (x3 : Vec Ideal S2x9216 .f32) : Vec Ideal S2x1x9216 .f32 := shapeCast S2x1x9216 x3 shapeCasts_S2x9216_S2x1x9216

theorem entry_bias : (V m c main_v3 : Vec Ideal S2x1x9216 .f32) = biasArr (m ((c.tc : Thread nD τ).loc main_arg3)) := by
  after_reads_simp
  rfl

theorem bias_at (x3 : Vec Ideal S2x9216 .f32) (l : Fin 2) (f : Fin 9216) : biasArr x3 (ix3 l 0 f) = x3 (ix2 l f) := by
  pointwise [biasArr]

theorem cond_ctx (x0 : Vec Ideal S8x1024 .f32) (x1 : Vec Ideal S1024 .f32) (k : Fin 1024) :
    condArr x0 x1 (ix2 0 k) = x1 (ix1 k) := by
  pointwise [condArr]

theorem cond_row (x0 : Vec Ideal S8x1024 .f32) (x1 : Vec Ideal S1024 .f32) (b : Fin 8) (k : Fin 1024) :
    condArr x0 x1 (ix2 ⟨1 + b.val, by omega⟩ k) = x0 (ix2 b k) := by
  pointwise [condArr]

/-- The array the call leaves. -/
def res (i : S2x16x9216.Idx) : EReal :=
  gen (fun k => condArr (m ((c.tc : Thread nD τ).loc main_arg0)) (m ((c.tc : Thread nD τ).loc main_arg1)) (ix2 (i 1) k))
    (fun k f => m ((c.tc : Thread nD τ).loc main_arg2) (ix3 (i 0) k f)) (fun f => m ((c.tc : Thread nD τ).loc main_arg3) (ix2 (i 0) f)) (i 2)

section Blocks
variable (t : Fin cfg0.N)

theorem blk_c (r : Fin 16) (k : Fin 1024) : iblk m c 0 t (ix2 r k)
    = condArr (m ((c.tc : Thread nD τ).loc main_arg0)) (m ((c.tc : Thread nD τ).loc main_arg1)) (ix2 r k) := by
  blk_simp [iblk, idx_all t]
  have em : (win0_0.blk t).view.emb (ix2 r k) = ix2 r k := by
    blk_ext [idx_all t]
  rw [em]
  exact congrFun (entry_cond m c) (ix2 r k)

theorem blk_w (k : Fin 1024) (f : Fin 1024) : iblk m c 1 t (ix3 0 k f) = m ((c.tc : Thread nD τ).loc main_arg2)
    (ix3 ⟨t.val / 9, by have := idx_all t; omega⟩ k ⟨t.val % 9 * 1024 + f.val, by omega⟩) := by
  blk_simp [iblk, idx_all t]
  entry_read
  pointwise
  blk_ext [idx_all t]

theorem blk_b (f : Fin 1024) : iblk m c 2 t (ix3 0 0 f) = m ((c.tc : Thread nD τ).loc main_arg3)
    (ix2 ⟨t.val / 9, by have := idx_all t; omega⟩ ⟨t.val % 9 * 1024 + f.val, by omega⟩) := by
  blk_simp [iblk, idx_all t]
  have ht := (idx_all t).2.2.2.2
  have em : (win0_2.blk t).view.emb (ix3 0 0 f) = ix3 ⟨t.val / 9, by omega⟩ 0 ⟨t.val % 9 * 1024 + f.val, by omega⟩ := by
    blk_ext [idx_all t]
  rw [em]
  exact (congrFun (entry_bias m c) _).trans (bias_at ..)

end Blocks

theorem final : (dats m 0 c).arrAt 3 cfg0.N = res m c := by
  refine (dats m 0 c).arrAt_eq_of_covers 3 _ (by decide +kernel) fun t hf y => ?_
  blk_simp [idx_all t]
  rw [after0_3]
  have ht := (idx_all t).2.2.2.2
  obtain ⟨z, r, f, rfl⟩ : ∃ (z : Fin 1) (r : Fin 16) (f : Fin 1024), y = ix3 z r f := ⟨y 0, y 1, y 2, eq_ix3 y⟩
  obtain rfl : z = 0 := Fin.eq_zero z
  have em : (win0_3.blk t).view.emb (ix3 0 r f) = ix3 ⟨t.val / 9, by omega⟩ r ⟨t.val % 9 * 1024 + f.val, by omega⟩ := by
    blk_ext [idx_all t]
  rw [out_at, em]
  simp only [blk_c, blk_w, blk_b]
  rfl

/-! ## The host's cuts of it -/

theorem exit_arr : Pipeline.withArrays spec0 c (V0 m c) (fun w => (dats m 0 c).arrAt w cfg0.N) (Proc.devRef .tc main_v4) = res m c :=
  (Pipeline.withArrays_arr spec0 (by decide) c (V0 m c) (fun w => (dats m 0 c).arrAt w cfg0.N) 3).trans (final m c)

theorem tail_ctx : (Pipeline.afterTail₀ cfgs (dats m) 0 (V0 m) [hostOps1] c main_v6 : Vec Ideal S2x1x9x1024 .f32)
    = extractStridedSlice S2x1x9x1024 ![0, 0, 0, 0] (shapeCast S2x16x9x1024 (res m c) shapeCasts_S2x16x9216_S2x16x9x1024)
        slices_S2x16x9x1024_S2x1x9x1024_0_0_0_0 := by
  rw [← exit_arr]
  unfold Pipeline.afterTail₀
  after_reads_simp
  rfl

theorem tail_lat : (Pipeline.afterTail₀ cfgs (dats m) 0 (V0 m) [hostOps1] c main_v7 : Vec Ideal S2x8x9x1024 .f32)
    = extractStridedSlice S2x8x9x1024 ![0, 1, 0, 0] (shapeCast S2x16x9x1024 (res m c) shapeCasts_S2x16x9216_S2x16x9x1024)
        slices_S2x16x9x1024_S2x8x9x1024_0_1_0_0 := by
  rw [← exit_arr]
  unfold Pipeline.afterTail₀
  after_reads_simp
  rfl

end Cert.Kernel7Ideal.Modulation

end
-- ==== Proof.Mod.Ref.lean ====
/- The reference's modulation, entry by entry. -/
module

public import proofs.«01_k».proof.Proof.Gen.Reference7Ideal.Read
public import proofs.«01_k».proof.Proof.Mod.Kern

@[expose] public section

set_option maxRecDepth 16384

noncomputable section

namespace Cert.Reference7Ideal.Modulation

open Cert.Ffn Cert.Modulation Cert.Reference7Ideal Cert.Reference7Ideal.Gen Cert.Reference7Ideal.Read Idealize.ShloMosaic Idealize.ShloMosaic.TcCoe Idealize.SL.Sem

variable (x0 : Vec Ideal S8x1024 .f32) (x1 : Vec Ideal S1024 .f32) (x2 : Vec Ideal S2x1024x9216 .f32) (x3 : Vec Ideal S2x9216 .f32)

theorem ctx_act0 (k : Fin 1024) : val_main_v4 (F := Ideal) x1 (ix1 k) = silu (x1 (ix1 k)) := by
  pointwise [val_main_v4, val_main_call0_v5, val_main_call0_v4, val_main_call0_cst_0, val_main_call0_v3, val_main_call0_v2,
    val_main_call0_cst, val_main_call0_v1, val_main_call0_v0]
  rw [← silu_neg, show one = 1 from Ideal.ofBits_one_f32]

theorem lat_act0 (b : Fin 8) (k : Fin 1024) : val_main_v25 (F := Ideal) x0 (ix2 b k) = silu (x0 (ix2 b k)) := by
  pointwise [val_main_v25, val_main_call2_v5, val_main_call2_v4, val_main_call2_cst_0, val_main_call2_v3, val_main_call2_v2,
    val_main_call2_cst, val_main_call2_v1, val_main_call2_v0]
  rw [← silu_neg, show one = 1 from Ideal.ofBits_one_f32]

theorem ctx0 (f : Fin 9216) : val_main_v6 (F := Ideal) x1 x2 x3 (ix1 f)
    = gen (fun k => x1 (ix1 k)) (fun k f => x2 (ix3 0 k f)) (fun f => x3 (ix2 0 f)) f := by
  unfold gen
  simp only [← ctx_act0]
  unfold val_main_v6 val_main_v5
  generalize val_main_v4 (F := Ideal) x1 = h
  pointwise [val_main_v0, val_main_v1, val_main_v2, val_main_v3]

theorem ctx1 (f : Fin 9216) : val_main_v15 (F := Ideal) x1 x2 x3 (ix1 f)
    = gen (fun k => x1 (ix1 k)) (fun k f => x2 (ix3 1 k f)) (fun f => x3 (ix2 1 f)) f := by
  unfold gen
  simp only [← ctx_act0]
  unfold val_main_v15 val_main_v14
  change addf (F := Ideal) (Host.dotGeneral _ _ (val_main_v4 (F := Ideal) x1) _) _ _ = _
  generalize val_main_v4 (F := Ideal) x1 = h
  pointwise [val_main_v9, val_main_v10, val_main_v11, val_main_v12]

theorem lat0 (b : Fin 8) (f : Fin 9216) : val_main_v29 (F := Ideal) x0 x2 x3 (ix2 b f)
    = gen (fun k => x0 (ix2 b k)) (fun k f => x2 (ix3 0 k f)) (fun f => x3 (ix2 0 f)) f := by
  unfold gen
  simp only [← lat_act0]
  unfold val_main_v29 val_main_v26
  generalize val_main_v25 (F := Ideal) x0 = h
  pointwise [val_main_v21, val_main_v22, val_main_v23, val_main_v24, val_main_v27, val_main_v28]

theorem lat1 (b : Fin 8) (f : Fin 9216) : val_main_v39 (F := Ideal) x0 x2 x3 (ix2 b f)
    = gen (fun k => x0 (ix2 b k)) (fun k f => x2 (ix3 1 k f)) (fun f => x3 (ix2 1 f)) f := by
  unfold gen
  simp only [← lat_act0]
  unfold val_main_v39 val_main_v36
  change addf (F := Ideal) (Host.dotGeneral _ _ (val_main_v25 (F := Ideal) x0) _) _ _ = _
  generalize val_main_v25 (F := Ideal) x0 = h
  pointwise [val_main_v31, val_main_v32, val_main_v33, val_main_v34, val_main_v37, val_main_v38]

theorem ctx_at (l : Fin 2) (q : Fin 9) (j : Fin 1024) : val_main_v20 (F := Ideal) x1 x2 x3 (ix4 l 0 q j)
    = gen (fun k => x1 (ix1 k)) (fun k f => x2 (ix3 l k f)) (fun f => x3 (ix2 l f)) ⟨q.val * 1024 + j.val, by omega⟩ := by
  unfold val_main_v20 val_main_v19 val_main_v18 val_main_v17 val_main_v8 val_main_v16 val_main_v7
  match l with
  | 0 =>
    rw [← ctx0]
    generalize val_main_v6 (F := Ideal) x1 x2 x3 = u
    generalize val_main_v15 (F := Ideal) x1 x2 x3 = v
    pointwise
  | 1 =>
    rw [← ctx1]
    generalize val_main_v6 (F := Ideal) x1 x2 x3 = u
    generalize val_main_v15 (F := Ideal) x1 x2 x3 = v
    pointwise

theorem lat_at (l : Fin 2) (b : Fin 8) (q : Fin 9) (j : Fin 1024) : val_main_v43 (F := Ideal) x0 x2 x3 (ix4 l b q j)
    = gen (fun k => x0 (ix2 b k)) (fun k f => x2 (ix3 l k f)) (fun f => x3 (ix2 l f)) ⟨q.val * 1024 + j.val, by omega⟩ := by
  unfold val_main_v43 val_main_v42 val_main_v41 val_main_v40 val_main_v30
  match l with
  | 0 =>
    rw [← lat0]
    generalize val_main_v29 (F := Ideal) x0 x2 x3 = u
    generalize val_main_v39 (F := Ideal) x0 x2 x3 = v
    pointwise
  | 1 =>
    rw [← lat1]
    generalize val_main_v29 (F := Ideal) x0 x2 x3 = u
    generalize val_main_v39 (F := Ideal) x0 x2 x3 = v
    pointwise

end Cert.Reference7Ideal.Modulation

end
-- ==== Proof.Mod.Whole.lean ====
/- The claims about the modulation. -/
module

public import proofs.«01_k».proof.Defs
public import proofs.«01_k».proof.Proof.Gen.Kernel7.Frame
public import proofs.«01_k».proof.Proof.Gen.Reference7Ideal.Run
public import proofs.«01_k».proof.Proof.Mod.Ref

@[expose] public section

set_option maxRecDepth 16384

noncomputable section

namespace Cert.Kernel7Ideal.Modulation

open Cert.Modulation Cert.Kernel7Ideal Cert.Kernel7Ideal.Gen Idealize.ShloMosaic Idealize.ShloMosaic.TcCoe Idealize.SL.Sem

theorem cut_ctx (v : Vec Ideal S2x16x9216 .f32) (l : Fin 2) (q : Fin 9) (j : Fin 1024) :
    extractStridedSlice S2x1x9x1024 ![0, 0, 0, 0] (shapeCast S2x16x9x1024 v shapeCasts_S2x16x9216_S2x16x9x1024)
      slices_S2x16x9x1024_S2x1x9x1024_0_0_0_0 (ix4 l 0 q j) = v (ix3 l 0 ⟨q.val * 1024 + j.val, by omega⟩) := by
  pointwise

theorem cut_lat (v : Vec Ideal S2x16x9216 .f32) (l : Fin 2) (b : Fin 8) (q : Fin 9) (j : Fin 1024) :
    extractStridedSlice S2x8x9x1024 ![0, 1, 0, 0] (shapeCast S2x16x9x1024 v shapeCasts_S2x16x9216_S2x16x9x1024)
      slices_S2x16x9x1024_S2x8x9x1024_0_1_0_0 (ix4 l b q j)
      = v (ix3 l ⟨1 + b.val, by omega⟩ ⟨q.val * 1024 + j.val, by omega⟩) := by
  pointwise

end Cert.Kernel7Ideal.Modulation

namespace Cert.Proof.Modulation

open Idealize.ShloMosaic Idealize.ShloMosaic.TcCoe Idealize.SL.Sem

theorem frame_kernel : Cert.quiescent_Kernel7 := fun m ρ _ => Cert.Kernel7.Gen.frame m ρ

theorem frame_kernelIdeal : Cert.quiescent_Kernel7Ideal := fun m ρ _ => Cert.Kernel7Ideal.Gen.frame m ρ

theorem frame_referenceIdeal : Cert.quiescent_Reference7Ideal := fun m ρ _ =>
  (θ_run Cert.Reference7Ideal.defs _ _).mono
    (fun r h => ⟨fun c => (h c).2.2, sem_eq_zero_of_no_sems (by decide) r.2⟩)
    (Cert.Reference7Ideal.Value.run m ρ)

theorem algebraic : Cert.algebraic_Kernel7Ideal_Reference7Ideal := fun m ρ m' ρ' _ hm => by
  refine ⟨fun c => Pipeline.afterTail₀ Cert.Kernel7Ideal.cfgs (Cert.Kernel7Ideal.Gen.dats m) 0 (Cert.Kernel7Ideal.Gen.V0 m) [Cert.Kernel7Ideal.Gen.hostOps1] c Cert.Kernel7Ideal.main_v6,
    fun c => Pipeline.afterTail₀ Cert.Kernel7Ideal.cfgs (Cert.Kernel7Ideal.Gen.dats m) 0 (Cert.Kernel7Ideal.Gen.V0 m) [Cert.Kernel7Ideal.Gen.hostOps1] c Cert.Kernel7Ideal.main_v7, ?_, ?_⟩
  · exact θ_run_mono (θ_run_and (Cert.Kernel7Ideal.Gen.run_main m ρ) (Cert.Kernel7Ideal.Gen.unchanged m ρ)) fun r h c =>
      ⟨(h.1 c).2 Cert.Kernel7Ideal.main_v6 (Pipeline.mem_restRefs_of Cert.Kernel7Ideal.main_v6 (by decide) (by decide)),
        (h.1 c).2 Cert.Kernel7Ideal.main_v7 (Pipeline.mem_restRefs_of Cert.Kernel7Ideal.main_v7 (by decide) (by decide)), h.2 c⟩
  refine (θ_run Cert.Reference7Ideal.defs _ _).mono (fun r h c => ⟨?_, ?_, (h c).2.2⟩) (Cert.Reference7Ideal.Value.run m' ρ')
  all_goals obtain ⟨h0, h1, h2, h3⟩ := hm c
  · rw [(h c).1, Cert.Reference7Ideal.Read.val_main_v20_eq, h1, h2, h3]
    refine Eq.trans ?_ (Cert.Kernel7Ideal.Modulation.tail_ctx m c).symm
    funext i
    obtain ⟨l, z, q, j, rfl⟩ : ∃ (l : Fin 2) (z : Fin 1) (q : Fin 9) (j : Fin 1024), i = ix4 l z q j := ⟨i 0, i 1, i 2, i 3, eq_ix4 i⟩
    obtain rfl : z = 0 := Fin.eq_zero z
    refine (Cert.Reference7Ideal.Modulation.ctx_at _ _ _ l q j).trans (Eq.trans ?_ (Cert.Kernel7Ideal.Modulation.cut_ctx _ l q j).symm)
    unfold Cert.Kernel7Ideal.Modulation.res
    exact congrArg (fun u => Cert.Modulation.gen u _ _ _) (funext fun k => (Cert.Kernel7Ideal.Modulation.cond_ctx _ _ k).symm)
  · rw [(h c).2.1, Cert.Reference7Ideal.Read.val_main_v43_eq, h0, h2, h3]
    refine Eq.trans ?_ (Cert.Kernel7Ideal.Modulation.tail_lat m c).symm
    funext i
    obtain ⟨l, b, q, j, rfl⟩ : ∃ (l : Fin 2) (b : Fin 8) (q : Fin 9) (j : Fin 1024), i = ix4 l b q j := ⟨i 0, i 1, i 2, i 3, eq_ix4 i⟩
    refine (Cert.Reference7Ideal.Modulation.lat_at _ _ _ l b q j).trans (Eq.trans ?_ (Cert.Kernel7Ideal.Modulation.cut_lat _ l b q j).symm)
    unfold Cert.Kernel7Ideal.Modulation.res
    exact congrArg (fun u => Cert.Modulation.gen u _ _ _) (funext fun k => (Cert.Kernel7Ideal.Modulation.cond_row _ _ b k).symm)

end Cert.Proof.Modulation

end
-- ==== Proof.Inp.Rows.lean ====
module

public import proofs.«01_k».proof.Proof.Gen.Kernel4Ideal.Value
public import proofs.«01_k».proof.Proof.Ffn.Row
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel4Ideal.Inp

open Cert.Ffn Cert.Kernel4Ideal Cert.Kernel4Ideal.Gen Idealize.ShloMosaic Idealize.ShloMosaic.TcCoe Idealize.SL.Sem

section Rows
variable (i : grid0.Coords) (x0 : Vec Ideal S768x1024 .f32) (x1 x2 : Vec Ideal S1x9x1024 .f32) (x3 : Vec Ideal S1x1024 .f32)
    (x4 : Vec Ideal S1x1024x3584 .bf16) (r : Fin 768)

/-- A row's modulated norm, from the blocks of the point. -/
def hRow : Fin 1024 → EReal :=
  adaln (fun k => x0 (ix2 r k)) (fun k => x3 (ix2 0 k)) (pick (i 0).val r (fun k => x1 (ix3 0 4 k)) (fun k => x2 (ix3 0 4 k)))
    (pick (i 0).val r (fun k => x1 (ix3 0 3 k)) (fun k => x2 (ix3 0 3 k)))

theorem pay4_at (a b : Vec Ideal S1x1x1024 .f32) (j : Fin 1024) :
    k0_pay4 i a b (ix2 r j) = pick (i 0).val r (fun k => a (ix3 0 0 k)) (fun k => b (ix3 0 0 k)) j := by
  pointwise [k0_pay4]
  exact pick_at (i 0).val (i 0).isLt r (fun k => a (ix3 0 0 k)) (fun k => b (ix3 0 0 k)) j

theorem pay9_at (f : Fin 3584) : k0_pay9 i x0 x1 x2 x3 x4 (ix2 r f) = ∑ k : Fin 1024, hRow i x0 x1 x2 x3 r k * x4 (ix3 0 k f) := by
  unfold k0_pay9
  pointwise [k0_pay5, k0_pay7, k0_pay8, pay4_at]
  unfold hRow adaln one
  simp only [← pick_at (i 0).val (i 0).isLt r (fun k => x1 (ix3 0 4 k)) (fun k => x2 (ix3 0 4 k))]
  simp only [show FloatOps.ofBits (F := Ideal) .f32 0x3F800000#32 = (1 : EReal) from Ideal.ofBits_one_f32]
  rfl

theorem out5_at (f : Fin 768) : out0_5 i x0 x1 x2 x3 x4 (ix2 r f) = ∑ k : Fin 1024, hRow i x0 x1 x2 x3 r k * x4 (ix3 0 k ⟨f.val, by omega⟩) := by
  rw [← pay9_at]
  unfold out0_5 k0_pay9
  rw [View.canon_cons_unit_lit _ _ _ (by decide)]
  unfold k0_pay6
  generalize k0_pay5 (F := Ideal) _ _ _ _ _ _ _ _ _ = v
  pointwise

theorem out6_at (f : Fin 768) : out0_6 i x0 x1 x2 x3 x4 (ix2 r f) = ∑ k : Fin 1024, hRow i x0 x1 x2 x3 r k * x4 (ix3 0 k ⟨768 + f.val, by omega⟩) := by
  rw [← pay9_at]
  unfold out0_6
  rw [View.canon_cons_unit_lit _ _ _ (by decide)]
  generalize k0_pay9 i x0 x1 x2 x3 x4 = v
  pointwise [k0_pay1]

theorem out7_at (f : Fin 1152) : out0_7 i x0 x1 x2 x3 x4 (ix2 r f) = ∑ k : Fin 1024, hRow i x0 x1 x2 x3 r k * x4 (ix3 0 k ⟨1536 + f.val, by omega⟩) := by
  rw [← pay9_at]
  unfold out0_7
  rw [View.canon_cons_unit_lit _ _ _ (by decide)]
  generalize k0_pay9 i x0 x1 x2 x3 x4 = v
  pointwise [k0_pay2]

theorem out8_at (f : Fin 896) : out0_8 i x0 x1 x2 x3 x4 (ix2 r f) = ∑ k : Fin 1024, hRow i x0 x1 x2 x3 r k * x4 (ix3 0 k ⟨2688 + f.val, by omega⟩) := by
  rw [← pay9_at]
  unfold out0_8
  rw [View.canon_cons_unit_lit _ _ _ (by decide)]
  generalize k0_pay9 i x0 x1 x2 x3 x4 = v
  pointwise [k0_pay3]

end Rows

end Cert.Kernel4Ideal.Inp

end
-- ==== Proof.Inp.Wide.lean ====
module

public import proofs.«01_k».proof.Proof.Gen.Kernel4Ideal.Value
public import proofs.«01_k».proof.Proof.Inp.Rows
public import Idealize.ShloMosaic.Lib.Pointwise
public import Idealize.ShloMosaic.Lib.Pipeline.ValueKit
public import Idealize.ShloMosaic.Lib.Pipeline.ReadBack
public import Idealize.ShloMosaic.Lib.StableHlo.RunRead
public import Idealize.ShloMosaic.Lib.Claim

@[expose] public section

set_option maxRecDepth 16384

noncomputable section

namespace Cert.Kernel4Ideal.Inp

open Cert.Ffn Cert.Kernel4Ideal Cert.Kernel4Ideal.Gen Idealize.ShloMosaic Idealize.ShloMosaic.TcCoe Idealize.SL.Sem

variable (m : (ℓ : Loc nD τ sig) → Buf (Elt Ideal) ℓ) (c : Dev nD)

/-- The weights with zero columns put in, as an array of the host's. -/
def wideArr (w : Vec Ideal S2x1024x3472 .f32) : Vec Ideal S2x1024x3584 .bf16 :=
  truncf (F := Ideal) .bf16 (concatenate S2x1024x3584 2
    [⟨S2x1024x2576, extractStridedSlice S2x1024x2576 ![0, 0, 0] w slices_S2x1024x3472_S2x1024x2576_0_0_0⟩,
      ⟨S2x1024x112, broadcastInDim S2x1024x112 ![] bcast_S_S2x1024x112 (constant (F := Ideal) S_ .f32 0x00000000#32)⟩,
      ⟨S2x1024x896, extractStridedSlice S2x1024x896 ![0, 0, 2576] w slices_S2x1024x3472_S2x1024x896_0_0_2576⟩]
    concatenates_S2x1024x2576_S2x1024x112_S2x1024x896_S2x1024x3584_d2) bitsLt_bf16_f32

set_option maxRecDepth 65536 in
set_option maxHeartbeats 4000000 in
theorem entry_w : (V m c main_v4 : Vec Ideal S2x1024x3584 .bf16) = wideArr (m ((c.tc : Thread nD τ).loc main_arg4)) := by
  after_reads_simp
  rfl

theorem wideArr_at (w : Vec Ideal S2x1024x3472 .f32) (k : Fin 1024) (f : Fin 3584) : wideArr w (ix3 1 k f)
    = if h : f.val < 2576 then w (ix3 1 k ⟨f.val, by omega⟩)
      else if h' : f.val < 2688 then 0 else w (ix3 1 k ⟨f.val - 112, by omega⟩) := by
  pointwise [wideArr]
  by_cases h : f.val < 2576
  · rw [dif_pos h, dif_pos h]
  · rw [dif_neg h, dif_neg h]
    by_cases h' : f.val < 2688
    · rw [dif_pos (by omega), dif_pos h']
    · rw [dif_neg (by omega), dif_neg h']
      exact congrArg (fun z => w (ix3 1 k z)) (Fin.ext (by dsimp only; omega))

end Cert.Kernel4Ideal.Inp

end
-- ==== Proof.Inp.Final.lean ====
module

public import proofs.«01_k».proof.Proof.Gen.Kernel4Ideal.Value
public import proofs.«01_k».proof.Proof.Inp.Rows
public import proofs.«01_k».proof.Proof.Inp.Wide
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel4Ideal.Inp

open Cert.Ffn Cert.Kernel4Ideal Cert.Kernel4Ideal.Gen Idealize.ShloMosaic Idealize.ShloMosaic.TcCoe Idealize.SL.Sem

theorem idx_all : ∀ t : Fin cfg0.N,
    win0_0.index t = ![t.val, 0] ∧ win0_1.index t = ![0, 0, 0] ∧ win0_2.index t = ![t.val / 3, 0, 0] ∧ win0_3.index t = ![0, 0]
      ∧ win0_4.index t = ![1, 0, 0] ∧ win0_5.index t = ![t.val, 0] ∧ win0_6.index t = ![t.val, 0] ∧ win0_7.index t = ![t.val, 0]
      ∧ win0_8.index t = ![t.val, 0] ∧ (grid0.coords t 0).val = t.val ∧ t.val < 24 :=
  (by decide +kernel : ∀ t : Fin grid0.N, _)

theorem lt_all (t : Fin cfg0.N) : t.val < 24 := (idx_all t).2.2.2.2.2.2.2.2.2.2

theorem coord_all (t : Fin cfg0.N) : (grid0.coords t 0).val = t.val := (idx_all t).2.2.2.2.2.2.2.2.2.1

variable (m : (ℓ : Loc nD τ sig) → Buf (Elt Ideal) ℓ) (c : Dev nD)

/-- The modulated norm of every token, from the arguments. -/
def hAll : Fin 8 → Fin 2304 → Fin 1024 → EReal :=
  normed (fun b T j => m ((c.tc : Thread nD τ).loc main_arg0) (ix3 b T j)) (fun b q j => m ((c.tc : Thread nD τ).loc main_arg1) (ix3 b q j))
    (fun q j => m ((c.tc : Thread nD τ).loc main_arg2) (ix3 0 q j)) (fun j => m ((c.tc : Thread nD τ).loc main_arg3) (ix1 j))

/-- The projection of every token, from the arguments. -/
def spec : Fin 8 → Fin 2304 → Fin 3472 → EReal :=
  proj (fun b T j => m ((c.tc : Thread nD τ).loc main_arg0) (ix3 b T j)) (fun b q j => m ((c.tc : Thread nD τ).loc main_arg1) (ix3 b q j))
    (fun q j => m ((c.tc : Thread nD τ).loc main_arg2) (ix3 0 q j)) (fun j => m ((c.tc : Thread nD τ).loc main_arg3) (ix1 j))
    (fun k f => m ((c.tc : Thread nD τ).loc main_arg4) (ix3 1 k f))

/-- The projection's weights with zero columns put in. -/
def wide (k : Fin 1024) (f : Fin 3584) : EReal :=
  if h : f.val < 2576 then m ((c.tc : Thread nD τ).loc main_arg4) (ix3 1 k ⟨f.val, by omega⟩)
  else if h' : f.val < 2688 then 0 else m ((c.tc : Thread nD τ).loc main_arg4) (ix3 1 k ⟨f.val - 112, by omega⟩)

section Blocks
variable (t : Fin cfg0.N)

theorem blk_x (r : Fin 768) (j : Fin 1024) :
    iblk m c 0 t (ix2 r j) = m ((c.tc : Thread nD τ).loc main_arg0)
      (ix3 ⟨t.val / 3, by have := lt_all t; omega⟩ ⟨t.val % 3 * 768 + r.val, by omega⟩ j) := by
  blk_simp [iblk, idx_all t]
  entry_read
  pointwise
  blk_ext [idx_all t]

theorem blk_mc (q : Fin 9) (j : Fin 1024) : iblk m c 1 t (ix3 0 q j) = m ((c.tc : Thread nD τ).loc main_arg2) (ix3 0 q j) := by
  blk_simp [iblk, idx_all t]
  entry_read
  pointwise
  blk_ext [idx_all t]

theorem blk_mb (q : Fin 9) (j : Fin 1024) : iblk m c 2 t (ix3 0 q j) = m ((c.tc : Thread nD τ).loc main_arg1)
      (ix3 ⟨t.val / 3, by have := lt_all t; omega⟩ q j) := by
  blk_simp [iblk, idx_all t]
  entry_read
  pointwise
  blk_ext [idx_all t]

theorem blk_nw (j : Fin 1024) : iblk m c 3 t (ix2 0 j) = m ((c.tc : Thread nD τ).loc main_arg3) (ix1 j) := by
  blk_simp [iblk, idx_all t]
  entry_read
  pointwise
  blk_ext [idx_all t]

theorem blk_w (k : Fin 1024) (f : Fin 3584) : iblk m c 4 t (ix3 0 k f) = wide m c k f := by
  blk_simp [iblk, idx_all t]
  have em : (win0_4.blk t).view.emb (ix3 0 k f) = ix3 1 k f := by
    blk_ext [idx_all t]
  rw [em]
  exact (congrFun (entry_w m c) (ix3 1 k f)).trans (wideArr_at _ k f)

theorem h_blk (r : Fin 768) : hRow (grid0.coords t) (iblk m c 0 t) (iblk m c 1 t) (iblk m c 2 t) (iblk m c 3 t) r
    = hAll m c ⟨t.val / 3, by have := lt_all t; omega⟩ ⟨t.val % 3 * 768 + r.val, by omega⟩ := by
  funext j
  unfold hRow hAll normed pick
  simp only [blk_x, blk_mc, blk_mb, blk_nw, coord_all]
  by_cases h : t.val % 3 = 0 ∧ r.val < 256
  · rw [if_pos h, if_pos h, if_pos (by omega)]
  · rw [if_neg h, if_neg h, if_neg (by omega)]

end Blocks

/-- The slab of the columns from `a` on, the sequences' tokens one after the other. -/
def slab (n a : ℕ) (han : a + n ≤ 3584) (R : Fin 18432) (f : Fin n) : EReal :=
  ∑ k, hAll m c ⟨R.val / 2304, by omega⟩ ⟨R.val % 2304, by omega⟩ k * wide m c k ⟨a + f.val, by omega⟩

theorem slab_at (n a : ℕ) (han : a + n ≤ 3584) (t : ℕ) (ht : t < 24) (r : Fin 768) (f : Fin n) :
    slab m c n a han ⟨t * 768 + r.val, by omega⟩ f
      = ∑ k, hAll m c ⟨t / 3, by omega⟩ ⟨t % 3 * 768 + r.val, by omega⟩ k * wide m c k ⟨a + f.val, by omega⟩ := by
  have e1 : (t * 768 + r.val) / 2304 = t / 3 := by omega
  have e2 : (t * 768 + r.val) % 2304 = t % 3 * 768 + r.val := by omega
  unfold slab
  simp only [e1, e2]

def resHy (i : S18432x768.Idx) : EReal := slab m c 768 0 (by omega) (i 0) (i 1)
def resNa (i : S18432x768.Idx) : EReal := slab m c 768 768 (by omega) (i 0) (i 1)
def resDn (i : S18432x1152.Idx) : EReal := slab m c 1152 1536 (by omega) (i 0) (i 1)
def resRw (i : S18432x896.Idx) : EReal := slab m c 896 2688 (by omega) (i 0) (i 1)

theorem final_hy : (dats m 0 c).arrAt 5 cfg0.N = resHy m c := by
  refine (dats m 0 c).arrAt_eq_of_covers 5 _ (by decide +kernel) fun t hf y => ?_
  blk_simp [idx_all t]
  rw [after0_5]
  have ht := lt_all t
  obtain ⟨r, j, rfl⟩ : ∃ (r : Fin 768) (j : Fin 768), y = ix2 r j := ⟨y 0, y 1, eq_ix2 y⟩
  have em : (win0_5.blk t).view.emb (ix2 r j) = ix2 ⟨t.val * 768 + r.val, by omega⟩ j := by
    blk_ext [idx_all t]
  rw [out5_at, em]
  refine Eq.trans ?_ (slab_at m c 768 0 (by omega) t.val ht r j).symm
  simp only [h_blk, blk_w, Nat.zero_add]

theorem final_na : (dats m 0 c).arrAt 6 cfg0.N = resNa m c := by
  refine (dats m 0 c).arrAt_eq_of_covers 6 _ (by decide +kernel) fun t hf y => ?_
  blk_simp [idx_all t]
  rw [after0_6]
  have ht := lt_all t
  obtain ⟨r, j, rfl⟩ : ∃ (r : Fin 768) (j : Fin 768), y = ix2 r j := ⟨y 0, y 1, eq_ix2 y⟩
  have em : (win0_6.blk t).view.emb (ix2 r j) = ix2 ⟨t.val * 768 + r.val, by omega⟩ j := by
    blk_ext [idx_all t]
  rw [out6_at, em]
  refine Eq.trans ?_ (slab_at m c 768 768 (by omega) t.val ht r j).symm
  simp only [h_blk, blk_w]

theorem final_dn : (dats m 0 c).arrAt 7 cfg0.N = resDn m c := by
  refine (dats m 0 c).arrAt_eq_of_covers 7 _ (by decide +kernel) fun t hf y => ?_
  blk_simp [idx_all t]
  rw [after0_7]
  have ht := lt_all t
  obtain ⟨r, j, rfl⟩ : ∃ (r : Fin 768) (j : Fin 1152), y = ix2 r j := ⟨y 0, y 1, eq_ix2 y⟩
  have em : (win0_7.blk t).view.emb (ix2 r j) = ix2 ⟨t.val * 768 + r.val, by omega⟩ j := by
    blk_ext [idx_all t]
  rw [out7_at, em]
  refine Eq.trans ?_ (slab_at m c 1152 1536 (by omega) t.val ht r j).symm
  simp only [h_blk, blk_w]

theorem final_rw : (dats m 0 c).arrAt 8 cfg0.N = resRw m c := by
  refine (dats m 0 c).arrAt_eq_of_covers 8 _ (by decide +kernel) fun t hf y => ?_
  blk_simp [idx_all t]
  rw [after0_8]
  have ht := lt_all t
  obtain ⟨r, j, rfl⟩ : ∃ (r : Fin 768) (j : Fin 896), y = ix2 r j := ⟨y 0, y 1, eq_ix2 y⟩
  have em : (win0_8.blk t).view.emb (ix2 r j) = ix2 ⟨t.val * 768 + r.val, by omega⟩ j := by
    blk_ext [idx_all t]
  rw [out8_at, em]
  refine Eq.trans ?_ (slab_at m c 896 2688 (by omega) t.val ht r j).symm
  simp only [h_blk, blk_w]

end Cert.Kernel4Ideal.Inp

end
-- ==== Proof.Inp.Ref.lean ====
module

public import proofs.«01_k».proof.Proof.Gen.Reference4Ideal.Read
public import proofs.«01_k».proof.Proof.Ffn.Row
public import Idealize.ShloMosaic.Lib.Pointwise
public import Idealize.ShloMosaic.Lib.Claim

@[expose] public section

set_option maxRecDepth 16384

noncomputable section

namespace Cert.Reference4Ideal.Inp

open Cert.Ffn Cert.Reference4Ideal Cert.Reference4Ideal.Gen Cert.Reference4Ideal.Read Idealize.ShloMosaic Idealize.ShloMosaic.TcCoe Idealize.SL.Sem

theorem ctx_norm (x0 : Vec Ideal S8x2304x1024 .f32) (x2 : Vec Ideal S1x9x1024 .f32) (x3 : Vec Ideal S1024 .f32)
    (b : Fin 8) (t : Fin 256) (j : Fin 1024) : val_main_v25 (F := Ideal) x0 x2 x3 (ix3 b t j)
    = adaln (fun k => x0 (ix3 b ⟨t.val, by omega⟩ k)) (fun k => x3 (ix1 k)) (fun k => x2 (ix3 0 4 k)) (fun k => x2 (ix3 0 3 k)) j := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_cst, val_main_cst_0, val_main_cst_1, val_main_cst_2, adaln, width, eps, one]

theorem lat_norm (x0 : Vec Ideal S8x2304x1024 .f32) (x1 : Vec Ideal S8x9x1024 .f32) (x3 : Vec Ideal S1024 .f32)
    (b : Fin 8) (t : Fin 2048) (j : Fin 1024) : val_main_v51 (F := Ideal) x0 x1 x3 (ix3 b t j)
    = adaln (fun k => x0 (ix3 b ⟨256 + t.val, by omega⟩ k)) (fun k => x3 (ix1 k)) (fun k => x1 (ix3 b 4 k)) (fun k => x1 (ix3 b 3 k)) j := by
  pointwise [val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_cst_3, val_main_cst_4, val_main_cst_5, val_main_cst_6, adaln, width, eps, one]

section Both
variable (x0 : Vec Ideal S8x2304x1024 .f32) (x1 : Vec Ideal S8x9x1024 .f32) (x2 : Vec Ideal S1x9x1024 .f32) (x3 : Vec Ideal S1024 .f32)
    (x4 : Vec Ideal S2x1024x3472 .f32)

theorem both_norm (b : Fin 8) (T : Fin 2304) (j : Fin 1024) :
    val_main_v52 (F := Ideal) x0 x1 x2 x3 (ix3 b T j)
      = normed (fun b T j => x0 (ix3 b T j)) (fun b q j => x1 (ix3 b q j)) (fun q j => x2 (ix3 0 q j)) (fun j => x3 (ix1 j)) b T j := by
  unfold normed val_main_v52
  pointwise
  by_cases h : T.val < 256
  · rw [if_pos h, dif_pos h]
    exact ctx_norm x0 x2 x3 b ⟨T.val, h⟩ j
  · rw [if_neg h, dif_neg h]
    have e := lat_norm x0 x1 x3 b ⟨T.val - 256, by omega⟩ j
    simp only [show 256 + (T.val - 256) = T.val by omega] at e
    exact e

theorem cell (R : Fin 18432) (f : Fin 3472) : val_main_v56 (F := Ideal) x0 x1 x2 x3 x4 (ix2 R f)
    = proj (fun b T j => x0 (ix3 b T j)) (fun b q j => x1 (ix3 b q j)) (fun q j => x2 (ix3 0 q j)) (fun j => x3 (ix1 j))
        (fun k f => x4 (ix3 1 k f)) ⟨R.val / 2304, by omega⟩ ⟨R.val % 2304, by omega⟩ f := by
  have e : idx_main_v56 (ix2 R f) = ix3 ⟨R.val / 2304, by omega⟩ ⟨R.val % 2304, by omega⟩ f := by
    funext a
    match a with
    | 0 => exact Fin.ext (show (R.val * 3472 + f.val) / 7999488 = R.val / 2304 by omega)
    | 1 => exact Fin.ext (show (R.val * 3472 + f.val) / 3472 % 2304 = R.val % 2304 by omega)
    | 2 => exact Fin.ext (show (R.val * 3472 + f.val) % 3472 = f.val by omega)
  rw [val_main_v56_apply, e]
  unfold proj
  simp only [← both_norm x0 x1 x2 x3]
  unfold val_main_v55
  generalize val_main_v52 (F := Ideal) x0 x1 x2 x3 = h
  pointwise [val_main_v53, val_main_v54]

theorem slab_hy (R : Fin 18432) (f : Fin 768) : val_main_v57 (F := Ideal) x0 x1 x2 x3 x4 (ix2 R f)
    = val_main_v56 (F := Ideal) x0 x1 x2 x3 x4 (ix2 R ⟨f.val, by omega⟩) := by
  unfold val_main_v57
  generalize val_main_v56 (F := Ideal) x0 x1 x2 x3 x4 = v
  pointwise

theorem slab_na (R : Fin 18432) (f : Fin 768) : val_main_v58 (F := Ideal) x0 x1 x2 x3 x4 (ix2 R f)
    = val_main_v56 (F := Ideal) x0 x1 x2 x3 x4 (ix2 R ⟨768 + f.val, by omega⟩) := by
  unfold val_main_v58
  generalize val_main_v56 (F := Ideal) x0 x1 x2 x3 x4 = v
  pointwise

theorem slab_rw (R : Fin 18432) (f : Fin 896) : val_main_v60 (F := Ideal) x0 x1 x2 x3 x4 (ix2 R f)
    = val_main_v56 (F := Ideal) x0 x1 x2 x3 x4 (ix2 R ⟨2576 + f.val, by omega⟩) := by
  unfold val_main_v60
  generalize val_main_v56 (F := Ideal) x0 x1 x2 x3 x4 = v
  pointwise

theorem slab_dn (R : Fin 18432) (f : Fin 1152) : val_main_v61 (F := Ideal) x0 x1 x2 x3 x4 (ix2 R f)
    = if h : f.val < 1040 then val_main_v56 (F := Ideal) x0 x1 x2 x3 x4 (ix2 R ⟨1536 + f.val, by omega⟩) else 0 := by
  unfold val_main_v61 val_main_v59
  generalize val_main_v56 (F := Ideal) x0 x1 x2 x3 x4 = v
  pointwise [val_main_call0_v0, val_main_c]
  have e : FloatOps.sitofp (F := Ideal) .f32 (0#32) = (0 : EReal) := by
    show (((0#32 : BitVec 32).toInt : ℝ) : EReal) = 0
    simp
  rw [e]

end Both

end Cert.Reference4Ideal.Inp

end
-- ==== Proof.Inp.Whole.lean ====
module

public import proofs.«01_k».proof.Defs
public import proofs.«01_k».proof.Proof.Gen.Kernel4.Frame
public import proofs.«01_k».proof.Proof.Gen.Kernel4Ideal.Frame
public import proofs.«01_k».proof.Proof.Gen.Reference4Ideal.Run
public import proofs.«01_k».proof.Proof.Inp.Final
public import proofs.«01_k».proof.Proof.Inp.Ref

@[expose] public section

set_option maxRecDepth 16384

noncomputable section

namespace Cert.Kernel4Ideal.Inp

open Cert.Ffn Cert.Kernel4Ideal Cert.Kernel4Ideal.Gen Idealize.ShloMosaic Idealize.ShloMosaic.TcCoe Idealize.SL.Sem

variable (m : (ℓ : Loc nD τ sig) → Buf (Elt Ideal) ℓ) (c : Dev nD)

/-! The slabs, by the columns of the weight as it comes. -/

theorem slab_low (n a : ℕ) (han : a + n ≤ 3584) (R : Fin 18432) (f : Fin n) (h : a + f.val < 2576) :
    slab m c n a han R f = spec m c ⟨R.val / 2304, by omega⟩ ⟨R.val % 2304, by omega⟩ ⟨a + f.val, by omega⟩ := by
  unfold slab spec proj
  refine Finset.sum_congr rfl fun k _ => ?_
  unfold wide
  rw [dif_pos h]
  rfl

theorem slab_mid (n a : ℕ) (han : a + n ≤ 3584) (R : Fin 18432) (f : Fin n) (h : ¬a + f.val < 2576) (h' : a + f.val < 2688) :
    slab m c n a han R f = 0 := by
  unfold slab
  refine Finset.sum_eq_zero fun k _ => ?_
  unfold wide
  rw [dif_neg h, dif_pos h', mul_zero]

theorem slab_high (n a : ℕ) (han : a + n ≤ 3584) (R : Fin 18432) (f : Fin n) (h' : ¬a + f.val < 2688) :
    slab m c n a han R f = spec m c ⟨R.val / 2304, by omega⟩ ⟨R.val % 2304, by omega⟩ ⟨a + f.val - 112, by omega⟩ := by
  unfold slab spec proj
  refine Finset.sum_congr rfl fun k _ => ?_
  unfold wide
  rw [dif_neg (by dsimp only; omega), dif_neg h']
  rfl

end Cert.Kernel4Ideal.Inp

namespace Cert.Proof.Inp

open Idealize.ShloMosaic Idealize.ShloMosaic.TcCoe Idealize.SL.Sem

/-! The claims about the input projection. -/

theorem frame_kernel : Cert.quiescent_Kernel4 := fun m ρ _ => Cert.Kernel4.Gen.frame m ρ

theorem frame_kernelIdeal : Cert.quiescent_Kernel4Ideal := fun m ρ _ => Cert.Kernel4Ideal.Gen.frame m ρ

theorem frame_referenceIdeal : Cert.quiescent_Reference4Ideal := fun m ρ _ =>
  (θ_run Cert.Reference4Ideal.defs _ _).mono
    (fun r h => ⟨fun c => (h c).2.2.2.2, sem_eq_zero_of_no_sems (by decide) r.2⟩)
    (Cert.Reference4Ideal.Value.run m ρ)

theorem algebraic : Cert.algebraic_Kernel4Ideal_Reference4Ideal := fun m ρ m' ρ' _ hm => by
  refine ⟨fun c => (Cert.Kernel4Ideal.Gen.dats m 0 c).arrAt 5 Cert.Kernel4Ideal.cfg0.N,
    fun c => (Cert.Kernel4Ideal.Gen.dats m 0 c).arrAt 6 Cert.Kernel4Ideal.cfg0.N,
    fun c => (Cert.Kernel4Ideal.Gen.dats m 0 c).arrAt 7 Cert.Kernel4Ideal.cfg0.N,
    fun c => (Cert.Kernel4Ideal.Gen.dats m 0 c).arrAt 8 Cert.Kernel4Ideal.cfg0.N, Cert.Kernel4Ideal.Value.run_blocks m ρ, ?_⟩
  refine (θ_run Cert.Reference4Ideal.defs _ _).mono (fun r h c => ⟨?_, ?_, ?_, ?_, (h c).2.2.2.2⟩) (Cert.Reference4Ideal.Value.run m' ρ')
  all_goals obtain ⟨h0, h1, h2, h3, h4⟩ := hm c
  · rw [(h c).1, Cert.Reference4Ideal.Read.val_main_v57_eq, h0, h1, h2, h3, h4]
    refine Eq.trans ?_ (Cert.Kernel4Ideal.Inp.final_hy m c).symm
    funext i
    obtain ⟨R, f, rfl⟩ : ∃ (R : Fin 18432) (f : Fin 768), i = ix2 R f := ⟨i 0, i 1, eq_ix2 i⟩
    refine ((Cert.Reference4Ideal.Inp.slab_hy ..).trans (Cert.Reference4Ideal.Inp.cell ..)).trans
      (Eq.trans ?_ (Cert.Kernel4Ideal.Inp.slab_low m c 768 0 (by omega) R f (by omega)).symm)
    simp only [Nat.zero_add]
    rfl
  · rw [(h c).2.1, Cert.Reference4Ideal.Read.val_main_v58_eq, h0, h1, h2, h3, h4]
    refine Eq.trans ?_ (Cert.Kernel4Ideal.Inp.final_na m c).symm
    funext i
    obtain ⟨R, f, rfl⟩ : ∃ (R : Fin 18432) (f : Fin 768), i = ix2 R f := ⟨i 0, i 1, eq_ix2 i⟩
    exact ((Cert.Reference4Ideal.Inp.slab_na ..).trans (Cert.Reference4Ideal.Inp.cell ..)).trans
      (Cert.Kernel4Ideal.Inp.slab_low m c 768 768 (by omega) R f (by omega)).symm
  · rw [(h c).2.2.1, Cert.Reference4Ideal.Read.val_main_v61_eq, h0, h1, h2, h3, h4]
    refine Eq.trans ?_ (Cert.Kernel4Ideal.Inp.final_dn m c).symm
    funext i
    obtain ⟨R, f, rfl⟩ : ∃ (R : Fin 18432) (f : Fin 1152), i = ix2 R f := ⟨i 0, i 1, eq_ix2 i⟩
    refine (Cert.Reference4Ideal.Inp.slab_dn ..).trans ?_
    by_cases hf : f.val < 1040
    · rw [dif_pos hf]
      exact (Cert.Reference4Ideal.Inp.cell ..).trans (Cert.Kernel4Ideal.Inp.slab_low m c 1152 1536 (by omega) R f (by omega)).symm
    · rw [dif_neg hf]
      exact (Cert.Kernel4Ideal.Inp.slab_mid m c 1152 1536 (by omega) R f (by omega) (by omega)).symm
  · rw [(h c).2.2.2.1, Cert.Reference4Ideal.Read.val_main_v60_eq, h0, h1, h2, h3, h4]
    refine Eq.trans ?_ (Cert.Kernel4Ideal.Inp.final_rw m c).symm
    funext i
    obtain ⟨R, f, rfl⟩ : ∃ (R : Fin 18432) (f : Fin 896), i = ix2 R f := ⟨i 0, i 1, eq_ix2 i⟩
    refine ((Cert.Reference4Ideal.Inp.slab_rw ..).trans (Cert.Reference4Ideal.Inp.cell ..)).trans
      (Eq.trans ?_ (Cert.Kernel4Ideal.Inp.slab_high m c 896 2688 (by omega) R f (by omega)).symm)
    simp only [show 2688 + f.val - 112 = 2576 + f.val by omega]
    rfl

end Cert.Proof.Inp

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Pre_finite_states
public import proofs.«01_k».proof.Proof.Dn.Whole
public import proofs.«01_k».proof.Proof.Mix.Whole
public import proofs.«01_k».proof.Proof.Ffn.Whole
public import proofs.«01_k».proof.Proof.Join.Whole
public import proofs.«01_k».proof.Proof.All.Whole
public import proofs.«01_k».proof.Proof.Mod.Whole
public import proofs.«01_k».proof.Proof.Inp.Whole
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Pre_finite_states.Gen.facts,
    Dn.frame_kernel, Dn.frame_kernelIdeal, Dn.frame_referenceIdeal,
    Mix.frame_kernel, Mix.frame_kernelIdeal, Mix.frame_kernelIdeal_pre, Mix.frame_referenceIdeal, Mix.frame_referenceIdeal_pre,
    Ffn.frame_kernel, Ffn.frame_kernelIdeal, Ffn.frame_referenceIdeal,
    Inp.frame_kernel, Inp.frame_kernelIdeal, Inp.frame_referenceIdeal,
    All.frame_kernel, All.frame_kernelIdeal, All.frame_kernelIdeal_pre, All.frame_referenceIdeal, All.frame_referenceIdeal_pre,
    Join.frame_kernel, Join.frame_kernelIdeal, Join.frame_referenceIdeal,
    Modulation.frame_kernel, Modulation.frame_kernelIdeal, Modulation.frame_referenceIdeal,
    trivial, Dn.algebraic, trivial, Mix.algebraic, trivial, Ffn.algebraic, trivial, Inp.algebraic,
    trivial, All.algebraic, trivial, Join.algebraic, trivial, Modulation.algebraic⟩

end Cert.Proof

end
